-- ==== Defs.lean ====
def Pre_Kernel [hPre_mid_in_range : Cert.Pre_mid_in_range.Facts] (m : (ℓ : Loc Cert.Kernel.nD Cert.Kernel.τ Cert.Kernel.sig) → Buf (Elt Bits) ℓ) : Prop :=
  ∀ c : Dev Cert.Kernel.nD,
    (Cert.Pre_mid_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_mid_in_range : Cert.Pre_mid_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_mid_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_mid_in_range : Cert.Pre_mid_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mid_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] [hPre_mid_in_range : Cert.Pre_mid_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] [hPre_mid_in_range : Cert.Pre_mid_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] [hPre_mid_in_range : Cert.Pre_mid_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "scale_log2e" .f32 0x3E0293EE#32 (((Real.sqrt 128)⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)
  ∧ IdealRules.named_const.Statement Cert.KernelIdeal.κ "log_past" .f32 0x41265AF6#32 ((Real.log 32768 : ℝ) : EReal)
  ∧ IdealRules.named_const.Statement Cert.KernelIdeal.κ "log_mid" .f32 0x40BE6BAA#32 ((Real.log 384 : ℝ) : EReal)

def algebraic_KernelIdeal_ReferenceIdeal [hKernelIdeal : Cert.KernelIdeal.Facts] [hReferenceIdeal : Cert.ReferenceIdeal.Facts] [hPre_mid_in_range : Cert.Pre_mid_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)) (v2 : (c : Dev Cert.KernelIdeal.nD) → Buf (Elt Ideal) ((c.tc : Thread Cert.KernelIdeal.nD Cert.KernelIdeal.τ).loc Cert.KernelIdeal.main_v26_2)) (v3 : (c : Dev Cert.KernelIdeal.nD) → Buf (Elt Ideal) ((c.tc : Thread Cert.KernelIdeal.nD Cert.KernelIdeal.τ).loc Cert.KernelIdeal.main_v26_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_v26_2) = v2 c
          ∧ r.2.mem ((c.tc : Thread Cert.KernelIdeal.nD Cert.KernelIdeal.τ).loc Cert.KernelIdeal.main_v26_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_v155) = v1 c
          ∧ r.2.mem ((c.tc : Thread Cert.ReferenceIdeal.nD Cert.ReferenceIdeal.τ).loc Cert.ReferenceIdeal.main_v161) = v2 c
          ∧ r.2.mem ((c.tc : Thread Cert.ReferenceIdeal.nD Cert.ReferenceIdeal.τ).loc Cert.ReferenceIdeal.main_v167) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_mid_in_range : Cert.Pre_mid_in_range.Facts),
    quiescent_Kernel (hKernel := hKernel) (hPre_mid_in_range := hPre_mid_in_range)
    ∧ quiescent_KernelIdeal (hKernelIdeal := hKernelIdeal) (hPre_mid_in_range := hPre_mid_in_range)
    ∧ quiescent_ReferenceIdeal (hReferenceIdeal := hReferenceIdeal) (hPre_mid_in_range := hPre_mid_in_range)
    ∧ preserves_Kernel_KernelIdeal
    ∧ algebraic_KernelIdeal_ReferenceIdeal (hKernelIdeal := hKernelIdeal) (hReferenceIdeal := hReferenceIdeal) (hPre_mid_in_range := hPre_mid_in_range)
-- ==== Pre_mid_in_range.lean ====
abbrev S4x512x40x128 : Shape := ⟨4, ![4, 512, 40, 128]⟩
abbrev S4x512x40 : Shape := ⟨3, ![4, 512, 40]⟩
abbrev S32768x8x128 : Shape := ⟨3, ![32768, 8, 128]⟩
abbrev S32768x8 : Shape := ⟨2, ![32768, 8]⟩
abbrev S4x512x8x128 : Shape := ⟨4, ![4, 512, 8, 128]⟩
abbrev S4x512x8 : Shape := ⟨3, ![4, 512, 8]⟩
abbrev S3x384x8x128 : Shape := ⟨4, ![3, 384, 8, 128]⟩
abbrev S3x384x8 : Shape := ⟨3, ![3, 384, 8]⟩
abbrev S4 : Shape := ⟨1, ![4]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel

variable [Facts]

def fn {F : FTy → Type} [FloatOps F] (main_arg0 : FVec F S4x512x40x128 .fp8e4m3) (main_arg1 : FVec F S4x512x40 .f32) (main_arg2 : FVec F S32768x8x128 .fp8e4m3) (main_arg3 : FVec F S32768x8x128 .fp8e4m3) (main_arg4 : FVec F S32768x8 .f32) (main_arg5 : FVec F S32768x8 .f32) (main_arg6 : FVec F S4x512x8x128 .fp8e4m3) (main_arg7 : FVec F S4x512x8x128 .fp8e4m3) (main_arg8 : FVec F S4x512x8 .f32) (main_arg9 : FVec F S4x512x8 .f32) (main_arg10 : FVec F S3x384x8x128 .fp8e4m3) (main_arg11 : FVec F S3x384x8x128 .fp8e4m3) (main_arg12 : FVec F S3x384x8 .f32) (main_arg13 : FVec F S3x384x8 .f32) (main_arg14 : IVec S4 32) : IVec S_ 1 :=
  let main_c : IVec S_ 32 := constantI S_ 32 0#32
  let main_v0 : IVec S4 32 := broadcastInDim S4 ![] bcast_S_S4 main_c
  let main_v1 : IVec S4 1 := cmpi .sge main_arg14 main_v0
  let main_c_0 : IVec S_ 32 := constantI S_ 32 3#32
  let main_v2 : IVec S4 32 := broadcastInDim S4 ![] bcast_S_S4 main_c_0
  let main_v3 : IVec S4 1 := cmpi .slt main_arg14 main_v2
  let main_v4 : IVec S4 1 := andi main_v1 main_v3
  let main_c_1 : IVec S_ 1 := constantI S_ 1 1#1
  let main_v5 : IVec S_ 1 := (fun x v => Host.reduce IntOp.andi x v reducesTo_S4_S_d0 h_S_) main_v4 main_c_1
  main_v5
-- ==== Kernel.lean ====
abbrev S4x512x40x128 : Shape := ⟨4, ![4, 512, 40, 128]⟩
abbrev S4x512x40 : Shape := ⟨3, ![4, 512, 40]⟩
abbrev S32768x8x128 : Shape := ⟨3, ![32768, 8, 128]⟩
abbrev S32768x8 : Shape := ⟨2, ![32768, 8]⟩
abbrev S4x512x8x128 : Shape := ⟨4, ![4, 512, 8, 128]⟩
abbrev S4x512x8 : Shape := ⟨3, ![4, 512, 8]⟩
abbrev S3x384x8x128 : Shape := ⟨4, ![3, 384, 8, 128]⟩
abbrev S3x384x8 : Shape := ⟨3, ![3, 384, 8]⟩
abbrev S4 : Shape := ⟨1, ![4]⟩
abbrev S4x40x512x128 : Shape := ⟨4, ![4, 40, 512, 128]⟩
abbrev S4x40x512 : Shape := ⟨3, ![4, 40, 512]⟩
abbrev S4x40x1x512 : Shape := ⟨4, ![4, 40, 1, 512]⟩
abbrev S8x32768x128 : Shape := ⟨3, ![8, 32768, 128]⟩
abbrev S8x128x32768 : Shape := ⟨3, ![8, 128, 32768]⟩
abbrev S32768x8x1 : Shape := ⟨3, ![32768, 8, 1]⟩
abbrev S8x1x32768 : Shape := ⟨3, ![8, 1, 32768]⟩
abbrev S4096x8x8 : Shape := ⟨3, ![4096, 8, 8]⟩
abbrev S8x8x4096 : Shape := ⟨3, ![8, 8, 4096]⟩
abbrev S4x8x512x128 : Shape := ⟨4, ![4, 8, 512, 128]⟩
abbrev S4x8x128x512 : Shape := ⟨4, ![4, 8, 128, 512]⟩
abbrev S4x512x8x1 : Shape := ⟨4, ![4, 512, 8, 1]⟩
abbrev S4x8x1x512 : Shape := ⟨4, ![4, 8, 1, 512]⟩
abbrev S3x8x384x128 : Shape := ⟨4, ![3, 8, 384, 128]⟩
abbrev S3x8x128x384 : Shape := ⟨4, ![3, 8, 128, 384]⟩
abbrev S3x384x8x1 : Shape := ⟨4, ![3, 384, 8, 1]⟩
abbrev S3x8x1x384 : Shape := ⟨4, ![3, 8, 1, 384]⟩
abbrev S4x8x512 : Shape := ⟨3, ![4, 8, 512]⟩
abbrev S4x8x512x1 : Shape := ⟨4, ![4, 8, 512, 1]⟩
abbrev S3x8x384 : Shape := ⟨3, ![3, 8, 384]⟩
abbrev S3x8x384x1 : Shape := ⟨4, ![3, 8, 384, 1]⟩
abbrev S4x512x5120 : Shape := ⟨3, ![4, 512, 5120]⟩
abbrev S1x1x256x128 : Shape := ⟨4, ![1, 1, 256, 128]⟩
abbrev S1x1x1x256 : Shape := ⟨4, ![1, 1, 1, 256]⟩
abbrev S1x32768x128 : Shape := ⟨3, ![1, 32768, 128]⟩
abbrev S1x128x32768 : Shape := ⟨3, ![1, 128, 32768]⟩
abbrev S1x1x32768 : Shape := ⟨3, ![1, 1, 32768]⟩
abbrev S1x8x4096 : Shape := ⟨3, ![1, 8, 4096]⟩
abbrev S1x1x512x128 : Shape := ⟨4, ![1, 1, 512, 128]⟩
abbrev S1x1x128x512 : Shape := ⟨4, ![1, 1, 128, 512]⟩
abbrev S1x1x1x512 : Shape := ⟨4, ![1, 1, 1, 512]⟩
abbrev S1x1x384x128 : Shape := ⟨4, ![1, 1, 384, 128]⟩
abbrev S1 : Shape := ⟨1, ![1]⟩
abbrev S1x1x128x384 : Shape := ⟨4, ![1, 1, 128, 384]⟩
abbrev S1x1x1x384 : Shape := ⟨4, ![1, 1, 1, 384]⟩
abbrev S1x256x128 : Shape := ⟨3, ![1, 256, 128]⟩
abbrev S32768x128 : Shape := ⟨2, ![32768, 128]⟩
abbrev S1x8x128 : Shape := ⟨3, ![1, 8, 128]⟩
abbrev S8x128 : Shape := ⟨2, ![8, 128]⟩
abbrev S8x1 : Shape := ⟨2, ![8, 1]⟩
abbrev S256x128 : Shape := ⟨2, ![256, 128]⟩
abbrev S1x256 : Shape := ⟨2, ![1, 256]⟩
abbrev S128x256 : Shape := ⟨2, ![128, 256]⟩
abbrev S512x128 : Shape := ⟨2, ![512, 128]⟩
abbrev S512x256 : Shape := ⟨2, ![512, 256]⟩
abbrev S256 : Shape := ⟨1, ![256]⟩
abbrev S128x32768 : Shape := ⟨2, ![128, 32768]⟩
abbrev S128x512 : Shape := ⟨2, ![128, 512]⟩
abbrev S1x32768 : Shape := ⟨2, ![1, 32768]⟩
abbrev S1x512 : Shape := ⟨2, ![1, 512]⟩
abbrev S384x128 : Shape := ⟨2, ![384, 128]⟩
abbrev S128x128 : Shape := ⟨2, ![128, 128]⟩
abbrev S128x384 : Shape := ⟨2, ![128, 384]⟩
abbrev S1x384 : Shape := ⟨2, ![1, 384]⟩
abbrev S1x128 : Shape := ⟨2, ![1, 128]⟩
abbrev S256x256 : Shape := ⟨2, ![256, 256]⟩

abbrev nBuf : Space → Nat
  | .hbm => 44
  | .vmem => 37
  | .smem => 1
  | _ => 0

abbrev bufTy : (tb : Table) → Fin (tcTables nBuf tb) → BufTy
  | .hbm, ⟨0, _⟩ => ⟨S4x512x40x128, .fp8e4m3⟩
  | .hbm, ⟨1, _⟩ => ⟨S4x512x40, .f32⟩
  | .hbm, ⟨2, _⟩ => ⟨S32768x8x128, .fp8e4m3⟩
  | .hbm, ⟨3, _⟩ => ⟨S32768x8x128, .fp8e4m3⟩
  | .hbm, ⟨4, _⟩ => ⟨S32768x8, .f32⟩
  | .hbm, ⟨5, _⟩ => ⟨S32768x8, .f32⟩
  | .hbm, ⟨6, _⟩ => ⟨S4x512x8x128, .fp8e4m3⟩
  | .hbm, ⟨7, _⟩ => ⟨S4x512x8x128, .fp8e4m3⟩
  | .hbm, ⟨8, _⟩ => ⟨S4x512x8, .f32⟩
  | .hbm, ⟨9, _⟩ => ⟨S4x512x8, .f32⟩
  | .hbm, ⟨10, _⟩ => ⟨S3x384x8x128, .fp8e4m3⟩
  | .hbm, ⟨11, _⟩ => ⟨S3x384x8x128, .fp8e4m3⟩
  | .hbm, ⟨12, _⟩ => ⟨S3x384x8, .f32⟩
  | .hbm, ⟨13, _⟩ => ⟨S3x384x8, .f32⟩
  | .hbm, ⟨14, _⟩ => ⟨S4x40x512x128, .fp8e4m3⟩
  | .hbm, ⟨15, _⟩ => ⟨S4x40x512, .f32⟩
  | .hbm, ⟨16, _⟩ => ⟨S4x40x1x512, .f32⟩
  | .hbm, ⟨17, _⟩ => ⟨S8x32768x128, .fp8e4m3⟩
  | .hbm, ⟨18, _⟩ => ⟨S8x128x32768, .fp8e4m3⟩
  | .hbm, ⟨19, _⟩ => ⟨S32768x8, .bf16⟩
  | .hbm, ⟨20, _⟩ => ⟨S32768x8x1, .bf16⟩
  | .hbm, ⟨21, _⟩ => ⟨S8x1x32768, .bf16⟩
  | .hbm, ⟨22, _⟩ => ⟨S4096x8x8, .f32⟩
  | .hbm, ⟨23, _⟩ => ⟨S8x8x4096, .f32⟩
  | .hbm, ⟨24, _⟩ => ⟨S4x8x512x128, .fp8e4m3⟩
  | .hbm, ⟨25, _⟩ => ⟨S4x8x128x512, .fp8e4m3⟩
  | .hbm, ⟨26, _⟩ => ⟨S4x512x8, .bf16⟩
  | .hbm, ⟨27, _⟩ => ⟨S4x512x8x1, .bf16⟩
  | .hbm, ⟨28, _⟩ => ⟨S4x8x1x512, .bf16⟩
  | .hbm, ⟨29, _⟩ => ⟨S3x8x384x128, .fp8e4m3⟩
  | .hbm, ⟨30, _⟩ => ⟨S3x8x128x384, .fp8e4m3⟩
  | .hbm, ⟨31, _⟩ => ⟨S3x384x8, .bf16⟩
  | .hbm, ⟨32, _⟩ => ⟨S3x384x8x1, .bf16⟩
  | .hbm, ⟨33, _⟩ => ⟨S3x8x1x384, .bf16⟩
  | .hbm, ⟨34, _⟩ => ⟨S4x8x512, .f32⟩
  | .hbm, ⟨35, _⟩ => ⟨S4x8x512x1, .f32⟩
  | .hbm, ⟨36, _⟩ => ⟨S4x8x512x128, .f32⟩
  | .hbm, ⟨37, _⟩ => ⟨S3x8x384, .f32⟩
  | .hbm, ⟨38, _⟩ => ⟨S3x8x384x1, .f32⟩
  | .hbm, ⟨39, _⟩ => ⟨S3x8x384x128, .f32⟩
  | .hbm, ⟨40, _⟩ => ⟨S4x512x5120, .bf16⟩
  | .hbm, ⟨41, _⟩ => ⟨S4x40x1x512, .f32⟩
  | .hbm, ⟨42, _⟩ => ⟨S4x40x1x512, .f32⟩
  | .hbm, ⟨43, _⟩ => ⟨S4x40x1x512, .f32⟩
  | .local _ .vmem, ⟨0, _⟩ => ⟨S1x1x256x128, .fp8e4m3⟩
  | .local _ .vmem, ⟨1, _⟩ => ⟨S1x1x256x128, .fp8e4m3⟩
  | .local _ .vmem, ⟨2, _⟩ => ⟨S1x1x1x256, .f32⟩
  | .local _ .vmem, ⟨3, _⟩ => ⟨S1x1x1x256, .f32⟩
  | .local _ .vmem, ⟨4, _⟩ => ⟨S1x32768x128, .fp8e4m3⟩
  | .local _ .vmem, ⟨5, _⟩ => ⟨S1x32768x128, .fp8e4m3⟩
  | .local _ .vmem, ⟨6, _⟩ => ⟨S1x128x32768, .fp8e4m3⟩
  | .local _ .vmem, ⟨7, _⟩ => ⟨S1x128x32768, .fp8e4m3⟩
  | .local _ .vmem, ⟨8, _⟩ => ⟨S1x1x32768, .bf16⟩
  | .local _ .vmem, ⟨9, _⟩ => ⟨S1x1x32768, .bf16⟩
  | .local _ .vmem, ⟨10, _⟩ => ⟨S1x8x4096, .f32⟩
  | .local _ .vmem, ⟨11, _⟩ => ⟨S1x8x4096, .f32⟩
  | .local _ .vmem, ⟨12, _⟩ => ⟨S1x1x512x128, .fp8e4m3⟩
  | .local _ .vmem, ⟨13, _⟩ => ⟨S1x1x512x128, .fp8e4m3⟩
  | .local _ .vmem, ⟨14, _⟩ => ⟨S1x1x128x512, .fp8e4m3⟩
  | .local _ .vmem, ⟨15, _⟩ => ⟨S1x1x128x512, .fp8e4m3⟩
  | .local _ .vmem, ⟨16, _⟩ => ⟨S1x1x1x512, .bf16⟩
  | .local _ .vmem, ⟨17, _⟩ => ⟨S1x1x1x512, .bf16⟩
  | .local _ .vmem, ⟨18, _⟩ => ⟨S1x1x512x128, .f32⟩
  | .local _ .vmem, ⟨19, _⟩ => ⟨S1x1x512x128, .f32⟩
  | .local _ .vmem, ⟨20, _⟩ => ⟨S1x1x384x128, .fp8e4m3⟩
  | .local _ .vmem, ⟨21, _⟩ => ⟨S1x1x384x128, .fp8e4m3⟩
  | .local _ .vmem, ⟨22, _⟩ => ⟨S1x1x128x384, .fp8e4m3⟩
  | .local _ .vmem, ⟨23, _⟩ => ⟨S1x1x128x384, .fp8e4m3⟩
  | .local _ .vmem, ⟨24, _⟩ => ⟨S1x1x1x384, .bf16⟩
  | .local _ .vmem, ⟨25, _⟩ => ⟨S1x1x1x384, .bf16⟩
  | .local _ .vmem, ⟨26, _⟩ => ⟨S1x1x384x128, .f32⟩
  | .local _ .vmem, ⟨27, _⟩ => ⟨S1x1x384x128, .f32⟩
  | .local _ .vmem, ⟨28, _⟩ => ⟨S1x256x128, .bf16⟩
  | .local _ .vmem, ⟨29, _⟩ => ⟨S1x256x128, .bf16⟩
  | .local _ .vmem, ⟨30, _⟩ => ⟨S1x1x1x256, .f32⟩
  | .local _ .vmem, ⟨31, _⟩ => ⟨S1x1x1x256, .f32⟩
  | .local _ .vmem, ⟨32, _⟩ => ⟨S1x1x1x256, .f32⟩
  | .local _ .vmem, ⟨33, _⟩ => ⟨S1x1x1x256, .f32⟩
  | .local _ .vmem, ⟨34, _⟩ => ⟨S1x1x1x256, .f32⟩
  | .local _ .vmem, ⟨35, _⟩ => ⟨S1x1x1x256, .f32⟩
  | .local _ .vmem, ⟨36, _⟩ => ⟨S32768x128, .f32⟩
  | .local _ .smem, ⟨0, _⟩ => ⟨S4, .i32⟩
  | _, _ => ⟨S4x512x40x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26_0 : Ref sig .tc := ⟨.hbm, 40, rfl⟩
abbrev main_v26_1 : Ref sig .tc := ⟨.hbm, 41, rfl⟩
abbrev main_v26_2 : Ref sig .tc := ⟨.hbm, 42, rfl⟩
abbrev main_v26_3 : Ref sig .tc := ⟨.hbm, 43, rfl⟩
abbrev main_arg14 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨3, ![8, 4, 10], ![false, false, false]⟩

abbrev pre0 : Pipeline.Prefetch sig := ⟨1, ![main_arg14.idx], fun | 0 => main_arg14.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) : BitVec 1 :=
  let arg1 : BitVec 32 := BitVec.ofNat 32 (i 1).val
  let c0_i32_3 : BitVec 32 := 0#32
  let v10 : BitVec 1 := Scalar.cmpi .eq arg1 c0_i32_3
  let arg2 : BitVec 32 := BitVec.ofNat 32 (i 2).val
  let c0_i32_4 : BitVec 32 := 0#32
  let v11 : BitVec 1 := Scalar.cmpi .eq arg2 c0_i32_4
  let v12 : BitVec 1 := Scalar.andi v10 v11
  let v13 : BitVec 32 := Scalar.extui v12
  let c0_i32_5 : BitVec 32 := 0#32
  let v14 : BitVec 1 := Scalar.cmpi .ne v13 c0_i32_5
  v14

@[reducible] def k0_t1_loop : Scf.Loop 32 :=
  let c0_i32_77 : BitVec 32 := 0#32
  let c32_i32 : BitVec 32 := 32#32
  let v107 : BitVec 32 := Scalar.addi c0_i32_77 c32_i32
  let c1_i32_78 : BitVec 32 := 1#32
  ⟨c0_i32_77, v107, c1_i32_78⟩
def k0_mult1 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32 : BitVec 32 := 128#32
  let v108 : BitVec 32 := Scalar.muli arg23 c128_i32
  v108
def k0_off2 (k0_t1 : Fin k0_t1_loop.trips) : Fin 3 → Nat :=
  let c0_80 : Index := 0#32
  let c0_81 : Index := 0#32
  let c0_i32_77 : BitVec 32 := 0#32
  let c1_i32_78 : BitVec 32 := 1#32
  let arg23 : BitVec 32 := Scf.iv c0_i32_77 c1_i32_78 k0_t1
  let c128_i32 : BitVec 32 := 128#32
  let v108 : BitVec 32 := Scalar.muli arg23 c128_i32
  let v109 : BitVec 32 := v108
  let v110 : Index := Scalar.indexCast v109
  ![0, 0, v110.toNat]
def k0_mult2 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_82 : BitVec 32 := 128#32
  let v113 : BitVec 32 := Scalar.muli arg23 c128_i32_82
  let c0_i32_83 : BitVec 32 := 0#32
  let v114 : BitVec 32 := Scalar.addi v113 c0_i32_83
  let c8_i32 : BitVec 32 := 8#32
  let v115 : BitVec 32 := Scalar.muli v114 c8_i32
  v115
def k0_off3 (k0_t1 : Fin k0_t1_loop.trips) (c0_i32_83 : BitVec 32) : Fin 2 → Nat :=
  let c0_i32_77 : BitVec 32 := 0#32
  let c1_i32_78 : BitVec 32 := 1#32
  let arg23 : BitVec 32 := Scf.iv c0_i32_77 c1_i32_78 k0_t1
  let c128_i32_82 : BitVec 32 := 128#32
  let v113 : BitVec 32 := Scalar.muli arg23 c128_i32_82
  let v114 : BitVec 32 := Scalar.addi v113 c0_i32_83
  let c8_i32 : BitVec 32 := 8#32
  let v115 : BitVec 32 := Scalar.muli v114 c8_i32
  let v116 : BitVec 32 := v115
  let v120 : Index := Scalar.indexCast v116
  let c0_84 : Index := 0#32
  ![v120.toNat, 0]
def k0_mult3 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_85 : BitVec 32 := 128#32
  let v124 : BitVec 32 := Scalar.muli arg23 c128_i32_85
  let c1_i32_86 : BitVec 32 := 1#32
  let v125 : BitVec 32 := Scalar.addi v124 c1_i32_86
  let c8_i32_87 : BitVec 32 := 8#32
  let v126 : BitVec 32 := Scalar.muli v125 c8_i32_87
  v126
def k0_mult4 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_89 : BitVec 32 := 128#32
  let v135 : BitVec 32 := Scalar.muli arg23 c128_i32_89
  let c2_i32_90 : BitVec 32 := 2#32
  let v136 : BitVec 32 := Scalar.addi v135 c2_i32_90
  let c8_i32_91 : BitVec 32 := 8#32
  let v137 : BitVec 32 := Scalar.muli v136 c8_i32_91
  v137
def k0_mult5 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_93 : BitVec 32 := 128#32
  let v146 : BitVec 32 := Scalar.muli arg23 c128_i32_93
  let c3_i32_94 : BitVec 32 := 3#32
  let v147 : BitVec 32 := Scalar.addi v146 c3_i32_94
  let c8_i32_95 : BitVec 32 := 8#32
  let v148 : BitVec 32 := Scalar.muli v147 c8_i32_95
  v148
def k0_mult6 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_97 : BitVec 32 := 128#32
  let v157 : BitVec 32 := Scalar.muli arg23 c128_i32_97
  let c4_i32 : BitVec 32 := 4#32
  let v158 : BitVec 32 := Scalar.addi v157 c4_i32
  let c8_i32_98 : BitVec 32 := 8#32
  let v159 : BitVec 32 := Scalar.muli v158 c8_i32_98
  v159
def k0_mult7 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_100 : BitVec 32 := 128#32
  let v168 : BitVec 32 := Scalar.muli arg23 c128_i32_100
  let c5_i32 : BitVec 32 := 5#32
  let v169 : BitVec 32 := Scalar.addi v168 c5_i32
  let c8_i32_101 : BitVec 32 := 8#32
  let v170 : BitVec 32 := Scalar.muli v169 c8_i32_101
  v170
def k0_mult8 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_103 : BitVec 32 := 128#32
  let v179 : BitVec 32 := Scalar.muli arg23 c128_i32_103
  let c6_i32 : BitVec 32 := 6#32
  let v180 : BitVec 32 := Scalar.addi v179 c6_i32
  let c8_i32_104 : BitVec 32 := 8#32
  let v181 : BitVec 32 := Scalar.muli v180 c8_i32_104
  v181
def k0_mult9 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_106 : BitVec 32 := 128#32
  let v190 : BitVec 32 := Scalar.muli arg23 c128_i32_106
  let c7_i32 : BitVec 32 := 7#32
  let v191 : BitVec 32 := Scalar.addi v190 c7_i32
  let c8_i32_107 : BitVec 32 := 8#32
  let v192 : BitVec 32 := Scalar.muli v191 c8_i32_107
  v192
def k0_mult10 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_109 : BitVec 32 := 128#32
  let v201 : BitVec 32 := Scalar.muli arg23 c128_i32_109
  let c8_i32_110 : BitVec 32 := 8#32
  let v202 : BitVec 32 := Scalar.addi v201 c8_i32_110
  let c8_i32_111 : BitVec 32 := 8#32
  let v203 : BitVec 32 := Scalar.muli v202 c8_i32_111
  v203
def k0_mult11 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_113 : BitVec 32 := 128#32
  let v212 : BitVec 32 := Scalar.muli arg23 c128_i32_113
  let c9_i32 : BitVec 32 := 9#32
  let v213 : BitVec 32 := Scalar.addi v212 c9_i32
  let c8_i32_114 : BitVec 32 := 8#32
  let v214 : BitVec 32 := Scalar.muli v213 c8_i32_114
  v214
def k0_mult12 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_116 : BitVec 32 := 128#32
  let v223 : BitVec 32 := Scalar.muli arg23 c128_i32_116
  let c10_i32 : BitVec 32 := 10#32
  let v224 : BitVec 32 := Scalar.addi v223 c10_i32
  let c8_i32_117 : BitVec 32 := 8#32
  let v225 : BitVec 32 := Scalar.muli v224 c8_i32_117
  v225
def k0_mult13 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_119 : BitVec 32 := 128#32
  let v234 : BitVec 32 := Scalar.muli arg23 c128_i32_119
  let c11_i32 : BitVec 32 := 11#32
  let v235 : BitVec 32 := Scalar.addi v234 c11_i32
  let c8_i32_120 : BitVec 32 := 8#32
  let v236 : BitVec 32 := Scalar.muli v235 c8_i32_120
  v236
def k0_mult14 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_122 : BitVec 32 := 128#32
  let v245 : BitVec 32 := Scalar.muli arg23 c128_i32_122
  let c12_i32 : BitVec 32 := 12#32
  let v246 : BitVec 32 := Scalar.addi v245 c12_i32
  let c8_i32_123 : BitVec 32 := 8#32
  let v247 : BitVec 32 := Scalar.muli v246 c8_i32_123
  v247
def k0_mult15 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_125 : BitVec 32 := 128#32
  let v256 : BitVec 32 := Scalar.muli arg23 c128_i32_125
  let c13_i32 : BitVec 32 := 13#32
  let v257 : BitVec 32 := Scalar.addi v256 c13_i32
  let c8_i32_126 : BitVec 32 := 8#32
  let v258 : BitVec 32 := Scalar.muli v257 c8_i32_126
  v258
def k0_mult16 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_128 : BitVec 32 := 128#32
  let v267 : BitVec 32 := Scalar.muli arg23 c128_i32_128
  let c14_i32 : BitVec 32 := 14#32
  let v268 : BitVec 32 := Scalar.addi v267 c14_i32
  let c8_i32_129 : BitVec 32 := 8#32
  let v269 : BitVec 32 := Scalar.muli v268 c8_i32_129
  v269
def k0_mult17 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_131 : BitVec 32 := 128#32
  let v278 : BitVec 32 := Scalar.muli arg23 c128_i32_131
  let c15_i32 : BitVec 32 := 15#32
  let v279 : BitVec 32 := Scalar.addi v278 c15_i32
  let c8_i32_132 : BitVec 32 := 8#32
  let v280 : BitVec 32 := Scalar.muli v279 c8_i32_132
  v280
def k0_mult18 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_134 : BitVec 32 := 128#32
  let v289 : BitVec 32 := Scalar.muli arg23 c128_i32_134
  let c16_i32 : BitVec 32 := 16#32
  let v290 : BitVec 32 := Scalar.addi v289 c16_i32
  let c8_i32_135 : BitVec 32 := 8#32
  let v291 : BitVec 32 := Scalar.muli v290 c8_i32_135
  v291
def k0_mult19 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_137 : BitVec 32 := 128#32
  let v300 : BitVec 32 := Scalar.muli arg23 c128_i32_137
  let c17_i32 : BitVec 32 := 17#32
  let v301 : BitVec 32 := Scalar.addi v300 c17_i32
  let c8_i32_138 : BitVec 32 := 8#32
  let v302 : BitVec 32 := Scalar.muli v301 c8_i32_138
  v302
def k0_mult20 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_140 : BitVec 32 := 128#32
  let v311 : BitVec 32 := Scalar.muli arg23 c128_i32_140
  let c18_i32 : BitVec 32 := 18#32
  let v312 : BitVec 32 := Scalar.addi v311 c18_i32
  let c8_i32_141 : BitVec 32 := 8#32
  let v313 : BitVec 32 := Scalar.muli v312 c8_i32_141
  v313
def k0_mult21 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_143 : BitVec 32 := 128#32
  let v322 : BitVec 32 := Scalar.muli arg23 c128_i32_143
  let c19_i32 : BitVec 32 := 19#32
  let v323 : BitVec 32 := Scalar.addi v322 c19_i32
  let c8_i32_144 : BitVec 32 := 8#32
  let v324 : BitVec 32 := Scalar.muli v323 c8_i32_144
  v324
def k0_mult22 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_146 : BitVec 32 := 128#32
  let v333 : BitVec 32 := Scalar.muli arg23 c128_i32_146
  let c20_i32 : BitVec 32 := 20#32
  let v334 : BitVec 32 := Scalar.addi v333 c20_i32
  let c8_i32_147 : BitVec 32 := 8#32
  let v335 : BitVec 32 := Scalar.muli v334 c8_i32_147
  v335
def k0_mult23 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_149 : BitVec 32 := 128#32
  let v344 : BitVec 32 := Scalar.muli arg23 c128_i32_149
  let c21_i32 : BitVec 32 := 21#32
  let v345 : BitVec 32 := Scalar.addi v344 c21_i32
  let c8_i32_150 : BitVec 32 := 8#32
  let v346 : BitVec 32 := Scalar.muli v345 c8_i32_150
  v346
def k0_mult24 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_152 : BitVec 32 := 128#32
  let v355 : BitVec 32 := Scalar.muli arg23 c128_i32_152
  let c22_i32 : BitVec 32 := 22#32
  let v356 : BitVec 32 := Scalar.addi v355 c22_i32
  let c8_i32_153 : BitVec 32 := 8#32
  let v357 : BitVec 32 := Scalar.muli v356 c8_i32_153
  v357
def k0_mult25 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_155 : BitVec 32 := 128#32
  let v366 : BitVec 32 := Scalar.muli arg23 c128_i32_155
  let c23_i32 : BitVec 32 := 23#32
  let v367 : BitVec 32 := Scalar.addi v366 c23_i32
  let c8_i32_156 : BitVec 32 := 8#32
  let v368 : BitVec 32 := Scalar.muli v367 c8_i32_156
  v368
def k0_mult26 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_158 : BitVec 32 := 128#32
  let v377 : BitVec 32 := Scalar.muli arg23 c128_i32_158
  let c24_i32 : BitVec 32 := 24#32
  let v378 : BitVec 32 := Scalar.addi v377 c24_i32
  let c8_i32_159 : BitVec 32 := 8#32
  let v379 : BitVec 32 := Scalar.muli v378 c8_i32_159
  v379
def k0_mult27 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_161 : BitVec 32 := 128#32
  let v388 : BitVec 32 := Scalar.muli arg23 c128_i32_161
  let c25_i32 : BitVec 32 := 25#32
  let v389 : BitVec 32 := Scalar.addi v388 c25_i32
  let c8_i32_162 : BitVec 32 := 8#32
  let v390 : BitVec 32 := Scalar.muli v389 c8_i32_162
  v390
def k0_mult28 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_164 : BitVec 32 := 128#32
  let v399 : BitVec 32 := Scalar.muli arg23 c128_i32_164
  let c26_i32 : BitVec 32 := 26#32
  let v400 : BitVec 32 := Scalar.addi v399 c26_i32
  let c8_i32_165 : BitVec 32 := 8#32
  let v401 : BitVec 32 := Scalar.muli v400 c8_i32_165
  v401
def k0_mult29 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_167 : BitVec 32 := 128#32
  let v410 : BitVec 32 := Scalar.muli arg23 c128_i32_167
  let c27_i32 : BitVec 32 := 27#32
  let v411 : BitVec 32 := Scalar.addi v410 c27_i32
  let c8_i32_168 : BitVec 32 := 8#32
  let v412 : BitVec 32 := Scalar.muli v411 c8_i32_168
  v412
def k0_mult30 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_170 : BitVec 32 := 128#32
  let v421 : BitVec 32 := Scalar.muli arg23 c128_i32_170
  let c28_i32 : BitVec 32 := 28#32
  let v422 : BitVec 32 := Scalar.addi v421 c28_i32
  let c8_i32_171 : BitVec 32 := 8#32
  let v423 : BitVec 32 := Scalar.muli v422 c8_i32_171
  v423
def k0_mult31 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_173 : BitVec 32 := 128#32
  let v432 : BitVec 32 := Scalar.muli arg23 c128_i32_173
  let c29_i32 : BitVec 32 := 29#32
  let v433 : BitVec 32 := Scalar.addi v432 c29_i32
  let c8_i32_174 : BitVec 32 := 8#32
  let v434 : BitVec 32 := Scalar.muli v433 c8_i32_174
  v434
def k0_mult32 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_176 : BitVec 32 := 128#32
  let v443 : BitVec 32 := Scalar.muli arg23 c128_i32_176
  let c30_i32 : BitVec 32 := 30#32
  let v444 : BitVec 32 := Scalar.addi v443 c30_i32
  let c8_i32_177 : BitVec 32 := 8#32
  let v445 : BitVec 32 := Scalar.muli v444 c8_i32_177
  v445
def k0_mult33 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_179 : BitVec 32 := 128#32
  let v454 : BitVec 32 := Scalar.muli arg23 c128_i32_179
  let c31_i32 : BitVec 32 := 31#32
  let v455 : BitVec 32 := Scalar.addi v454 c31_i32
  let c8_i32_180 : BitVec 32 := 8#32
  let v456 : BitVec 32 := Scalar.muli v455 c8_i32_180
  v456
def k0_mult34 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_182 : BitVec 32 := 128#32
  let v465 : BitVec 32 := Scalar.muli arg23 c128_i32_182
  let c32_i32_183 : BitVec 32 := 32#32
  let v466 : BitVec 32 := Scalar.addi v465 c32_i32_183
  let c8_i32_184 : BitVec 32 := 8#32
  let v467 : BitVec 32 := Scalar.muli v466 c8_i32_184
  v467
def k0_mult35 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_186 : BitVec 32 := 128#32
  let v476 : BitVec 32 := Scalar.muli arg23 c128_i32_186
  let c33_i32 : BitVec 32 := 33#32
  let v477 : BitVec 32 := Scalar.addi v476 c33_i32
  let c8_i32_187 : BitVec 32 := 8#32
  let v478 : BitVec 32 := Scalar.muli v477 c8_i32_187
  v478
def k0_mult36 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_189 : BitVec 32 := 128#32
  let v487 : BitVec 32 := Scalar.muli arg23 c128_i32_189
  let c34_i32 : BitVec 32 := 34#32
  let v488 : BitVec 32 := Scalar.addi v487 c34_i32
  let c8_i32_190 : BitVec 32 := 8#32
  let v489 : BitVec 32 := Scalar.muli v488 c8_i32_190
  v489
def k0_mult37 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_192 : BitVec 32 := 128#32
  let v498 : BitVec 32 := Scalar.muli arg23 c128_i32_192
  let c35_i32 : BitVec 32 := 35#32
  let v499 : BitVec 32 := Scalar.addi v498 c35_i32
  let c8_i32_193 : BitVec 32 := 8#32
  let v500 : BitVec 32 := Scalar.muli v499 c8_i32_193
  v500
def k0_mult38 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_195 : BitVec 32 := 128#32
  let v509 : BitVec 32 := Scalar.muli arg23 c128_i32_195
  let c36_i32 : BitVec 32 := 36#32
  let v510 : BitVec 32 := Scalar.addi v509 c36_i32
  let c8_i32_196 : BitVec 32 := 8#32
  let v511 : BitVec 32 := Scalar.muli v510 c8_i32_196
  v511
def k0_mult39 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_198 : BitVec 32 := 128#32
  let v520 : BitVec 32 := Scalar.muli arg23 c128_i32_198
  let c37_i32 : BitVec 32 := 37#32
  let v521 : BitVec 32 := Scalar.addi v520 c37_i32
  let c8_i32_199 : BitVec 32 := 8#32
  let v522 : BitVec 32 := Scalar.muli v521 c8_i32_199
  v522
def k0_mult40 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_201 : BitVec 32 := 128#32
  let v531 : BitVec 32 := Scalar.muli arg23 c128_i32_201
  let c38_i32 : BitVec 32 := 38#32
  let v532 : BitVec 32 := Scalar.addi v531 c38_i32
  let c8_i32_202 : BitVec 32 := 8#32
  let v533 : BitVec 32 := Scalar.muli v532 c8_i32_202
  v533
def k0_mult41 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_204 : BitVec 32 := 128#32
  let v542 : BitVec 32 := Scalar.muli arg23 c128_i32_204
  let c39_i32 : BitVec 32 := 39#32
  let v543 : BitVec 32 := Scalar.addi v542 c39_i32
  let c8_i32_205 : BitVec 32 := 8#32
  let v544 : BitVec 32 := Scalar.muli v543 c8_i32_205
  v544
def k0_mult42 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_207 : BitVec 32 := 128#32
  let v553 : BitVec 32 := Scalar.muli arg23 c128_i32_207
  let c40_i32 : BitVec 32 := 40#32
  let v554 : BitVec 32 := Scalar.addi v553 c40_i32
  let c8_i32_208 : BitVec 32 := 8#32
  let v555 : BitVec 32 := Scalar.muli v554 c8_i32_208
  v555
def k0_mult43 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_210 : BitVec 32 := 128#32
  let v564 : BitVec 32 := Scalar.muli arg23 c128_i32_210
  let c41_i32 : BitVec 32 := 41#32
  let v565 : BitVec 32 := Scalar.addi v564 c41_i32
  let c8_i32_211 : BitVec 32 := 8#32
  let v566 : BitVec 32 := Scalar.muli v565 c8_i32_211
  v566
def k0_mult44 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_213 : BitVec 32 := 128#32
  let v575 : BitVec 32 := Scalar.muli arg23 c128_i32_213
  let c42_i32 : BitVec 32 := 42#32
  let v576 : BitVec 32 := Scalar.addi v575 c42_i32
  let c8_i32_214 : BitVec 32 := 8#32
  let v577 : BitVec 32 := Scalar.muli v576 c8_i32_214
  v577
def k0_mult45 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_216 : BitVec 32 := 128#32
  let v586 : BitVec 32 := Scalar.muli arg23 c128_i32_216
  let c43_i32 : BitVec 32 := 43#32
  let v587 : BitVec 32 := Scalar.addi v586 c43_i32
  let c8_i32_217 : BitVec 32 := 8#32
  let v588 : BitVec 32 := Scalar.muli v587 c8_i32_217
  v588
def k0_mult46 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_219 : BitVec 32 := 128#32
  let v597 : BitVec 32 := Scalar.muli arg23 c128_i32_219
  let c44_i32 : BitVec 32 := 44#32
  let v598 : BitVec 32 := Scalar.addi v597 c44_i32
  let c8_i32_220 : BitVec 32 := 8#32
  let v599 : BitVec 32 := Scalar.muli v598 c8_i32_220
  v599
def k0_mult47 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_222 : BitVec 32 := 128#32
  let v608 : BitVec 32 := Scalar.muli arg23 c128_i32_222
  let c45_i32 : BitVec 32 := 45#32
  let v609 : BitVec 32 := Scalar.addi v608 c45_i32
  let c8_i32_223 : BitVec 32 := 8#32
  let v610 : BitVec 32 := Scalar.muli v609 c8_i32_223
  v610
def k0_mult48 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_225 : BitVec 32 := 128#32
  let v619 : BitVec 32 := Scalar.muli arg23 c128_i32_225
  let c46_i32 : BitVec 32 := 46#32
  let v620 : BitVec 32 := Scalar.addi v619 c46_i32
  let c8_i32_226 : BitVec 32 := 8#32
  let v621 : BitVec 32 := Scalar.muli v620 c8_i32_226
  v621
def k0_mult49 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_228 : BitVec 32 := 128#32
  let v630 : BitVec 32 := Scalar.muli arg23 c128_i32_228
  let c47_i32 : BitVec 32 := 47#32
  let v631 : BitVec 32 := Scalar.addi v630 c47_i32
  let c8_i32_229 : BitVec 32 := 8#32
  let v632 : BitVec 32 := Scalar.muli v631 c8_i32_229
  v632
def k0_mult50 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_231 : BitVec 32 := 128#32
  let v641 : BitVec 32 := Scalar.muli arg23 c128_i32_231
  let c48_i32 : BitVec 32 := 48#32
  let v642 : BitVec 32 := Scalar.addi v641 c48_i32
  let c8_i32_232 : BitVec 32 := 8#32
  let v643 : BitVec 32 := Scalar.muli v642 c8_i32_232
  v643
def k0_mult51 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_234 : BitVec 32 := 128#32
  let v652 : BitVec 32 := Scalar.muli arg23 c128_i32_234
  let c49_i32 : BitVec 32 := 49#32
  let v653 : BitVec 32 := Scalar.addi v652 c49_i32
  let c8_i32_235 : BitVec 32 := 8#32
  let v654 : BitVec 32 := Scalar.muli v653 c8_i32_235
  v654
def k0_mult52 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_237 : BitVec 32 := 128#32
  let v663 : BitVec 32 := Scalar.muli arg23 c128_i32_237
  let c50_i32 : BitVec 32 := 50#32
  let v664 : BitVec 32 := Scalar.addi v663 c50_i32
  let c8_i32_238 : BitVec 32 := 8#32
  let v665 : BitVec 32 := Scalar.muli v664 c8_i32_238
  v665
def k0_mult53 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_240 : BitVec 32 := 128#32
  let v674 : BitVec 32 := Scalar.muli arg23 c128_i32_240
  let c51_i32 : BitVec 32 := 51#32
  let v675 : BitVec 32 := Scalar.addi v674 c51_i32
  let c8_i32_241 : BitVec 32 := 8#32
  let v676 : BitVec 32 := Scalar.muli v675 c8_i32_241
  v676
def k0_mult54 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_243 : BitVec 32 := 128#32
  let v685 : BitVec 32 := Scalar.muli arg23 c128_i32_243
  let c52_i32 : BitVec 32 := 52#32
  let v686 : BitVec 32 := Scalar.addi v685 c52_i32
  let c8_i32_244 : BitVec 32 := 8#32
  let v687 : BitVec 32 := Scalar.muli v686 c8_i32_244
  v687
def k0_mult55 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_246 : BitVec 32 := 128#32
  let v696 : BitVec 32 := Scalar.muli arg23 c128_i32_246
  let c53_i32 : BitVec 32 := 53#32
  let v697 : BitVec 32 := Scalar.addi v696 c53_i32
  let c8_i32_247 : BitVec 32 := 8#32
  let v698 : BitVec 32 := Scalar.muli v697 c8_i32_247
  v698
def k0_mult56 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_249 : BitVec 32 := 128#32
  let v707 : BitVec 32 := Scalar.muli arg23 c128_i32_249
  let c54_i32 : BitVec 32 := 54#32
  let v708 : BitVec 32 := Scalar.addi v707 c54_i32
  let c8_i32_250 : BitVec 32 := 8#32
  let v709 : BitVec 32 := Scalar.muli v708 c8_i32_250
  v709
def k0_mult57 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_252 : BitVec 32 := 128#32
  let v718 : BitVec 32 := Scalar.muli arg23 c128_i32_252
  let c55_i32 : BitVec 32 := 55#32
  let v719 : BitVec 32 := Scalar.addi v718 c55_i32
  let c8_i32_253 : BitVec 32 := 8#32
  let v720 : BitVec 32 := Scalar.muli v719 c8_i32_253
  v720
def k0_mult58 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_255 : BitVec 32 := 128#32
  let v729 : BitVec 32 := Scalar.muli arg23 c128_i32_255
  let c56_i32 : BitVec 32 := 56#32
  let v730 : BitVec 32 := Scalar.addi v729 c56_i32
  let c8_i32_256 : BitVec 32 := 8#32
  let v731 : BitVec 32 := Scalar.muli v730 c8_i32_256
  v731
def k0_mult59 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_258 : BitVec 32 := 128#32
  let v740 : BitVec 32 := Scalar.muli arg23 c128_i32_258
  let c57_i32 : BitVec 32 := 57#32
  let v741 : BitVec 32 := Scalar.addi v740 c57_i32
  let c8_i32_259 : BitVec 32 := 8#32
  let v742 : BitVec 32 := Scalar.muli v741 c8_i32_259
  v742
def k0_mult60 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_261 : BitVec 32 := 128#32
  let v751 : BitVec 32 := Scalar.muli arg23 c128_i32_261
  let c58_i32 : BitVec 32 := 58#32
  let v752 : BitVec 32 := Scalar.addi v751 c58_i32
  let c8_i32_262 : BitVec 32 := 8#32
  let v753 : BitVec 32 := Scalar.muli v752 c8_i32_262
  v753
def k0_mult61 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_264 : BitVec 32 := 128#32
  let v762 : BitVec 32 := Scalar.muli arg23 c128_i32_264
  let c59_i32 : BitVec 32 := 59#32
  let v763 : BitVec 32 := Scalar.addi v762 c59_i32
  let c8_i32_265 : BitVec 32 := 8#32
  let v764 : BitVec 32 := Scalar.muli v763 c8_i32_265
  v764
def k0_mult62 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_267 : BitVec 32 := 128#32
  let v773 : BitVec 32 := Scalar.muli arg23 c128_i32_267
  let c60_i32 : BitVec 32 := 60#32
  let v774 : BitVec 32 := Scalar.addi v773 c60_i32
  let c8_i32_268 : BitVec 32 := 8#32
  let v775 : BitVec 32 := Scalar.muli v774 c8_i32_268
  v775
def k0_mult63 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_270 : BitVec 32 := 128#32
  let v784 : BitVec 32 := Scalar.muli arg23 c128_i32_270
  let c61_i32 : BitVec 32 := 61#32
  let v785 : BitVec 32 := Scalar.addi v784 c61_i32
  let c8_i32_271 : BitVec 32 := 8#32
  let v786 : BitVec 32 := Scalar.muli v785 c8_i32_271
  v786
def k0_mult64 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_273 : BitVec 32 := 128#32
  let v795 : BitVec 32 := Scalar.muli arg23 c128_i32_273
  let c62_i32 : BitVec 32 := 62#32
  let v796 : BitVec 32 := Scalar.addi v795 c62_i32
  let c8_i32_274 : BitVec 32 := 8#32
  let v797 : BitVec 32 := Scalar.muli v796 c8_i32_274
  v797
def k0_mult65 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_276 : BitVec 32 := 128#32
  let v806 : BitVec 32 := Scalar.muli arg23 c128_i32_276
  let c63_i32 : BitVec 32 := 63#32
  let v807 : BitVec 32 := Scalar.addi v806 c63_i32
  let c8_i32_277 : BitVec 32 := 8#32
  let v808 : BitVec 32 := Scalar.muli v807 c8_i32_277
  v808
def k0_mult66 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_279 : BitVec 32 := 128#32
  let v817 : BitVec 32 := Scalar.muli arg23 c128_i32_279
  let c64_i32_280 : BitVec 32 := 64#32
  let v818 : BitVec 32 := Scalar.addi v817 c64_i32_280
  let c8_i32_281 : BitVec 32 := 8#32
  let v819 : BitVec 32 := Scalar.muli v818 c8_i32_281
  v819
def k0_mult67 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_283 : BitVec 32 := 128#32
  let v828 : BitVec 32 := Scalar.muli arg23 c128_i32_283
  let c65_i32 : BitVec 32 := 65#32
  let v829 : BitVec 32 := Scalar.addi v828 c65_i32
  let c8_i32_284 : BitVec 32 := 8#32
  let v830 : BitVec 32 := Scalar.muli v829 c8_i32_284
  v830
def k0_mult68 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_286 : BitVec 32 := 128#32
  let v839 : BitVec 32 := Scalar.muli arg23 c128_i32_286
  let c66_i32 : BitVec 32 := 66#32
  let v840 : BitVec 32 := Scalar.addi v839 c66_i32
  let c8_i32_287 : BitVec 32 := 8#32
  let v841 : BitVec 32 := Scalar.muli v840 c8_i32_287
  v841
def k0_mult69 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_289 : BitVec 32 := 128#32
  let v850 : BitVec 32 := Scalar.muli arg23 c128_i32_289
  let c67_i32 : BitVec 32 := 67#32
  let v851 : BitVec 32 := Scalar.addi v850 c67_i32
  let c8_i32_290 : BitVec 32 := 8#32
  let v852 : BitVec 32 := Scalar.muli v851 c8_i32_290
  v852
def k0_mult70 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_292 : BitVec 32 := 128#32
  let v861 : BitVec 32 := Scalar.muli arg23 c128_i32_292
  let c68_i32 : BitVec 32 := 68#32
  let v862 : BitVec 32 := Scalar.addi v861 c68_i32
  let c8_i32_293 : BitVec 32 := 8#32
  let v863 : BitVec 32 := Scalar.muli v862 c8_i32_293
  v863
def k0_mult71 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_295 : BitVec 32 := 128#32
  let v872 : BitVec 32 := Scalar.muli arg23 c128_i32_295
  let c69_i32 : BitVec 32 := 69#32
  let v873 : BitVec 32 := Scalar.addi v872 c69_i32
  let c8_i32_296 : BitVec 32 := 8#32
  let v874 : BitVec 32 := Scalar.muli v873 c8_i32_296
  v874
def k0_mult72 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_298 : BitVec 32 := 128#32
  let v883 : BitVec 32 := Scalar.muli arg23 c128_i32_298
  let c70_i32 : BitVec 32 := 70#32
  let v884 : BitVec 32 := Scalar.addi v883 c70_i32
  let c8_i32_299 : BitVec 32 := 8#32
  let v885 : BitVec 32 := Scalar.muli v884 c8_i32_299
  v885
def k0_mult73 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_301 : BitVec 32 := 128#32
  let v894 : BitVec 32 := Scalar.muli arg23 c128_i32_301
  let c71_i32 : BitVec 32 := 71#32
  let v895 : BitVec 32 := Scalar.addi v894 c71_i32
  let c8_i32_302 : BitVec 32 := 8#32
  let v896 : BitVec 32 := Scalar.muli v895 c8_i32_302
  v896
def k0_mult74 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_304 : BitVec 32 := 128#32
  let v905 : BitVec 32 := Scalar.muli arg23 c128_i32_304
  let c72_i32 : BitVec 32 := 72#32
  let v906 : BitVec 32 := Scalar.addi v905 c72_i32
  let c8_i32_305 : BitVec 32 := 8#32
  let v907 : BitVec 32 := Scalar.muli v906 c8_i32_305
  v907
def k0_mult75 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_307 : BitVec 32 := 128#32
  let v916 : BitVec 32 := Scalar.muli arg23 c128_i32_307
  let c73_i32 : BitVec 32 := 73#32
  let v917 : BitVec 32 := Scalar.addi v916 c73_i32
  let c8_i32_308 : BitVec 32 := 8#32
  let v918 : BitVec 32 := Scalar.muli v917 c8_i32_308
  v918
def k0_mult76 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_310 : BitVec 32 := 128#32
  let v927 : BitVec 32 := Scalar.muli arg23 c128_i32_310
  let c74_i32 : BitVec 32 := 74#32
  let v928 : BitVec 32 := Scalar.addi v927 c74_i32
  let c8_i32_311 : BitVec 32 := 8#32
  let v929 : BitVec 32 := Scalar.muli v928 c8_i32_311
  v929
def k0_mult77 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_313 : BitVec 32 := 128#32
  let v938 : BitVec 32 := Scalar.muli arg23 c128_i32_313
  let c75_i32 : BitVec 32 := 75#32
  let v939 : BitVec 32 := Scalar.addi v938 c75_i32
  let c8_i32_314 : BitVec 32 := 8#32
  let v940 : BitVec 32 := Scalar.muli v939 c8_i32_314
  v940
def k0_mult78 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_316 : BitVec 32 := 128#32
  let v949 : BitVec 32 := Scalar.muli arg23 c128_i32_316
  let c76_i32 : BitVec 32 := 76#32
  let v950 : BitVec 32 := Scalar.addi v949 c76_i32
  let c8_i32_317 : BitVec 32 := 8#32
  let v951 : BitVec 32 := Scalar.muli v950 c8_i32_317
  v951
def k0_mult79 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_319 : BitVec 32 := 128#32
  let v960 : BitVec 32 := Scalar.muli arg23 c128_i32_319
  let c77_i32 : BitVec 32 := 77#32
  let v961 : BitVec 32 := Scalar.addi v960 c77_i32
  let c8_i32_320 : BitVec 32 := 8#32
  let v962 : BitVec 32 := Scalar.muli v961 c8_i32_320
  v962
def k0_mult80 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_322 : BitVec 32 := 128#32
  let v971 : BitVec 32 := Scalar.muli arg23 c128_i32_322
  let c78_i32 : BitVec 32 := 78#32
  let v972 : BitVec 32 := Scalar.addi v971 c78_i32
  let c8_i32_323 : BitVec 32 := 8#32
  let v973 : BitVec 32 := Scalar.muli v972 c8_i32_323
  v973
def k0_mult81 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_325 : BitVec 32 := 128#32
  let v982 : BitVec 32 := Scalar.muli arg23 c128_i32_325
  let c79_i32 : BitVec 32 := 79#32
  let v983 : BitVec 32 := Scalar.addi v982 c79_i32
  let c8_i32_326 : BitVec 32 := 8#32
  let v984 : BitVec 32 := Scalar.muli v983 c8_i32_326
  v984
def k0_mult82 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_328 : BitVec 32 := 128#32
  let v993 : BitVec 32 := Scalar.muli arg23 c128_i32_328
  let c80_i32 : BitVec 32 := 80#32
  let v994 : BitVec 32 := Scalar.addi v993 c80_i32
  let c8_i32_329 : BitVec 32 := 8#32
  let v995 : BitVec 32 := Scalar.muli v994 c8_i32_329
  v995
def k0_mult83 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_331 : BitVec 32 := 128#32
  let v1004 : BitVec 32 := Scalar.muli arg23 c128_i32_331
  let c81_i32 : BitVec 32 := 81#32
  let v1005 : BitVec 32 := Scalar.addi v1004 c81_i32
  let c8_i32_332 : BitVec 32 := 8#32
  let v1006 : BitVec 32 := Scalar.muli v1005 c8_i32_332
  v1006
def k0_mult84 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_334 : BitVec 32 := 128#32
  let v1015 : BitVec 32 := Scalar.muli arg23 c128_i32_334
  let c82_i32 : BitVec 32 := 82#32
  let v1016 : BitVec 32 := Scalar.addi v1015 c82_i32
  let c8_i32_335 : BitVec 32 := 8#32
  let v1017 : BitVec 32 := Scalar.muli v1016 c8_i32_335
  v1017
def k0_mult85 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_337 : BitVec 32 := 128#32
  let v1026 : BitVec 32 := Scalar.muli arg23 c128_i32_337
  let c83_i32 : BitVec 32 := 83#32
  let v1027 : BitVec 32 := Scalar.addi v1026 c83_i32
  let c8_i32_338 : BitVec 32 := 8#32
  let v1028 : BitVec 32 := Scalar.muli v1027 c8_i32_338
  v1028
def k0_mult86 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_340 : BitVec 32 := 128#32
  let v1037 : BitVec 32 := Scalar.muli arg23 c128_i32_340
  let c84_i32 : BitVec 32 := 84#32
  let v1038 : BitVec 32 := Scalar.addi v1037 c84_i32
  let c8_i32_341 : BitVec 32 := 8#32
  let v1039 : BitVec 32 := Scalar.muli v1038 c8_i32_341
  v1039
def k0_mult87 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_343 : BitVec 32 := 128#32
  let v1048 : BitVec 32 := Scalar.muli arg23 c128_i32_343
  let c85_i32 : BitVec 32 := 85#32
  let v1049 : BitVec 32 := Scalar.addi v1048 c85_i32
  let c8_i32_344 : BitVec 32 := 8#32
  let v1050 : BitVec 32 := Scalar.muli v1049 c8_i32_344
  v1050
def k0_mult88 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_346 : BitVec 32 := 128#32
  let v1059 : BitVec 32 := Scalar.muli arg23 c128_i32_346
  let c86_i32 : BitVec 32 := 86#32
  let v1060 : BitVec 32 := Scalar.addi v1059 c86_i32
  let c8_i32_347 : BitVec 32 := 8#32
  let v1061 : BitVec 32 := Scalar.muli v1060 c8_i32_347
  v1061
def k0_mult89 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_349 : BitVec 32 := 128#32
  let v1070 : BitVec 32 := Scalar.muli arg23 c128_i32_349
  let c87_i32 : BitVec 32 := 87#32
  let v1071 : BitVec 32 := Scalar.addi v1070 c87_i32
  let c8_i32_350 : BitVec 32 := 8#32
  let v1072 : BitVec 32 := Scalar.muli v1071 c8_i32_350
  v1072
def k0_mult90 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_352 : BitVec 32 := 128#32
  let v1081 : BitVec 32 := Scalar.muli arg23 c128_i32_352
  let c88_i32 : BitVec 32 := 88#32
  let v1082 : BitVec 32 := Scalar.addi v1081 c88_i32
  let c8_i32_353 : BitVec 32 := 8#32
  let v1083 : BitVec 32 := Scalar.muli v1082 c8_i32_353
  v1083
def k0_mult91 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_355 : BitVec 32 := 128#32
  let v1092 : BitVec 32 := Scalar.muli arg23 c128_i32_355
  let c89_i32 : BitVec 32 := 89#32
  let v1093 : BitVec 32 := Scalar.addi v1092 c89_i32
  let c8_i32_356 : BitVec 32 := 8#32
  let v1094 : BitVec 32 := Scalar.muli v1093 c8_i32_356
  v1094
def k0_mult92 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_358 : BitVec 32 := 128#32
  let v1103 : BitVec 32 := Scalar.muli arg23 c128_i32_358
  let c90_i32 : BitVec 32 := 90#32
  let v1104 : BitVec 32 := Scalar.addi v1103 c90_i32
  let c8_i32_359 : BitVec 32 := 8#32
  let v1105 : BitVec 32 := Scalar.muli v1104 c8_i32_359
  v1105
def k0_mult93 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_361 : BitVec 32 := 128#32
  let v1114 : BitVec 32 := Scalar.muli arg23 c128_i32_361
  let c91_i32 : BitVec 32 := 91#32
  let v1115 : BitVec 32 := Scalar.addi v1114 c91_i32
  let c8_i32_362 : BitVec 32 := 8#32
  let v1116 : BitVec 32 := Scalar.muli v1115 c8_i32_362
  v1116
def k0_mult94 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_364 : BitVec 32 := 128#32
  let v1125 : BitVec 32 := Scalar.muli arg23 c128_i32_364
  let c92_i32 : BitVec 32 := 92#32
  let v1126 : BitVec 32 := Scalar.addi v1125 c92_i32
  let c8_i32_365 : BitVec 32 := 8#32
  let v1127 : BitVec 32 := Scalar.muli v1126 c8_i32_365
  v1127
def k0_mult95 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_367 : BitVec 32 := 128#32
  let v1136 : BitVec 32 := Scalar.muli arg23 c128_i32_367
  let c93_i32 : BitVec 32 := 93#32
  let v1137 : BitVec 32 := Scalar.addi v1136 c93_i32
  let c8_i32_368 : BitVec 32 := 8#32
  let v1138 : BitVec 32 := Scalar.muli v1137 c8_i32_368
  v1138
def k0_mult96 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_370 : BitVec 32 := 128#32
  let v1147 : BitVec 32 := Scalar.muli arg23 c128_i32_370
  let c94_i32 : BitVec 32 := 94#32
  let v1148 : BitVec 32 := Scalar.addi v1147 c94_i32
  let c8_i32_371 : BitVec 32 := 8#32
  let v1149 : BitVec 32 := Scalar.muli v1148 c8_i32_371
  v1149
def k0_mult97 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_373 : BitVec 32 := 128#32
  let v1158 : BitVec 32 := Scalar.muli arg23 c128_i32_373
  let c95_i32 : BitVec 32 := 95#32
  let v1159 : BitVec 32 := Scalar.addi v1158 c95_i32
  let c8_i32_374 : BitVec 32 := 8#32
  let v1160 : BitVec 32 := Scalar.muli v1159 c8_i32_374
  v1160
def k0_mult98 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_376 : BitVec 32 := 128#32
  let v1169 : BitVec 32 := Scalar.muli arg23 c128_i32_376
  let c96_i32 : BitVec 32 := 96#32
  let v1170 : BitVec 32 := Scalar.addi v1169 c96_i32
  let c8_i32_377 : BitVec 32 := 8#32
  let v1171 : BitVec 32 := Scalar.muli v1170 c8_i32_377
  v1171
def k0_mult99 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_379 : BitVec 32 := 128#32
  let v1180 : BitVec 32 := Scalar.muli arg23 c128_i32_379
  let c97_i32 : BitVec 32 := 97#32
  let v1181 : BitVec 32 := Scalar.addi v1180 c97_i32
  let c8_i32_380 : BitVec 32 := 8#32
  let v1182 : BitVec 32 := Scalar.muli v1181 c8_i32_380
  v1182
def k0_mult100 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_382 : BitVec 32 := 128#32
  let v1191 : BitVec 32 := Scalar.muli arg23 c128_i32_382
  let c98_i32 : BitVec 32 := 98#32
  let v1192 : BitVec 32 := Scalar.addi v1191 c98_i32
  let c8_i32_383 : BitVec 32 := 8#32
  let v1193 : BitVec 32 := Scalar.muli v1192 c8_i32_383
  v1193
def k0_mult101 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_385 : BitVec 32 := 128#32
  let v1202 : BitVec 32 := Scalar.muli arg23 c128_i32_385
  let c99_i32 : BitVec 32 := 99#32
  let v1203 : BitVec 32 := Scalar.addi v1202 c99_i32
  let c8_i32_386 : BitVec 32 := 8#32
  let v1204 : BitVec 32 := Scalar.muli v1203 c8_i32_386
  v1204
def k0_mult102 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_388 : BitVec 32 := 128#32
  let v1213 : BitVec 32 := Scalar.muli arg23 c128_i32_388
  let c100_i32 : BitVec 32 := 100#32
  let v1214 : BitVec 32 := Scalar.addi v1213 c100_i32
  let c8_i32_389 : BitVec 32 := 8#32
  let v1215 : BitVec 32 := Scalar.muli v1214 c8_i32_389
  v1215
def k0_mult103 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_391 : BitVec 32 := 128#32
  let v1224 : BitVec 32 := Scalar.muli arg23 c128_i32_391
  let c101_i32 : BitVec 32 := 101#32
  let v1225 : BitVec 32 := Scalar.addi v1224 c101_i32
  let c8_i32_392 : BitVec 32 := 8#32
  let v1226 : BitVec 32 := Scalar.muli v1225 c8_i32_392
  v1226
def k0_mult104 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_394 : BitVec 32 := 128#32
  let v1235 : BitVec 32 := Scalar.muli arg23 c128_i32_394
  let c102_i32 : BitVec 32 := 102#32
  let v1236 : BitVec 32 := Scalar.addi v1235 c102_i32
  let c8_i32_395 : BitVec 32 := 8#32
  let v1237 : BitVec 32 := Scalar.muli v1236 c8_i32_395
  v1237
def k0_mult105 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_397 : BitVec 32 := 128#32
  let v1246 : BitVec 32 := Scalar.muli arg23 c128_i32_397
  let c103_i32 : BitVec 32 := 103#32
  let v1247 : BitVec 32 := Scalar.addi v1246 c103_i32
  let c8_i32_398 : BitVec 32 := 8#32
  let v1248 : BitVec 32 := Scalar.muli v1247 c8_i32_398
  v1248
def k0_mult106 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_400 : BitVec 32 := 128#32
  let v1257 : BitVec 32 := Scalar.muli arg23 c128_i32_400
  let c104_i32 : BitVec 32 := 104#32
  let v1258 : BitVec 32 := Scalar.addi v1257 c104_i32
  let c8_i32_401 : BitVec 32 := 8#32
  let v1259 : BitVec 32 := Scalar.muli v1258 c8_i32_401
  v1259
def k0_mult107 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_403 : BitVec 32 := 128#32
  let v1268 : BitVec 32 := Scalar.muli arg23 c128_i32_403
  let c105_i32 : BitVec 32 := 105#32
  let v1269 : BitVec 32 := Scalar.addi v1268 c105_i32
  let c8_i32_404 : BitVec 32 := 8#32
  let v1270 : BitVec 32 := Scalar.muli v1269 c8_i32_404
  v1270
def k0_mult108 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_406 : BitVec 32 := 128#32
  let v1279 : BitVec 32 := Scalar.muli arg23 c128_i32_406
  let c106_i32 : BitVec 32 := 106#32
  let v1280 : BitVec 32 := Scalar.addi v1279 c106_i32
  let c8_i32_407 : BitVec 32 := 8#32
  let v1281 : BitVec 32 := Scalar.muli v1280 c8_i32_407
  v1281
def k0_mult109 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_409 : BitVec 32 := 128#32
  let v1290 : BitVec 32 := Scalar.muli arg23 c128_i32_409
  let c107_i32 : BitVec 32 := 107#32
  let v1291 : BitVec 32 := Scalar.addi v1290 c107_i32
  let c8_i32_410 : BitVec 32 := 8#32
  let v1292 : BitVec 32 := Scalar.muli v1291 c8_i32_410
  v1292
def k0_mult110 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_412 : BitVec 32 := 128#32
  let v1301 : BitVec 32 := Scalar.muli arg23 c128_i32_412
  let c108_i32 : BitVec 32 := 108#32
  let v1302 : BitVec 32 := Scalar.addi v1301 c108_i32
  let c8_i32_413 : BitVec 32 := 8#32
  let v1303 : BitVec 32 := Scalar.muli v1302 c8_i32_413
  v1303
def k0_mult111 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_415 : BitVec 32 := 128#32
  let v1312 : BitVec 32 := Scalar.muli arg23 c128_i32_415
  let c109_i32 : BitVec 32 := 109#32
  let v1313 : BitVec 32 := Scalar.addi v1312 c109_i32
  let c8_i32_416 : BitVec 32 := 8#32
  let v1314 : BitVec 32 := Scalar.muli v1313 c8_i32_416
  v1314
def k0_mult112 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_418 : BitVec 32 := 128#32
  let v1323 : BitVec 32 := Scalar.muli arg23 c128_i32_418
  let c110_i32 : BitVec 32 := 110#32
  let v1324 : BitVec 32 := Scalar.addi v1323 c110_i32
  let c8_i32_419 : BitVec 32 := 8#32
  let v1325 : BitVec 32 := Scalar.muli v1324 c8_i32_419
  v1325
def k0_mult113 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_421 : BitVec 32 := 128#32
  let v1334 : BitVec 32 := Scalar.muli arg23 c128_i32_421
  let c111_i32 : BitVec 32 := 111#32
  let v1335 : BitVec 32 := Scalar.addi v1334 c111_i32
  let c8_i32_422 : BitVec 32 := 8#32
  let v1336 : BitVec 32 := Scalar.muli v1335 c8_i32_422
  v1336
def k0_mult114 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_424 : BitVec 32 := 128#32
  let v1345 : BitVec 32 := Scalar.muli arg23 c128_i32_424
  let c112_i32 : BitVec 32 := 112#32
  let v1346 : BitVec 32 := Scalar.addi v1345 c112_i32
  let c8_i32_425 : BitVec 32 := 8#32
  let v1347 : BitVec 32 := Scalar.muli v1346 c8_i32_425
  v1347
def k0_mult115 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_427 : BitVec 32 := 128#32
  let v1356 : BitVec 32 := Scalar.muli arg23 c128_i32_427
  let c113_i32 : BitVec 32 := 113#32
  let v1357 : BitVec 32 := Scalar.addi v1356 c113_i32
  let c8_i32_428 : BitVec 32 := 8#32
  let v1358 : BitVec 32 := Scalar.muli v1357 c8_i32_428
  v1358
def k0_mult116 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_430 : BitVec 32 := 128#32
  let v1367 : BitVec 32 := Scalar.muli arg23 c128_i32_430
  let c114_i32 : BitVec 32 := 114#32
  let v1368 : BitVec 32 := Scalar.addi v1367 c114_i32
  let c8_i32_431 : BitVec 32 := 8#32
  let v1369 : BitVec 32 := Scalar.muli v1368 c8_i32_431
  v1369
def k0_mult117 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_433 : BitVec 32 := 128#32
  let v1378 : BitVec 32 := Scalar.muli arg23 c128_i32_433
  let c115_i32 : BitVec 32 := 115#32
  let v1379 : BitVec 32 := Scalar.addi v1378 c115_i32
  let c8_i32_434 : BitVec 32 := 8#32
  let v1380 : BitVec 32 := Scalar.muli v1379 c8_i32_434
  v1380
def k0_mult118 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_436 : BitVec 32 := 128#32
  let v1389 : BitVec 32 := Scalar.muli arg23 c128_i32_436
  let c116_i32 : BitVec 32 := 116#32
  let v1390 : BitVec 32 := Scalar.addi v1389 c116_i32
  let c8_i32_437 : BitVec 32 := 8#32
  let v1391 : BitVec 32 := Scalar.muli v1390 c8_i32_437
  v1391
def k0_mult119 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_439 : BitVec 32 := 128#32
  let v1400 : BitVec 32 := Scalar.muli arg23 c128_i32_439
  let c117_i32 : BitVec 32 := 117#32
  let v1401 : BitVec 32 := Scalar.addi v1400 c117_i32
  let c8_i32_440 : BitVec 32 := 8#32
  let v1402 : BitVec 32 := Scalar.muli v1401 c8_i32_440
  v1402
def k0_mult120 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_442 : BitVec 32 := 128#32
  let v1411 : BitVec 32 := Scalar.muli arg23 c128_i32_442
  let c118_i32 : BitVec 32 := 118#32
  let v1412 : BitVec 32 := Scalar.addi v1411 c118_i32
  let c8_i32_443 : BitVec 32 := 8#32
  let v1413 : BitVec 32 := Scalar.muli v1412 c8_i32_443
  v1413
def k0_mult121 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_445 : BitVec 32 := 128#32
  let v1422 : BitVec 32 := Scalar.muli arg23 c128_i32_445
  let c119_i32 : BitVec 32 := 119#32
  let v1423 : BitVec 32 := Scalar.addi v1422 c119_i32
  let c8_i32_446 : BitVec 32 := 8#32
  let v1424 : BitVec 32 := Scalar.muli v1423 c8_i32_446
  v1424
def k0_mult122 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_448 : BitVec 32 := 128#32
  let v1433 : BitVec 32 := Scalar.muli arg23 c128_i32_448
  let c120_i32 : BitVec 32 := 120#32
  let v1434 : BitVec 32 := Scalar.addi v1433 c120_i32
  let c8_i32_449 : BitVec 32 := 8#32
  let v1435 : BitVec 32 := Scalar.muli v1434 c8_i32_449
  v1435
def k0_mult123 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_451 : BitVec 32 := 128#32
  let v1444 : BitVec 32 := Scalar.muli arg23 c128_i32_451
  let c121_i32 : BitVec 32 := 121#32
  let v1445 : BitVec 32 := Scalar.addi v1444 c121_i32
  let c8_i32_452 : BitVec 32 := 8#32
  let v1446 : BitVec 32 := Scalar.muli v1445 c8_i32_452
  v1446
def k0_mult124 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_454 : BitVec 32 := 128#32
  let v1455 : BitVec 32 := Scalar.muli arg23 c128_i32_454
  let c122_i32 : BitVec 32 := 122#32
  let v1456 : BitVec 32 := Scalar.addi v1455 c122_i32
  let c8_i32_455 : BitVec 32 := 8#32
  let v1457 : BitVec 32 := Scalar.muli v1456 c8_i32_455
  v1457
def k0_mult125 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_457 : BitVec 32 := 128#32
  let v1466 : BitVec 32 := Scalar.muli arg23 c128_i32_457
  let c123_i32 : BitVec 32 := 123#32
  let v1467 : BitVec 32 := Scalar.addi v1466 c123_i32
  let c8_i32_458 : BitVec 32 := 8#32
  let v1468 : BitVec 32 := Scalar.muli v1467 c8_i32_458
  v1468
def k0_mult126 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_460 : BitVec 32 := 128#32
  let v1477 : BitVec 32 := Scalar.muli arg23 c128_i32_460
  let c124_i32 : BitVec 32 := 124#32
  let v1478 : BitVec 32 := Scalar.addi v1477 c124_i32
  let c8_i32_461 : BitVec 32 := 8#32
  let v1479 : BitVec 32 := Scalar.muli v1478 c8_i32_461
  v1479
def k0_mult127 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_463 : BitVec 32 := 128#32
  let v1488 : BitVec 32 := Scalar.muli arg23 c128_i32_463
  let c125_i32 : BitVec 32 := 125#32
  let v1489 : BitVec 32 := Scalar.addi v1488 c125_i32
  let c8_i32_464 : BitVec 32 := 8#32
  let v1490 : BitVec 32 := Scalar.muli v1489 c8_i32_464
  v1490
def k0_mult128 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_466 : BitVec 32 := 128#32
  let v1499 : BitVec 32 := Scalar.muli arg23 c128_i32_466
  let c126_i32 : BitVec 32 := 126#32
  let v1500 : BitVec 32 := Scalar.addi v1499 c126_i32
  let c8_i32_467 : BitVec 32 := 8#32
  let v1501 : BitVec 32 := Scalar.muli v1500 c8_i32_467
  v1501
def k0_mult129 (k0_t1 : Fin k0_t1_loop.trips) : BitVec 32 :=
  let c0_i32_77 : BitVec 32 := 0#32
  let c1_i32_78 : BitVec 32 := 1#32
  let arg23 : BitVec 32 := Scf.iv c0_i32_77 c1_i32_78 k0_t1
  let c128_i32_469 : BitVec 32 := 128#32
  let v1510 : BitVec 32 := Scalar.muli arg23 c128_i32_469
  let c127_i32 : BitVec 32 := 127#32
  let v1511 : BitVec 32 := Scalar.addi v1510 c127_i32
  let c8_i32_470 : BitVec 32 := 8#32
  let v1512 : BitVec 32 := Scalar.muli v1511 c8_i32_470
  v1512
@[reducible] def k0_t2_loop : Scf.Loop 32 :=
  let c0_i32_19 : BitVec 32 := 0#32
  let c64_i32 : BitVec 32 := 64#32
  let v24 : BitVec 32 := Scalar.addi c0_i32_19 c64_i32
  let c1_i32_20 : BitVec 32 := 1#32
  ⟨c0_i32_19, v24, c1_i32_20⟩
def k0_mult130 (k0_t2 : Fin k0_t2_loop.trips) : BitVec 32 :=
  let c0_i32_19 : BitVec 32 := 0#32
  let c1_i32_20 : BitVec 32 := 1#32
  let arg23 : BitVec 32 := Scf.iv c0_i32_19 c1_i32_20 k0_t2
  let c512_i32 : BitVec 32 := 512#32
  let v107 : BitVec 32 := Scalar.muli arg23 c512_i32
  v107
def k0_off4 (k0_t2 : Fin k0_t2_loop.trips) : Fin 2 → Nat :=
  let c0_i32_19 : BitVec 32 := 0#32
  let c1_i32_20 : BitVec 32 := 1#32
  let arg23 : BitVec 32 := Scf.iv c0_i32_19 c1_i32_20 k0_t2
  let c512_i32 : BitVec 32 := 512#32
  let v107 : BitVec 32 := Scalar.muli arg23 c512_i32
  let v108 : BitVec 32 := v107
  let v111 : Index := Scalar.indexCast v108
  let c0_79 : Index := 0#32
  ![v111.toNat, 0]
def k0_off5 (k0_t2 : Fin k0_t2_loop.trips) : Fin 2 → Nat :=
  let c0_86 : Index := 0#32
  let c0_i32_19 : BitVec 32 := 0#32
  let c1_i32_20 : BitVec 32 := 1#32
  let arg23 : BitVec 32 := Scf.iv c0_i32_19 c1_i32_20 k0_t2
  let c512_i32 : BitVec 32 := 512#32
  let v107 : BitVec 32 := Scalar.muli arg23 c512_i32
  let v108 : BitVec 32 := v107
  let v135 : Index := Scalar.indexCast v108
  ![0, v135.toNat]
def k0_off6 (k0_t2 : Fin k0_t2_loop.trips) : Fin 2 → Nat :=
  let c0_89 : Index := 0#32
  let c0_i32_19 : BitVec 32 := 0#32
  let c1_i32_20 : BitVec 32 := 1#32
  let arg23 : BitVec 32 := Scf.iv c0_i32_19 c1_i32_20 k0_t2
  let c512_i32 : BitVec 32 := 512#32
  let v107 : BitVec 32 := Scalar.muli arg23 c512_i32
  let v108 : BitVec 32 := v107
  let v141 : Index := Scalar.indexCast v108
  ![0, v141.toNat]
@[reducible] def k0_t3_loop : Scf.Loop 32 :=
  let c0_i32_33 : BitVec 32 := 0#32
  let c3_i32 : BitVec 32 := 3#32
  let v29 : BitVec 32 := Scalar.addi c0_i32_33 c3_i32
  let c1_i32_34 : BitVec 32 := 1#32
  ⟨c0_i32_33, v29, c1_i32_34⟩
def k0_mult131 (k0_t3 : Fin k0_t3_loop.trips) : BitVec 32 :=
  let c0_i32_33 : BitVec 32 := 0#32
  let c1_i32_34 : BitVec 32 := 1#32
  let arg23 : BitVec 32 := Scf.iv c0_i32_33 c1_i32_34 k0_t3
  let c128_i32 : BitVec 32 := 128#32
  let v107 : BitVec 32 := Scalar.muli arg23 c128_i32
  v107
def k0_off7 (k0_t3 : Fin k0_t3_loop.trips) : Fin 2 → Nat :=
  let c0_i32_33 : BitVec 32 := 0#32
  let c1_i32_34 : BitVec 32 := 1#32
  let arg23 : BitVec 32 := Scf.iv c0_i32_33 c1_i32_34 k0_t3
  let c128_i32 : BitVec 32 := 128#32
  let v107 : BitVec 32 := Scalar.muli arg23 c128_i32
  let v108 : BitVec 32 := v107
  let v111 : Index := Scalar.indexCast v108
  let c0_79 : Index := 0#32
  ![v111.toNat, 0]
def k0_off8 (k0_t3 : Fin k0_t3_loop.trips) : Fin 2 → Nat :=
  let c0_88 : Index := 0#32
  let c0_i32_33 : BitVec 32 := 0#32
  let c1_i32_34 : BitVec 32 := 1#32
  let arg23 : BitVec 32 := Scf.iv c0_i32_33 c1_i32_34 k0_t3
  let c128_i32 : BitVec 32 := 128#32
  let v107 : BitVec 32 := Scalar.muli arg23 c128_i32
  let v108 : BitVec 32 := v107
  let v138 : Index := Scalar.indexCast v108
  ![0, v138.toNat]
def k0_off9 (k0_t3 : Fin k0_t3_loop.trips) : Fin 2 → Nat :=
  let c0_91 : Index := 0#32
  let c0_i32_33 : BitVec 32 := 0#32
  let c1_i32_34 : BitVec 32 := 1#32
  let arg23 : BitVec 32 := Scf.iv c0_i32_33 c1_i32_34 k0_t3
  let c128_i32 : BitVec 32 := 128#32
  let v107 : BitVec 32 := Scalar.muli arg23 c128_i32
  let v108 : BitVec 32 := v107
  let v144 : Index := Scalar.indexCast v108
  ![0, v144.toNat]
@[reducible] def k0_t4_loop : Scf.Loop 32 :=
  let c0_i32_47 : BitVec 32 := 0#32
  let c2_i32_48 : BitVec 32 := 2#32
  let v35 : BitVec 32 := Scalar.addi c0_i32_47 c2_i32_48
  let c1_i32_49 : BitVec 32 := 1#32
  ⟨c0_i32_47, v35, c1_i32_49⟩
def k0_mult132 (k0_t4 : Fin k0_t4_loop.trips) : BitVec 32 :=
  let c0_i32_47 : BitVec 32 := 0#32
  let c1_i32_49 : BitVec 32 := 1#32
  let arg23 : BitVec 32 := Scf.iv c0_i32_47 c1_i32_49 k0_t4
  let c256_i32_77 : BitVec 32 := 256#32
  let v107 : BitVec 32 := Scalar.muli arg23 c256_i32_77
  v107
def k0_off10 (k0_t4 : Fin k0_t4_loop.trips) : Fin 2 → Nat :=
  let c0_i32_47 : BitVec 32 := 0#32
  let c1_i32_49 : BitVec 32 := 1#32
  let arg23 : BitVec 32 := Scf.iv c0_i32_47 c1_i32_49 k0_t4
  let c256_i32_77 : BitVec 32 := 256#32
  let v107 : BitVec 32 := Scalar.muli arg23 c256_i32_77
  let v108 : BitVec 32 := v107
  let v111 : Index := Scalar.indexCast v108
  let c0_80 : Index := 0#32
  ![v111.toNat, 0]
def k0_off11 (k0_t4 : Fin k0_t4_loop.trips) : Fin 2 → Nat :=
  let c0_90 : Index := 0#32
  let c0_i32_47 : BitVec 32 := 0#32
  let c1_i32_49 : BitVec 32 := 1#32
  let arg23 : BitVec 32 := Scf.iv c0_i32_47 c1_i32_49 k0_t4
  let c256_i32_77 : BitVec 32 := 256#32
  let v107 : BitVec 32 := Scalar.muli arg23 c256_i32_77
  let v108 : BitVec 32 := v107
  let v147 : Index := Scalar.indexCast v108
  ![0, v147.toNat]
def k0_off12 (k0_t4 : Fin k0_t4_loop.trips) : Fin 2 → Nat :=
  let c0_93 : Index := 0#32
  let c0_i32_47 : BitVec 32 := 0#32
  let c1_i32_49 : BitVec 32 := 1#32
  let arg23 : BitVec 32 := Scf.iv c0_i32_47 c1_i32_49 k0_t4
  let c256_i32_77 : BitVec 32 := 256#32
  let v107 : BitVec 32 := Scalar.muli arg23 c256_i32_77
  let v108 : BitVec 32 := v107
  let v153 : Index := Scalar.indexCast v108
  ![0, v153.toNat]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.muli arg0 c5_i32
  let c2_i32 : BitVec 32 := 2#32
  let v1 : BitVec 32 := Scalar.divsi arg2 c2_i32
  let c0_i32 : BitVec 32 := 0#32
  let v2 : BitVec 1 := Scalar.cmpi .sgt arg2 c0_i32
  let v3 : BitVec 32 := Scalar.extui v2
  let c0_i32_0 : BitVec 32 := 0#32
  let v4 : BitVec 1 := Scalar.cmpi .slt arg2 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg2 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.addi v0 v17
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg2 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let c0_i32_11 : BitVec 32 := 0#32
  ![arg1.toNat, v18.toNat, v28.toNat, c0_i32_10.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.muli arg0 c5_i32
  let c2_i32 : BitVec 32 := 2#32
  let v1 : BitVec 32 := Scalar.divsi arg2 c2_i32
  let c0_i32 : BitVec 32 := 0#32
  let v2 : BitVec 1 := Scalar.cmpi .sgt arg2 c0_i32
  let v3 : BitVec 32 := Scalar.extui v2
  let c0_i32_0 : BitVec 32 := 0#32
  let v4 : BitVec 1 := Scalar.cmpi .slt arg2 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg2 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.addi v0 v17
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg2 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let c0_i32_11 : BitVec 32 := 0#32
  ![arg1.toNat, v18.toNat, c0_i32_10.toNat, v28.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_10 (k0_off1_inb : ∀ i : grid0.Coords, ∀ a, (k0_off1 i) a + S1.size a ≤ S4.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg1
  let v1 : BitVec 32 := pf.at 0 (Rect.unit (s := S4) ![v0.toNat] S1.size (k0_off1_inb i)) numel1_S1
  let c0_i32 : BitVec 32 := 0#32
  let c0_i32_0 : BitVec 32 := 0#32
  let c0_i32_1 : BitVec 32 := 0#32
  ![v1.toNat, arg0.toNat, c0_i32.toNat, c0_i32_0.toNat]

def cc0_transform_11 (k0_off1_inb : ∀ i : grid0.Coords, ∀ a, (k0_off1 i) a + S1.size a ≤ S4.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg1
  let v1 : BitVec 32 := pf.at 0 (Rect.unit (s := S4) ![v0.toNat] S1.size (k0_off1_inb i)) numel1_S1
  let c0_i32 : BitVec 32 := 0#32
  let c0_i32_0 : BitVec 32 := 0#32
  let c0_i32_1 : BitVec 32 := 0#32
  ![v1.toNat, arg0.toNat, c0_i32.toNat, c0_i32_0.toNat]

def cc0_transform_12 (k0_off1_inb : ∀ i : grid0.Coords, ∀ a, (k0_off1 i) a + S1.size a ≤ S4.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg1
  let v1 : BitVec 32 := pf.at 0 (Rect.unit (s := S4) ![v0.toNat] S1.size (k0_off1_inb i)) numel1_S1
  let c0_i32 : BitVec 32 := 0#32
  let c0_i32_0 : BitVec 32 := 0#32
  let c0_i32_1 : BitVec 32 := 0#32
  ![v1.toNat, arg0.toNat, c0_i32.toNat, c0_i32_0.toNat]

def cc0_transform_13 (k0_off1_inb : ∀ i : grid0.Coords, ∀ a, (k0_off1 i) a + S1.size a ≤ S4.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg1
  let v1 : BitVec 32 := pf.at 0 (Rect.unit (s := S4) ![v0.toNat] S1.size (k0_off1_inb i)) numel1_S1
  let c0_i32 : BitVec 32 := 0#32
  let c0_i32_0 : BitVec 32 := 0#32
  let c0_i32_1 : BitVec 32 := 0#32
  ![v1.toNat, arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c5_i32 : BitVec 32 := 5#32
  let v10 : BitVec 32 := Scalar.muli arg0 c5_i32
  let c2_i32_3 : BitVec 32 := 2#32
  let v11 : BitVec 32 := Scalar.divsi arg2 c2_i32_3
  let c0_i32_4 : BitVec 32 := 0#32
  let v12 : BitVec 1 := Scalar.cmpi .sgt arg2 c0_i32_4
  let v13 : BitVec 32 := Scalar.extui v12
  let c0_i32_5 : BitVec 32 := 0#32
  let v14 : BitVec 1 := Scalar.cmpi .slt arg2 c0_i32_5
  let v15 : BitVec 32 := Scalar.extui v14
  let v16 : BitVec 32 := Scalar.subi v13 v15
  let c0_i32_6 : BitVec 32 := 0#32
  let v17 : BitVec 1 := Scalar.cmpi .sgt c2_i32_3 c0_i32_6
  let v18 : BitVec 32 := Scalar.extui v17
  let c0_i32_7 : BitVec 32 := 0#32
  let v19 : BitVec 1 := Scalar.cmpi .slt c2_i32_3 c0_i32_7
  let v20 : BitVec 32 := Scalar.extui v19
  let v21 : BitVec 32 := Scalar.subi v18 v20
  let v22 : BitVec 1 := Scalar.cmpi .ne v16 v21
  let v23 : BitVec 32 := Scalar.remsi arg2 c2_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  ![arg1.toNat, v9.toNat, v28.toNat]

def cc0_transform_15 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.muli arg0 c5_i32
  let c2_i32 : BitVec 32 := 2#32
  let v1 : BitVec 32 := Scalar.divsi arg2 c2_i32
  let c0_i32 : BitVec 32 := 0#32
  let v2 : BitVec 1 := Scalar.cmpi .sgt arg2 c0_i32
  let v3 : BitVec 32 := Scalar.extui v2
  let c0_i32_0 : BitVec 32 := 0#32
  let v4 : BitVec 1 := Scalar.cmpi .slt arg2 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg2 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.addi v0 v17
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg2 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let c0_i32_11 : BitVec 32 := 0#32
  ![arg1.toNat, v18.toNat, c0_i32_10.toNat, v28.toNat]

def cc0_transform_16 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.muli arg0 c5_i32
  let c2_i32 : BitVec 32 := 2#32
  let v1 : BitVec 32 := Scalar.divsi arg2 c2_i32
  let c0_i32 : BitVec 32 := 0#32
  let v2 : BitVec 1 := Scalar.cmpi .sgt arg2 c0_i32
  let v3 : BitVec 32 := Scalar.extui v2
  let c0_i32_0 : BitVec 32 := 0#32
  let v4 : BitVec 1 := Scalar.cmpi .slt arg2 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg2 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.addi v0 v17
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg2 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let c0_i32_11 : BitVec 32 := 0#32
  ![arg1.toNat, v18.toNat, c0_i32_10.toNat, v28.toNat]

def cc0_transform_17 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.muli arg0 c5_i32
  let c2_i32 : BitVec 32 := 2#32
  let v1 : BitVec 32 := Scalar.divsi arg2 c2_i32
  let c0_i32 : BitVec 32 := 0#32
  let v2 : BitVec 1 := Scalar.cmpi .sgt arg2 c0_i32
  let v3 : BitVec 32 := Scalar.extui v2
  let c0_i32_0 : BitVec 32 := 0#32
  let v4 : BitVec 1 := Scalar.cmpi .slt arg2 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg2 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.addi v0 v17
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg2 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let c0_i32_11 : BitVec 32 := 0#32
  ![arg1.toNat, v18.toNat, c0_i32_10.toNat, v28.toNat]

abbrev stage0_0 : Fin 2 → Memref sig .tc .vmem S1x1x256x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x32768x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x128x32768 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x32768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x8x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x1x512x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x128x512 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1x1x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x1x384x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x1x128x384 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S1x1x1x384 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S1x1x384x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]

abbrev stage0_14 : Fin 2 → Memref sig .tc .vmem S1x256x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S1x1x1x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev stage0_16 : Fin 2 → Memref sig .tc .vmem S1x1x1x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]

abbrev stage0_17 : Fin 2 → Memref sig .tc .vmem S1x1x1x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, true]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "log_mid" => some ((Real.log 384 : ℝ) : EReal)
  | "log_past" => some ((Real.log 32768 : ℝ) : EReal)
  | "scale_log2e" => some (((Real.sqrt 128)⁻¹ * (Real.log 2)⁻¹ : ℝ) : EReal)
  | _ => none
-- ==== ReferenceIdeal.lean ====
abbrev S4x512x40x128 : Shape := ⟨4, ![4, 512, 40, 128]⟩
abbrev S4x512x40 : Shape := ⟨3, ![4, 512, 40]⟩
abbrev S32768x8x128 : Shape := ⟨3, ![32768, 8, 128]⟩
abbrev S32768x8 : Shape := ⟨2, ![32768, 8]⟩
abbrev S4x512x8x128 : Shape := ⟨4, ![4, 512, 8, 128]⟩
abbrev S4x512x8 : Shape := ⟨3, ![4, 512, 8]⟩
abbrev S3x384x8x128 : Shape := ⟨4, ![3, 384, 8, 128]⟩
abbrev S3x384x8 : Shape := ⟨3, ![3, 384, 8]⟩
abbrev S4 : Shape := ⟨1, ![4]⟩
abbrev S4x512x8x5x128 : Shape := ⟨5, ![4, 512, 8, 5, 128]⟩
abbrev S4x512x8x5 : Shape := ⟨4, ![4, 512, 8, 5]⟩
abbrev S4x512x8x5x1 : Shape := ⟨5, ![4, 512, 8, 5, 1]⟩
abbrev S_ : Shape := ⟨0, ![]⟩
abbrev S4x1 : Shape := ⟨2, ![4, 1]⟩
abbrev S4x384x8x128 : Shape := ⟨4, ![4, 384, 8, 128]⟩
abbrev S4x384x8 : Shape := ⟨3, ![4, 384, 8]⟩
abbrev S8x32768 : Shape := ⟨2, ![8, 32768]⟩
abbrev S1x1x8x1x32768 : Shape := ⟨5, ![1, 1, 8, 1, 32768]⟩
abbrev S8x32768x4x512x5 : Shape := ⟨5, ![8, 32768, 4, 512, 5]⟩
abbrev S4x512x8x5x32768 : Shape := ⟨5, ![4, 512, 8, 5, 32768]⟩
abbrev S4x8x384x512x5 : Shape := ⟨5, ![4, 8, 384, 512, 5]⟩
abbrev S4x512x8x5x384 : Shape := ⟨5, ![4, 512, 8, 5, 384]⟩
abbrev S4x8x384 : Shape := ⟨3, ![4, 8, 384]⟩
abbrev S4x1x8x1x384 : Shape := ⟨5, ![4, 1, 8, 1, 384]⟩
abbrev S4x8x512x512x5 : Shape := ⟨5, ![4, 8, 512, 512, 5]⟩
abbrev S4x512x8x5x512 : Shape := ⟨5, ![4, 512, 8, 5, 512]⟩
abbrev S4x8x512 : Shape := ⟨3, ![4, 8, 512]⟩
abbrev S4x1x8x1x512 : Shape := ⟨5, ![4, 1, 8, 1, 512]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S1x512x1x1x512 : Shape := ⟨5, ![1, 512, 1, 1, 512]⟩
abbrev S8x128x4x512x5 : Shape := ⟨5, ![8, 128, 4, 512, 5]⟩
abbrev S4x8x128x512x5 : Shape := ⟨5, ![4, 8, 128, 512, 5]⟩
abbrev S4x512x5120 : Shape := ⟨3, ![4, 512, 5120]⟩
abbrev S4x40x512 : Shape := ⟨3, ![4, 40, 512]⟩
abbrev S4x40x1x512 : Shape := ⟨4, ![4, 40, 1, 512]⟩
abbrev S1x512x1x1 : Shape := ⟨4, ![1, 512, 1, 1]⟩

abbrev nBuf : Space → Nat
  | .hbm => 215
  | .vmem => 14
  | .smem => 0
  | _ => 0

abbrev hbmTy0_0 (i : Nat) : BufTy := match i % 128 with
  | 0 => ⟨S4x512x40x128, .fp8e4m3⟩
  | 1 => ⟨S4x512x40, .f32⟩
  | 2 => ⟨S32768x8x128, .fp8e4m3⟩
  | 3 => ⟨S32768x8x128, .fp8e4m3⟩
  | 4 => ⟨S32768x8, .f32⟩
  | 5 => ⟨S32768x8, .f32⟩
  | 6 => ⟨S4x512x8x128, .fp8e4m3⟩
  | 7 => ⟨S4x512x8x128, .fp8e4m3⟩
  | 8 => ⟨S4x512x8, .f32⟩
  | 9 => ⟨S4x512x8, .f32⟩
  | 10 => ⟨S3x384x8x128, .fp8e4m3⟩
  | 11 => ⟨S3x384x8x128, .fp8e4m3⟩
  | 12 => ⟨S3x384x8, .f32⟩
  | 13 => ⟨S3x384x8, .f32⟩
  | 14 => ⟨S4, .i32⟩
  | 15 => ⟨S4x512x40x128, .f32⟩
  | 16 => ⟨S32768x8x128, .f32⟩
  | 17 => ⟨S32768x8x128, .f32⟩
  | 18 => ⟨S4x512x8x128, .f32⟩
  | 19 => ⟨S4x512x8x128, .f32⟩
  | 20 => ⟨S3x384x8x128, .f32⟩
  | 21 => ⟨S3x384x8x128, .f32⟩
  | 22 => ⟨S4x512x8x5x128, .f32⟩
  | 23 => ⟨S4x512x8x5, .f32⟩
  | 24 => ⟨S4x512x8x5x1, .f32⟩
  | 25 => ⟨S_, .i32⟩
  | 26 => ⟨S4, .i32⟩
  | 27 => ⟨S4, .i1⟩
  | 28 => ⟨S_, .i32⟩
  | 29 => ⟨S4, .i32⟩
  | 30 => ⟨S4, .i32⟩
  | 31 => ⟨S4, .i32⟩
  | 32 => ⟨S4x1, .i32⟩
  | 33 => ⟨S4x384x8x128, .f32⟩
  | 34 => ⟨S_, .i32⟩
  | 35 => ⟨S4, .i32⟩
  | 36 => ⟨S4, .i1⟩
  | 37 => ⟨S_, .i32⟩
  | 38 => ⟨S4, .i32⟩
  | 39 => ⟨S4, .i32⟩
  | 40 => ⟨S4, .i32⟩
  | 41 => ⟨S4x1, .i32⟩
  | 42 => ⟨S4x384x8x128, .f32⟩
  | 43 => ⟨S_, .i32⟩
  | 44 => ⟨S4, .i32⟩
  | 45 => ⟨S4, .i1⟩
  | 46 => ⟨S_, .i32⟩
  | 47 => ⟨S4, .i32⟩
  | 48 => ⟨S4, .i32⟩
  | 49 => ⟨S4, .i32⟩
  | 50 => ⟨S4x1, .i32⟩
  | 51 => ⟨S4x384x8, .f32⟩
  | 52 => ⟨S_, .i32⟩
  | 53 => ⟨S4, .i32⟩
  | 54 => ⟨S4, .i1⟩
  | 55 => ⟨S_, .i32⟩
  | 56 => ⟨S4, .i32⟩
  | 57 => ⟨S4, .i32⟩
  | 58 => ⟨S4, .i32⟩
  | 59 => ⟨S4x1, .i32⟩
  | 60 => ⟨S4x384x8, .f32⟩
  | 61 => ⟨S8x32768, .f32⟩
  | 62 => ⟨S1x1x8x1x32768, .f32⟩
  | 63 => ⟨S8x32768, .f32⟩
  | 64 => ⟨S1x1x8x1x32768, .f32⟩
  | 65 => ⟨S_, .f32⟩
  | 66 => ⟨S_, .f32⟩
  | 67 => ⟨S8x32768x4x512x5, .f32⟩
  | 68 => ⟨S4x512x8x5x32768, .f32⟩
  | 69 => ⟨S4x512x8x5x32768, .f32⟩
  | 70 => ⟨S4x512x8x5x32768, .f32⟩
  | 71 => ⟨S4x512x8x5x32768, .f32⟩
  | 72 => ⟨S4x512x8x5x32768, .f32⟩
  | 73 => ⟨S4x512x8x5x32768, .f32⟩
  | 74 => ⟨S4x512x8x5x32768, .f32⟩
  | 75 => ⟨S4x8x384x512x5, .f32⟩
  | 76 => ⟨S4x512x8x5x384, .f32⟩
  | 77 => ⟨S4x512x8x5x384, .f32⟩
  | 78 => ⟨S4x512x8x5x384, .f32⟩
  | 79 => ⟨S4x8x384, .f32⟩
  | 80 => ⟨S4x1x8x1x384, .f32⟩
  | 81 => ⟨S4x512x8x5x384, .f32⟩
  | 82 => ⟨S4x512x8x5x384, .f32⟩
  | 83 => ⟨S4x512x8x5x384, .f32⟩
  | 84 => ⟨S4x512x8x5x384, .f32⟩
  | 85 => ⟨S4x8x512x512x5, .f32⟩
  | 86 => ⟨S4x512x8x5x512, .f32⟩
  | 87 => ⟨S4x512x8x5x512, .f32⟩
  | 88 => ⟨S4x512x8x5x512, .f32⟩
  | 89 => ⟨S4x8x512, .f32⟩
  | 90 => ⟨S4x1x8x1x512, .f32⟩
  | 91 => ⟨S4x512x8x5x512, .f32⟩
  | 92 => ⟨S4x512x8x5x512, .f32⟩
  | 93 => ⟨S4x512x8x5x512, .f32⟩
  | 94 => ⟨S4x512x8x5x512, .f32⟩
  | 95 => ⟨S512, .i32⟩
  | 96 => ⟨S1x512, .i32⟩
  | 97 => ⟨S512x1, .i32⟩
  | 98 => ⟨S512x512, .i32⟩
  | 99 => ⟨S512x512, .i32⟩
  | 100 => ⟨S512x512, .i1⟩
  | 101 => ⟨S1x512x1x1x512, .i1⟩
  | 102 => ⟨S_, .f32⟩
  | 103 => ⟨S_, .f32⟩
  | 104 => ⟨S4x512x8x5x512, .i1⟩
  | 105 => ⟨S4x512x8x5x512, .f32⟩
  | 106 => ⟨S4x512x8x5x512, .f32⟩
  | 107 => ⟨S_, .f32⟩
  | 108 => ⟨S4x512x8x5, .f32⟩
  | 109 => ⟨S4x512x8x5x1, .f32⟩
  | 110 => ⟨S4x512x8x5x32768, .f32⟩
  | 111 => ⟨S4x512x8x5x32768, .f32⟩
  | 112 => ⟨S4x512x8x5x32768, .f32⟩
  | 113 => ⟨S_, .f32⟩
  | 114 => ⟨S4x512x8x5, .f32⟩
  | 115 => ⟨S4x512x8x5, .f32⟩
  | 116 => ⟨S4x512x8x5, .f32⟩
  | 117 => ⟨S_, .f32⟩
  | 118 => ⟨S4x512x8x5, .f32⟩
  | 119 => ⟨S4x512x8x5x1, .f32⟩
  | 120 => ⟨S4x512x8x5x384, .f32⟩
  | 121 => ⟨S4x512x8x5x384, .f32⟩
  | 122 => ⟨S4x512x8x5x384, .f32⟩
  | 123 => ⟨S_, .f32⟩
  | 124 => ⟨S4x512x8x5, .f32⟩
  | 125 => ⟨S4x512x8x5, .f32⟩
  | 126 => ⟨S4x512x8x5, .f32⟩
  | 127 => ⟨S_, .f32⟩
  | _ => ⟨S4x512x40x128, .fp8e4m3⟩

abbrev hbmTy0_1 (i : Nat) : BufTy := match i % 128 with
  | 0 => ⟨S4x512x8x5, .f32⟩
  | 1 => ⟨S4x512x8x5x1, .f32⟩
  | 2 => ⟨S4x512x8x5x512, .f32⟩
  | 3 => ⟨S4x512x8x5x512, .f32⟩
  | 4 => ⟨S4x512x8x5x512, .f32⟩
  | 5 => ⟨S_, .f32⟩
  | 6 => ⟨S4x512x8x5, .f32⟩
  | 7 => ⟨S4x512x8x5, .f32⟩
  | 8 => ⟨S4x512x8x5, .f32⟩
  | 9 => ⟨S4x512x8x5, .f32⟩
  | 10 => ⟨S4x512x8x5, .f32⟩
  | 11 => ⟨S4x512x8x5x1, .f32⟩
  | 12 => ⟨S4x512x8x5x32768, .f32⟩
  | 13 => ⟨S4x512x8x5x32768, .f32⟩
  | 14 => ⟨S4x512x8x5x32768, .f32⟩
  | 15 => ⟨S4x512x8x5x384, .f32⟩
  | 16 => ⟨S4x512x8x5x384, .f32⟩
  | 17 => ⟨S4x512x8x5x384, .f32⟩
  | 18 => ⟨S4x512x8x5x512, .f32⟩
  | 19 => ⟨S4x512x8x5x512, .f32⟩
  | 20 => ⟨S4x512x8x5x512, .f32⟩
  | 21 => ⟨S_, .f32⟩
  | 22 => ⟨S4x512x8x5, .f32⟩
  | 23 => ⟨S_, .f32⟩
  | 24 => ⟨S4x512x8x5, .f32⟩
  | 25 => ⟨S4x512x8x5, .f32⟩
  | 26 => ⟨S_, .f32⟩
  | 27 => ⟨S4x512x8x5, .f32⟩
  | 28 => ⟨S4x512x8x5, .f32⟩
  | 29 => ⟨S4x512x8x5x32768, .f32⟩
  | 30 => ⟨S4x512x8x5x32768, .f32⟩
  | 31 => ⟨S4x512x8x5x32768, .bf16⟩
  | 32 => ⟨S32768x8x128, .bf16⟩
  | 33 => ⟨S8x128x4x512x5, .f32⟩
  | 34 => ⟨S4x512x8x5x128, .f32⟩
  | 35 => ⟨S4x8x384, .f32⟩
  | 36 => ⟨S4x1x8x1x384, .f32⟩
  | 37 => ⟨S4x512x8x5x384, .f32⟩
  | 38 => ⟨S4x512x8x5x384, .f32⟩
  | 39 => ⟨S4x512x8x5x384, .bf16⟩
  | 40 => ⟨S4x384x8x128, .bf16⟩
  | 41 => ⟨S4x8x128x512x5, .f32⟩
  | 42 => ⟨S4x512x8x5x128, .f32⟩
  | 43 => ⟨S4x512x8x5x128, .f32⟩
  | 44 => ⟨S4x8x512, .f32⟩
  | 45 => ⟨S4x1x8x1x512, .f32⟩
  | 46 => ⟨S4x512x8x5x512, .f32⟩
  | 47 => ⟨S4x512x8x5x512, .f32⟩
  | 48 => ⟨S4x512x8x5x512, .bf16⟩
  | 49 => ⟨S4x512x8x128, .bf16⟩
  | 50 => ⟨S4x8x128x512x5, .f32⟩
  | 51 => ⟨S4x512x8x5x128, .f32⟩
  | 52 => ⟨S4x512x8x5x128, .f32⟩
  | 53 => ⟨S_, .f32⟩
  | 54 => ⟨S4x512x8x5, .f32⟩
  | 55 => ⟨S4x512x8x5, .f32⟩
  | 56 => ⟨S4x512x8x5x1, .f32⟩
  | 57 => ⟨S4x512x8x5x128, .f32⟩
  | 58 => ⟨S4x512x8x5x128, .f32⟩
  | 59 => ⟨S4x512x5120, .f32⟩
  | 60 => ⟨S4x512x5120, .bf16⟩
  | 61 => ⟨S512, .i32⟩
  | 62 => ⟨S_, .i32⟩
  | 63 => ⟨S512, .i32⟩
  | 64 => ⟨S512, .i32⟩
  | 65 => ⟨S512, .f32⟩
  | 66 => ⟨S512, .f32⟩
  | 67 => ⟨S_, .f32⟩
  | 68 => ⟨S_, .f32⟩
  | 69 => ⟨S4x512x8x5, .f32⟩
  | 70 => ⟨S4x512x8x5, .f32⟩
  | 71 => ⟨S4x512x40, .f32⟩
  | 72 => ⟨S4x40x512, .f32⟩
  | 73 => ⟨S4x40x1x512, .f32⟩
  | 74 => ⟨S1x512x1x1, .f32⟩
  | 75 => ⟨S4x512x8x5, .f32⟩
  | 76 => ⟨S4x512x8x5, .f32⟩
  | 77 => ⟨S4x512x40, .f32⟩
  | 78 => ⟨S4x40x512, .f32⟩
  | 79 => ⟨S4x40x1x512, .f32⟩
  | 80 => ⟨S_, .f32⟩
  | 81 => ⟨S_, .f32⟩
  | 82 => ⟨S4x512x8x5, .f32⟩
  | 83 => ⟨S4x512x8x5, .f32⟩
  | 84 => ⟨S4x512x40, .f32⟩
  | 85 => ⟨S4x40x512, .f32⟩
  | 86 => ⟨S4x40x1x512, .f32⟩
  | _ => ⟨S4x512x40x128, .fp8e4m3⟩

abbrev hbmTy (i : Nat) : BufTy := match i / 128 with
  | 0 => hbmTy0_0 i
  | 1 => hbmTy0_1 i
  | _ => ⟨S4x512x40x128, .fp8e4m3⟩

abbrev bufTy : (tb : Table) → Fin (tcTables nBuf tb) → BufTy
  | .hbm, ⟨i, _⟩ => hbmTy i
  | .local _ .vmem, ⟨0, _⟩ => ⟨S4x512x40x128, .fp8e4m3⟩
  | .local _ .vmem, ⟨1, _⟩ => ⟨S32768x8x128, .fp8e4m3⟩
  | .local _ .vmem, ⟨2, _⟩ => ⟨S32768x8x128, .fp8e4m3⟩
  | .local _ .vmem, ⟨3, _⟩ => ⟨S4x512x8x128, .fp8e4m3⟩
  | .local _ .vmem, ⟨4, _⟩ => ⟨S4x512x8x128, .fp8e4m3⟩
  | .local _ .vmem, ⟨5, _⟩ => ⟨S3x384x8x128, .fp8e4m3⟩
  | .local _ .vmem, ⟨6, _⟩ => ⟨S3x384x8x128, .fp8e4m3⟩
  | .local _ .vmem, ⟨7, _⟩ => ⟨S4x512x40x128, .f32⟩
  | .local _ .vmem, ⟨8, _⟩ => ⟨S32768x8x128, .f32⟩
  | .local _ .vmem, ⟨9, _⟩ => ⟨S32768x8x128, .f32⟩
  | .local _ .vmem, ⟨10, _⟩ => ⟨S4x512x8x128, .f32⟩
  | .local _ .vmem, ⟨11, _⟩ => ⟨S4x512x8x128, .f32⟩
  | .local _ .vmem, ⟨12, _⟩ => ⟨S3x384x8x128, .f32⟩
  | .local _ .vmem, ⟨13, _⟩ => ⟨S3x384x8x128, .f32⟩
  | _, _ => ⟨S4x512x40x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v0_3 : Ref sig .tc := ⟨.hbm, 18, rfl⟩
abbrev main_v0_4 : Ref sig .tc := ⟨.hbm, 19, rfl⟩
abbrev main_v0_5 : Ref sig .tc := ⟨.hbm, 20, rfl⟩
abbrev main_v0_6 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c_1 : Ref sig .tc := ⟨.hbm, 34, rfl⟩
abbrev main_v11 : Ref sig .tc := ⟨.hbm, 35, rfl⟩
abbrev main_v12 : Ref sig .tc := ⟨.hbm, 36, rfl⟩
abbrev main_c_2 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_c_3 : Ref sig .tc := ⟨.hbm, 43, rfl⟩
abbrev main_v18 : Ref sig .tc := ⟨.hbm, 44, rfl⟩
abbrev main_v19 : Ref sig .tc := ⟨.hbm, 45, rfl⟩
abbrev main_c_4 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_c_5 : Ref sig .tc := ⟨.hbm, 52, rfl⟩
abbrev main_v25 : Ref sig .tc := ⟨.hbm, 53, rfl⟩
abbrev main_v26 : Ref sig .tc := ⟨.hbm, 54, rfl⟩
abbrev main_c_6 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_7 : Ref sig .tc := ⟨.hbm, 102, rfl⟩
abbrev main_call0_v0 : Ref sig .tc := ⟨.hbm, 103, rfl⟩
abbrev main_call0_v1 : Ref sig .tc := ⟨.hbm, 104, rfl⟩
abbrev main_call0_v2 : Ref sig .tc := ⟨.hbm, 105, rfl⟩
abbrev main_v72 : Ref sig .tc := ⟨.hbm, 106, rfl⟩
abbrev main_cst_8 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_9 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_10 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_11 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_12 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_13 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_14 : Ref sig .tc := ⟨.hbm, 149, rfl⟩
abbrev main_v109 : Ref sig .tc := ⟨.hbm, 150, rfl⟩
abbrev main_cst_15 : Ref sig .tc := ⟨.hbm, 151, rfl⟩
abbrev main_v110 : Ref sig .tc := ⟨.hbm, 152, rfl⟩
abbrev main_v111 : Ref sig .tc := ⟨.hbm, 153, rfl⟩
abbrev main_cst_16 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_cst_17 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_c_18 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_cst_19 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_cst_20 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S4x512x40x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x8x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32768x8x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x8x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x512x8x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x384x8x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x384x8x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x512x40x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32768x8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32768x8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x512x8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x512x8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x384x8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x384x8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.Hyd.KernelFill.lean ====
module

public import proofs.«01_k».proof.Proof.Gen.Kernel.Loops
public import Idealize.ShloMosaic.Lib.Pipeline.FrameBody
public import Idealize.ShloMosaic.Lib.Pipeline.Value
public import Idealize.ShloMosaic.Lib.Pointwise
public import Idealize.ShloMosaic.Lib.WritesUnit
public import Idealize.ShloMosaic.Lib.ValueLayout
public import Idealize.ShloMosaic.Lib.ValueIdxCore

@[expose] public section

set_option maxRecDepth 8192
set_option maxHeartbeats 4000000

/-! The loop that fills the scratch array with the broadcast key scales: its invariant, and one
    trip of it, one part of the trip at a time. -/

noncomputable section

namespace Cert.Kernel.Hyd

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What the scratch holds once filled: row `8·q + s` is the scale at sublane `s`, lane `q`. -/
def kspOf (X9 : S1x8x4096.Idx → F .f32) : S32768x128.Idx → F .f32 := fun y =>
  X9 (fun a => ⟨(![0, (y 0).val % 8, (y 0).val / 8] : Fin 3 → ℕ) a, by
    have h := (y 0).isLt
    have h' : (y 0).val < 32768 := h
    fin_cases a
    · exact Nat.one_pos
    · exact Nat.mod_lt _ (by decide)
    · show (y 0).val / 8 < 4096
      omega⟩)

/-- The scratch with its first `8·(128·k + n)` rows filled, and the scales' window. -/
def FillR (c : Dev nD) (arg9 : Memref sig .tc .vmem S1x8x4096 .f32) (arg22 : Memref sig .tc .vmem S32768x128 .f32)
    (f9 : Buf (Elt F) (arg9.view.loc (c : Thread nD τ))) (k n : ℕ) : sProp 𝕄G :=
  iprop((arg9.view.loc (c : Thread nD τ) ↦[arg9.view.set]{fullShare} f9) ∗ ∃ f : Buf (Elt F) (arg22.view.loc (c : Thread nD τ)),
    ⌜∀ y : S32768x128.Idx, (y 0).val < 8 * (128 * k + n) → arg22.view.read (Elt F) f y = kspOf (arg9.view.read (Elt F) f9) y⌝ ∗
    (arg22.view.loc (c : Thread nD τ) ↦[arg22.view.set]{fullShare} f))

/-- The eight-row block of scales trip `k` reads agrees with what the scratch is to hold. -/
def Spread (W : S32768x128.Idx → F .f32) (k : ℕ) (v : FVec F S8x128 .f32) : Prop :=
  ∀ (s : Fin 8) (j : Fin 128) (y : S32768x128.Idx), (y 0).val = 8 * (128 * k + j.val) + s.val → v (ValueIdx.ix2 s j) = W y

theorem slices_n (n : ℕ) (h : n < 128) : S8x128.Slices ![0, n] S8x1 := by
  refine ⟨rfl, fun a => ?_⟩
  match a with
  | ⟨0, _⟩ => exact Nat.le_refl 8
  | ⟨1, _⟩ => exact h

/-- Lane `n` of a block of scales, over all lanes. -/
def spr (n : ℕ) (h : n < 128) (v : FVec F S8x128 .f32) : FVec F S8x128 .f32 :=
  shapeCast S8x128 (broadcastTo S8x128 (shapeCast S8x1 (extractStridedSlice S8x1 ![0, n] v (slices_n n h)) shapeCasts_S8x1_S8x1) broadcasts_S8x1_S8x128) shapeCasts_S8x128_S8x128

theorem spr_apply (n : ℕ) (h : n < 128) (v : FVec F S8x128 .f32) (x : S8x128.Idx) :
    spr n h v x = v (ValueIdx.ix2 (x 0) ⟨n, h⟩) := by
  unfold spr
  rw [shapeCast_self, shapeCast_self]
  refine (broadcastTo_apply _ _ x (ValueIdx.ix2 (x 0 : Fin 8) (⟨0, Nat.one_pos⟩ : Fin 1)) fun a => ?_).trans
    (extractStridedSlice_apply _ _ _ _ (ValueIdx.ix2 (x 0 : Fin 8) (⟨n, h⟩ : Fin 128)) fun a => ?_)
  · match a with
    | ⟨0, _⟩ => rfl
    | ⟨1, _⟩ => rfl
  · match a with
    | ⟨0, _⟩ => exact (Nat.zero_add _).symm
    | ⟨1, _⟩ => exact (Nat.add_zero _).symm

section Steps

variable (𝒱 : Variants) (c : Dev nD) (bd : Option 𝒱.V) (E : Set ℕ)
  (arg9 : Memref sig .tc .vmem S1x8x4096 .f32) (arg22 : Memref sig .tc .vmem S32768x128 .f32)
  (f9 : Buf (Elt F) (arg9.view.loc (c : Thread nD τ)))

local notation "WPE" => wpE (defs₀ (F := F)) 𝒱 (c : Thread nD τ) bd

theorem fill_ld {α : Type} {Q : α → sProp 𝕄G} {k n : ℕ} {r : LoadRect S32768x128} {hl : arg22.view.LoadsAt r}
    {K : (r.shape.Idx → Elt F .f32) → Prog (TpuEff nD τ sig (Elt F) Λ₀ .tc) α}
    (h : ∀ x, FillR c arg9 arg22 f9 k n ⊢ wp frame WPE E (K x) Q) :
    FillR c arg9 arg22 f9 k n ⊢ wp frame WPE E (Prog.lift (.load arg22 r hl) >>= K) Q := by
  show _ ⊢ wp frame WPE E (.op (.load arg22 r hl) K) Q
  unfold FillR
  iintro ⟨H9, %f, %hf, H22⟩
  iapply (wp_load 𝒱 (c : Thread nD τ) bd E (m := arg22) (r := r) (hl := hl) (k := K) (Q := Q) (S := arg22.view.set) (q := fullShare) (f := f)
    (arg22.view.setOn_subset_set r.set)) $$ H22
  iintro H22
  iapply (h _)
  unfold FillR
  isplitl [H9]; · iexact H9
  iexists f
  isplitr [H22]; · ipureintro; exact hf
  iexact H22

theorem fill_ld9 {α : Type} {Q : α → sProp 𝕄G} {k n : ℕ} {r : LoadRect S1x8x4096} {hl : arg9.view.LoadsAt r}
    {K : (r.shape.Idx → Elt F .f32) → Prog (TpuEff nD τ sig (Elt F) Λ₀ .tc) α}
    (h : FillR c arg9 arg22 f9 k n ⊢ wp frame WPE E (K (arg9.view.readAt (Elt F) r f9)) Q) :
    FillR c arg9 arg22 f9 k n ⊢ wp frame WPE E (Prog.lift (.load arg9 r hl) >>= K) Q := by
  show _ ⊢ wp frame WPE E (.op (.load arg9 r hl) K) Q
  unfold FillR
  iintro ⟨H9, %f, %hf, H22⟩
  iapply (wp_load 𝒱 (c : Thread nD τ) bd E (m := arg9) (r := r) (hl := hl) (k := K) (Q := Q) (S := arg9.view.set) (q := fullShare) (f := f9)
    (arg9.view.setOn_subset_set r.set)) $$ H9
  iintro H9
  iapply h
  unfold FillR
  isplitl [H9]; · iexact H9
  iexists f
  isplitr [H22]; · ipureintro; exact hf
  iexact H22

theorem fill_st {α : Type} {Q : α → sProp 𝕄G} {k : ℕ} (n : ℕ) (hn : n < 128) {v : FVec F S8x128 .f32}
    (hv : Spread (kspOf (arg9.view.read (Elt F) f9)) k v) {off : Fin 2 → ℕ} {inb : ∀ a, off a + S8x128.size a ≤ S32768x128.size a}
    (hoff : off = ![8 * (128 * k + n), 0]) {w : FVec F S8x128 .f32} (hw : w = spr n hn v)
    {hx : (arg22.access (Rect.unit (s := S32768x128) off S8x128.size inb)).Stores Finset.univ}
    {hm : Finset.univ = Finset.univ ∨ ∀ a, (Rect.unit (s := S32768x128) off S8x128.size inb).stride a = 1}
    {K : PUnit → Prog (TpuEff nD τ sig (Elt F) Λ₀ .tc) α}
    (h : FillR c arg9 arg22 f9 k (n + 1) ⊢ wp frame WPE E (K ⟨⟩) Q) :
    FillR c arg9 arg22 f9 k n ⊢ wp frame WPE E
      (Prog.lift (.store arg22 (Rect.unit (s := S32768x128) off S8x128.size inb) w Finset.univ hx hm) >>= K) Q := by
  show _ ⊢ wp frame WPE E (.op (.store arg22 (Rect.unit (s := S32768x128) off S8x128.size inb) w Finset.univ hx hm) K) Q
  unfold FillR
  iintro ⟨H9, %f, %hf, H22⟩
  iapply (wp_store_writes₀ 𝒱 (c : Thread nD τ) bd E (m := arg22) (r := Rect.unit (s := S32768x128) off S8x128.size inb) (w := w) (hx := hx) (hm := hm) (k := K) (Q := Q)
    (S := arg22.view.set) (f := f) (View.set_slice_subset _ _)) $$ H22
  iintro H22
  iapply h
  unfold FillR
  isplitl [H9]; · iexact H9
  iexists (arg22.view.writes (Elt F) f [⟨Rect.unit (s := S32768x128) off S8x128.size inb, w⟩])
  isplitr [H22]
  · ipureintro
    subst hw
    intro y hy
    by_cases hlt : (y 0).val < 8 * (128 * k + n)
    · rw [View.read_writes_cons_unit_of_not_mem arg22.view f inb _ _ y hoff 0 (Or.inl hlt)]
      exact hf y hlt
    · have h1 : (y 1).val < 128 := (y 1).isLt
      rw [View.read_writes_cons_unit_of_mem arg22.view f inb _ _ y
        (ValueIdx.ix2 (⟨(y 0).val - 8 * (128 * k + n), by omega⟩ : Fin 8) (⟨(y 1).val, h1⟩ : Fin 128)) hoff (fun a => ?_)]
      · exact (spr_apply n hn v _).trans (hv _ _ y (by show (y 0).val = 8 * (128 * k + n) + ((y 0).val - 8 * (128 * k + n)); omega))
      · match a with
        | ⟨0, _⟩ => show (y 0).val = 8 * (128 * k + n) + ((y 0).val - 8 * (128 * k + n)); omega
        | ⟨1, _⟩ => exact (Nat.zero_add _).symm
  iexact H22

theorem fill_ret {α : Type} {k n : ℕ} (a : α) :
    FillR c arg9 arg22 f9 k n ⊢ wp frame WPE E (pure a : Prog (TpuEff nD τ sig (Elt F) Λ₀ .tc) α) (fun x => iprop(⌜x = a⌝ ∗ FillR c arg9 arg22 f9 k n)) := by
  iintro H
  sl_step
  isplitr [H]; · ipureintro; rfl
  iexact H

theorem fill_bind {α β : Type} {Q : β → sProp 𝕄G} {k n n' : ℕ} {a : α} {p : Prog (TpuEff nD τ sig (Elt F) Λ₀ .tc) α}
    {K : α → Prog (TpuEff nD τ sig (Elt F) Λ₀ .tc) β}
    (hp : FillR c arg9 arg22 f9 k n ⊢ wp frame WPE E p (fun x => iprop(⌜x = a⌝ ∗ FillR c arg9 arg22 f9 k n')))
    (h : FillR c arg9 arg22 f9 k n' ⊢ wp frame WPE E (K a) Q) :
    FillR c arg9 arg22 f9 k n ⊢ wp frame WPE E (p >>= K) Q := by
  rw [wp_bind]
  refine hp.trans (wp_mono _ _ _ fun x => ?_)
  iintro ⟨%hx, H⟩
  subst hx
  iapply h
  iexact H

end Steps

theorem off3n (k0_t1 : Fin k0_t1_loop.trips) (n : Fin 128) :
    k0_off3 k0_t1 (BitVec.ofNat 32 n.val) = ![8 * (128 * k0_t1.val + n.val), 0] := by
  rw [k0_off3_eq, show 8 * (128 * k0_t1.val + n.val) = 1024 * k0_t1.val + 8 * n.val by omega]

theorem spread_read (i : grid0.Coords) (arg9 : Memref sig .tc .vmem S1x8x4096 .f32) (k0_h1 : k0_cond1 i = 1#1) (c : Dev nD)
    (f9 : Buf (Elt F) (arg9.view.loc (c : Thread nD τ))) (k0_t1 : Fin k0_t1_loop.trips) :
    Spread (kspOf (arg9.view.read (Elt F) f9)) k0_t1.val (k0_pay2 (arg9.view.readAt (Elt F)
      (Rect.unit (s := S1x8x4096) (k0_off2 k0_t1) S1x8x128.size (k0_off2_inb i k0_t1 k0_h1)).toLoadRect f9)) := by
  intro s j y hy
  unfold k0_pay2
  refine (ValueIdx.shapeCast_1ab_ab_apply _ _ s j).trans ?_
  show arg9.view.read (Elt F) f9 _ = arg9.view.read (Elt F) f9 _
  congr 1
  funext a
  apply Fin.ext
  have h0 := k0_off2_eq k0_t1
  match a with
  | ⟨0, _⟩ => show k0_off2 k0_t1 0 + 1 * 0 = 0; rw [h0]; rfl
  | ⟨1, _⟩ =>
    show k0_off2 k0_t1 1 + 1 * s.val = (y 0).val % 8
    rw [h0, hy]; show 0 + 1 * s.val = _; omega
  | ⟨2, _⟩ =>
    show k0_off2 k0_t1 2 + 1 * j.val = (y 0).val / 8
    rw [h0, hy]; show 128 * k0_t1.val + 1 * j.val = _; omega

theorem part1_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) (hv : Spread (kspOf (arg9.view.read (Elt F) f9)) k0_t1.val (k0_pay2 (arg9.view.readAt (Elt F) (Rect.unit (s := S1x8x4096) (k0_off2 k0_t1) S1x8x128.size (k0_off2_inb i k0_t1 k0_h1)).toLoadRect f9))) :
    FillR c arg9 arg22 f9 k0_t1.val 0 ⊢ wp frame (wpE (defs₀ (F := F)) 𝒱 (c : Thread nD τ) bd) E
      (k0_part1 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 0#32 1#32 k0_t1)
      (fun x => iprop(⌜x = ⟨(Scf.iv 0#32 1#32 k0_t1), k0_pay2 (arg9.view.readAt (Elt F) (Rect.unit (s := S1x8x4096) (k0_off2 k0_t1) S1x8x128.size (k0_off2_inb i k0_t1 k0_h1)).toLoadRect f9), (Scalar.muli (Scf.iv 0#32 1#32 k0_t1) 128#32), 3#32⟩⌝ ∗ FillR c arg9 arg22 f9 k0_t1.val 3)) := by
  rw [k0_part1_eq_skeleton]
  unfold k0_part1_skel
  refine fill_ld9 𝒱 c bd E arg9 arg22 f9 ?_
  refine fill_ld 𝒱 c bd E arg9 arg22 f9 fun _ => ?_
  refine fill_st 𝒱 c bd E arg9 arg22 f9 0 (by decide) hv (off3n k0_t1 ⟨0, by decide⟩) rfl ?_
  refine fill_ld 𝒱 c bd E arg9 arg22 f9 fun _ => ?_
  refine fill_st 𝒱 c bd E arg9 arg22 f9 1 (by decide) hv (off3n k0_t1 ⟨1, by decide⟩) rfl ?_
  refine fill_ld 𝒱 c bd E arg9 arg22 f9 fun _ => ?_
  refine fill_st 𝒱 c bd E arg9 arg22 f9 2 (by decide) hv (off3n k0_t1 ⟨2, by decide⟩) rfl ?_
  exact fill_ret 𝒱 c bd E arg9 arg22 f9 _

theorem part2_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 3 ⊢ wp frame (wpE (defs₀ (F := F)) 𝒱 (c : Thread nD τ) bd) E
      (k0_part2 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (Scalar.muli (Scf.iv 0#32 1#32 k0_t1) 128#32) 3#32)
      (fun x => iprop(⌜x = (k0_pay9 v112)⌝ ∗ FillR c arg9 arg22 f9 k0_t1.val 6)) := by
  rw [k0_part2_eq_skeleton]
  unfold k0_part2_skel
  refine fill_ld 𝒱 c bd E arg9 arg22 f9 fun _ => ?_
  refine fill_st 𝒱 c bd E arg9 arg22 f9 3 (by decide) hv (off3n k0_t1 ⟨3, by decide⟩) rfl ?_
  refine fill_ld 𝒱 c bd E arg9 arg22 f9 fun _ => ?_
  refine fill_st 𝒱 c bd E arg9 arg22 f9 4 (by decide) hv (off3n k0_t1 ⟨4, by decide⟩) rfl ?_
  refine fill_ld 𝒱 c bd E arg9 arg22 f9 fun _ => ?_
  refine fill_st 𝒱 c bd E arg9 arg22 f9 5 (by decide) hv (off3n k0_t1 ⟨5, by decide⟩) rfl ?_
  refine fill_ld 𝒱 c bd E arg9 arg22 f9 fun _ => ?_
  exact fill_ret 𝒱 c bd E arg9 arg22 f9 _

theorem part3_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 6 ⊢ wp frame (wpE (defs₀ (F := F)) 𝒱 (c : Thread nD τ) bd) E
      (k0_part3 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (k0_pay9 v112))
      (fun x => iprop(⌜x = (k0_pay13 v112)⌝ ∗ FillR c arg9 arg22 f9 k0_t1.val 10)) := by
  rw [k0_part3_eq_skeleton]
  unfold k0_part3_skel
  refine fill_st 𝒱 c bd E arg9 arg22 f9 6 (by decide) hv (off3n k0_t1 ⟨6, by decide⟩) rfl ?_
  refine fill_ld 𝒱 c bd E arg9 arg22 f9 fun _ => ?_
  refine fill_st 𝒱 c bd E arg9 arg22 f9 7 (by decide) hv (off3n k0_t1 ⟨7, by decide⟩) rfl ?_
  refine fill_ld 𝒱 c bd E arg9 arg22 f9 fun _ => ?_
  refine fill_st 𝒱 c bd E arg9 arg22 f9 8 (by decide) hv (off3n k0_t1 ⟨8, by decide⟩) rfl ?_
  refine fill_ld 𝒱 c bd E arg9 arg22 f9 fun _ => ?_
  refine fill_st 𝒱 c bd E arg9 arg22 f9 9 (by decide) hv (off3n k0_t1 ⟨9, by decide⟩) rfl ?_
  exact fill_ret 𝒱 c bd E arg9 arg22 f9 _

theorem part4_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 10 ⊢ wp frame (wpE (defs₀ (F := F)) 𝒱 (c : Thread nD τ) bd) E
      (k0_part4 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (k0_pay13 v112))
      (fun x => iprop(⌜x = ((Scalar.muli (Scalar.addi (Scalar.muli (Scf.iv 0#32 1#32 k0_t1) 128#32) 14#32) 8#32))⌝ ∗ FillR c arg9 arg22 f9 k0_t1.val 14)) := by
  rw [k0_part4_eq_skeleton]
  unfold k0_part4_skel
  refine fill_ld 𝒱 c bd E arg9 arg22 f9 fun _ => ?_
  refine fill_st 𝒱 c bd E arg9 arg22 f9 10 (by decide) hv (off3n k0_t1 ⟨10, by decide⟩) rfl ?_
  refine fill_ld 𝒱 c bd E arg9 arg22 f9 fun _ => ?_
  refine fill_st 𝒱 c bd E arg9 arg22 f9 11 (by decide) hv (off3n k0_t1 ⟨11, by decide⟩) rfl ?_
  refine fill_ld 𝒱 c bd E arg9 arg22 f9 fun _ => ?_
  refine fill_st 𝒱 c bd E arg9 arg22 f9 12 (by decide) hv (off3n k0_t1 ⟨12, by decide⟩) rfl ?_
  refine fill_ld 𝒱 c bd E arg9 arg22 f9 fun _ => ?_
  refine fill_st 𝒱 c bd E arg9 arg22 f9 13 (by decide) hv (off3n k0_t1 ⟨13, by decide⟩) rfl ?_
  exact fill_ret 𝒱 c bd E arg9 arg22 f9 _

theorem part5_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 14 ⊢ wp frame (wpE (defs₀ (F := F)) 𝒱 (c : Thread nD τ) bd) E
      (k0_part5 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 ((Scalar.muli (Scalar.addi (Scalar.muli (Scf.iv 0#32 1#32 k0_t1) 128#32) 14#32) 8#32)))
      (fun x => iprop(⌜x = ⟨(Scalar.muli (Scf.iv 0#32 1#32 k0_t1) 128#32), 18#32⟩⌝ ∗ FillR c arg9 arg22 f9 k0_t1.val 18)) := by
  rw [k0_part5_eq_skeleton]
  unfold k0_part5_skel
  refine fill_ld 𝒱 c bd E arg9 arg22 f9 fun _ => ?_
  refine fill_st 𝒱 c bd E arg9 arg22 f9 14 (by decide) hv (off3n k0_t1 ⟨14, by decide⟩) rfl ?_
  refine fill_ld 𝒱 c bd E arg9 arg22 f9 fun _ => ?_
  refine fill_st 𝒱 c bd E arg9 arg22 f9 15 (by decide) hv (off3n k0_t1 ⟨15, by decide⟩) rfl ?_
  refine fill_ld 𝒱 c bd E arg9 arg22 f9 fun _ => ?_
  refine fill_st 𝒱 c bd E arg9 arg22 f9 16 (by decide) hv (off3n k0_t1 ⟨16, by decide⟩) rfl ?_
  refine fill_ld 𝒱 c bd E arg9 arg22 f9 fun _ => ?_
  refine fill_st 𝒱 c bd E arg9 arg22 f9 17 (by decide) hv (off3n k0_t1 ⟨17, by decide⟩) rfl ?_
  exact fill_ret 𝒱 c bd E arg9 arg22 f9 _

theorem part6_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 18 ⊢ wp frame (wpE (defs₀ (F := F)) 𝒱 (c : Thread nD τ) bd) E
      (k0_part6 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (Scalar.muli (Scf.iv 0#32 1#32 k0_t1) 128#32) 18#32)
      (fun x => iprop(⌜x = (k0_pay25 v112)⌝ ∗ FillR c arg9 arg22 f9 k0_t1.val 21)) := by
  rw [k0_part6_eq_skeleton]
  unfold k0_part6_skel
  refine fill_ld 𝒱 c bd E arg9 arg22 f9 fun _ => ?_
  refine fill_st 𝒱 c bd E arg9 arg22 f9 18 (by decide) hv (off3n k0_t1 ⟨18, by decide⟩) rfl ?_
  refine fill_ld 𝒱 c bd E arg9 arg22 f9 fun _ => ?_
  refine fill_st 𝒱 c bd E arg9 arg22 f9 19 (by decide) hv (off3n k0_t1 ⟨19, by decide⟩) rfl ?_
  refine fill_ld 𝒱 c bd E arg9 arg22 f9 fun _ => ?_
  refine fill_st 𝒱 c bd E arg9 arg22 f9 20 (by decide) hv (off3n k0_t1 ⟨20, by decide⟩) rfl ?_
  refine fill_ld 𝒱 c bd E arg9 arg22 f9 fun _ => ?_
  exact fill_ret 𝒱 c bd E arg9 arg22 f9 _

theorem part7_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 21 ⊢ wp frame (wpE (defs₀ (F := F)) 𝒱 (c : Thread nD τ) bd) E
      (k0_part7 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (k0_pay25 v112))
      (fun x => iprop(⌜x = (k0_pay29 v112)⌝ ∗ FillR c arg9 arg22 f9 k0_t1.val 25)) := by
  rw [k0_part7_eq_skeleton]
  unfold k0_part7_skel
  refine fill_st 𝒱 c bd E arg9 arg22 f9 21 (by decide) hv (off3n k0_t1 ⟨21, by decide⟩) rfl ?_
  refine fill_ld 𝒱 c bd E arg9 arg22 f9 fun _ => ?_
  refine fill_st 𝒱 c bd E arg9 arg22 f9 22 (by decide) hv (off3n k0_t1 ⟨22, by decide⟩) rfl ?_
  refine fill_ld 𝒱 c bd E arg9 arg22 f9 fun _ => ?_
  refine fill_st 𝒱 c bd E arg9 arg22 f9 23 (by decide) hv (off3n k0_t1 ⟨23, by decide⟩) rfl ?_
  refine fill_ld 𝒱 c bd E arg9 arg22 f9 fun _ => ?_
  refine fill_st 𝒱 c bd E arg9 arg22 f9 24 (by decide) hv (off3n k0_t1 ⟨24, by decide⟩) rfl ?_
  exact fill_ret 𝒱 c bd E arg9 arg22 f9 _

theorem part8_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 25 ⊢ wp frame (wpE (defs₀ (F := F)) 𝒱 (c : Thread nD τ) bd) E
      (k0_part8 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (k0_pay29 v112))
      (fun x => iprop(⌜x = ((Scalar.muli (Scalar.addi (Scalar.muli (Scf.iv 0#32 1#32 k0_t1) 128#32) 29#32) 8#32))⌝ ∗ FillR c arg9 arg22 f9 k0_t1.val 29)) := by
  rw [k0_part8_eq_skeleton]
  unfold k0_part8_skel
  refine fill_ld 𝒱 c bd E arg9 arg22 f9 fun _ => ?_
  refine fill_st 𝒱 c bd E arg9 arg22 f9 25 (by decide) hv (off3n k0_t1 ⟨25, by decide⟩) rfl ?_
  refine fill_ld 𝒱 c bd E arg9 arg22 f9 fun _ => ?_
  refine fill_st 𝒱 c bd E arg9 arg22 f9 26 (by decide) hv (off3n k0_t1 ⟨26, by decide⟩) rfl ?_
  refine fill_ld 𝒱 c bd E arg9 arg22 f9 fun _ => ?_
  refine fill_st 𝒱 c bd E arg9 arg22 f9 27 (by decide) hv (off3n k0_t1 ⟨27, by decide⟩) rfl ?_
  refine fill_ld 𝒱 c bd E arg9 arg22 f9 fun _ => ?_
  refine fill_st 𝒱 c bd E arg9 arg22 f9 28 (by decide) hv (off3n k0_t1 ⟨28, by decide⟩) rfl ?_
  exact fill_ret 𝒱 c bd E arg9 arg22 f9 _

theorem part9_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 29 ⊢ wp frame (wpE (defs₀ (F := F)) 𝒱 (c : Thread nD τ) bd) E
      (k0_part9 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 ((Scalar.muli (Scalar.addi (Scalar.muli (Scf.iv 0#32 1#32 k0_t1) 128#32) 29#32) 8#32)))
      (fun x => iprop(⌜x = ⟨(Scalar.muli (Scf.iv 0#32 1#32 k0_t1) 128#32), 33#32⟩⌝ ∗ FillR c arg9 arg22 f9 k0_t1.val 33)) := by
  rw [k0_part9_eq_skeleton]
  unfold k0_part9_skel
  refine fill_ld 𝒱 c bd E arg9 arg22 f9 fun _ => ?_
  refine fill_st 𝒱 c bd E arg9 arg22 f9 29 (by decide) hv (off3n k0_t1 ⟨29, by decide⟩) rfl ?_
  refine fill_ld 𝒱 c bd E arg9 arg22 f9 fun _ => ?_
  refine fill_st 𝒱 c bd E arg9 arg22 f9 30 (by decide) hv (off3n k0_t1 ⟨30, by decide⟩) rfl ?_
  refine fill_ld 𝒱 c bd E arg9 arg22 f9 fun _ => ?_
  refine fill_st 𝒱 c bd E arg9 arg22 f9 31 (by decide) hv (off3n k0_t1 ⟨31, by decide⟩) rfl ?_
  refine fill_ld 𝒱 c bd E arg9 arg22 f9 fun _ => ?_
  refine fill_st 𝒱 c bd E arg9 arg22 f9 32 (by decide) hv (off3n k0_t1 ⟨32, by decide⟩) rfl ?_
  exact fill_ret 𝒱 c bd E arg9 arg22 f9 _

theorem part10_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 33 ⊢ wp frame (wpE (defs₀ (F := F)) 𝒱 (c : Thread nD τ) bd) E
      (k0_part10 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (Scalar.muli (Scf.iv 0#32 1#32 k0_t1) 128#32) 33#32)
      (fun x => iprop(⌜x = (k0_pay41 v112)⌝ ∗ FillR c arg9 arg22 f9 k0_t1.val 36)) := by
  rw [k0_part10_eq_skeleton]
  unfold k0_part10_skel
  refine fill_ld 𝒱 c bd E arg9 arg22 f9 fun _ => ?_
  refine fill_st 𝒱 c bd E arg9 arg22 f9 33 (by decide) hv (off3n k0_t1 ⟨33, by decide⟩) rfl ?_
  refine fill_ld 𝒱 c bd E arg9 arg22 f9 fun _ => ?_
  refine fill_st 𝒱 c bd E arg9 arg22 f9 34 (by decide) hv (off3n k0_t1 ⟨34, by decide⟩) rfl ?_
  refine fill_ld 𝒱 c bd E arg9 arg22 f9 fun _ => ?_
  refine fill_st 𝒱 c bd E arg9 arg22 f9 35 (by decide) hv (off3n k0_t1 ⟨35, by decide⟩) rfl ?_
  refine fill_ld 𝒱 c bd E arg9 arg22 f9 fun _ => ?_
  exact fill_ret 𝒱 c bd E arg9 arg22 f9 _

theorem part11_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 36 ⊢ wp frame (wpE (defs₀ (F := F)) 𝒱 (c : Thread nD τ) bd) E
      (k0_part11 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (k0_pay41 v112))
      (fun x => iprop(⌜x = (k0_pay45 v112)⌝ ∗ FillR c arg9 arg22 f9 k0_t1.val 40)) := by
  rw [k0_part11_eq_skeleton]
  unfold k0_part11_skel
  refine fill_st 𝒱 c bd E arg9 arg22 f9 36 (by decide) hv (off3n k0_t1 ⟨36, by decide⟩) rfl ?_
  refine fill_ld 𝒱 c bd E arg9 arg22 f9 fun _ => ?_
  refine fill_st 𝒱 c bd E arg9 arg22 f9 37 (by decide) hv (off3n k0_t1 ⟨37, by decide⟩) rfl ?_
  refine fill_ld 𝒱 c bd E arg9 arg22 f9 fun _ => ?_
  refine fill_st 𝒱 c bd E arg9 arg22 f9 38 (by decide) hv (off3n k0_t1 ⟨38, by decide⟩) rfl ?_
  refine fill_ld 𝒱 c bd E arg9 arg22 f9 fun _ => ?_
  refine fill_st 𝒱 c bd E arg9 arg22 f9 39 (by decide) hv (off3n k0_t1 ⟨39, by decide⟩) rfl ?_
  exact fill_ret 𝒱 c bd E arg9 arg22 f9 _

theorem part12_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 40 ⊢ wp frame (wpE (defs₀ (F := F)) 𝒱 (c : Thread nD τ) bd) E
      (k0_part12 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (k0_pay45 v112))
      (fun x => iprop(⌜x = ((Scalar.muli (Scalar.addi (Scalar.muli (Scf.iv 0#32 1#32 k0_t1) 128#32) 44#32) 8#32))⌝ ∗ FillR c arg9 arg22 f9 k0_t1.val 44)) := by
  rw [k0_part12_eq_skeleton]
  unfold k0_part12_skel
  refine fill_ld 𝒱 c bd E arg9 arg22 f9 fun _ => ?_
  refine fill_st 𝒱 c bd E arg9 arg22 f9 40 (by decide) hv (off3n k0_t1 ⟨40, by decide⟩) rfl ?_
  refine fill_ld 𝒱 c bd E arg9 arg22 f9 fun _ => ?_
  refine fill_st 𝒱 c bd E arg9 arg22 f9 41 (by decide) hv (off3n k0_t1 ⟨41, by decide⟩) rfl ?_
  refine fill_ld 𝒱 c bd E arg9 arg22 f9 fun _ => ?_
  refine fill_st 𝒱 c bd E arg9 arg22 f9 42 (by decide) hv (off3n k0_t1 ⟨42, by decide⟩) rfl ?_
  refine fill_ld 𝒱 c bd E arg9 arg22 f9 fun _ => ?_
  refine fill_st 𝒱 c bd E arg9 arg22 f9 43 (by decide) hv (off3n k0_t1 ⟨43, by decide⟩) rfl ?_
  exact fill_ret 𝒱 c bd E arg9 arg22 f9 _

theorem part13_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 44 ⊢ wp frame (wpE (defs₀ (F := F)) 𝒱 (c : Thread nD τ) bd) E
      (k0_part13 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 ((Scalar.muli (Scalar.addi (Scalar.muli (Scf.iv 0#32 1#32 k0_t1) 128#32) 44#32) 8#32)))
      (fun x => iprop(⌜x = ⟨(Scalar.muli (Scf.iv 0#32 1#32 k0_t1) 128#32), 48#32⟩⌝ ∗ FillR c arg9 arg22 f9 k0_t1.val 48)) := by
  rw [k0_part13_eq_skeleton]
  unfold k0_part13_skel
  refine fill_ld 𝒱 c bd E arg9 arg22 f9 fun _ => ?_
  refine fill_st 𝒱 c bd E arg9 arg22 f9 44 (by decide) hv (off3n k0_t1 ⟨44, by decide⟩) rfl ?_
  refine fill_ld 𝒱 c bd E arg9 arg22 f9 fun _ => ?_
  refine fill_st 𝒱 c bd E arg9 arg22 f9 45 (by decide) hv (off3n k0_t1 ⟨45, by decide⟩) rfl ?_
  refine fill_ld 𝒱 c bd E arg9 arg22 f9 fun _ => ?_
  refine fill_st 𝒱 c bd E arg9 arg22 f9 46 (by decide) hv (off3n k0_t1 ⟨46, by decide⟩) rfl ?_
  refine fill_ld 𝒱 c bd E arg9 arg22 f9 fun _ => ?_
  refine fill_st 𝒱 c bd E arg9 arg22 f9 47 (by decide) hv (off3n k0_t1 ⟨47, by decide⟩) rfl ?_
  exact fill_ret 𝒱 c bd E arg9 arg22 f9 _

theorem part14_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 48 ⊢ wp frame (wpE (defs₀ (F := F)) 𝒱 (c : Thread nD τ) bd) E
      (k0_part14 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (Scalar.muli (Scf.iv 0#32 1#32 k0_t1) 128#32) 48#32)
      (fun x => iprop(⌜x = (k0_pay57 v112)⌝ ∗ FillR c arg9 arg22 f9 k0_t1.val 51)) := by
  rw [k0_part14_eq_skeleton]
  unfold k0_part14_skel
  refine fill_ld 𝒱 c bd E arg9 arg22 f9 fun _ => ?_
  refine fill_st 𝒱 c bd E arg9 arg22 f9 48 (by decide) hv (off3n k0_t1 ⟨48, by decide⟩) rfl ?_
  refine fill_ld 𝒱 c bd E arg9 arg22 f9 fun _ => ?_
  refine fill_st 𝒱 c bd E arg9 arg22 f9 49 (by decide) hv (off3n k0_t1 ⟨49, by decide⟩) rfl ?_
  refine fill_ld 𝒱 c bd E arg9 arg22 f9 fun _ => ?_
  refine fill_st 𝒱 c bd E arg9 arg22 f9 50 (by decide) hv (off3n k0_t1 ⟨50, by decide⟩) rfl ?_
  refine fill_ld 𝒱 c bd E arg9 arg22 f9 fun _ => ?_
  exact fill_ret 𝒱 c bd E arg9 arg22 f9 _

theorem part15_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 51 ⊢ wp frame (wpE (defs₀ (F := F)) 𝒱 (c : Thread nD τ) bd) E
      (k0_part15 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (k0_pay57 v112))
      (fun x => iprop(⌜x = (k0_pay61 v112)⌝ ∗ FillR c arg9 arg22 f9 k0_t1.val 55)) := by
  rw [k0_part15_eq_skeleton]
  unfold k0_part15_skel
  refine fill_st 𝒱 c bd E arg9 arg22 f9 51 (by decide) hv (off3n k0_t1 ⟨51, by decide⟩) rfl ?_
  refine fill_ld 𝒱 c bd E arg9 arg22 f9 fun _ => ?_
  refine fill_st 𝒱 c bd E arg9 arg22 f9 52 (by decide) hv (off3n k0_t1 ⟨52, by decide⟩) rfl ?_
  refine fill_ld 𝒱 c bd E arg9 arg22 f9 fun _ => ?_
  refine fill_st 𝒱 c bd E arg9 arg22 f9 53 (by decide) hv (off3n k0_t1 ⟨53, by decide⟩) rfl ?_
  refine fill_ld 𝒱 c bd E arg9 arg22 f9 fun _ => ?_
  refine fill_st 𝒱 c bd E arg9 arg22 f9 54 (by decide) hv (off3n k0_t1 ⟨54, by decide⟩) rfl ?_
  exact fill_ret 𝒱 c bd E arg9 arg22 f9 _

theorem part16_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 55 ⊢ wp frame (wpE (defs₀ (F := F)) 𝒱 (c : Thread nD τ) bd) E
      (k0_part16 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (k0_pay61 v112))
      (fun x => iprop(⌜x = ((Scalar.muli (Scalar.addi (Scalar.muli (Scf.iv 0#32 1#32 k0_t1) 128#32) 59#32) 8#32))⌝ ∗ FillR c arg9 arg22 f9 k0_t1.val 59)) := by
  rw [k0_part16_eq_skeleton]
  unfold k0_part16_skel
  refine fill_ld 𝒱 c bd E arg9 arg22 f9 fun _ => ?_
  refine fill_st 𝒱 c bd E arg9 arg22 f9 55 (by decide) hv (off3n k0_t1 ⟨55, by decide⟩) rfl ?_
  refine fill_ld 𝒱 c bd E arg9 arg22 f9 fun _ => ?_
  refine fill_st 𝒱 c bd E arg9 arg22 f9 56 (by decide) hv (off3n k0_t1 ⟨56, by decide⟩) rfl ?_
  refine fill_ld 𝒱 c bd E arg9 arg22 f9 fun _ => ?_
  refine fill_st 𝒱 c bd E arg9 arg22 f9 57 (by decide) hv (off3n k0_t1 ⟨57, by decide⟩) rfl ?_
  refine fill_ld 𝒱 c bd E arg9 arg22 f9 fun _ => ?_
  refine fill_st 𝒱 c bd E arg9 arg22 f9 58 (by decide) hv (off3n k0_t1 ⟨58, by decide⟩) rfl ?_
  exact fill_ret 𝒱 c bd E arg9 arg22 f9 _

theorem part17_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 59 ⊢ wp frame (wpE (defs₀ (F := F)) 𝒱 (c : Thread nD τ) bd) E
      (k0_part17 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 ((Scalar.muli (Scalar.addi (Scalar.muli (Scf.iv 0#32 1#32 k0_t1) 128#32) 59#32) 8#32)))
      (fun x => iprop(⌜x = ⟨(Scalar.muli (Scf.iv 0#32 1#32 k0_t1) 128#32), 63#32⟩⌝ ∗ FillR c arg9 arg22 f9 k0_t1.val 63)) := by
  rw [k0_part17_eq_skeleton]
  unfold k0_part17_skel
  refine fill_ld 𝒱 c bd E arg9 arg22 f9 fun _ => ?_
  refine fill_st 𝒱 c bd E arg9 arg22 f9 59 (by decide) hv (off3n k0_t1 ⟨59, by decide⟩) rfl ?_
  refine fill_ld 𝒱 c bd E arg9 arg22 f9 fun _ => ?_
  refine fill_st 𝒱 c bd E arg9 arg22 f9 60 (by decide) hv (off3n k0_t1 ⟨60, by decide⟩) rfl ?_
  refine fill_ld 𝒱 c bd E arg9 arg22 f9 fun _ => ?_
  refine fill_st 𝒱 c bd E arg9 arg22 f9 61 (by decide) hv (off3n k0_t1 ⟨61, by decide⟩) rfl ?_
  refine fill_ld 𝒱 c bd E arg9 arg22 f9 fun _ => ?_
  refine fill_st 𝒱 c bd E arg9 arg22 f9 62 (by decide) hv (off3n k0_t1 ⟨62, by decide⟩) rfl ?_
  exact fill_ret 𝒱 c bd E arg9 arg22 f9 _

theorem part18_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 63 ⊢ wp frame (wpE (defs₀ (F := F)) 𝒱 (c : Thread nD τ) bd) E
      (k0_part18 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (Scalar.muli (Scf.iv 0#32 1#32 k0_t1) 128#32) 63#32)
      (fun x => iprop(⌜x = (k0_pay73 v112)⌝ ∗ FillR c arg9 arg22 f9 k0_t1.val 66)) := by
  rw [k0_part18_eq_skeleton]
  unfold k0_part18_skel
  refine fill_ld 𝒱 c bd E arg9 arg22 f9 fun _ => ?_
  refine fill_st 𝒱 c bd E arg9 arg22 f9 63 (by decide) hv (off3n k0_t1 ⟨63, by decide⟩) rfl ?_
  refine fill_ld 𝒱 c bd E arg9 arg22 f9 fun _ => ?_
  refine fill_st 𝒱 c bd E arg9 arg22 f9 64 (by decide) hv (off3n k0_t1 ⟨64, by decide⟩) rfl ?_
  refine fill_ld 𝒱 c bd E arg9 arg22 f9 fun _ => ?_
  refine fill_st 𝒱 c bd E arg9 arg22 f9 65 (by decide) hv (off3n k0_t1 ⟨65, by decide⟩) rfl ?_
  refine fill_ld 𝒱 c bd E arg9 arg22 f9 fun _ => ?_
  exact fill_ret 𝒱 c bd E arg9 arg22 f9 _

theorem part19_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 66 ⊢ wp frame (wpE (defs₀ (F := F)) 𝒱 (c : Thread nD τ) bd) E
      (k0_part19 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (k0_pay73 v112))
      (fun x => iprop(⌜x = (k0_pay77 v112)⌝ ∗ FillR c arg9 arg22 f9 k0_t1.val 70)) := by
  rw [k0_part19_eq_skeleton]
  unfold k0_part19_skel
  refine fill_st 𝒱 c bd E arg9 arg22 f9 66 (by decide) hv (off3n k0_t1 ⟨66, by decide⟩) rfl ?_
  refine fill_ld 𝒱 c bd E arg9 arg22 f9 fun _ => ?_
  refine fill_st 𝒱 c bd E arg9 arg22 f9 67 (by decide) hv (off3n k0_t1 ⟨67, by decide⟩) rfl ?_
  refine fill_ld 𝒱 c bd E arg9 arg22 f9 fun _ => ?_
  refine fill_st 𝒱 c bd E arg9 arg22 f9 68 (by decide) hv (off3n k0_t1 ⟨68, by decide⟩) rfl ?_
  refine fill_ld 𝒱 c bd E arg9 arg22 f9 fun _ => ?_
  refine fill_st 𝒱 c bd E arg9 arg22 f9 69 (by decide) hv (off3n k0_t1 ⟨69, by decide⟩) rfl ?_
  exact fill_ret 𝒱 c bd E arg9 arg22 f9 _

theorem part20_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 70 ⊢ wp frame (wpE (defs₀ (F := F)) 𝒱 (c : Thread nD τ) bd) E
      (k0_part20 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (k0_pay77 v112))
      (fun x => iprop(⌜x = ((Scalar.muli (Scalar.addi (Scalar.muli (Scf.iv 0#32 1#32 k0_t1) 128#32) 74#32) 8#32))⌝ ∗ FillR c arg9 arg22 f9 k0_t1.val 74)) := by
  rw [k0_part20_eq_skeleton]
  unfold k0_part20_skel
  refine fill_ld 𝒱 c bd E arg9 arg22 f9 fun _ => ?_
  refine fill_st 𝒱 c bd E arg9 arg22 f9 70 (by decide) hv (off3n k0_t1 ⟨70, by decide⟩) rfl ?_
  refine fill_ld 𝒱 c bd E arg9 arg22 f9 fun _ => ?_
  refine fill_st 𝒱 c bd E arg9 arg22 f9 71 (by decide) hv (off3n k0_t1 ⟨71, by decide⟩) rfl ?_
  refine fill_ld 𝒱 c bd E arg9 arg22 f9 fun _ => ?_
  refine fill_st 𝒱 c bd E arg9 arg22 f9 72 (by decide) hv (off3n k0_t1 ⟨72, by decide⟩) rfl ?_
  refine fill_ld 𝒱 c bd E arg9 arg22 f9 fun _ => ?_
  refine fill_st 𝒱 c bd E arg9 arg22 f9 73 (by decide) hv (off3n k0_t1 ⟨73, by decide⟩) rfl ?_
  exact fill_ret 𝒱 c bd E arg9 arg22 f9 _

theorem part21_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 74 ⊢ wp frame (wpE (defs₀ (F := F)) 𝒱 (c : Thread nD τ) bd) E
      (k0_part21 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 ((Scalar.muli (Scalar.addi (Scalar.muli (Scf.iv 0#32 1#32 k0_t1) 128#32) 74#32) 8#32)))
      (fun x => iprop(⌜x = ⟨(Scalar.muli (Scf.iv 0#32 1#32 k0_t1) 128#32), 78#32⟩⌝ ∗ FillR c arg9 arg22 f9 k0_t1.val 78)) := by
  rw [k0_part21_eq_skeleton]
  unfold k0_part21_skel
  refine fill_ld 𝒱 c bd E arg9 arg22 f9 fun _ => ?_
  refine fill_st 𝒱 c bd E arg9 arg22 f9 74 (by decide) hv (off3n k0_t1 ⟨74, by decide⟩) rfl ?_
  refine fill_ld 𝒱 c bd E arg9 arg22 f9 fun _ => ?_
  refine fill_st 𝒱 c bd E arg9 arg22 f9 75 (by decide) hv (off3n k0_t1 ⟨75, by decide⟩) rfl ?_
  refine fill_ld 𝒱 c bd E arg9 arg22 f9 fun _ => ?_
  refine fill_st 𝒱 c bd E arg9 arg22 f9 76 (by decide) hv (off3n k0_t1 ⟨76, by decide⟩) rfl ?_
  refine fill_ld 𝒱 c bd E arg9 arg22 f9 fun _ => ?_
  refine fill_st 𝒱 c bd E arg9 arg22 f9 77 (by decide) hv (off3n k0_t1 ⟨77, by decide⟩) rfl ?_
  exact fill_ret 𝒱 c bd E arg9 arg22 f9 _

theorem part22_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 78 ⊢ wp frame (wpE (defs₀ (F := F)) 𝒱 (c : Thread nD τ) bd) E
      (k0_part22 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (Scalar.muli (Scf.iv 0#32 1#32 k0_t1) 128#32) 78#32)
      (fun x => iprop(⌜x = (k0_pay89 v112)⌝ ∗ FillR c arg9 arg22 f9 k0_t1.val 81)) := by
  rw [k0_part22_eq_skeleton]
  unfold k0_part22_skel
  refine fill_ld 𝒱 c bd E arg9 arg22 f9 fun _ => ?_
  refine fill_st 𝒱 c bd E arg9 arg22 f9 78 (by decide) hv (off3n k0_t1 ⟨78, by decide⟩) rfl ?_
  refine fill_ld 𝒱 c bd E arg9 arg22 f9 fun _ => ?_
  refine fill_st 𝒱 c bd E arg9 arg22 f9 79 (by decide) hv (off3n k0_t1 ⟨79, by decide⟩) rfl ?_
  refine fill_ld 𝒱 c bd E arg9 arg22 f9 fun _ => ?_
  refine fill_st 𝒱 c bd E arg9 arg22 f9 80 (by decide) hv (off3n k0_t1 ⟨80, by decide⟩) rfl ?_
  refine fill_ld 𝒱 c bd E arg9 arg22 f9 fun _ => ?_
  exact fill_ret 𝒱 c bd E arg9 arg22 f9 _

theorem part23_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 81 ⊢ wp frame (wpE (defs₀ (F := F)) 𝒱 (c : Thread nD τ) bd) E
      (k0_part23 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (k0_pay89 v112))
      (fun x => iprop(⌜x = (k0_pay93 v112)⌝ ∗ FillR c arg9 arg22 f9 k0_t1.val 85)) := by
  rw [k0_part23_eq_skeleton]
  unfold k0_part23_skel
  refine fill_st 𝒱 c bd E arg9 arg22 f9 81 (by decide) hv (off3n k0_t1 ⟨81, by decide⟩) rfl ?_
  refine fill_ld 𝒱 c bd E arg9 arg22 f9 fun _ => ?_
  refine fill_st 𝒱 c bd E arg9 arg22 f9 82 (by decide) hv (off3n k0_t1 ⟨82, by decide⟩) rfl ?_
  refine fill_ld 𝒱 c bd E arg9 arg22 f9 fun _ => ?_
  refine fill_st 𝒱 c bd E arg9 arg22 f9 83 (by decide) hv (off3n k0_t1 ⟨83, by decide⟩) rfl ?_
  refine fill_ld 𝒱 c bd E arg9 arg22 f9 fun _ => ?_
  refine fill_st 𝒱 c bd E arg9 arg22 f9 84 (by decide) hv (off3n k0_t1 ⟨84, by decide⟩) rfl ?_
  exact fill_ret 𝒱 c bd E arg9 arg22 f9 _

theorem part24_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 85 ⊢ wp frame (wpE (defs₀ (F := F)) 𝒱 (c : Thread nD τ) bd) E
      (k0_part24 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (k0_pay93 v112))
      (fun x => iprop(⌜x = ((Scalar.muli (Scalar.addi (Scalar.muli (Scf.iv 0#32 1#32 k0_t1) 128#32) 89#32) 8#32))⌝ ∗ FillR c arg9 arg22 f9 k0_t1.val 89)) := by
  rw [k0_part24_eq_skeleton]
  unfold k0_part24_skel
  refine fill_ld 𝒱 c bd E arg9 arg22 f9 fun _ => ?_
  refine fill_st 𝒱 c bd E arg9 arg22 f9 85 (by decide) hv (off3n k0_t1 ⟨85, by decide⟩) rfl ?_
  refine fill_ld 𝒱 c bd E arg9 arg22 f9 fun _ => ?_
  refine fill_st 𝒱 c bd E arg9 arg22 f9 86 (by decide) hv (off3n k0_t1 ⟨86, by decide⟩) rfl ?_
  refine fill_ld 𝒱 c bd E arg9 arg22 f9 fun _ => ?_
  refine fill_st 𝒱 c bd E arg9 arg22 f9 87 (by decide) hv (off3n k0_t1 ⟨87, by decide⟩) rfl ?_
  refine fill_ld 𝒱 c bd E arg9 arg22 f9 fun _ => ?_
  refine fill_st 𝒱 c bd E arg9 arg22 f9 88 (by decide) hv (off3n k0_t1 ⟨88, by decide⟩) rfl ?_
  exact fill_ret 𝒱 c bd E arg9 arg22 f9 _

theorem part25_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 89 ⊢ wp frame (wpE (defs₀ (F := F)) 𝒱 (c : Thread nD τ) bd) E
      (k0_part25 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 ((Scalar.muli (Scalar.addi (Scalar.muli (Scf.iv 0#32 1#32 k0_t1) 128#32) 89#32) 8#32)))
      (fun x => iprop(⌜x = ⟨(Scalar.muli (Scf.iv 0#32 1#32 k0_t1) 128#32), 93#32⟩⌝ ∗ FillR c arg9 arg22 f9 k0_t1.val 93)) := by
  rw [k0_part25_eq_skeleton]
  unfold k0_part25_skel
  refine fill_ld 𝒱 c bd E arg9 arg22 f9 fun _ => ?_
  refine fill_st 𝒱 c bd E arg9 arg22 f9 89 (by decide) hv (off3n k0_t1 ⟨89, by decide⟩) rfl ?_
  refine fill_ld 𝒱 c bd E arg9 arg22 f9 fun _ => ?_
  refine fill_st 𝒱 c bd E arg9 arg22 f9 90 (by decide) hv (off3n k0_t1 ⟨90, by decide⟩) rfl ?_
  refine fill_ld 𝒱 c bd E arg9 arg22 f9 fun _ => ?_
  refine fill_st 𝒱 c bd E arg9 arg22 f9 91 (by decide) hv (off3n k0_t1 ⟨91, by decide⟩) rfl ?_
  refine fill_ld 𝒱 c bd E arg9 arg22 f9 fun _ => ?_
  refine fill_st 𝒱 c bd E arg9 arg22 f9 92 (by decide) hv (off3n k0_t1 ⟨92, by decide⟩) rfl ?_
  exact fill_ret 𝒱 c bd E arg9 arg22 f9 _

theorem part26_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 93 ⊢ wp frame (wpE (defs₀ (F := F)) 𝒱 (c : Thread nD τ) bd) E
      (k0_part26 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (Scalar.muli (Scf.iv 0#32 1#32 k0_t1) 128#32) 93#32)
      (fun x => iprop(⌜x = (k0_pay105 v112)⌝ ∗ FillR c arg9 arg22 f9 k0_t1.val 96)) := by
  rw [k0_part26_eq_skeleton]
  unfold k0_part26_skel
  refine fill_ld 𝒱 c bd E arg9 arg22 f9 fun _ => ?_
  refine fill_st 𝒱 c bd E arg9 arg22 f9 93 (by decide) hv (off3n k0_t1 ⟨93, by decide⟩) rfl ?_
  refine fill_ld 𝒱 c bd E arg9 arg22 f9 fun _ => ?_
  refine fill_st 𝒱 c bd E arg9 arg22 f9 94 (by decide) hv (off3n k0_t1 ⟨94, by decide⟩) rfl ?_
  refine fill_ld 𝒱 c bd E arg9 arg22 f9 fun _ => ?_
  refine fill_st 𝒱 c bd E arg9 arg22 f9 95 (by decide) hv (off3n k0_t1 ⟨95, by decide⟩) rfl ?_
  refine fill_ld 𝒱 c bd E arg9 arg22 f9 fun _ => ?_
  exact fill_ret 𝒱 c bd E arg9 arg22 f9 _

theorem part27_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 96 ⊢ wp frame (wpE (defs₀ (F := F)) 𝒱 (c : Thread nD τ) bd) E
      (k0_part27 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (k0_pay105 v112))
      (fun x => iprop(⌜x = (k0_pay109 v112)⌝ ∗ FillR c arg9 arg22 f9 k0_t1.val 100)) := by
  rw [k0_part27_eq_skeleton]
  unfold k0_part27_skel
  refine fill_st 𝒱 c bd E arg9 arg22 f9 96 (by decide) hv (off3n k0_t1 ⟨96, by decide⟩) rfl ?_
  refine fill_ld 𝒱 c bd E arg9 arg22 f9 fun _ => ?_
  refine fill_st 𝒱 c bd E arg9 arg22 f9 97 (by decide) hv (off3n k0_t1 ⟨97, by decide⟩) rfl ?_
  refine fill_ld 𝒱 c bd E arg9 arg22 f9 fun _ => ?_
  refine fill_st 𝒱 c bd E arg9 arg22 f9 98 (by decide) hv (off3n k0_t1 ⟨98, by decide⟩) rfl ?_
  refine fill_ld 𝒱 c bd E arg9 arg22 f9 fun _ => ?_
  refine fill_st 𝒱 c bd E arg9 arg22 f9 99 (by decide) hv (off3n k0_t1 ⟨99, by decide⟩) rfl ?_
  exact fill_ret 𝒱 c bd E arg9 arg22 f9 _

theorem part28_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 100 ⊢ wp frame (wpE (defs₀ (F := F)) 𝒱 (c : Thread nD τ) bd) E
      (k0_part28 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (k0_pay109 v112))
      (fun x => iprop(⌜x = ((Scalar.muli (Scalar.addi (Scalar.muli (Scf.iv 0#32 1#32 k0_t1) 128#32) 104#32) 8#32))⌝ ∗ FillR c arg9 arg22 f9 k0_t1.val 104)) := by
  rw [k0_part28_eq_skeleton]
  unfold k0_part28_skel
  refine fill_ld 𝒱 c bd E arg9 arg22 f9 fun _ => ?_
  refine fill_st 𝒱 c bd E arg9 arg22 f9 100 (by decide) hv (off3n k0_t1 ⟨100, by decide⟩) rfl ?_
  refine fill_ld 𝒱 c bd E arg9 arg22 f9 fun _ => ?_
  refine fill_st 𝒱 c bd E arg9 arg22 f9 101 (by decide) hv (off3n k0_t1 ⟨101, by decide⟩) rfl ?_
  refine fill_ld 𝒱 c bd E arg9 arg22 f9 fun _ => ?_
  refine fill_st 𝒱 c bd E arg9 arg22 f9 102 (by decide) hv (off3n k0_t1 ⟨102, by decide⟩) rfl ?_
  refine fill_ld 𝒱 c bd E arg9 arg22 f9 fun _ => ?_
  refine fill_st 𝒱 c bd E arg9 arg22 f9 103 (by decide) hv (off3n k0_t1 ⟨103, by decide⟩) rfl ?_
  exact fill_ret 𝒱 c bd E arg9 arg22 f9 _

theorem part29_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 104 ⊢ wp frame (wpE (defs₀ (F := F)) 𝒱 (c : Thread nD τ) bd) E
      (k0_part29 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 ((Scalar.muli (Scalar.addi (Scalar.muli (Scf.iv 0#32 1#32 k0_t1) 128#32) 104#32) 8#32)))
      (fun x => iprop(⌜x = ⟨(Scalar.muli (Scf.iv 0#32 1#32 k0_t1) 128#32), 108#32⟩⌝ ∗ FillR c arg9 arg22 f9 k0_t1.val 108)) := by
  rw [k0_part29_eq_skeleton]
  unfold k0_part29_skel
  refine fill_ld 𝒱 c bd E arg9 arg22 f9 fun _ => ?_
  refine fill_st 𝒱 c bd E arg9 arg22 f9 104 (by decide) hv (off3n k0_t1 ⟨104, by decide⟩) rfl ?_
  refine fill_ld 𝒱 c bd E arg9 arg22 f9 fun _ => ?_
  refine fill_st 𝒱 c bd E arg9 arg22 f9 105 (by decide) hv (off3n k0_t1 ⟨105, by decide⟩) rfl ?_
  refine fill_ld 𝒱 c bd E arg9 arg22 f9 fun _ => ?_
  refine fill_st 𝒱 c bd E arg9 arg22 f9 106 (by decide) hv (off3n k0_t1 ⟨106, by decide⟩) rfl ?_
  refine fill_ld 𝒱 c bd E arg9 arg22 f9 fun _ => ?_
  refine fill_st 𝒱 c bd E arg9 arg22 f9 107 (by decide) hv (off3n k0_t1 ⟨107, by decide⟩) rfl ?_
  exact fill_ret 𝒱 c bd E arg9 arg22 f9 _

theorem part30_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 108 ⊢ wp frame (wpE (defs₀ (F := F)) 𝒱 (c : Thread nD τ) bd) E
      (k0_part30 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (Scalar.muli (Scf.iv 0#32 1#32 k0_t1) 128#32) 108#32)
      (fun x => iprop(⌜x = (k0_pay121 v112)⌝ ∗ FillR c arg9 arg22 f9 k0_t1.val 111)) := by
  rw [k0_part30_eq_skeleton]
  unfold k0_part30_skel
  refine fill_ld 𝒱 c bd E arg9 arg22 f9 fun _ => ?_
  refine fill_st 𝒱 c bd E arg9 arg22 f9 108 (by decide) hv (off3n k0_t1 ⟨108, by decide⟩) rfl ?_
  refine fill_ld 𝒱 c bd E arg9 arg22 f9 fun _ => ?_
  refine fill_st 𝒱 c bd E arg9 arg22 f9 109 (by decide) hv (off3n k0_t1 ⟨109, by decide⟩) rfl ?_
  refine fill_ld 𝒱 c bd E arg9 arg22 f9 fun _ => ?_
  refine fill_st 𝒱 c bd E arg9 arg22 f9 110 (by decide) hv (off3n k0_t1 ⟨110, by decide⟩) rfl ?_
  refine fill_ld 𝒱 c bd E arg9 arg22 f9 fun _ => ?_
  exact fill_ret 𝒱 c bd E arg9 arg22 f9 _

theorem part31_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 111 ⊢ wp frame (wpE (defs₀ (F := F)) 𝒱 (c : Thread nD τ) bd) E
      (k0_part31 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (k0_pay121 v112))
      (fun x => iprop(⌜x = (k0_pay125 v112)⌝ ∗ FillR c arg9 arg22 f9 k0_t1.val 115)) := by
  rw [k0_part31_eq_skeleton]
  unfold k0_part31_skel
  refine fill_st 𝒱 c bd E arg9 arg22 f9 111 (by decide) hv (off3n k0_t1 ⟨111, by decide⟩) rfl ?_
  refine fill_ld 𝒱 c bd E arg9 arg22 f9 fun _ => ?_
  refine fill_st 𝒱 c bd E arg9 arg22 f9 112 (by decide) hv (off3n k0_t1 ⟨112, by decide⟩) rfl ?_
  refine fill_ld 𝒱 c bd E arg9 arg22 f9 fun _ => ?_
  refine fill_st 𝒱 c bd E arg9 arg22 f9 113 (by decide) hv (off3n k0_t1 ⟨113, by decide⟩) rfl ?_
  refine fill_ld 𝒱 c bd E arg9 arg22 f9 fun _ => ?_
  refine fill_st 𝒱 c bd E arg9 arg22 f9 114 (by decide) hv (off3n k0_t1 ⟨114, by decide⟩) rfl ?_
  exact fill_ret 𝒱 c bd E arg9 arg22 f9 _

theorem part32_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 115 ⊢ wp frame (wpE (defs₀ (F := F)) 𝒱 (c : Thread nD τ) bd) E
      (k0_part32 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (k0_pay125 v112))
      (fun x => iprop(⌜x = ((Scalar.muli (Scalar.addi (Scalar.muli (Scf.iv 0#32 1#32 k0_t1) 128#32) 119#32) 8#32))⌝ ∗ FillR c arg9 arg22 f9 k0_t1.val 119)) := by
  rw [k0_part32_eq_skeleton]
  unfold k0_part32_skel
  refine fill_ld 𝒱 c bd E arg9 arg22 f9 fun _ => ?_
  refine fill_st 𝒱 c bd E arg9 arg22 f9 115 (by decide) hv (off3n k0_t1 ⟨115, by decide⟩) rfl ?_
  refine fill_ld 𝒱 c bd E arg9 arg22 f9 fun _ => ?_
  refine fill_st 𝒱 c bd E arg9 arg22 f9 116 (by decide) hv (off3n k0_t1 ⟨116, by decide⟩) rfl ?_
  refine fill_ld 𝒱 c bd E arg9 arg22 f9 fun _ => ?_
  refine fill_st 𝒱 c bd E arg9 arg22 f9 117 (by decide) hv (off3n k0_t1 ⟨117, by decide⟩) rfl ?_
  refine fill_ld 𝒱 c bd E arg9 arg22 f9 fun _ => ?_
  refine fill_st 𝒱 c bd E arg9 arg22 f9 118 (by decide) hv (off3n k0_t1 ⟨118, by decide⟩) rfl ?_
  exact fill_ret 𝒱 c bd E arg9 arg22 f9 _

theorem part33_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 119 ⊢ wp frame (wpE (defs₀ (F := F)) 𝒱 (c : Thread nD τ) bd) E
      (k0_part33 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 ((Scalar.muli (Scalar.addi (Scalar.muli (Scf.iv 0#32 1#32 k0_t1) 128#32) 119#32) 8#32)))
      (fun x => iprop(⌜x = ⟨(Scalar.muli (Scf.iv 0#32 1#32 k0_t1) 128#32), 123#32⟩⌝ ∗ FillR c arg9 arg22 f9 k0_t1.val 123)) := by
  rw [k0_part33_eq_skeleton]
  unfold k0_part33_skel
  refine fill_ld 𝒱 c bd E arg9 arg22 f9 fun _ => ?_
  refine fill_st 𝒱 c bd E arg9 arg22 f9 119 (by decide) hv (off3n k0_t1 ⟨119, by decide⟩) rfl ?_
  refine fill_ld 𝒱 c bd E arg9 arg22 f9 fun _ => ?_
  refine fill_st 𝒱 c bd E arg9 arg22 f9 120 (by decide) hv (off3n k0_t1 ⟨120, by decide⟩) rfl ?_
  refine fill_ld 𝒱 c bd E arg9 arg22 f9 fun _ => ?_
  refine fill_st 𝒱 c bd E arg9 arg22 f9 121 (by decide) hv (off3n k0_t1 ⟨121, by decide⟩) rfl ?_
  refine fill_ld 𝒱 c bd E arg9 arg22 f9 fun _ => ?_
  refine fill_st 𝒱 c bd E arg9 arg22 f9 122 (by decide) hv (off3n k0_t1 ⟨122, by decide⟩) rfl ?_
  exact fill_ret 𝒱 c bd E arg9 arg22 f9 _

theorem part34_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 123 ⊢ wp frame (wpE (defs₀ (F := F)) 𝒱 (c : Thread nD τ) bd) E
      (k0_part34 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (Scalar.muli (Scf.iv 0#32 1#32 k0_t1) 128#32) 123#32)
      (fun x => iprop(⌜x = (k0_pay137 v112)⌝ ∗ FillR c arg9 arg22 f9 k0_t1.val 126)) := by
  rw [k0_part34_eq_skeleton]
  unfold k0_part34_skel
  refine fill_ld 𝒱 c bd E arg9 arg22 f9 fun _ => ?_
  refine fill_st 𝒱 c bd E arg9 arg22 f9 123 (by decide) hv (off3n k0_t1 ⟨123, by decide⟩) rfl ?_
  refine fill_ld 𝒱 c bd E arg9 arg22 f9 fun _ => ?_
  refine fill_st 𝒱 c bd E arg9 arg22 f9 124 (by decide) hv (off3n k0_t1 ⟨124, by decide⟩) rfl ?_
  refine fill_ld 𝒱 c bd E arg9 arg22 f9 fun _ => ?_
  refine fill_st 𝒱 c bd E arg9 arg22 f9 125 (by decide) hv (off3n k0_t1 ⟨125, by decide⟩) rfl ?_
  refine fill_ld 𝒱 c bd E arg9 arg22 f9 fun _ => ?_
  exact fill_ret 𝒱 c bd E arg9 arg22 f9 _

/-- One trip of the filling loop. -/
theorem trip1_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) (u : Unit) :
    FillR c arg9 arg22 f9 k0_t1.val 0 ⊢ wp frame (wpE (defs₀ (F := F)) 𝒱 (c : Thread nD τ) bd) E
      (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 u)
      (fun x => iprop(⌜x = ⟨⟩⌝ ∗ FillR c arg9 arg22 f9 k0_t1.val 128)) := by
  have hv := spread_read i arg9 k0_h1 c f9 k0_t1
  unfold k0_t1_body
  refine fill_bind 𝒱 c bd E arg9 arg22 f9 (part1_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part2_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part3_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part4_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part5_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part6_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part7_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part8_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part9_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part10_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part11_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part12_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part13_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part14_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part15_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part16_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part17_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part18_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part19_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part20_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part21_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part22_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part23_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part24_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part25_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part26_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part27_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part28_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part29_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part30_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part31_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part32_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part33_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part34_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_st 𝒱 c bd E arg9 arg22 f9 126 (by decide) hv (off3n k0_t1 ⟨126, by decide⟩) rfl ?_
  refine fill_ld 𝒱 c bd E arg9 arg22 f9 fun _ => ?_
  refine fill_st 𝒱 c bd E arg9 arg22 f9 127 (by decide) hv (off3n k0_t1 ⟨127, by decide⟩) rfl ?_
  exact fill_ret 𝒱 c bd E arg9 arg22 f9 _

theorem FillR_next (c : Dev nD) (arg9 : Memref sig .tc .vmem S1x8x4096 .f32) (arg22 : Memref sig .tc .vmem S32768x128 .f32)
    (f9 : Buf (Elt F) (arg9.view.loc (c : Thread nD τ))) (k : ℕ) :
    FillR c arg9 arg22 f9 k 128 ⊢ FillR c arg9 arg22 f9 (k + 1) 0 := by
  unfold FillR
  rw [show 8 * (128 * (k + 1) + 0) = 8 * (128 * k + 128) by omega]

set_option warn.classDefReducibility false in
/-- The filling loop by its invariant: before trip `k` the first `1024·k` rows are filled. -/
@[sl_loop] def loopInv_k0_t1 (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) :
    LoopInvTy_k0_t1 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 where
  inv k _ := FillR c arg9 arg22 f9 k 0
  step k acc := by
    refine (trip1_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k acc).trans (wp_mono _ _ _ fun x => ?_)
    iintro ⟨%hx, H⟩
    iapply (FillR_next c arg9 arg22 f9 k.val)
    iexact H

end Cert.Kernel.Hyd
-- ==== Proof.Hyd.KernelBody.lean ====
module

public import proofs.«01_k».proof.Proof.Hyd.KernelFill

@[expose] public section

set_option maxRecDepth 16384
set_option maxHeartbeats 4000000

/-! What one grid point computes: the three passes over keys and values as recursions on the
    contents of the windows, and the run of the kernel's body that computes them. -/

noncomputable section

namespace Cert.Kernel.Hyd

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The entry of `X` at the coordinates `n`, taken modulo the array's extents. -/
def pick {s : Shape} {α : Type} (X : s.Idx → α) (n : Fin s.rank → ℕ) (hs : ∀ a, 0 < s.size a) : α :=
  X fun a => ⟨n a % s.size a, Nat.mod_lt _ (hs a)⟩

theorem pick_eq {s : Shape} {α : Type} (X : s.Idx → α) (n : Fin s.rank → ℕ) (hs : ∀ a, 0 < s.size a) (x : s.Idx)
    (h : ∀ a, (x a).val = n a) : pick X n hs = X x := by
  unfold pick
  congr 1
  funext a
  apply Fin.ext
  show n a % s.size a = _
  rw [← h a]
  exact Nat.mod_eq_of_lt (x a).isLt

/-- The softmax state a pass carries: the weighted sum of values, the sum of weights, the maximum. -/
abbrev St (F : FTy → Type) : Type := FVec F S128x256 .f32 × FVec F S1x256 .f32 × FVec F S1x256 .f32

/-- The block of 512 prompt keys trip `k` reads. -/
def kpB (X6 : Vec F S1x32768x128 .fp8e4m3) (k : ℕ) : Vec F S512x128 .fp8e4m3 := fun y =>
  pick X6 ![0, 512 * k + (y 0).val, (y 1).val] (by decide)
/-- The block of prompt key scales trip `k` reads. -/
def kspB (W : S32768x128.Idx → F .f32) (k : ℕ) : Vec F S512x128 .f32 := fun y =>
  pick W ![512 * k + (y 0).val, (y 1).val] (by decide)
/-- The block of prompt values trip `k` reads. -/
def vtpB (X7 : Vec F S1x128x32768 .fp8e4m3) (k : ℕ) : Vec F S128x512 .fp8e4m3 := fun y =>
  pick X7 ![0, (y 0).val, 512 * k + (y 1).val] (by decide)
/-- The block of prompt value scales trip `k` reads. -/
def vspB (X8 : Vec F S1x1x32768 .bf16) (k : ℕ) : Vec F S1x512 .bf16 := fun y =>
  pick X8 ![0, 0, 512 * k + (y 1).val] (by decide)

/-- One trip of the pass over the prompt. -/
def step2 (v16 : FVec F S256x128 .fp8e4m3) (v20 : FVec F S1x256 .f32)
    (v112 : Vec F S512x128 .fp8e4m3) (v116 : Vec F S512x128 .f32) (v136 : Vec F S128x512 .fp8e4m3) (v142 : Vec F S1x512 .bf16) (a : St F) : St F :=
  (k0_pay143 v16 v20 a.1 a.2.2 v112 v116 v136 v142, k0_pay142 v16 v20 a.2.1 a.2.2 v112 v116,
    k0_pay139 v16 v20 a.2.2 v112 v116)

/-- The state before trip `k` of the pass over the prompt. -/
def st2 (v16 : FVec F S256x128 .fp8e4m3) (v20 : FVec F S1x256 .f32) (X6 : Vec F S1x32768x128 .fp8e4m3)
    (W : S32768x128.Idx → F .f32) (X7 : Vec F S1x128x32768 .fp8e4m3) (X8 : Vec F S1x1x32768 .bf16) : ℕ → St F
  | 0 => (k0_pay160 (F := F), k0_pay161 (F := F), k0_pay162 (F := F))
  | k + 1 => step2 v16 v20 (kpB X6 k) (kspB W k) (vtpB X7 k) (vspB X8 k) (st2 v16 v20 X6 W X7 X8 k)

/-- A block of `n` rows, or `n` columns, of a four-dimensional window. -/
def rowB {α : Type} {N : ℕ} (hN : 0 < N) (X : (⟨4, ![1, 1, N, 128]⟩ : Shape).Idx → α) (n k : ℕ) : (⟨2, ![n, 128]⟩ : Shape).Idx → α := fun y =>
  pick X ![0, 0, n * k + (y 0).val, (y 1).val] (fun a => match a with | ⟨0, _⟩ => Nat.one_pos | ⟨1, _⟩ => Nat.one_pos | ⟨2, _⟩ => hN | ⟨3, _⟩ => Nat.succ_pos 127)
def colB {α : Type} {N D : ℕ} (hN : 0 < N) (hD : 0 < D) (X : (⟨4, ![1, 1, D, N]⟩ : Shape).Idx → α) (n k : ℕ) : (⟨2, ![D, n]⟩ : Shape).Idx → α := fun y =>
  pick X ![0, 0, (y 0).val, n * k + (y 1).val] (fun a => match a with | ⟨0, _⟩ => Nat.one_pos | ⟨1, _⟩ => Nat.one_pos | ⟨2, _⟩ => hD | ⟨3, _⟩ => hN)

/-- One trip of the pass over the shared middle segment. -/
def step3 (v16 : FVec F S256x128 .fp8e4m3) (v20 : FVec F S1x256 .f32)
    (v112 : Vec F S128x128 .fp8e4m3) (v118 : Vec F S128x128 .f32) (v139 : Vec F S128x128 .fp8e4m3) (v145 : Vec F S1x128 .bf16) (a : St F) : St F :=
  (k0_pay166 a.1 (k0_pay146 v16 v20 a.2.2 v112 v118) (k0_pay149 v139 v145) (k0_pay150 v16 v20 a.2.2 v112 v118),
    k0_pay148 v16 v20 a.2.1 a.2.2 v112 v118, k0_pay145 v16 v20 a.2.2 v112 v118)

/-- The state before trip `k` of the pass over the middle segment. -/
def st3 (v16 : FVec F S256x128 .fp8e4m3) (v20 : FVec F S1x256 .f32) (X14 : Vec F S1x1x384x128 .fp8e4m3)
    (X17 : Vec F S1x1x384x128 .f32) (X15 : Vec F S1x1x128x384 .fp8e4m3) (X16 : Vec F S1x1x1x384 .bf16) : ℕ → St F
  | 0 => (k0_pay163 (F := F), k0_pay164 (F := F), k0_pay165 (F := F))
  | k + 1 => step3 v16 v20 (rowB (by decide) X14 128 k) (rowB (by decide) X17 128 k) (colB (by decide) (by decide) X15 128 k) (colB (by decide) (by decide) X16 128 k)
      (st3 v16 v20 X14 X17 X15 X16 k)

/-- One trip of the pass over the point's own keys, of which a row sees those at or before it. -/
def step4 (v16 : FVec F S256x128 .fp8e4m3) (v20 : FVec F S1x256 .f32) (v31 : BitVec 32) (k : Fin k0_t4_loop.trips)
    (v112 : Vec F S256x128 .fp8e4m3) (v118 : Vec F S256x128 .f32) (v148 : Vec F S128x256 .fp8e4m3) (v154 : Vec F S1x256 .bf16) (a : St F) : St F :=
  (k0_pay170 a.1 (k0_pay153 v16 v20 v31 0#32 1#32 k a.2.2 v112 v118) (k0_pay154 v16 v20 v31 0#32 1#32 k a.2.2 v112 v118) (k0_pay156 v148) v154,
    k0_pay155 v16 v20 v31 0#32 1#32 k a.2.1 a.2.2 v112 v118, k0_pay152 v16 v20 v31 0#32 1#32 k a.2.2 v112 v118)

/-- The state before trip `k` of the pass over the point's own keys. -/
def st4 (v16 : FVec F S256x128 .fp8e4m3) (v20 : FVec F S1x256 .f32) (v31 : BitVec 32) (X10 : Vec F S1x1x512x128 .fp8e4m3)
    (X13 : Vec F S1x1x512x128 .f32) (X11 : Vec F S1x1x128x512 .fp8e4m3) (X12 : Vec F S1x1x1x512 .bf16) : ℕ → St F
  | 0 => (k0_pay167 (F := F), k0_pay168 (F := F), k0_pay169 (F := F))
  | k + 1 => if h : k < k0_t4_loop.trips then
      step4 v16 v20 v31 ⟨k, h⟩ (rowB (by decide) X10 256 k) (rowB (by decide) X13 256 k) (colB (by decide) (by decide) X11 256 k) (colB (by decide) (by decide) X12 256 k)
        (st4 v16 v20 v31 X10 X13 X11 X12 k)
    else st4 v16 v20 v31 X10 X13 X11 X12 k

/-- The parity of the query tile. -/
def par (i : grid0.Coords) : BitVec 32 :=
  let arg2 : BitVec 32 := BitVec.ofNat 32 (i 2).val
  let v0 : BitVec 1 := Scalar.cmpi .eq 2#32 0#32
  let v1 : BitVec 32 := Scalar.select v0 1#32 2#32
  let v2 : BitVec 32 := Scalar.remsi arg2 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  Scalar.select v7 v8 v2

/-- A window with one leading unit axis, read with that axis dropped. -/
theorem sq3_read {a b : ℕ} {e : EltTy} (arg : Memref sig .tc .vmem (⟨3, ![1, a, b]⟩ : Shape) e)
    (inb : ∀ x, (![0, 0, 0] : Fin 3 → ℕ) x + (⟨3, ![1, a, b]⟩ : Shape).size x ≤ (⟨3, ![1, a, b]⟩ : Shape).size x) {hs}
    (sq : (⟨3, ![1, a, b]⟩ : Shape).Squeezes ⟨2, ![a, b]⟩) (X : BufTy.Contents (Elt F) arg.view.ty) (j : (⟨2, ![a, b]⟩ : Shape).Idx) :
    ((arg.slice (Rect.unit (s := (⟨3, ![1, a, b]⟩ : Shape)) ![0, 0, 0] (⟨3, ![1, a, b]⟩ : Shape).size inb) hs).squeeze ⟨2, ![a, b]⟩ sq).view.read (Elt F) X j
      = arg.view.read (Elt F) X (ValueIdx.ix3 (0 : Fin 1) (j 0) (j 1)) := by
  have h : (Shape.reshapeEquiv sq.numel_eq j : (⟨3, ![1, a, b]⟩ : Shape).Idx) = ValueIdx.ix3 (0 : Fin 1) (j 0) (j 1) := by
    apply Shape.reshapeEquiv_eq_of_rowMajor
    refine (Shape.rowMajor_val_three (d := ![1, a, b]) _).trans (Eq.trans ?_ (Shape.rowMajor_val_two (d := ![a, b]) j).symm)
    show (0 * a + (j 0).val) * b + (j 1).val = (j 0).val * b + (j 1).val
    rw [Nat.zero_mul, Nat.zero_add]
  show arg.view.read (Elt F) X ((Rect.unit (s := (⟨3, ![1, a, b]⟩ : Shape)) ![0, 0, 0] (⟨3, ![1, a, b]⟩ : Shape).size inb).emb (Shape.reshapeEquiv sq.numel_eq j)) = _
  rw [h]
  congr 1
  funext x
  apply Fin.ext
  match x with
  | ⟨0, _⟩ => show 0 + 1 * 0 = 0; rfl
  | ⟨1, _⟩ => show 0 + 1 * (j 0).val = (j 0).val; omega
  | ⟨2, _⟩ => show 0 + 1 * (j 1).val = (j 1).val; omega

/-- A window with two leading unit axes, read with those axes dropped. -/
theorem sq4_read {a b : ℕ} {e : EltTy} (arg : Memref sig .tc .vmem (⟨4, ![1, 1, a, b]⟩ : Shape) e)
    (inb : ∀ x, (![0, 0, 0, 0] : Fin 4 → ℕ) x + (⟨4, ![1, 1, a, b]⟩ : Shape).size x ≤ (⟨4, ![1, 1, a, b]⟩ : Shape).size x) {hs}
    (sq : (⟨4, ![1, 1, a, b]⟩ : Shape).Squeezes ⟨2, ![a, b]⟩) (X : BufTy.Contents (Elt F) arg.view.ty) (j : (⟨2, ![a, b]⟩ : Shape).Idx) :
    ((arg.slice (Rect.unit (s := (⟨4, ![1, 1, a, b]⟩ : Shape)) ![0, 0, 0, 0] (⟨4, ![1, 1, a, b]⟩ : Shape).size inb) hs).squeeze ⟨2, ![a, b]⟩ sq).view.read (Elt F) X j
      = arg.view.read (Elt F) X (ValueIdx.ix4 (0 : Fin 1) (0 : Fin 1) (j 0) (j 1)) := by
  have h : (Shape.reshapeEquiv sq.numel_eq j : (⟨4, ![1, 1, a, b]⟩ : Shape).Idx) = ValueIdx.ix4 (0 : Fin 1) (0 : Fin 1) (j 0) (j 1) := by
    apply Shape.reshapeEquiv_eq_of_rowMajor
    refine (Shape.rowMajor_val_four (d := ![1, 1, a, b]) _).trans (Eq.trans ?_ (Shape.rowMajor_val_two (d := ![a, b]) j).symm)
    show ((0 * 1 + 0) * a + (j 0).val) * b + (j 1).val = (j 0).val * b + (j 1).val
    simp only [Nat.zero_mul, Nat.zero_add]
  show arg.view.read (Elt F) X ((Rect.unit (s := (⟨4, ![1, 1, a, b]⟩ : Shape)) ![0, 0, 0, 0] (⟨4, ![1, 1, a, b]⟩ : Shape).size inb).emb (Shape.reshapeEquiv sq.numel_eq j)) = _
  rw [h]
  congr 1
  funext x
  apply Fin.ext
  match x with
  | ⟨0, _⟩ => show 0 + 1 * 0 = 0; rfl
  | ⟨1, _⟩ => show 0 + 1 * 0 = 0; rfl
  | ⟨2, _⟩ => show 0 + 1 * (j 0).val = (j 0).val; omega
  | ⟨3, _⟩ => show 0 + 1 * (j 1).val = (j 1).val; omega

/-- A block of rows of an array read with its unit axes dropped. -/
theorem row_read {α : Type} {N n : ℕ} (hN : 0 < N) (X : (⟨4, ![1, 1, N, 128]⟩ : Shape).Idx → α) (Y : (⟨2, ![N, 128]⟩ : Shape).Idx → α)
    (h : ∀ j, Y j = X (ValueIdx.ix4 (0 : Fin 1) (0 : Fin 1) (j 0) (j 1))) (k : ℕ) {off : Fin 2 → ℕ}
    {inb2 : ∀ x, off x + (⟨2, ![n, 128]⟩ : Shape).size x ≤ (⟨2, ![N, 128]⟩ : Shape).size x} (hoff : off = ![n * k, 0]) :
    (fun y => Y ((Rect.unit (s := (⟨2, ![N, 128]⟩ : Shape)) off (⟨2, ![n, 128]⟩ : Shape).size inb2).toLoadRect.idx y)) = rowB hN X n k := by
  funext y
  refine (h _).trans (pick_eq _ _ _ _ fun x => ?_).symm
  subst hoff
  match x with
  | ⟨0, _⟩ => rfl
  | ⟨1, _⟩ => rfl
  | ⟨2, _⟩ => show n * k + 1 * (y 0).val = n * k + (y 0).val; omega
  | ⟨3, _⟩ => show 0 + 1 * (y 1).val = (y 1).val; omega

/-- A block of columns of an array read with its unit axes dropped. -/
theorem col_read {α : Type} {N D n : ℕ} (hN : 0 < N) (hD : 0 < D) (X : (⟨4, ![1, 1, D, N]⟩ : Shape).Idx → α) (Y : (⟨2, ![D, N]⟩ : Shape).Idx → α)
    (h : ∀ j, Y j = X (ValueIdx.ix4 (0 : Fin 1) (0 : Fin 1) (j 0) (j 1))) (k : ℕ) {off : Fin 2 → ℕ}
    {inb2 : ∀ x, off x + (⟨2, ![D, n]⟩ : Shape).size x ≤ (⟨2, ![D, N]⟩ : Shape).size x} (hoff : off = ![0, n * k]) :
    (fun y => Y ((Rect.unit (s := (⟨2, ![D, N]⟩ : Shape)) off (⟨2, ![D, n]⟩ : Shape).size inb2).toLoadRect.idx y)) = colB hN hD X n k := by
  funext y
  refine (h _).trans (pick_eq _ _ _ _ fun x => ?_).symm
  subst hoff
  match x with
  | ⟨0, _⟩ => rfl
  | ⟨1, _⟩ => rfl
  | ⟨2, _⟩ => show 0 + 1 * (y 0).val = (y 0).val; omega
  | ⟨3, _⟩ => show n * k + 1 * (y 1).val = n * k + (y 1).val; omega

theorem trip2_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole) (v15 : Vec F S1x1x256x128 .fp8e4m3) (v17 : Vec F S1x1x1x256 .f32)
    (f22 : Buf (Elt F) (arg22.view.loc (c : Thread nD τ))) (f6 : Buf (Elt F) (arg6.view.loc (c : Thread nD τ))) (f7 : Buf (Elt F) (arg7.view.loc (c : Thread nD τ))) (f8 : Buf (Elt F) (arg8.view.loc (c : Thread nD τ))) (W : S32768x128.Idx → F .f32) (hW : ∀ y, arg22.view.read (Elt F) f22 y = W y) (k : Fin k0_t2_loop.trips) (acc : St F) :
    (iprop((arg22.view.loc (c : Thread nD τ) ↦[arg22.view.set]{fullShare} f22) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8)) : sProp 𝕄G) ⊢ wp frame (wpE (defs₀ (F := F)) 𝒱 (c : Thread nD τ) bd) E (k0_t2_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v15 v17 k acc)
      (fun yld => iprop(⌜yld = step2 (k0_pay158 v15) (k0_pay159 v17) (kpB (arg6.view.read (Elt F) f6) k.val) (kspB W k.val) (vtpB (arg7.view.read (Elt F) f7) k.val) (vspB (arg8.view.read (Elt F) f8) k.val) acc⌝ ∗ (arg22.view.loc (c : Thread nD τ) ↦[arg22.view.set]{fullShare} f22) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8))) := by
  have hk : k.val < 64 := Nat.lt_of_lt_of_le k.isLt k0_t2_abs.2.1
  unfold k0_t2_body
  iintro ⟨H22, H6, H7, H8⟩
  sl_exec
  sl_step
  isplitr
  · ipureintro
    show step2 _ _ _ _ _ _ _ = step2 _ _ _ _ _ _ _
    congr 1
    · funext y
      refine (sq3_read arg6 _ _ f6 _).trans (pick_eq _ _ _ _ fun x => ?_).symm
      have ho := k0_off4_eq k
      match x with
      | ⟨0, _⟩ => rfl
      | ⟨1, _⟩ =>
        have h1 : k0_off4 k 0 = 512 * k.val := congrFun ho 0
        show k0_off4 k 0 + 1 * (y 0).val = 512 * k.val + (y 0).val; omega
      | ⟨2, _⟩ =>
        have h1 : k0_off4 k 1 = 0 := congrFun ho 1
        show k0_off4 k 1 + 1 * (y 1).val = (y 1).val; omega
    · funext y
      refine (hW _).trans (pick_eq W _ _ _ fun x => ?_).symm
      have ho := k0_off4_eq k
      match x with
      | ⟨0, _⟩ =>
        have h1 : k0_off4 k 0 = 512 * k.val := congrFun ho 0
        show k0_off4 k 0 + 1 * (y 0).val = 512 * k.val + (y 0).val; omega
      | ⟨1, _⟩ =>
        have h1 : k0_off4 k 1 = 0 := congrFun ho 1
        show k0_off4 k 1 + 1 * (y 1).val = (y 1).val; omega
    · funext y
      refine (sq3_read arg7 _ _ f7 _).trans (pick_eq _ _ _ _ fun x => ?_).symm
      have ho := k0_off5_eq k
      match x with
      | ⟨0, _⟩ => rfl
      | ⟨1, _⟩ =>
        have h1 : k0_off5 k 0 = 0 := congrFun ho 0
        show k0_off5 k 0 + 1 * (y 0).val = (y 0).val; omega
      | ⟨2, _⟩ =>
        have h1 : k0_off5 k 1 = 512 * k.val := congrFun ho 1
        show k0_off5 k 1 + 1 * (y 1).val = 512 * k.val + (y 1).val; omega
    · funext y
      refine (sq3_read arg8 _ _ f8 _).trans (pick_eq _ _ _ _ fun x => ?_).symm
      have ho := k0_off6_eq k
      match x with
      | ⟨0, _⟩ => rfl
      | ⟨1, _⟩ => exact Nat.lt_one_iff.mp (Fin.isLt _)
      | ⟨2, _⟩ =>
        have h1 : k0_off6 k 1 = 512 * k.val := congrFun ho 1
        show k0_off6 k 1 + 1 * (y 1).val = 512 * k.val + (y 1).val; omega
  isplitl [H22]; · iexact H22
  isplitl [H6]; · iexact H6
  isplitl [H7]; · iexact H7
  iexact H8

set_option warn.classDefReducibility false in
/-- The pass over the prompt by its invariant: the carried state is the recursion's. -/
def inv2 (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole) (v15 : Vec F S1x1x256x128 .fp8e4m3) (v17 : Vec F S1x1x1x256 .f32)
    (f22 : Buf (Elt F) (arg22.view.loc (c : Thread nD τ))) (f6 : Buf (Elt F) (arg6.view.loc (c : Thread nD τ))) (f7 : Buf (Elt F) (arg7.view.loc (c : Thread nD τ))) (f8 : Buf (Elt F) (arg8.view.loc (c : Thread nD τ))) (W : S32768x128.Idx → F .f32) (hW : ∀ y, arg22.view.read (Elt F) f22 y = W y) :
    LoopInvTy_k0_t2 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v15 v17 (k0_pay160 (F := F), k0_pay161 (F := F), k0_pay162 (F := F)) where
  inv k acc := iprop((arg22.view.loc (c : Thread nD τ) ↦[arg22.view.set]{fullShare} f22) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ ⌜acc = st2 (k0_pay158 v15) (k0_pay159 v17) (arg6.view.read (Elt F) f6) W (arg7.view.read (Elt F) f7) (arg8.view.read (Elt F) f8) k⌝)
  step k acc := by
    iintro ⟨H22, H6, H7, H8, %h⟩
    subst h
    iapply (wp_wand_r Idealize.ShloMosaic.frame (wpE (defs₀ (F := F)) 𝒱 (c : Thread nD τ) bd) E)
    isplitl [H22 H6 H7 H8]
    · iapply (trip2_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v15 v17 f22 f6 f7 f8 W hW k _)
      isplitl [H22]; · iexact H22
      isplitl [H6]; · iexact H6
      isplitl [H7]; · iexact H7
      iexact H8
    · iintro %yld ⟨%h, H22, H6, H7, H8⟩
      isplitl [H22]; · iexact H22
      isplitl [H6]; · iexact H6
      isplitl [H7]; · iexact H7
      isplitl [H8]; · iexact H8
      ipureintro
      exact h

theorem trip3_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole) (v9 : BitVec 32) (v16 : FVec F S256x128 .fp8e4m3) (v20 : FVec F S1x256 .f32) (v25_0 : FVec F S128x256 .f32) (v25_1 : FVec F S1x256 .f32) (v25_2 : FVec F S1x256 .f32) (v26 : FVec F S128x256 .f32)
    (f14 : Buf (Elt F) (arg14.view.loc (c : Thread nD τ))) (f17 : Buf (Elt F) (arg17.view.loc (c : Thread nD τ))) (f15 : Buf (Elt F) (arg15.view.loc (c : Thread nD τ))) (f16 : Buf (Elt F) (arg16.view.loc (c : Thread nD τ))) (k : Fin k0_t3_loop.trips) (acc : St F) :
    (iprop((arg14.view.loc (c : Thread nD τ) ↦[arg14.view.set]{fullShare} f14) ∗ (arg17.view.loc (c : Thread nD τ) ↦[arg17.view.set]{fullShare} f17) ∗ (arg15.view.loc (c : Thread nD τ) ↦[arg15.view.set]{fullShare} f15) ∗ (arg16.view.loc (c : Thread nD τ) ↦[arg16.view.set]{fullShare} f16)) : sProp 𝕄G) ⊢ wp frame (wpE (defs₀ (F := F)) 𝒱 (c : Thread nD τ) bd) E (k0_t3_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v16 v20 v25_0 v25_1 v25_2 v26 k acc)
      (fun yld => iprop(⌜yld = step3 v16 v20  (rowB (by decide) (arg14.view.read (Elt F) f14) 128 k.val) (rowB (by decide) (arg17.view.read (Elt F) f17) 128 k.val) (colB (by decide) (by decide) (arg15.view.read (Elt F) f15) 128 k.val) (colB (by decide) (by decide) (arg16.view.read (Elt F) f16) 128 k.val) acc⌝ ∗ (arg14.view.loc (c : Thread nD τ) ↦[arg14.view.set]{fullShare} f14) ∗ (arg17.view.loc (c : Thread nD τ) ↦[arg17.view.set]{fullShare} f17) ∗ (arg15.view.loc (c : Thread nD τ) ↦[arg15.view.set]{fullShare} f15) ∗ (arg16.view.loc (c : Thread nD τ) ↦[arg16.view.set]{fullShare} f16))) := by
  have hk : k.val < 3 := Nat.lt_of_lt_of_le k.isLt k0_t3_abs.2.1
  unfold k0_t3_body
  iintro ⟨H14, H17, H15, H16⟩
  sl_exec
  sl_step
  isplitr
  · ipureintro
    show step3 _ _ _ _ _ _ _ = step3 _ _ _ _ _ _ _
    congr 1
    · exact row_read (by decide) _ _ (sq4_read arg14 _ _ f14) k.val (k0_off7_eq k)
    · exact row_read (by decide) _ _ (sq4_read arg17 _ _ f17) k.val (k0_off7_eq k)
    · exact col_read (by decide) (by decide) _ _ (sq4_read arg15 _ _ f15) k.val (k0_off8_eq k)
    · exact col_read (by decide) (by decide) _ _ (sq4_read arg16 _ _ f16) k.val (k0_off9_eq k)
  isplitl [H14]; · iexact H14
  isplitl [H17]; · iexact H17
  isplitl [H15]; · iexact H15
  iexact H16

set_option warn.classDefReducibility false in
/-- The pass over the middle segment by its invariant. -/
def inv3 (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole) (v9 : BitVec 32) (v16 : FVec F S256x128 .fp8e4m3) (v20 : FVec F S1x256 .f32) (v25_0 : FVec F S128x256 .f32) (v25_1 : FVec F S1x256 .f32) (v25_2 : FVec F S1x256 .f32) (v26 : FVec F S128x256 .f32)
    (f14 : Buf (Elt F) (arg14.view.loc (c : Thread nD τ))) (f17 : Buf (Elt F) (arg17.view.loc (c : Thread nD τ))) (f15 : Buf (Elt F) (arg15.view.loc (c : Thread nD τ))) (f16 : Buf (Elt F) (arg16.view.loc (c : Thread nD τ))) :
    LoopInvTy_k0_t3 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v16 v20 v25_0 v25_1 v25_2 v26 (k0_pay163 (F := F), k0_pay164 (F := F), k0_pay165 (F := F)) where
  inv k acc := iprop((arg14.view.loc (c : Thread nD τ) ↦[arg14.view.set]{fullShare} f14) ∗ (arg17.view.loc (c : Thread nD τ) ↦[arg17.view.set]{fullShare} f17) ∗ (arg15.view.loc (c : Thread nD τ) ↦[arg15.view.set]{fullShare} f15) ∗ (arg16.view.loc (c : Thread nD τ) ↦[arg16.view.set]{fullShare} f16) ∗ ⌜acc = st3 v16 v20  (arg14.view.read (Elt F) f14) (arg17.view.read (Elt F) f17) (arg15.view.read (Elt F) f15) (arg16.view.read (Elt F) f16) k⌝)
  step k acc := by
    iintro ⟨H14, H17, H15, H16, %h⟩
    subst h
    iapply (wp_wand_r Idealize.ShloMosaic.frame (wpE (defs₀ (F := F)) 𝒱 (c : Thread nD τ) bd) E)
    isplitl [H14 H17 H15 H16]
    · iapply (trip3_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v16 v20 v25_0 v25_1 v25_2 v26 f14 f17 f15 f16 k _)
      isplitl [H14]; · iexact H14
      isplitl [H17]; · iexact H17
      isplitl [H15]; · iexact H15
      iexact H16
    · iintro %yld ⟨%h, H14, H17, H15, H16⟩
      isplitl [H14]; · iexact H14
      isplitl [H17]; · iexact H17
      isplitl [H15]; · iexact H15
      isplitl [H16]; · iexact H16
      ipureintro
      exact h

theorem trip4_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole) (v9 : BitVec 32) (v16 : FVec F S256x128 .fp8e4m3) (v20 : FVec F S1x256 .f32) (v25_0 : FVec F S128x256 .f32) (v25_1 : FVec F S1x256 .f32) (v25_2 : FVec F S1x256 .f32) (v26 : FVec F S128x256 .f32) (v31 : BitVec 32)
    (f10 : Buf (Elt F) (arg10.view.loc (c : Thread nD τ))) (f13 : Buf (Elt F) (arg13.view.loc (c : Thread nD τ))) (f11 : Buf (Elt F) (arg11.view.loc (c : Thread nD τ))) (f12 : Buf (Elt F) (arg12.view.loc (c : Thread nD τ))) (k : Fin k0_t4_loop.trips) (acc : St F) :
    (iprop((arg10.view.loc (c : Thread nD τ) ↦[arg10.view.set]{fullShare} f10) ∗ (arg13.view.loc (c : Thread nD τ) ↦[arg13.view.set]{fullShare} f13) ∗ (arg11.view.loc (c : Thread nD τ) ↦[arg11.view.set]{fullShare} f11) ∗ (arg12.view.loc (c : Thread nD τ) ↦[arg12.view.set]{fullShare} f12)) : sProp 𝕄G) ⊢ wp frame (wpE (defs₀ (F := F)) 𝒱 (c : Thread nD τ) bd) E (k0_t4_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v16 v20 v25_0 v25_1 v25_2 v26 v31 k acc)
      (fun yld => iprop(⌜yld = step4 v16 v20 v31 k (rowB (by decide) (arg10.view.read (Elt F) f10) 256 k.val) (rowB (by decide) (arg13.view.read (Elt F) f13) 256 k.val) (colB (by decide) (by decide) (arg11.view.read (Elt F) f11) 256 k.val) (colB (by decide) (by decide) (arg12.view.read (Elt F) f12) 256 k.val) acc⌝ ∗ (arg10.view.loc (c : Thread nD τ) ↦[arg10.view.set]{fullShare} f10) ∗ (arg13.view.loc (c : Thread nD τ) ↦[arg13.view.set]{fullShare} f13) ∗ (arg11.view.loc (c : Thread nD τ) ↦[arg11.view.set]{fullShare} f11) ∗ (arg12.view.loc (c : Thread nD τ) ↦[arg12.view.set]{fullShare} f12))) := by
  have hk : k.val < 2 := Nat.lt_of_lt_of_le k.isLt k0_t4_abs.2.1
  unfold k0_t4_body
  iintro ⟨H10, H13, H11, H12⟩
  sl_exec
  sl_step
  isplitr
  · ipureintro
    show step4 _ _ _ _ _ _ _ _ _ = step4 _ _ _ _ _ _ _ _ _
    congr 1
    · exact row_read (by decide) _ _ (sq4_read arg10 _ _ f10) k.val (k0_off10_eq k)
    · exact row_read (by decide) _ _ (sq4_read arg13 _ _ f13) k.val (k0_off10_eq k)
    · exact col_read (by decide) (by decide) _ _ (sq4_read arg11 _ _ f11) k.val (k0_off11_eq k)
    · exact col_read (by decide) (by decide) _ _ (sq4_read arg12 _ _ f12) k.val (k0_off12_eq k)
  isplitl [H10]; · iexact H10
  isplitl [H13]; · iexact H13
  isplitl [H11]; · iexact H11
  iexact H12

set_option warn.classDefReducibility false in
/-- The pass over the point's own keys by its invariant. -/
def inv4 (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole) (v9 : BitVec 32) (v16 : FVec F S256x128 .fp8e4m3) (v20 : FVec F S1x256 .f32) (v25_0 : FVec F S128x256 .f32) (v25_1 : FVec F S1x256 .f32) (v25_2 : FVec F S1x256 .f32) (v26 : FVec F S128x256 .f32) (v31 : BitVec 32)
    (f10 : Buf (Elt F) (arg10.view.loc (c : Thread nD τ))) (f13 : Buf (Elt F) (arg13.view.loc (c : Thread nD τ))) (f11 : Buf (Elt F) (arg11.view.loc (c : Thread nD τ))) (f12 : Buf (Elt F) (arg12.view.loc (c : Thread nD τ))) :
    LoopInvTy_k0_t4 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v16 v20 v25_0 v25_1 v25_2 v26 v31 (k0_pay167 (F := F), k0_pay168 (F := F), k0_pay169 (F := F)) where
  inv k acc := iprop((arg10.view.loc (c : Thread nD τ) ↦[arg10.view.set]{fullShare} f10) ∗ (arg13.view.loc (c : Thread nD τ) ↦[arg13.view.set]{fullShare} f13) ∗ (arg11.view.loc (c : Thread nD τ) ↦[arg11.view.set]{fullShare} f11) ∗ (arg12.view.loc (c : Thread nD τ) ↦[arg12.view.set]{fullShare} f12) ∗ ⌜acc = st4 v16 v20 v31 (arg10.view.read (Elt F) f10) (arg13.view.read (Elt F) f13) (arg11.view.read (Elt F) f11) (arg12.view.read (Elt F) f12) k⌝)
  step k acc := by
    iintro ⟨H10, H13, H11, H12, %h⟩
    subst h
    iapply (wp_wand_r Idealize.ShloMosaic.frame (wpE (defs₀ (F := F)) 𝒱 (c : Thread nD τ) bd) E)
    isplitl [H10 H13 H11 H12]
    · iapply (trip4_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v16 v20 v25_0 v25_1 v25_2 v26 v31 f10 f13 f11 f12 k _)
      isplitl [H10]; · iexact H10
      isplitl [H13]; · iexact H13
      isplitl [H11]; · iexact H11
      iexact H12
    · iintro %yld ⟨%h, H10, H13, H11, H12⟩
      isplitl [H10]; · iexact H10
      isplitl [H13]; · iexact H13
      isplitl [H11]; · iexact H11
      isplitl [H12]; · iexact H12
      ipureintro
      have hl : k.val < k0_t4_loop.trips := k.isLt
      rw [h, st4.eq_2, dif_pos hl]

end Cert.Kernel.Hyd
-- ==== Proof.Hyd.KernelRun.lean ====
module

public import proofs.«01_k».proof.Proof.Hyd.KernelBody

@[expose] public section

set_option maxRecDepth 16384
set_option maxHeartbeats 4000000

/-! The run of the kernel's body at one grid point. -/

noncomputable section

namespace Cert.Kernel.Hyd

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- A load of a whole window reads the window. -/
theorem readAt_whole {κ : Kind} {sp : Space} {s : Shape} {e : EltTy} (m : Memref sig κ sp s e) (off : Fin s.rank → ℕ) (inb : ∀ a, off a + s.size a ≤ s.size a)
    (f : BufTy.Contents (Elt F) m.view.ty) : m.view.readAt (Elt F) (Rect.unit (s := s) off s.size inb).toLoadRect f = m.view.read (Elt F) f := by
  funext y
  show m.view.read (Elt F) f _ = m.view.read (Elt F) f y
  congr 1
  funext a
  apply Fin.ext
  show off a + 1 * (y a).val = (y a).val
  have := inb a
  omega

/-- A program run to a known result, and then what follows it. -/
theorem run_bind {α β : Type} {𝒱 : Variants} {c : Dev nD} {bd : Option 𝒱.V} {E : Set ℕ} {P R : sProp 𝕄G} {a : α} {p : Prog (TpuEff nD τ sig (Elt F) Λ₀ .tc) α}
    {K : α → Prog (TpuEff nD τ sig (Elt F) Λ₀ .tc) β} {Q : β → sProp 𝕄G}
    (hp : P ⊢ wp frame (wpE (defs₀ (F := F)) 𝒱 (c : Thread nD τ) bd) E p (fun x => iprop(⌜x = a⌝ ∗ R))) :
    iprop(P ∗ (R -∗ wp frame (wpE (defs₀ (F := F)) 𝒱 (c : Thread nD τ) bd) E (K a) Q)) ⊢ wp frame (wpE (defs₀ (F := F)) 𝒱 (c : Thread nD τ) bd) E (p >>= K) Q := by
  rw [wp_bind]
  iintro ⟨HP, HK⟩
  iapply (wp_wand_r Idealize.ShloMosaic.frame (wpE (defs₀ (F := F)) 𝒱 (c : Thread nD τ) bd) E)
  isplitl [HP]
  · iapply hp
    iexact HP
  iintro %x ⟨%hx, HR⟩
  subst hx
  iapply HK
  iexact HR

theorem loop2_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole) (v15 : Vec F S1x1x256x128 .fp8e4m3) (v17 : Vec F S1x1x1x256 .f32)
    (f22 : Buf (Elt F) (arg22.view.loc (c : Thread nD τ))) (f6 : Buf (Elt F) (arg6.view.loc (c : Thread nD τ))) (f7 : Buf (Elt F) (arg7.view.loc (c : Thread nD τ))) (f8 : Buf (Elt F) (arg8.view.loc (c : Thread nD τ))) (W : S32768x128.Idx → F .f32) (hW : ∀ y, arg22.view.read (Elt F) f22 y = W y) :
    (iprop((arg22.view.loc (c : Thread nD τ) ↦[arg22.view.set]{fullShare} f22) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8)) : sProp 𝕄G) ⊢ wp frame (wpE (defs₀ (F := F)) 𝒱 (c : Thread nD τ) bd) E
      (Scf.Loop.for k0_t2_loop k0_t2_ok (k0_pay160 (F := F), k0_pay161 (F := F), k0_pay162 (F := F)) (k0_t2_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v15 v17))
      (fun x => iprop(⌜x = st2 (k0_pay158 v15) (k0_pay159 v17) (arg6.view.read (Elt F) f6) W (arg7.view.read (Elt F) f7) (arg8.view.read (Elt F) f8) 64⌝ ∗ (arg22.view.loc (c : Thread nD τ) ↦[arg22.view.set]{fullShare} f22) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8))) := by
  iintro ⟨H22, H6, H7, H8⟩
  iapply (exec_loop_last Idealize.ShloMosaic.frame (wpE (defs₀ (F := F)) 𝒱 (c : Thread nD τ) bd) E _ _ _ _ _ _ (inv2 (F := F) 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v15 v17 f22 f6 f7 f8 W hW)) $$ [H22 H6 H7 H8]
  · unfold inv2; dsimp only
    isplitl [H22]; · iexact H22
    isplitl [H6]; · iexact H6
    isplitl [H7]; · iexact H7
    isplitl [H8]; · iexact H8
    ipureintro; rfl
  iintro %a HI
  unfold inv2; dsimp only
  icases HI with ⟨H22, H6, H7, H8, %h⟩
  isplitr
  · ipureintro; exact h
  isplitl [H22]; · iexact H22
  isplitl [H6]; · iexact H6
  isplitl [H7]; · iexact H7
  iexact H8

theorem loop3_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole) (v9 : BitVec 32) (v16 : FVec F S256x128 .fp8e4m3) (v20 : FVec F S1x256 .f32) (v25_0 : FVec F S128x256 .f32) (v25_1 : FVec F S1x256 .f32) (v25_2 : FVec F S1x256 .f32) (v26 : FVec F S128x256 .f32)
    (f14 : Buf (Elt F) (arg14.view.loc (c : Thread nD τ))) (f17 : Buf (Elt F) (arg17.view.loc (c : Thread nD τ))) (f15 : Buf (Elt F) (arg15.view.loc (c : Thread nD τ))) (f16 : Buf (Elt F) (arg16.view.loc (c : Thread nD τ)))  :
    (iprop((arg14.view.loc (c : Thread nD τ) ↦[arg14.view.set]{fullShare} f14) ∗ (arg17.view.loc (c : Thread nD τ) ↦[arg17.view.set]{fullShare} f17) ∗ (arg15.view.loc (c : Thread nD τ) ↦[arg15.view.set]{fullShare} f15) ∗ (arg16.view.loc (c : Thread nD τ) ↦[arg16.view.set]{fullShare} f16)) : sProp 𝕄G) ⊢ wp frame (wpE (defs₀ (F := F)) 𝒱 (c : Thread nD τ) bd) E
      (Scf.Loop.for k0_t3_loop k0_t3_ok (k0_pay163 (F := F), k0_pay164 (F := F), k0_pay165 (F := F)) (k0_t3_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v16 v20 v25_0 v25_1 v25_2 v26))
      (fun x => iprop(⌜x = st3 v16 v20 (arg14.view.read (Elt F) f14) (arg17.view.read (Elt F) f17) (arg15.view.read (Elt F) f15) (arg16.view.read (Elt F) f16) 3⌝ ∗ (arg14.view.loc (c : Thread nD τ) ↦[arg14.view.set]{fullShare} f14) ∗ (arg17.view.loc (c : Thread nD τ) ↦[arg17.view.set]{fullShare} f17) ∗ (arg15.view.loc (c : Thread nD τ) ↦[arg15.view.set]{fullShare} f15) ∗ (arg16.view.loc (c : Thread nD τ) ↦[arg16.view.set]{fullShare} f16))) := by
  iintro ⟨H14, H17, H15, H16⟩
  iapply (exec_loop_last Idealize.ShloMosaic.frame (wpE (defs₀ (F := F)) 𝒱 (c : Thread nD τ) bd) E _ _ _ _ _ _ (inv3 (F := F) 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v16 v20 v25_0 v25_1 v25_2 v26 f14 f17 f15 f16)) $$ [H14 H17 H15 H16]
  · unfold inv3; dsimp only
    isplitl [H14]; · iexact H14
    isplitl [H17]; · iexact H17
    isplitl [H15]; · iexact H15
    isplitl [H16]; · iexact H16
    ipureintro; rfl
  iintro %a HI
  unfold inv3; dsimp only
  icases HI with ⟨H14, H17, H15, H16, %h⟩
  isplitr
  · ipureintro; exact h
  isplitl [H14]; · iexact H14
  isplitl [H17]; · iexact H17
  isplitl [H15]; · iexact H15
  iexact H16

theorem loop4_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole) (v9 : BitVec 32) (v16 : FVec F S256x128 .fp8e4m3) (v20 : FVec F S1x256 .f32) (v25_0 : FVec F S128x256 .f32) (v25_1 : FVec F S1x256 .f32) (v25_2 : FVec F S1x256 .f32) (v26 : FVec F S128x256 .f32) (v31 : BitVec 32)
    (f10 : Buf (Elt F) (arg10.view.loc (c : Thread nD τ))) (f13 : Buf (Elt F) (arg13.view.loc (c : Thread nD τ))) (f11 : Buf (Elt F) (arg11.view.loc (c : Thread nD τ))) (f12 : Buf (Elt F) (arg12.view.loc (c : Thread nD τ)))  :
    (iprop((arg10.view.loc (c : Thread nD τ) ↦[arg10.view.set]{fullShare} f10) ∗ (arg13.view.loc (c : Thread nD τ) ↦[arg13.view.set]{fullShare} f13) ∗ (arg11.view.loc (c : Thread nD τ) ↦[arg11.view.set]{fullShare} f11) ∗ (arg12.view.loc (c : Thread nD τ) ↦[arg12.view.set]{fullShare} f12)) : sProp 𝕄G) ⊢ wp frame (wpE (defs₀ (F := F)) 𝒱 (c : Thread nD τ) bd) E
      (Scf.Loop.for k0_t4_loop k0_t4_ok (k0_pay167 (F := F), k0_pay168 (F := F), k0_pay169 (F := F)) (k0_t4_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v16 v20 v25_0 v25_1 v25_2 v26 v31))
      (fun x => iprop(⌜x = st4 v16 v20 v31 (arg10.view.read (Elt F) f10) (arg13.view.read (Elt F) f13) (arg11.view.read (Elt F) f11) (arg12.view.read (Elt F) f12) 2⌝ ∗ (arg10.view.loc (c : Thread nD τ) ↦[arg10.view.set]{fullShare} f10) ∗ (arg13.view.loc (c : Thread nD τ) ↦[arg13.view.set]{fullShare} f13) ∗ (arg11.view.loc (c : Thread nD τ) ↦[arg11.view.set]{fullShare} f11) ∗ (arg12.view.loc (c : Thread nD τ) ↦[arg12.view.set]{fullShare} f12))) := by
  iintro ⟨H10, H13, H11, H12⟩
  iapply (exec_loop_last Idealize.ShloMosaic.frame (wpE (defs₀ (F := F)) 𝒱 (c : Thread nD τ) bd) E _ _ _ _ _ _ (inv4 (F := F) 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v16 v20 v25_0 v25_1 v25_2 v26 v31 f10 f13 f11 f12)) $$ [H10 H13 H11 H12]
  · unfold inv4; dsimp only
    isplitl [H10]; · iexact H10
    isplitl [H13]; · iexact H13
    isplitl [H11]; · iexact H11
    isplitl [H12]; · iexact H12
    ipureintro; rfl
  iintro %a HI
  unfold inv4; dsimp only
  icases HI with ⟨H10, H13, H11, H12, %h⟩
  isplitr
  · ipureintro; exact h
  isplitl [H10]; · iexact H10
  isplitl [H13]; · iexact H13
  isplitl [H11]; · iexact H11
  iexact H12

/-- The part of the body after the scratch is filled, through the pass over the prompt. -/
def part38_rest (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole) :
    Prog (TpuEff nD τ sig (Elt F) Λ₀ .tc) (Σ' (v9 : BitVec 32) (v16 : FVec F S256x128 .fp8e4m3) (v20 : FVec F S1x256 .f32) (v25_0 : FVec F S128x256 .f32) (v25_1 : FVec F S1x256 .f32) (v25_2 : FVec F S1x256 .f32), FVec F S128x256 .f32) := do
  let v15 : Vec F S1x1x256x128 .fp8e4m3 ← Prog.lift (.load arg4 (Rect.unit (s := S1x1x256x128) ![0, 0, 0, 0] S1x1x256x128.size inb_S1x1x256x128_S1x1x256x128_0_0_0_0).toLoadRect (View.loadsAt_vmem h_S1x1x256x128))
  let v17 : Vec F S1x1x1x256 .f32 ← Prog.lift (.load arg5 (Rect.unit (s := S1x1x1x256) ![0, 0, 0, 0] S1x1x1x256.size inb_S1x1x1x256_S1x1x1x256_0_0_0_0).toLoadRect (View.loadsAt_vmem h_S1x1x1x256))
  let (v25_0, v25_1, v25_2) ← Scf.Loop.for k0_t2_loop k0_t2_ok (k0_pay160 (F := F), k0_pay161 (F := F), k0_pay162 (F := F)) (k0_t2_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v15 v17)
  pure ⟨par i, k0_pay158 v15, k0_pay159 v17, v25_0, v25_1, v25_2, k0_pay163 (F := F)⟩

theorem part38_split (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole) :
    k0_part38 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22
      = if h : k0_cond1 i = 1#1 then (Scf.Loop.for k0_t1_loop (k0_t1_ok i h) ⟨⟩ (k0_t1_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h) >>= fun _ => part38_rest i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
        else part38_rest i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 := by
  rw [k0_part38_eq_skeleton]
  unfold k0_part38_skel part38_rest par
  rfl

theorem part38_rest_run (c : Dev nD) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f22 : Buf (Elt F) (arg22.view.loc (c : Thread nD τ)))
    (W : S32768x128.Idx → F .f32) (hW : ∀ y, arg22.view.read (Elt F) f22 y = W y) :
    (iprop((arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg22.view.loc (c : Thread nD τ) ↦[arg22.view.set]{fullShare} f22)) : sProp 𝕄G) ⊢ wp frame (wpE (defs₀ (F := F)) Variants.none (c : Thread nD τ) none) E
      (part38_rest (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
      (fun x => iprop(⌜x = ⟨par i, k0_pay158 (arg4.view.read (Elt F) f4), k0_pay159 (arg5.view.read (Elt F) f5),
        (st2 (k0_pay158 (arg4.view.read (Elt F) f4)) (k0_pay159 (arg5.view.read (Elt F) f5)) (arg6.view.read (Elt F) f6) W (arg7.view.read (Elt F) f7) (arg8.view.read (Elt F) f8) 64).1,
        (st2 (k0_pay158 (arg4.view.read (Elt F) f4)) (k0_pay159 (arg5.view.read (Elt F) f5)) (arg6.view.read (Elt F) f6) W (arg7.view.read (Elt F) f7) (arg8.view.read (Elt F) f8) 64).2.1,
        (st2 (k0_pay158 (arg4.view.read (Elt F) f4)) (k0_pay159 (arg5.view.read (Elt F) f5)) (arg6.view.read (Elt F) f6) W (arg7.view.read (Elt F) f7) (arg8.view.read (Elt F) f8) 64).2.2, k0_pay163 (F := F)⟩⌝ ∗
        (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg22.view.loc (c : Thread nD τ) ↦[arg22.view.set]{fullShare} f22))) := by
  unfold part38_rest
  iintro ⟨H4, H5, H6, H7, H8, H22⟩
  sl_exec
  iapply (run_bind (loop2_run (F := F) Variants.none c none E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ f22 f6 f7 f8 W hW))
  isplitl [H22 H6 H7 H8]
  · isplitl [H22]; · iexact H22
    isplitl [H6]; · iexact H6
    isplitl [H7]; · iexact H7
    iexact H8
  iintro ⟨H22, H6, H7, H8⟩
  dsimp only
  sl_step
  isplitr
  · ipureintro
    rw [readAt_whole, readAt_whole]
  isplitl [H4]; · iexact H4
  isplitl [H5]; · iexact H5
  isplitl [H6]; · iexact H6
  isplitl [H7]; · iexact H7
  isplitl [H8]; · iexact H8
  iexact H22

/-- The state after the pass over the prompt, from the windows' contents. -/
def s2 (X4 : Vec F S1x1x256x128 .fp8e4m3) (X5 : Vec F S1x1x1x256 .f32) (X6 : Vec F S1x32768x128 .fp8e4m3) (X7 : Vec F S1x128x32768 .fp8e4m3)
    (X8 : Vec F S1x1x32768 .bf16) (X9 : Vec F S1x8x4096 .f32) : St F :=
  st2 (k0_pay158 X4) (k0_pay159 X5) X6 (kspOf X9) X7 X8 64

/-- The state after the pass over the middle segment. -/
def s3 (X4 : Vec F S1x1x256x128 .fp8e4m3) (X5 : Vec F S1x1x1x256 .f32) (X14 : Vec F S1x1x384x128 .fp8e4m3) (X15 : Vec F S1x1x128x384 .fp8e4m3)
    (X16 : Vec F S1x1x1x384 .bf16) (X17 : Vec F S1x1x384x128 .f32) : St F :=
  st3 (k0_pay158 X4) (k0_pay159 X5) X14 X17 X15 X16 3

/-- The state after the pass over the point's own keys. -/
def s4 (i : grid0.Coords) (X4 : Vec F S1x1x256x128 .fp8e4m3) (X5 : Vec F S1x1x1x256 .f32) (X10 : Vec F S1x1x512x128 .fp8e4m3) (X11 : Vec F S1x1x128x512 .fp8e4m3)
    (X12 : Vec F S1x1x1x512 .bf16) (X13 : Vec F S1x1x512x128 .f32) : St F :=
  st4 (k0_pay158 X4) (k0_pay159 X5) (Scalar.muli (par i) 256#32) X10 X13 X11 X12 2

/-- What a point stores of the attention output, from the three passes' states. -/
def oO (a b d : St F) : FVec F S1x256x128 .bf16 :=
  k0_pay178 b.1 d.1 (k0_pay174 a.2.2 b.2.2 d.2.2) (k0_pay175 a.2.1 a.2.2 b.2.1 b.2.2 d.2.1 d.2.2) (k0_pay176 a.1 a.2.1 a.2.2 b.2.1 b.2.2 d.2.1 d.2.2)
    (k0_pay177 a.2.1 a.2.2 b.2.1 b.2.2 d.2.1 d.2.2)
/-- What it stores of the prompt's log-sum-exp. -/
def oP (a : St F) : FVec F S1x1x1x256 .f32 := k0_pay179 a.2.1 a.2.2
/-- What it stores of the middle segment's log-sum-exp. -/
def oM (b : St F) : FVec F S1x1x1x256 .f32 := k0_pay180 b.2.1 b.2.2
/-- What it stores of the log-sum-exp over its own keys. -/
def oC (i : grid0.Coords) (d : St F) : FVec F S1x1x1x256 .f32 :=
  k0_pay1 d.2.1 d.2.2 (iota .tc S1x256 32 [1] iota_S1x256_d1_w32) (k0_pay181 (par i))

/-- A store over a whole window leaves what was stored. -/
theorem read_store_whole {κ : Kind} {sp : Space} {s : Shape} {e : EltTy} (m : Memref sig κ sp s e) (off : Fin s.rank → ℕ) (inb : ∀ a, off a + s.size a ≤ s.size a)
    (f : BufTy.Contents (Elt F) m.view.ty) (w : s.Idx → Elt F e) :
    m.view.read (Elt F) (m.view.writes (Elt F) f [⟨Rect.unit (s := s) off s.size inb, w⟩]) = w := by
  funext y
  refine View.read_writes_cons_unit_of_mem m.view f inb w [] y y (off := off) rfl fun a => ?_
  have := inb a
  omega

theorem FillR_zero (c : Dev nD) (arg9 : Memref sig .tc .vmem S1x8x4096 .f32) (arg22 : Memref sig .tc .vmem S32768x128 .f32) (f9 : Buf (Elt F) (arg9.view.loc (c : Thread nD τ))) (f22 : Buf (Elt F) (arg22.view.loc (c : Thread nD τ))) :
    (iprop((arg9.view.loc (c : Thread nD τ) ↦[arg9.view.set]{fullShare} f9) ∗ (arg22.view.loc (c : Thread nD τ) ↦[arg22.view.set]{fullShare} f22)) : sProp 𝕄G) ⊢ FillR (F := F) c arg9 arg22 f9 0 0 := by
  unfold FillR
  iintro ⟨H9, H22⟩
  isplitl [H9]; · iexact H9
  iexists f22
  isplitr [H22]; · ipureintro; exact fun y hy => absurd hy (Nat.not_lt_zero _)
  iexact H22

theorem FillR_end (c : Dev nD) (arg9 : Memref sig .tc .vmem S1x8x4096 .f32) (arg22 : Memref sig .tc .vmem S32768x128 .f32) (f9 : Buf (Elt F) (arg9.view.loc (c : Thread nD τ))) :
    FillR (F := F) c arg9 arg22 f9 k0_t1_loop.trips 0 ⊢ iprop((arg9.view.loc (c : Thread nD τ) ↦[arg9.view.set]{fullShare} f9) ∗ ∃ g : Buf (Elt F) (arg22.view.loc (c : Thread nD τ)),
      ⌜∀ y, arg22.view.read (Elt F) g y = kspOf (arg9.view.read (Elt F) f9) y⌝ ∗ (arg22.view.loc (c : Thread nD τ) ↦[arg22.view.set]{fullShare} g)) := by
  unfold FillR
  iintro ⟨H9, %g, %hg, H22⟩
  isplitl [H9]; · iexact H9
  iexists g
  isplitr [H22]
  · ipureintro
    intro y
    refine hg y ?_
    have h : (y 0).val < 32768 := (y 0).isLt
    rw [show k0_t1_loop.trips = 32 by decide]
    omega
  iexact H22

theorem part38_run (c : Dev nD) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f22 : Buf (Elt F) (arg22.view.loc (c : Thread nD τ))) (hS : k0_cond1 i ≠ 1#1 → ∀ y, arg22.view.read (Elt F) f22 y = kspOf (arg9.view.read (Elt F) f9) y) :
    (iprop((arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg22.view.loc (c : Thread nD τ) ↦[arg22.view.set]{fullShare} f22)) : sProp 𝕄G) ⊢ wp frame (wpE (defs₀ (F := F)) Variants.none (c : Thread nD τ) none) E
      (k0_part38 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
      (fun x => iprop(⌜x = ⟨par i, k0_pay158 (arg4.view.read (Elt F) f4), k0_pay159 (arg5.view.read (Elt F) f5), (s2 (arg4.view.read (Elt F) f4) (arg5.view.read (Elt F) f5) (arg6.view.read (Elt F) f6) (arg7.view.read (Elt F) f7) (arg8.view.read (Elt F) f8) (arg9.view.read (Elt F) f9)).1,
        (s2 (arg4.view.read (Elt F) f4) (arg5.view.read (Elt F) f5) (arg6.view.read (Elt F) f6) (arg7.view.read (Elt F) f7) (arg8.view.read (Elt F) f8) (arg9.view.read (Elt F) f9)).2.1, (s2 (arg4.view.read (Elt F) f4) (arg5.view.read (Elt F) f5) (arg6.view.read (Elt F) f6) (arg7.view.read (Elt F) f7) (arg8.view.read (Elt F) f8) (arg9.view.read (Elt F) f9)).2.2, k0_pay163 (F := F)⟩⌝ ∗
        (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ ∃ g : Buf (Elt F) (arg22.view.loc (c : Thread nD τ)), ⌜∀ y, arg22.view.read (Elt F) g y = kspOf (arg9.view.read (Elt F) f9) y⌝ ∗
          (arg22.view.loc (c : Thread nD τ) ↦[arg22.view.set]{fullShare} g))) := by
  rw [part38_split]
  by_cases h : k0_cond1 i = 1#1
  · rw [dif_pos h]
    iintro ⟨H4, H5, H6, H7, H8, H9, H22⟩
    iapply (exec_loop Idealize.ShloMosaic.frame (wpE (defs₀ (F := F)) Variants.none (c : Thread nD τ) none) E _ _ _ _ _ _ (loopInv_k0_t1 (F := F) Variants.none c none E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h f9)) $$ [H9 H22]
    · unfold loopInv_k0_t1; dsimp only
      iapply (FillR_zero (F := F) c arg9 arg22 f9 f22)
      isplitl [H9]; · iexact H9
      iexact H22
    iintro %a HI
    unfold loopInv_k0_t1; dsimp only
    ihave HI2 := (FillR_end (F := F) c arg9 arg22 f9) $$ HI
    icases HI2 with ⟨H9, %g, %hg, H22⟩
    iapply (wp_wand_r Idealize.ShloMosaic.frame (wpE (defs₀ (F := F)) Variants.none (c : Thread nD τ) none) E)
    isplitl [H4 H5 H6 H7 H8 H22]
    · iapply (part38_rest_run c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f4 f5 f6 f7 f8 g _ hg)
      isplitl [H4]; · iexact H4
      isplitl [H5]; · iexact H5
      isplitl [H6]; · iexact H6
      isplitl [H7]; · iexact H7
      isplitl [H8]; · iexact H8
      iexact H22
    iintro %x ⟨%hx, H4, H5, H6, H7, H8, H22⟩
    isplitr; · ipureintro; exact hx
    isplitl [H4]; · iexact H4
    isplitl [H5]; · iexact H5
    isplitl [H6]; · iexact H6
    isplitl [H7]; · iexact H7
    isplitl [H8]; · iexact H8
    isplitl [H9]; · iexact H9
    iexists g
    isplitr; · ipureintro; exact hg
    iexact H22
  · rw [dif_neg h]
    iintro ⟨H4, H5, H6, H7, H8, H9, H22⟩
    iapply (wp_wand_r Idealize.ShloMosaic.frame (wpE (defs₀ (F := F)) Variants.none (c : Thread nD τ) none) E)
    isplitl [H4 H5 H6 H7 H8 H22]
    · iapply (part38_rest_run c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f4 f5 f6 f7 f8 f22 _ (hS h))
      isplitl [H4]; · iexact H4
      isplitl [H5]; · iexact H5
      isplitl [H6]; · iexact H6
      isplitl [H7]; · iexact H7
      isplitl [H8]; · iexact H8
      iexact H22
    iintro %x ⟨%hx, H4, H5, H6, H7, H8, H22⟩
    isplitr; · ipureintro; exact hx
    isplitl [H4]; · iexact H4
    isplitl [H5]; · iexact H5
    isplitl [H6]; · iexact H6
    isplitl [H7]; · iexact H7
    isplitl [H8]; · iexact H8
    isplitl [H9]; · iexact H9
    iexists f22
    isplitr; · ipureintro; exact hS h
    iexact H22

/-- The second part of the body: the passes over the middle segment and over the point's own keys. -/
theorem part39_run (c : Dev nD) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole) (v9 : BitVec 32) (v16 : FVec F S256x128 .fp8e4m3) (v20 : FVec F S1x256 .f32)
    (v25_0 : FVec F S128x256 .f32) (v25_1 : FVec F S1x256 .f32) (v25_2 : FVec F S1x256 .f32)
    (f14 : Buf (Elt F) (arg14.view.loc (c : Thread nD τ))) (f17 : Buf (Elt F) (arg17.view.loc (c : Thread nD τ))) (f15 : Buf (Elt F) (arg15.view.loc (c : Thread nD τ))) (f16 : Buf (Elt F) (arg16.view.loc (c : Thread nD τ))) (f10 : Buf (Elt F) (arg10.view.loc (c : Thread nD τ))) (f13 : Buf (Elt F) (arg13.view.loc (c : Thread nD τ))) (f11 : Buf (Elt F) (arg11.view.loc (c : Thread nD τ))) (f12 : Buf (Elt F) (arg12.view.loc (c : Thread nD τ))) :
    (iprop((arg14.view.loc (c : Thread nD τ) ↦[arg14.view.set]{fullShare} f14) ∗ (arg17.view.loc (c : Thread nD τ) ↦[arg17.view.set]{fullShare} f17) ∗ (arg15.view.loc (c : Thread nD τ) ↦[arg15.view.set]{fullShare} f15) ∗ (arg16.view.loc (c : Thread nD τ) ↦[arg16.view.set]{fullShare} f16) ∗ (arg10.view.loc (c : Thread nD τ) ↦[arg10.view.set]{fullShare} f10) ∗ (arg13.view.loc (c : Thread nD τ) ↦[arg13.view.set]{fullShare} f13) ∗ (arg11.view.loc (c : Thread nD τ) ↦[arg11.view.set]{fullShare} f11) ∗ (arg12.view.loc (c : Thread nD τ) ↦[arg12.view.set]{fullShare} f12)) : sProp 𝕄G) ⊢ wp frame (wpE (defs₀ (F := F)) Variants.none (c : Thread nD τ) none) E
      (k0_part39 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v16 v20 v25_0 v25_1 v25_2 (k0_pay163 (F := F)))
      (fun x => iprop(⌜x = ⟨(st3 v16 v20 (arg14.view.read (Elt F) f14) (arg17.view.read (Elt F) f17) (arg15.view.read (Elt F) f15) (arg16.view.read (Elt F) f16) 3).1, (st3 v16 v20 (arg14.view.read (Elt F) f14) (arg17.view.read (Elt F) f17) (arg15.view.read (Elt F) f15) (arg16.view.read (Elt F) f16) 3).2.1, (st3 v16 v20 (arg14.view.read (Elt F) f14) (arg17.view.read (Elt F) f17) (arg15.view.read (Elt F) f15) (arg16.view.read (Elt F) f16) 3).2.2, (st4 v16 v20 (Scalar.muli v9 256#32) (arg10.view.read (Elt F) f10) (arg13.view.read (Elt F) f13) (arg11.view.read (Elt F) f11) (arg12.view.read (Elt F) f12) 2).1, (st4 v16 v20 (Scalar.muli v9 256#32) (arg10.view.read (Elt F) f10) (arg13.view.read (Elt F) f13) (arg11.view.read (Elt F) f11) (arg12.view.read (Elt F) f12) 2).2.1, (st4 v16 v20 (Scalar.muli v9 256#32) (arg10.view.read (Elt F) f10) (arg13.view.read (Elt F) f13) (arg11.view.read (Elt F) f11) (arg12.view.read (Elt F) f12) 2).2.2, k0_pay174 v25_2 (st3 v16 v20 (arg14.view.read (Elt F) f14) (arg17.view.read (Elt F) f17) (arg15.view.read (Elt F) f15) (arg16.view.read (Elt F) f16) 3).2.2 (st4 v16 v20 (Scalar.muli v9 256#32) (arg10.view.read (Elt F) f10) (arg13.view.read (Elt F) f13) (arg11.view.read (Elt F) f11) (arg12.view.read (Elt F) f12) 2).2.2, k0_pay175 v25_1 v25_2 (st3 v16 v20 (arg14.view.read (Elt F) f14) (arg17.view.read (Elt F) f17) (arg15.view.read (Elt F) f15) (arg16.view.read (Elt F) f16) 3).2.1 (st3 v16 v20 (arg14.view.read (Elt F) f14) (arg17.view.read (Elt F) f17) (arg15.view.read (Elt F) f15) (arg16.view.read (Elt F) f16) 3).2.2 (st4 v16 v20 (Scalar.muli v9 256#32) (arg10.view.read (Elt F) f10) (arg13.view.read (Elt F) f13) (arg11.view.read (Elt F) f11) (arg12.view.read (Elt F) f12) 2).2.1 (st4 v16 v20 (Scalar.muli v9 256#32) (arg10.view.read (Elt F) f10) (arg13.view.read (Elt F) f13) (arg11.view.read (Elt F) f11) (arg12.view.read (Elt F) f12) 2).2.2, k0_pay176 v25_0 v25_1 v25_2 (st3 v16 v20 (arg14.view.read (Elt F) f14) (arg17.view.read (Elt F) f17) (arg15.view.read (Elt F) f15) (arg16.view.read (Elt F) f16) 3).2.1 (st3 v16 v20 (arg14.view.read (Elt F) f14) (arg17.view.read (Elt F) f17) (arg15.view.read (Elt F) f15) (arg16.view.read (Elt F) f16) 3).2.2 (st4 v16 v20 (Scalar.muli v9 256#32) (arg10.view.read (Elt F) f10) (arg13.view.read (Elt F) f13) (arg11.view.read (Elt F) f11) (arg12.view.read (Elt F) f12) 2).2.1 (st4 v16 v20 (Scalar.muli v9 256#32) (arg10.view.read (Elt F) f10) (arg13.view.read (Elt F) f13) (arg11.view.read (Elt F) f11) (arg12.view.read (Elt F) f12) 2).2.2, k0_pay177 v25_1 v25_2 (st3 v16 v20 (arg14.view.read (Elt F) f14) (arg17.view.read (Elt F) f17) (arg15.view.read (Elt F) f15) (arg16.view.read (Elt F) f16) 3).2.1 (st3 v16 v20 (arg14.view.read (Elt F) f14) (arg17.view.read (Elt F) f17) (arg15.view.read (Elt F) f15) (arg16.view.read (Elt F) f16) 3).2.2 (st4 v16 v20 (Scalar.muli v9 256#32) (arg10.view.read (Elt F) f10) (arg13.view.read (Elt F) f13) (arg11.view.read (Elt F) f11) (arg12.view.read (Elt F) f12) 2).2.1 (st4 v16 v20 (Scalar.muli v9 256#32) (arg10.view.read (Elt F) f10) (arg13.view.read (Elt F) f13) (arg11.view.read (Elt F) f11) (arg12.view.read (Elt F) f12) 2).2.2⟩⌝ ∗ (arg14.view.loc (c : Thread nD τ) ↦[arg14.view.set]{fullShare} f14) ∗ (arg17.view.loc (c : Thread nD τ) ↦[arg17.view.set]{fullShare} f17) ∗ (arg15.view.loc (c : Thread nD τ) ↦[arg15.view.set]{fullShare} f15) ∗ (arg16.view.loc (c : Thread nD τ) ↦[arg16.view.set]{fullShare} f16) ∗ (arg10.view.loc (c : Thread nD τ) ↦[arg10.view.set]{fullShare} f10) ∗ (arg13.view.loc (c : Thread nD τ) ↦[arg13.view.set]{fullShare} f13) ∗ (arg11.view.loc (c : Thread nD τ) ↦[arg11.view.set]{fullShare} f11) ∗ (arg12.view.loc (c : Thread nD τ) ↦[arg12.view.set]{fullShare} f12))) := by
  unfold k0_part39
  iintro ⟨H14, H17, H15, H16, H10, H13, H11, H12⟩
  iapply (run_bind (loop3_run (F := F) Variants.none c none E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v16 v20 v25_0 v25_1 v25_2 (k0_pay163 (F := F)) f14 f17 f15 f16))
  isplitl [H14 H17 H15 H16]
  · isplitl [H14]; · iexact H14
    isplitl [H17]; · iexact H17
    isplitl [H15]; · iexact H15
    iexact H16
  iintro ⟨H14, H17, H15, H16⟩
  dsimp only
  iapply (run_bind (loop4_run (F := F) Variants.none c none E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v16 v20 v25_0 v25_1 v25_2 (k0_pay163 (F := F)) (Scalar.muli v9 256#32) f10 f13 f11 f12))
  isplitl [H10 H13 H11 H12]
  · isplitl [H10]; · iexact H10
    isplitl [H13]; · iexact H13
    isplitl [H11]; · iexact H11
    iexact H12
  iintro ⟨H10, H13, H11, H12⟩
  dsimp only
  sl_step
  isplitr
  · ipureintro; rfl
  isplitl [H14]; · iexact H14
  isplitl [H17]; · iexact H17
  isplitl [H15]; · iexact H15
  isplitl [H16]; · iexact H16
  isplitl [H10]; · iexact H10
  isplitl [H13]; · iexact H13
  isplitl [H11]; · iexact H11
  iexact H12

/-- The third part of the body: three of the four stores. -/
theorem part40_run (c : Dev nD) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole) (v9 : BitVec 32)
    (v25_1 v25_2 : FVec F S1x256 .f32) (v30_0 : FVec F S128x256 .f32) (v30_1 v30_2 : FVec F S1x256 .f32) (v36_0 : FVec F S128x256 .f32)
    (v44 v51 : FVec F S1x256 .f32) (v54 : FVec F S128x256 .f32) (v55 : FVec F S1x256 .f32)
    (f18 : Buf (Elt F) (arg18.view.loc (c : Thread nD τ))) (f19 : Buf (Elt F) (arg19.view.loc (c : Thread nD τ))) (f21 : Buf (Elt F) (arg21.view.loc (c : Thread nD τ))) :
    (iprop((arg18.view.loc (c : Thread nD τ) ↦[arg18.view.set]{fullShare} f18) ∗ (arg19.view.loc (c : Thread nD τ) ↦[arg19.view.set]{fullShare} f19) ∗ (arg21.view.loc (c : Thread nD τ) ↦[arg21.view.set]{fullShare} f21)) : sProp 𝕄G) ⊢ wp frame (wpE (defs₀ (F := F)) Variants.none (c : Thread nD τ) none) E
      (k0_part40 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v25_1 v25_2 v30_0 v30_1 v30_2 v36_0 v44 v51 v54 v55)
      (fun x => iprop(⌜x = ⟨iota .tc S1x256 32 [1] iota_S1x256_d1_w32, k0_pay181 v9⟩⌝ ∗
        (∃ g : Buf (Elt F) (arg18.view.loc (c : Thread nD τ)), ⌜arg18.view.read (Elt F) g = k0_pay178 v30_0 v36_0 v44 v51 v54 v55⌝ ∗ (arg18.view.loc (c : Thread nD τ) ↦[arg18.view.set]{fullShare} g)) ∗
        (∃ g : Buf (Elt F) (arg19.view.loc (c : Thread nD τ)), ⌜arg19.view.read (Elt F) g = k0_pay179 v25_1 v25_2⌝ ∗ (arg19.view.loc (c : Thread nD τ) ↦[arg19.view.set]{fullShare} g)) ∗
        (∃ g : Buf (Elt F) (arg21.view.loc (c : Thread nD τ)), ⌜arg21.view.read (Elt F) g = k0_pay180 v30_1 v30_2⌝ ∗ (arg21.view.loc (c : Thread nD τ) ↦[arg21.view.set]{fullShare} g)))) := by
  unfold k0_part40
  iintro ⟨H18, H19, H21⟩
  sl_exec
  sl_step
  isplitr
  · ipureintro; rfl
  isplitl [H18]
  · iexists _
    isplitr
    on_goal 2 => iexact H18
    ipureintro; exact read_store_whole _ _ _ _ _
  isplitl [H19]
  · iexists _
    isplitr
    on_goal 2 => iexact H19
    ipureintro; exact read_store_whole _ _ _ _ _
  iexists _
  isplitr
  on_goal 2 => iexact H21
  ipureintro; exact read_store_whole _ _ _ _ _

/-- The whole body: from whole windows and the scratch, the four results at whole windows. -/
theorem body_run (c : Dev nD) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))) (f19 : Buf (Elt F) (arg19.view.loc (c : Thread nD τ))) (f20 : Buf (Elt F) (arg20.view.loc (c : Thread nD τ))) (f21 : Buf (Elt F) (arg21.view.loc (c : Thread nD τ))) (f22 : Buf (Elt F) (arg22.view.loc (c : Thread nD τ))) (hS : k0_cond1 i ≠ 1#1 → ∀ y, arg22.view.read (Elt F) f22 y = kspOf (arg9.view.read (Elt F) f9) y) :
    (iprop((arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22)) : sProp 𝕄G) ⊢ wp frame (wpE (defs₀ (F := F)) Variants.none (c : Thread nD τ) none) E
      (cc0_hydragen_attention (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
      (fun _ => iprop((arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗
        (∃ g : Buf (Elt F) (arg18.view.loc (c : Thread nD τ)), ⌜arg18.view.read (Elt F) g = oO (s2 (arg4.view.read (Elt F) f4) (arg5.view.read (Elt F) f5) (arg6.view.read (Elt F) f6) (arg7.view.read (Elt F) f7) (arg8.view.read (Elt F) f8) (arg9.view.read (Elt F) f9)) (s3 (arg4.view.read (Elt F) f4) (arg5.view.read (Elt F) f5) (arg14.view.read (Elt F) f14) (arg15.view.read (Elt F) f15) (arg16.view.read (Elt F) f16) (arg17.view.read (Elt F) f17)) (s4 i (arg4.view.read (Elt F) f4) (arg5.view.read (Elt F) f5) (arg10.view.read (Elt F) f10) (arg11.view.read (Elt F) f11) (arg12.view.read (Elt F) f12) (arg13.view.read (Elt F) f13))⌝ ∗ (arg18.view.loc (c : Thread nD τ) ↦[arg18.view.set]{fullShare} g)) ∗
        (∃ g : Buf (Elt F) (arg19.view.loc (c : Thread nD τ)), ⌜arg19.view.read (Elt F) g = oP (s2 (arg4.view.read (Elt F) f4) (arg5.view.read (Elt F) f5) (arg6.view.read (Elt F) f6) (arg7.view.read (Elt F) f7) (arg8.view.read (Elt F) f8) (arg9.view.read (Elt F) f9))⌝ ∗ (arg19.view.loc (c : Thread nD τ) ↦[arg19.view.set]{fullShare} g)) ∗
        (∃ g : Buf (Elt F) (arg20.view.loc (c : Thread nD τ)), ⌜arg20.view.read (Elt F) g = oC i (s4 i (arg4.view.read (Elt F) f4) (arg5.view.read (Elt F) f5) (arg10.view.read (Elt F) f10) (arg11.view.read (Elt F) f11) (arg12.view.read (Elt F) f12) (arg13.view.read (Elt F) f13))⌝ ∗ (arg20.view.loc (c : Thread nD τ) ↦[arg20.view.set]{fullShare} g)) ∗
        (∃ g : Buf (Elt F) (arg21.view.loc (c : Thread nD τ)), ⌜arg21.view.read (Elt F) g = oM (s3 (arg4.view.read (Elt F) f4) (arg5.view.read (Elt F) f5) (arg14.view.read (Elt F) f14) (arg15.view.read (Elt F) f15) (arg16.view.read (Elt F) f16) (arg17.view.read (Elt F) f17))⌝ ∗ (arg21.view.loc (c : Thread nD τ) ↦[arg21.view.set]{fullShare} g)) ∗
        (∃ g : Buf (Elt F) (arg22.view.loc (c : Thread nD τ)), ⌜∀ y, arg22.view.read (Elt F) g y = kspOf (arg9.view.read (Elt F) f9) y⌝ ∗ (arg22.view.loc (c : Thread nD τ) ↦[arg22.view.set]{fullShare} g)))) := by
  simp only [cc0_hydragen_attention_eq_skeleton]
  unfold cc0_hydragen_attention_skel
  iintro ⟨H4, H5, H6, H7, H8, H9, H10, H11, H12, H13, H14, H15, H16, H17, H18, H19, H20, H21, H22⟩
  iapply (run_bind (part38_run (F := F) c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f4 f5 f6 f7 f8 f9 f22 hS))
  isplitl [H4 H5 H6 H7 H8 H9 H22]
  · isplitl [H4]; · iexact H4
    isplitl [H5]; · iexact H5
    isplitl [H6]; · iexact H6
    isplitl [H7]; · iexact H7
    isplitl [H8]; · iexact H8
    isplitl [H9]; · iexact H9
    iexact H22
  iintro ⟨H4, H5, H6, H7, H8, H9, H22⟩
  dsimp only
  iapply (run_bind (part39_run (F := F) c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ f14 f17 f15 f16 f10 f13 f11 f12))
  isplitl [H14 H17 H15 H16 H10 H13 H11 H12]
  · isplitl [H14]; · iexact H14
    isplitl [H17]; · iexact H17
    isplitl [H15]; · iexact H15
    isplitl [H16]; · iexact H16
    isplitl [H10]; · iexact H10
    isplitl [H13]; · iexact H13
    isplitl [H11]; · iexact H11
    iexact H12
  iintro ⟨H14, H17, H15, H16, H10, H13, H11, H12⟩
  dsimp only
  iapply (run_bind (part40_run (F := F) c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ _ _ _ _ _ f18 f19 f21))
  isplitl [H18 H19 H21]
  · isplitl [H18]; · iexact H18
    isplitl [H19]; · iexact H19
    iexact H21
  iintro ⟨H18, H19, H21⟩
  dsimp only
  sl_exec
  sl_step
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]
  · iexists _
    isplitr
    on_goal 2 => iexact H20
    ipureintro; exact read_store_whole _ _ _ _ _
  isplitl [H21]; · iexact H21
  iexact H22

end Cert.Kernel.Hyd
-- ==== Proof.Hyd.KernelFrame.lean ====
module

public import proofs.«01_k».proof.Proof.Hyd.KernelRun
public import proofs.«01_k».proof.Proof.Gen.Kernel.Launch
public import Idealize.ShloMosaic.Lib.Pipeline.FrameBody
public import Idealize.ShloMosaic.Lib.Claim

@[expose] public section

set_option maxRecDepth 16384
set_option maxHeartbeats 4000000

/-! The kernel's pipeline: what each window holds at each grid point, and what the whole program leaves. -/

noncomputable section

namespace Cert.Kernel.Hyd

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄G" => MT nD τ sig Unit (Elt F) ℕ (UR sig nD τ) ℕ

/-- The body on whole windows: the inputs read `X4`, …, `X17`, the results left at the body's functions of them, the scratch left filled. -/
theorem sound_kernel (c : Dev nD) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (X4 : Vec F S1x1x256x128 .fp8e4m3) (X5 : Vec F S1x1x1x256 .f32) (X6 : Vec F S1x32768x128 .fp8e4m3) (X7 : Vec F S1x128x32768 .fp8e4m3) (X8 : Vec F S1x1x32768 .bf16) (X9 : Vec F S1x8x4096 .f32) (X10 : Vec F S1x1x512x128 .fp8e4m3) (X11 : Vec F S1x1x128x512 .fp8e4m3) (X12 : Vec F S1x1x1x512 .bf16) (X13 : Vec F S1x1x512x128 .f32) (X14 : Vec F S1x1x384x128 .fp8e4m3) (X15 : Vec F S1x1x128x384 .fp8e4m3) (X16 : Vec F S1x1x1x384 .bf16) (X17 : Vec F S1x1x384x128 .f32)
    (f22 : Buf (Elt F) (arg22.view.loc (c : Thread nD τ))) (hS : k0_cond1 i ≠ 1#1 → ∀ y, arg22.view.read (Elt F) f22 y = kspOf X9 y) :
    (iprop(owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (arg22.view.loc (c : Thread nD τ) ↦[arg22.view.set]{fullShare} f22)) : sProp 𝕄G)
      ⊢ wp frame (wpE (defs₀ (F := F)) Variants.none (c : Thread nD τ) none) E (cc0_hydragen_attention (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
        (fun _ => iprop(owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17 ∗ owns (c : Thread nD τ) arg18 fullShare (oO (s2 X4 X5 X6 X7 X8 X9) (s3 X4 X5 X14 X15 X16 X17) (s4 i X4 X5 X10 X11 X12 X13)) ∗ owns (c : Thread nD τ) arg19 fullShare (oP (s2 X4 X5 X6 X7 X8 X9)) ∗ owns (c : Thread nD τ) arg20 fullShare (oC i (s4 i X4 X5 X10 X11 X12 X13)) ∗ owns (c : Thread nD τ) arg21 fullShare (oM (s3 X4 X5 X14 X15 X16 X17)) ∗
          ∃ g : Buf (Elt F) (arg22.view.loc (c : Thread nD τ)), ⌜∀ y, arg22.view.read (Elt F) g y = kspOf X9 y⌝ ∗ (arg22.view.loc (c : Thread nD τ) ↦[arg22.view.set]{fullShare} g))) := by
  unfold owns
  iintro ⟨⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%d18, %f18, -, H18⟩, ⟨%d19, %f19, -, H19⟩, ⟨%d20, %f20, -, H20⟩, ⟨%d21, %f21, -, H21⟩, H22⟩
  subst h4 h5 h6 h7 h8 h9 h10 h11 h12 h13 h14 h15 h16 h17
  iapply (wp_wand_r Idealize.ShloMosaic.frame (wpE (defs₀ (F := F)) Variants.none (c : Thread nD τ) none) E)
  isplitl [H4 H5 H6 H7 H8 H9 H10 H11 H12 H13 H14 H15 H16 H17 H18 H19 H20 H21 H22]
  · iapply (body_run (F := F) c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f4 f5 f6 f7 f8 f9 f10 f11 f12 f13 f14 f15 f16 f17 f18 f19 f20 f21 f22 hS)
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22
  iintro %u ⟨H4, H5, H6, H7, H8, H9, H10, H11, H12, H13, H14, H15, H16, H17, ⟨%g18, %e18, H18⟩, ⟨%g19, %e19, H19⟩, ⟨%g20, %e20, H20⟩, ⟨%g21, %e21, H21⟩, H22⟩
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]; · iexists f7; isplitr; (· ipureintro; rfl); iexact H7
  isplitl [H8]; · iexists f8; isplitr; (· ipureintro; rfl); iexact H8
  isplitl [H9]; · iexists f9; isplitr; (· ipureintro; rfl); iexact H9
  isplitl [H10]; · iexists f10; isplitr; (· ipureintro; rfl); iexact H10
  isplitl [H11]; · iexists f11; isplitr; (· ipureintro; rfl); iexact H11
  isplitl [H12]; · iexists f12; isplitr; (· ipureintro; rfl); iexact H12
  isplitl [H13]; · iexists f13; isplitr; (· ipureintro; rfl); iexact H13
  isplitl [H14]; · iexists f14; isplitr; (· ipureintro; rfl); iexact H14
  isplitl [H15]; · iexists f15; isplitr; (· ipureintro; rfl); iexact H15
  isplitl [H16]; · iexists f16; isplitr; (· ipureintro; rfl); iexact H16
  isplitl [H17]; · iexists f17; isplitr; (· ipureintro; rfl); iexact H17
  isplitl [H18]; · iexists g18; isplitr; (· ipureintro; exact e18); iexact H18
  isplitl [H19]; · iexists g19; isplitr; (· ipureintro; exact e19); iexact H19
  isplitl [H20]; · iexists g20; isplitr; (· ipureintro; exact e20); iexact H20
  isplitl [H21]; · iexists g21; isplitr; (· ipureintro; exact e21); iexact H21
  iexact H22

/-- The same with what the pipeline carries along: `P0` opens to the scratch's contents and `Q`, `P1` closes over them, `R` is untouched. -/
theorem sound_step (c : Dev nD) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (X4 : Vec F S1x1x256x128 .fp8e4m3) (X5 : Vec F S1x1x1x256 .f32) (X6 : Vec F S1x32768x128 .fp8e4m3) (X7 : Vec F S1x128x32768 .fp8e4m3) (X8 : Vec F S1x1x32768 .bf16) (X9 : Vec F S1x8x4096 .f32) (X10 : Vec F S1x1x512x128 .fp8e4m3) (X11 : Vec F S1x1x128x512 .fp8e4m3) (X12 : Vec F S1x1x1x512 .bf16) (X13 : Vec F S1x1x512x128 .f32) (X14 : Vec F S1x1x384x128 .fp8e4m3) (X15 : Vec F S1x1x128x384 .fp8e4m3) (X16 : Vec F S1x1x1x384 .bf16) (X17 : Vec F S1x1x384x128 .f32)
    (B18 : Vec F S1x256x128 .bf16 → Vec F S1x256x128 .bf16) (B19 : Vec F S1x1x1x256 .f32 → Vec F S1x1x1x256 .f32) (B20 : Vec F S1x1x1x256 .f32 → Vec F S1x1x1x256 .f32) (B21 : Vec F S1x1x1x256 .f32 → Vec F S1x1x1x256 .f32) (R : sProp 𝕄G) (C : (Buf (Elt F) (arg22.view.loc (c : Thread nD τ))) → Prop) {P0 P1 Q : sProp 𝕄G}
    (hS : ∀ f, C f → k0_cond1 i ≠ 1#1 → ∀ y, arg22.view.read (Elt F) f y = kspOf X9 y)
    (h0 : P0 ⊢ iprop((∃ f : (Buf (Elt F) (arg22.view.loc (c : Thread nD τ))), ⌜C f⌝ ∗ (arg22.view.loc (c : Thread nD τ) ↦[arg22.view.set]{fullShare} f)) ∗ Q))
    (h1 : (iprop((∃ g : (Buf (Elt F) (arg22.view.loc (c : Thread nD τ))), ⌜∀ y, arg22.view.read (Elt F) g y = kspOf X9 y⌝ ∗ (arg22.view.loc (c : Thread nD τ) ↦[arg22.view.set]{fullShare} g)) ∗ Q) : sProp 𝕄G) ⊢ P1) :
    (iprop(P0 ∗ R ∗ (∃ _d : Vec F S1x1x256x128 .fp8e4m3, owns (c : Thread nD τ) arg4 fullShare X4) ∗ (∃ _d : Vec F S1x1x1x256 .f32, owns (c : Thread nD τ) arg5 fullShare X5) ∗ (∃ _d : Vec F S1x32768x128 .fp8e4m3, owns (c : Thread nD τ) arg6 fullShare X6) ∗ (∃ _d : Vec F S1x128x32768 .fp8e4m3, owns (c : Thread nD τ) arg7 fullShare X7) ∗ (∃ _d : Vec F S1x1x32768 .bf16, owns (c : Thread nD τ) arg8 fullShare X8) ∗ (∃ _d : Vec F S1x8x4096 .f32, owns (c : Thread nD τ) arg9 fullShare X9) ∗ (∃ _d : Vec F S1x1x512x128 .fp8e4m3, owns (c : Thread nD τ) arg10 fullShare X10) ∗ (∃ _d : Vec F S1x1x128x512 .fp8e4m3, owns (c : Thread nD τ) arg11 fullShare X11) ∗ (∃ _d : Vec F S1x1x1x512 .bf16, owns (c : Thread nD τ) arg12 fullShare X12) ∗ (∃ _d : Vec F S1x1x512x128 .f32, owns (c : Thread nD τ) arg13 fullShare X13) ∗ (∃ _d : Vec F S1x1x384x128 .fp8e4m3, owns (c : Thread nD τ) arg14 fullShare X14) ∗ (∃ _d : Vec F S1x1x128x384 .fp8e4m3, owns (c : Thread nD τ) arg15 fullShare X15) ∗ (∃ _d : Vec F S1x1x1x384 .bf16, owns (c : Thread nD τ) arg16 fullShare X16) ∗ (∃ _d : Vec F S1x1x384x128 .f32, owns (c : Thread nD τ) arg17 fullShare X17) ∗ (∃ d : Vec F S1x256x128 .bf16, owns (c : Thread nD τ) arg18 fullShare (B18 d)) ∗ (∃ d : Vec F S1x1x1x256 .f32, owns (c : Thread nD τ) arg19 fullShare (B19 d)) ∗ (∃ d : Vec F S1x1x1x256 .f32, owns (c : Thread nD τ) arg20 fullShare (B20 d)) ∗ (∃ d : Vec F S1x1x1x256 .f32, owns (c : Thread nD τ) arg21 fullShare (B21 d))) : sProp 𝕄G)
      ⊢ wp frame (wpE (defs₀ (F := F)) Variants.none (c : Thread nD τ) none) E (cc0_hydragen_attention (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
        (fun _ => iprop(P1 ∗ R ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17 ∗ owns (c : Thread nD τ) arg18 fullShare (oO (s2 X4 X5 X6 X7 X8 X9) (s3 X4 X5 X14 X15 X16 X17) (s4 i X4 X5 X10 X11 X12 X13)) ∗ owns (c : Thread nD τ) arg19 fullShare (oP (s2 X4 X5 X6 X7 X8 X9)) ∗ owns (c : Thread nD τ) arg20 fullShare (oC i (s4 i X4 X5 X10 X11 X12 X13)) ∗ owns (c : Thread nD τ) arg21 fullShare (oM (s3 X4 X5 X14 X15 X16 X17)))) := by
  iintro ⟨HP, HR, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩⟩
  icases (h0) $$ HP with ⟨⟨%f22, %hC, HS⟩, HQ⟩
  iapply (wp_wand_r Idealize.ShloMosaic.frame (wpE (defs₀ (F := F)) Variants.none (c : Thread nD τ) none) E)
  isplitl [HS H4 H5 H6 H7 H8 H9 H10 H11 H12 H13 H14 H15 H16 H17 H18 H19 H20 H21]
  · iapply (sound_kernel (F := F) c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X4 X5 X6 X7 X8 X9 X10 X11 X12 X13 X14 X15 X16 X17 f22 (hS f22 hC))
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexists _; iexact H19
    isplitl [H20]; · iexists _; iexact H20
    isplitl [H21]; · iexists _; iexact H21
    iexact HS
  iintro %u ⟨H4, H5, H6, H7, H8, H9, H10, H11, H12, H13, H14, H15, H16, H17, H18, H19, H20, H21, HS⟩
  isplitl [HS HQ]; · iapply h1; isplitl [HS]; (· iexact HS); iexact HQ
  isplitl [HR]; · iexact HR
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

variable (a : (pcfg0 (F := F)).Adm) (m : (ℓ : Loc nD τ sig) → Buf (Elt F) ℓ) (ρ : Dev nD → PrngReg)

/-! ## The host's preparation -/

/-- The buffers' contents when the kernel starts. -/
abbrev V (c : Dev nD) (b : Ref sig .tc) : Buf (Elt F) ((c : Thread nD τ).loc b) := StableHlo.after hostOps0 (fun b => m (c, b)) (Proc.devRef .tc b)

theorem hostOps0_fresh : (hostOps0 : List (HloOp τ sig (Elt F))).Forall fun op => op.fresh = ∅ := by
  simp only [List.Forall]; repeat' constructor

theorem hostOps0_writes : (hostOps0 : List (HloOp τ sig (Elt F))).Forall fun op => op.writes ⊆ (([main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25] : List (Ref sig .tc)).map (Proc.devRef (τ := τ) .tc)).toFinset :=
  StableHlo.forall_writes_sub_of_map rfl

theorem V_main_arg0 (c : Dev nD) : V m c main_arg0 = m ((c : Thread nD τ).loc main_arg0) :=
  StableHlo.after_of_writes_sub hostOps0 _ hostOps0_writes (by decide)
theorem V_main_arg1 (c : Dev nD) : V m c main_arg1 = m ((c : Thread nD τ).loc main_arg1) :=
  StableHlo.after_of_writes_sub hostOps0 _ hostOps0_writes (by decide)
theorem V_main_arg2 (c : Dev nD) : V m c main_arg2 = m ((c : Thread nD τ).loc main_arg2) :=
  StableHlo.after_of_writes_sub hostOps0 _ hostOps0_writes (by decide)
theorem V_main_arg3 (c : Dev nD) : V m c main_arg3 = m ((c : Thread nD τ).loc main_arg3) :=
  StableHlo.after_of_writes_sub hostOps0 _ hostOps0_writes (by decide)
theorem V_main_arg4 (c : Dev nD) : V m c main_arg4 = m ((c : Thread nD τ).loc main_arg4) :=
  StableHlo.after_of_writes_sub hostOps0 _ hostOps0_writes (by decide)
theorem V_main_arg5 (c : Dev nD) : V m c main_arg5 = m ((c : Thread nD τ).loc main_arg5) :=
  StableHlo.after_of_writes_sub hostOps0 _ hostOps0_writes (by decide)
theorem V_main_arg6 (c : Dev nD) : V m c main_arg6 = m ((c : Thread nD τ).loc main_arg6) :=
  StableHlo.after_of_writes_sub hostOps0 _ hostOps0_writes (by decide)
theorem V_main_arg7 (c : Dev nD) : V m c main_arg7 = m ((c : Thread nD τ).loc main_arg7) :=
  StableHlo.after_of_writes_sub hostOps0 _ hostOps0_writes (by decide)
theorem V_main_arg8 (c : Dev nD) : V m c main_arg8 = m ((c : Thread nD τ).loc main_arg8) :=
  StableHlo.after_of_writes_sub hostOps0 _ hostOps0_writes (by decide)
theorem V_main_arg9 (c : Dev nD) : V m c main_arg9 = m ((c : Thread nD τ).loc main_arg9) :=
  StableHlo.after_of_writes_sub hostOps0 _ hostOps0_writes (by decide)
theorem V_main_arg10 (c : Dev nD) : V m c main_arg10 = m ((c : Thread nD τ).loc main_arg10) :=
  StableHlo.after_of_writes_sub hostOps0 _ hostOps0_writes (by decide)
theorem V_main_arg11 (c : Dev nD) : V m c main_arg11 = m ((c : Thread nD τ).loc main_arg11) :=
  StableHlo.after_of_writes_sub hostOps0 _ hostOps0_writes (by decide)
theorem V_main_arg12 (c : Dev nD) : V m c main_arg12 = m ((c : Thread nD τ).loc main_arg12) :=
  StableHlo.after_of_writes_sub hostOps0 _ hostOps0_writes (by decide)
theorem V_main_arg13 (c : Dev nD) : V m c main_arg13 = m ((c : Thread nD τ).loc main_arg13) :=
  StableHlo.after_of_writes_sub hostOps0 _ hostOps0_writes (by decide)
theorem V_main_arg14 (c : Dev nD) : V m c main_arg14 = m ((c : Thread nD τ).loc main_arg14) :=
  StableHlo.after_of_writes_sub hostOps0 _ hostOps0_writes (by decide)

theorem hmain : Pipeline.HMainP (Ix := Unit) (Name := ℕ) (U := UR sig nD τ) (Lvl := ℕ) (pcfgs (F := F)) 0 defs₀ Variants.none m (main (F := F)) (V m) :=
  Pipeline.hmainP_prefix (pcfgs (F := F)) 0 defs₀ Variants.none m main hostOps0 hostOps0_sub hostOps0_fresh main_chain

/-! ## The windows -/

/-- Window `w`'s block at point `t`. -/
def iblk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V m c (Pipeline.arrRef spec0 w))

abbrev st0_0 (t : Fin (cfg0 a).N) := ((cfg0 a).win 0).stage ((cfg0 a).slots t 0)
abbrev st0_1 (t : Fin (cfg0 a).N) := ((cfg0 a).win 1).stage ((cfg0 a).slots t 1)
abbrev st0_2 (t : Fin (cfg0 a).N) := ((cfg0 a).win 2).stage ((cfg0 a).slots t 2)
abbrev st0_3 (t : Fin (cfg0 a).N) := ((cfg0 a).win 3).stage ((cfg0 a).slots t 3)
abbrev st0_4 (t : Fin (cfg0 a).N) := ((cfg0 a).win 4).stage ((cfg0 a).slots t 4)
abbrev st0_5 (t : Fin (cfg0 a).N) := ((cfg0 a).win 5).stage ((cfg0 a).slots t 5)
abbrev st0_6 (t : Fin (cfg0 a).N) := ((cfg0 a).win 6).stage ((cfg0 a).slots t 6)
abbrev st0_7 (t : Fin (cfg0 a).N) := ((cfg0 a).win 7).stage ((cfg0 a).slots t 7)
abbrev st0_8 (t : Fin (cfg0 a).N) := ((cfg0 a).win 8).stage ((cfg0 a).slots t 8)
abbrev st0_9 (t : Fin (cfg0 a).N) := ((cfg0 a).win 9).stage ((cfg0 a).slots t 9)
abbrev st0_10 (t : Fin (cfg0 a).N) := ((cfg0 a).win 10).stage ((cfg0 a).slots t 10)
abbrev st0_11 (t : Fin (cfg0 a).N) := ((cfg0 a).win 11).stage ((cfg0 a).slots t 11)
abbrev st0_12 (t : Fin (cfg0 a).N) := ((cfg0 a).win 12).stage ((cfg0 a).slots t 12)
abbrev st0_13 (t : Fin (cfg0 a).N) := ((cfg0 a).win 13).stage ((cfg0 a).slots t 13)
abbrev st0_14 (t : Fin (cfg0 a).N) := ((cfg0 a).win 14).stage ((cfg0 a).slots t 14)
abbrev st0_15 (t : Fin (cfg0 a).N) := ((cfg0 a).win 15).stage ((cfg0 a).slots t 15)
abbrev st0_16 (t : Fin (cfg0 a).N) := ((cfg0 a).win 16).stage ((cfg0 a).slots t 16)
abbrev st0_17 (t : Fin (cfg0 a).N) := ((cfg0 a).win 17).stage ((cfg0 a).slots t 17)

/-- The body as the pipeline calls it at point `t`. -/
abbrev bodyAt0 (t : Fin (cfg0 a).N) : Prog (TpuEff nD τ sig (Elt F) Λ₀ .tc) PUnit :=
  cc0_hydragen_attention (grid0.coords t) (Memref.whole main_arg14) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (spec0_15.stage ((cfg0 a).slots t 15)) (hstage0_15 (((cfg0 a).slots t 15).cast nbuf0_15)) (spec0_16.stage ((cfg0 a).slots t 16)) (hstage0_16 (((cfg0 a).slots t 16).cast nbuf0_16)) (spec0_17.stage ((cfg0 a).slots t 17)) (hstage0_17 (((cfg0 a).slots t 17).cast nbuf0_17)) (Memref.whole cc0_scratch0) (Memref.isWhole_whole _)

/-- The three passes' states at point `t`. -/
def pA (c : Dev nD) (t : Fin (cfg0 a).N) : St F := (s2 (iblk a m c 0 t) (iblk a m c 1 t) (iblk a m c 2 t) (iblk a m c 3 t) (iblk a m c 4 t) (iblk a m c 5 t))
def pB (c : Dev nD) (t : Fin (cfg0 a).N) : St F := (s3 (iblk a m c 0 t) (iblk a m c 1 t) (iblk a m c 10 t) (iblk a m c 11 t) (iblk a m c 12 t) (iblk a m c 13 t))
def pD (c : Dev nD) (t : Fin (cfg0 a).N) : St F := (s4 (grid0.coords t) (iblk a m c 0 t) (iblk a m c 1 t) (iblk a m c 6 t) (iblk a m c 7 t) (iblk a m c 8 t) (iblk a m c 9 t))

/-- The scales of the prompt keys, spread over rows and lanes, from point `t`'s block. -/
def scrOf (c : Dev nD) (t : Fin (cfg0 a).N) : Vec F S32768x128 .f32 := kspOf (F := F) (iblk a m c 5 t)

/-- What the scratch holds before point `t`: away from a new key head's first point, the scales of the head's prompt keys. -/
def Phi (c : Dev nD) (t : Fin ((cfg0 a).N + 1)) : sProp 𝕄G :=
  iprop((∃ f : Buf (Elt F) ((Memref.whole cc0_scratch0).view.loc (c : Thread nD τ)),
      ⌜∀ t' : Fin (cfg0 a).N, t'.val = t.val → t'.val % 40 ≠ 0 → ∀ y, (Memref.whole cc0_scratch0).view.read (Elt F) f y = scrOf a m c t' y⌝ ∗
      ((Memref.whole cc0_scratch0).view.loc (c : Thread nD τ) ↦[(Memref.whole cc0_scratch0).view.set]{fullShare} f)) ∗ ∃ r, prngReg c r)

/-- The pipeline's data: each input left as found, each result at the body's function of the inputs. -/
def dats (_ : Fin 1) (c : Dev nD) : Dat τ (Elt F) Unit ℕ (UR sig nD τ) ℕ (cfg0 a) c where
  A w := V m c (Pipeline.arrRef spec0 w)
  after w t := match w with
    | ⟨0, _⟩ => iblk a m c 0 t
    | ⟨1, _⟩ => iblk a m c 1 t
    | ⟨2, _⟩ => iblk a m c 2 t
    | ⟨3, _⟩ => iblk a m c 3 t
    | ⟨4, _⟩ => iblk a m c 4 t
    | ⟨5, _⟩ => iblk a m c 5 t
    | ⟨6, _⟩ => iblk a m c 6 t
    | ⟨7, _⟩ => iblk a m c 7 t
    | ⟨8, _⟩ => iblk a m c 8 t
    | ⟨9, _⟩ => iblk a m c 9 t
    | ⟨10, _⟩ => iblk a m c 10 t
    | ⟨11, _⟩ => iblk a m c 11 t
    | ⟨12, _⟩ => iblk a m c 12 t
    | ⟨13, _⟩ => iblk a m c 13 t
    | ⟨14, _⟩ => oO (pA a m c t) (pB a m c t) (pD a m c t)
    | ⟨15, _⟩ => oP (pA a m c t)
    | ⟨16, _⟩ => oC (grid0.coords t) (pD a m c t)
    | ⟨17, _⟩ => oM (pB a m c t)
    | ⟨n + 18, h⟩ => absurd (show n + 18 < 18 from h) (by omega)
  Φ t := Phi a m c t
  q _ := fullShare
  owed _ := 0

theorem A_eq (c : Dev nD) (w : Fin (cfg0 a).W) : (dats a m 0 c).A w = V m c (Pipeline.arrRef spec0 w) := by
  dsimp only [dats]

theorem after0_0 (c : Dev nD) (t : Fin (cfg0 a).N) : (dats a m 0 c).after 0 t = iblk a m c 0 t := by dsimp only [dats]; try rfl
theorem after0_1 (c : Dev nD) (t : Fin (cfg0 a).N) : (dats a m 0 c).after 1 t = iblk a m c 1 t := by dsimp only [dats]; try rfl
theorem after0_2 (c : Dev nD) (t : Fin (cfg0 a).N) : (dats a m 0 c).after 2 t = iblk a m c 2 t := by dsimp only [dats]; try rfl
theorem after0_3 (c : Dev nD) (t : Fin (cfg0 a).N) : (dats a m 0 c).after 3 t = iblk a m c 3 t := by dsimp only [dats]; try rfl
theorem after0_4 (c : Dev nD) (t : Fin (cfg0 a).N) : (dats a m 0 c).after 4 t = iblk a m c 4 t := by dsimp only [dats]; try rfl
theorem after0_5 (c : Dev nD) (t : Fin (cfg0 a).N) : (dats a m 0 c).after 5 t = iblk a m c 5 t := by dsimp only [dats]; try rfl
theorem after0_6 (c : Dev nD) (t : Fin (cfg0 a).N) : (dats a m 0 c).after 6 t = iblk a m c 6 t := by dsimp only [dats]; try rfl
theorem after0_7 (c : Dev nD) (t : Fin (cfg0 a).N) : (dats a m 0 c).after 7 t = iblk a m c 7 t := by dsimp only [dats]; try rfl
theorem after0_8 (c : Dev nD) (t : Fin (cfg0 a).N) : (dats a m 0 c).after 8 t = iblk a m c 8 t := by dsimp only [dats]; try rfl
theorem after0_9 (c : Dev nD) (t : Fin (cfg0 a).N) : (dats a m 0 c).after 9 t = iblk a m c 9 t := by dsimp only [dats]; try rfl
theorem after0_10 (c : Dev nD) (t : Fin (cfg0 a).N) : (dats a m 0 c).after 10 t = iblk a m c 10 t := by dsimp only [dats]; try rfl
theorem after0_11 (c : Dev nD) (t : Fin (cfg0 a).N) : (dats a m 0 c).after 11 t = iblk a m c 11 t := by dsimp only [dats]; try rfl
theorem after0_12 (c : Dev nD) (t : Fin (cfg0 a).N) : (dats a m 0 c).after 12 t = iblk a m c 12 t := by dsimp only [dats]; try rfl
theorem after0_13 (c : Dev nD) (t : Fin (cfg0 a).N) : (dats a m 0 c).after 13 t = iblk a m c 13 t := by dsimp only [dats]; try rfl
theorem after0_14 (c : Dev nD) (t : Fin (cfg0 a).N) : (dats a m 0 c).after 14 t = oO (pA a m c t) (pB a m c t) (pD a m c t) := by dsimp only [dats]; try rfl
theorem after0_15 (c : Dev nD) (t : Fin (cfg0 a).N) : (dats a m 0 c).after 15 t = oP (pA a m c t) := by dsimp only [dats]; try rfl
theorem after0_16 (c : Dev nD) (t : Fin (cfg0 a).N) : (dats a m 0 c).after 16 t = oC (grid0.coords t) (pD a m c t) := by dsimp only [dats]; try rfl
theorem after0_17 (c : Dev nD) (t : Fin (cfg0 a).N) : (dats a m 0 c).after 17 t = oM (pB a m c t) := by dsimp only [dats]; try rfl

theorem before0_0 (c : Dev nD) (t : Fin (cfg0 a).N) (d) : (dats a m 0 c).before 0 t d = iblk a m c 0 t :=
  ((dats a m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfg0 a).N) (d) : (dats a m 0 c).before 1 t d = iblk a m c 1 t :=
  ((dats a m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfg0 a).N) (d) : (dats a m 0 c).before 2 t d = iblk a m c 2 t :=
  ((dats a m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin (cfg0 a).N) (d) : (dats a m 0 c).before 3 t d = iblk a m c 3 t :=
  ((dats a m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin (cfg0 a).N) (d) : (dats a m 0 c).before 4 t d = iblk a m c 4 t :=
  ((dats a m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin (cfg0 a).N) (d) : (dats a m 0 c).before 5 t d = iblk a m c 5 t :=
  ((dats a m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin (cfg0 a).N) (d) : (dats a m 0 c).before 6 t d = iblk a m c 6 t :=
  ((dats a m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin (cfg0 a).N) (d) : (dats a m 0 c).before 7 t d = iblk a m c 7 t :=
  ((dats a m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin (cfg0 a).N) (d) : (dats a m 0 c).before 8 t d = iblk a m c 8 t :=
  ((dats a m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin (cfg0 a).N) (d) : (dats a m 0 c).before 9 t d = iblk a m c 9 t :=
  ((dats a m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin (cfg0 a).N) (d) : (dats a m 0 c).before 10 t d = iblk a m c 10 t :=
  ((dats a m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem before0_11 (c : Dev nD) (t : Fin (cfg0 a).N) (d) : (dats a m 0 c).before 11 t d = iblk a m c 11 t :=
  ((dats a m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)
theorem before0_12 (c : Dev nD) (t : Fin (cfg0 a).N) (d) : (dats a m 0 c).before 12 t d = iblk a m c 12 t :=
  ((dats a m 0 c).before_in_eq_fetched 12 rfl (fun _ => rfl) (fun _ _ _ => rfl) (fun t => by rw [after0_12]; unfold Dat.blockOf iblk; rw [A_eq]; try rfl) t d).trans
    (by unfold Dat.fetched Dat.blockOf iblk; rw [A_eq]; try rfl)
theorem before0_13 (c : Dev nD) (t : Fin (cfg0 a).N) (d) : (dats a m 0 c).before 13 t d = iblk a m c 13 t :=
  ((dats a m 0 c).before_in_eq_fetched 13 rfl (fun _ => rfl) (fun _ _ _ => rfl) (fun t => by rw [after0_13]; unfold Dat.blockOf iblk; rw [A_eq]; try rfl) t d).trans
    (by unfold Dat.fetched Dat.blockOf iblk; rw [A_eq]; try rfl)

/-- Two points with the same block index have the same block of prompt key scales. -/
theorem iblk5_congr (c : Dev nD) (t t' : Fin (cfg0 a).N) (h : ((cfg0 a).win 5).index t = ((cfg0 a).win 5).index t') : iblk a m c 5 t = iblk a m c 5 t' := by
  have e := (dats a m 0 c).fetched_congr 5 h (by rfl) (iblk a m c 5 t)
  unfold Dat.fetched Dat.blockOf at e
  rw [A_eq] at e
  exact e

theorem scrOf_congr (c : Dev nD) (t t' : Fin (cfg0 a).N) (h : ((cfg0 a).win 5).index t = ((cfg0 a).win 5).index t') : scrOf a m c t = scrOf a m c t' := by
  have e := iblk5_congr a m c t t' h
  unfold scrOf
  exact congrArg (kspOf (F := F)) e

theorem cond_first : ∀ t : Fin grid0.N, t.val % 40 = 0 → k0_cond1 (grid0.coords t) = 1#1 := by decide +kernel

theorem ix5_step : ∀ t t' : Fin grid0.N, t'.val = t.val + 1 → t'.val % 40 ≠ 0 → cc0_transform_5 (grid0.coords t') = cc0_transform_5 (grid0.coords t) := by
  have h : ∀ t : Fin grid0.N, ∀ h : t.val + 1 < grid0.N, (t.val + 1) % 40 ≠ 0 → cc0_transform_5 (grid0.coords ⟨t.val + 1, h⟩) = cc0_transform_5 (grid0.coords t) := by decide +kernel
  intro t t' e hne
  obtain ⟨v, hv⟩ := t'
  obtain rfl : v = t.val + 1 := e
  exact h t hv hne

/-! ## The body at a point -/

def bodyPre (c : Dev nD) (t : Fin (cfg0 a).N) : sProp 𝕄G :=
  iprop((dats a m 0 c).Φ t.castSucc ∗ (dats a m 0 c).owesAt () t.castSucc
    ∗ (∃ d, owns (c : Thread nD τ) (st0_0 a t) fullShare ((dats a m 0 c).before 0 t d))
    ∗ (∃ d, owns (c : Thread nD τ) (st0_1 a t) fullShare ((dats a m 0 c).before 1 t d))
    ∗ (∃ d, owns (c : Thread nD τ) (st0_2 a t) fullShare ((dats a m 0 c).before 2 t d))
    ∗ (∃ d, owns (c : Thread nD τ) (st0_3 a t) fullShare ((dats a m 0 c).before 3 t d))
    ∗ (∃ d, owns (c : Thread nD τ) (st0_4 a t) fullShare ((dats a m 0 c).before 4 t d))
    ∗ (∃ d, owns (c : Thread nD τ) (st0_5 a t) fullShare ((dats a m 0 c).before 5 t d))
    ∗ (∃ d, owns (c : Thread nD τ) (st0_6 a t) fullShare ((dats a m 0 c).before 6 t d))
    ∗ (∃ d, owns (c : Thread nD τ) (st0_7 a t) fullShare ((dats a m 0 c).before 7 t d))
    ∗ (∃ d, owns (c : Thread nD τ) (st0_8 a t) fullShare ((dats a m 0 c).before 8 t d))
    ∗ (∃ d, owns (c : Thread nD τ) (st0_9 a t) fullShare ((dats a m 0 c).before 9 t d))
    ∗ (∃ d, owns (c : Thread nD τ) (st0_10 a t) fullShare ((dats a m 0 c).before 10 t d))
    ∗ (∃ d, owns (c : Thread nD τ) (st0_11 a t) fullShare ((dats a m 0 c).before 11 t d))
    ∗ (∃ d, owns (c : Thread nD τ) (st0_12 a t) fullShare ((dats a m 0 c).before 12 t d))
    ∗ (∃ d, owns (c : Thread nD τ) (st0_13 a t) fullShare ((dats a m 0 c).before 13 t d))
    ∗ (∃ d, owns (c : Thread nD τ) (st0_14 a t) fullShare ((dats a m 0 c).before 14 t d))
    ∗ (∃ d, owns (c : Thread nD τ) (st0_15 a t) fullShare ((dats a m 0 c).before 15 t d))
    ∗ (∃ d, owns (c : Thread nD τ) (st0_16 a t) fullShare ((dats a m 0 c).before 16 t d))
    ∗ (∃ d, owns (c : Thread nD τ) (st0_17 a t) fullShare ((dats a m 0 c).before 17 t d)))

def bodyPost (c : Dev nD) (t : Fin (cfg0 a).N) : sProp 𝕄G :=
  iprop((dats a m 0 c).Φ t.succ ∗ (dats a m 0 c).owesAt () t.succ
    ∗ owns (c : Thread nD τ) (st0_0 a t) fullShare ((dats a m 0 c).after 0 t)
    ∗ owns (c : Thread nD τ) (st0_1 a t) fullShare ((dats a m 0 c).after 1 t)
    ∗ owns (c : Thread nD τ) (st0_2 a t) fullShare ((dats a m 0 c).after 2 t)
    ∗ owns (c : Thread nD τ) (st0_3 a t) fullShare ((dats a m 0 c).after 3 t)
    ∗ owns (c : Thread nD τ) (st0_4 a t) fullShare ((dats a m 0 c).after 4 t)
    ∗ owns (c : Thread nD τ) (st0_5 a t) fullShare ((dats a m 0 c).after 5 t)
    ∗ owns (c : Thread nD τ) (st0_6 a t) fullShare ((dats a m 0 c).after 6 t)
    ∗ owns (c : Thread nD τ) (st0_7 a t) fullShare ((dats a m 0 c).after 7 t)
    ∗ owns (c : Thread nD τ) (st0_8 a t) fullShare ((dats a m 0 c).after 8 t)
    ∗ owns (c : Thread nD τ) (st0_9 a t) fullShare ((dats a m 0 c).after 9 t)
    ∗ owns (c : Thread nD τ) (st0_10 a t) fullShare ((dats a m 0 c).after 10 t)
    ∗ owns (c : Thread nD τ) (st0_11 a t) fullShare ((dats a m 0 c).after 11 t)
    ∗ owns (c : Thread nD τ) (st0_12 a t) fullShare ((dats a m 0 c).after 12 t)
    ∗ owns (c : Thread nD τ) (st0_13 a t) fullShare ((dats a m 0 c).after 13 t)
    ∗ owns (c : Thread nD τ) (st0_14 a t) fullShare ((dats a m 0 c).after 14 t)
    ∗ owns (c : Thread nD τ) (st0_15 a t) fullShare ((dats a m 0 c).after 15 t)
    ∗ owns (c : Thread nD τ) (st0_16 a t) fullShare ((dats a m 0 c).after 16 t)
    ∗ owns (c : Thread nD τ) (st0_17 a t) fullShare ((dats a m 0 c).after 17 t))

theorem Phi_open (c : Dev nD) (t : Fin (cfg0 a).N) :
    Phi a m c t.castSucc ⊢ iprop((∃ f : Buf (Elt F) ((Memref.whole cc0_scratch0).view.loc (c : Thread nD τ)),
      ⌜t.val % 40 ≠ 0 → ∀ y, (Memref.whole cc0_scratch0).view.read (Elt F) f y = scrOf a m c t y⌝ ∗
      ((Memref.whole cc0_scratch0).view.loc (c : Thread nD τ) ↦[(Memref.whole cc0_scratch0).view.set]{fullShare} f)) ∗ ∃ r, prngReg c r) := by
  unfold Phi
  iintro ⟨⟨%f, %hf, HS⟩, HP⟩
  isplitl [HS]
  · iexists f
    isplitr
    · ipureintro
      intro hne y
      have e : t.val = t.castSucc.val := (Fin.val_castSucc t).symm
      have h1 := hf t e
      have h2 := h1 hne
      exact h2 y
    iexact HS
  iexact HP

theorem Phi_close (c : Dev nD) (t : Fin (cfg0 a).N) :
    (iprop((∃ g : Buf (Elt F) ((Memref.whole cc0_scratch0).view.loc (c : Thread nD τ)),
      ⌜∀ y, (Memref.whole cc0_scratch0).view.read (Elt F) g y = scrOf a m c t y⌝ ∗
      ((Memref.whole cc0_scratch0).view.loc (c : Thread nD τ) ↦[(Memref.whole cc0_scratch0).view.set]{fullShare} g)) ∗ ∃ r, prngReg c r) : sProp 𝕄G)
      ⊢ Phi a m c t.succ := by
  unfold Phi
  iintro ⟨⟨%g, %hg, HS⟩, HP⟩
  isplitl [HS]
  · iexists g
    isplitr
    · ipureintro
      intro t' h hne y
      exact (hg y).trans (congrFun (scrOf_congr a m c t' t (ix5_step t t' h hne)) y).symm
    iexact HS
  iexact HP

theorem sound_body (c : Dev nD) (t : Fin (cfg0 a).N) :
    bodyPre a m c t ⊢ wp frame (wpE (defs₀ (F := F)) Variants.none c none) Set.univ (bodyAt0 a t) (fun _ => bodyPost a m c t) := by
  unfold bodyPre bodyPost bodyAt0
  simp only [before0_0, before0_1, before0_2, before0_3, before0_4, before0_5, before0_6, before0_7, before0_8, before0_9, before0_10, before0_11, before0_12, before0_13]
  rw [show (dats a m 0 c).owesAt () t.succ = (dats a m 0 c).owesAt () t.castSucc from rfl,
    show (dats a m 0 c).Φ t.succ = Phi a m c t.succ from rfl, show (dats a m 0 c).Φ t.castSucc = Phi a m c t.castSucc from rfl,
    after0_0, after0_1, after0_2, after0_3, after0_4, after0_5, after0_6, after0_7, after0_8, after0_9, after0_10, after0_11, after0_12, after0_13, after0_14, after0_15, after0_16, after0_17]
  exact sound_step c Set.univ (grid0.coords t) (Memref.whole main_arg14) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (spec0_15.stage ((cfg0 a).slots t 15)) (hstage0_15 (((cfg0 a).slots t 15).cast nbuf0_15)) (spec0_16.stage ((cfg0 a).slots t 16)) (hstage0_16 (((cfg0 a).slots t 16).cast nbuf0_16)) (spec0_17.stage ((cfg0 a).slots t 17)) (hstage0_17 (((cfg0 a).slots t 17).cast nbuf0_17)) (Memref.whole cc0_scratch0) (Memref.isWhole_whole _) (iblk a m c 0 t) (iblk a m c 1 t) (iblk a m c 2 t) (iblk a m c 3 t) (iblk a m c 4 t) (iblk a m c 5 t) (iblk a m c 6 t) (iblk a m c 7 t) (iblk a m c 8 t) (iblk a m c 9 t) (iblk a m c 10 t) (iblk a m c 11 t) (iblk a m c 12 t) (iblk a m c 13 t)
    _ _ _ _ _ (fun f => t.val % 40 ≠ 0 → ∀ y, (Memref.whole cc0_scratch0).view.read (Elt F) f y = scrOf a m c t y)
    (fun f hf hc => hf fun h0 => hc (cond_first t h0)) (Phi_open a m c t) (Phi_close a m c t)

theorem defs₀_row (t : Fin (cfg0 a).N) :
    defs₀ (F := F) .tc (cfg0 a).body ((cfg0 a).bodyArgs t ((cfg0 a).slots t)) = bodyAt0 a t := by
  unfold defs₀; rw [Defs.onTc_tc]

theorem body_obligation (c : Dev nD) : BodyObligation (dats (F := F) a m 0 c) (defs₀ (F := F)) Variants.none () Set.univ := fun t => by
  rw [bigSep_W0, bigSep_W0, defs₀_row]
  exact triple_restated (sound_body a m c t) rfl .rfl fun _ => .rfl

/-! ## The whole program -/

theorem share_eq (c : Dev nD) (w : Fin (cfg0 a).W) : (dats a m 0 c).share w = fullShare := by unfold Dat.share; split <;> rfl

theorem scr_eq (c : Dev nD) (f : Buf (Elt F) ((c : Thread nD τ).loc cc0_scratch0)) :
    (iprop((Memref.whole cc0_scratch0).view.loc (c : Thread nD τ) ↦[(Memref.whole cc0_scratch0).view.set]{fullShare} f) : sProp 𝕄G)
      = iprop((c : Thread nD τ).loc cc0_scratch0 ↦{fullShare} f) := by
  rw [show (Memref.whole cc0_scratch0).view.set = Finset.univ from View.set_whole _]

theorem scr_in (c : Dev nD) (f : Buf (Elt F) ((c : Thread nD τ).loc cc0_scratch0)) :
    (iprop((c : Thread nD τ).loc cc0_scratch0 ↦{fullShare} f) : sProp 𝕄G)
      ⊢ iprop((Memref.whole cc0_scratch0).view.loc (c : Thread nD τ) ↦[(Memref.whole cc0_scratch0).view.set]{fullShare} f) := by
  rw [scr_eq]

theorem scr_out (c : Dev nD) (f : Buf (Elt F) ((c : Thread nD τ).loc cc0_scratch0)) :
    (iprop((Memref.whole cc0_scratch0).view.loc (c : Thread nD τ) ↦[(Memref.whole cc0_scratch0).view.set]{fullShare} f) : sProp 𝕄G)
      ⊢ iprop((c : Thread nD τ).loc cc0_scratch0 ↦{fullShare} f) := by
  rw [scr_eq]

theorem hin (c : Dev nD) : iprop(Pipeline.ΦA spec0 c ∗ Pipeline.ΦT pre0 a.1 c) ⊢ (dats a m 0 c).Φ 0 := by
  unfold Pipeline.ΦA
  rw [scopedRest0_eq, show (dats a m 0 c).Φ 0 = Phi a m c 0 from rfl]
  unfold Phi
  iintro ⟨⟨⟨%f, HS⟩, HP⟩, -⟩
  isplitl [HS]
  · iexists f
    isplitr
    · ipureintro; exact fun t' h hne => absurd (by rw [h]; rfl) hne
    iapply (scr_in c f)
    iexact HS
  iexact HP

theorem hout (c : Dev nD) : (dats a m 0 c).Φ (Fin.last (cfg0 a).N) ⊢ Pipeline.ΦA spec0 c := by
  unfold Pipeline.ΦA
  rw [scopedRest0_eq, show (dats a m 0 c).Φ (Fin.last (cfg0 a).N) = Phi a m c (Fin.last _) from rfl]
  unfold Phi
  iintro ⟨⟨%f, -, HS⟩, HP⟩
  isplitl [HS]
  · iexists f
    iapply (scr_out c f)
    iexact HS
  iexact HP

set_option backward.isDefEq.respectTransparency.types false in
/-- From a table the pipeline admits, the program ends with each array at what the pipeline's data say and every counter at zero. -/
theorem run_main (hp : ∀ (c : Dev nD) (k : Fin 1), V m c (pre0.ref k) = a.1 k) :
    θ_run defs (onTc (τ := τ) (main (F := F))) (s₀ m ρ) (fun r => Pipeline.FramePost (Pipeline.pin (pcfgs (F := F)) (fun _ => a)) (dats a m) 0 (V m) r ∧ r.2.sem = fun _ => 0) :=
  Pipeline.θ_run_frameP_track (Q' := _) (pcfgs (F := F)) (fun _ => a) (dats a m) (0 : Fin 1) launch0 defs₀ Variants.none m ρ main
    (hbody := fun c => (body_obligation a m c).loose) (hshare := share_eq a m)
    (howed := fun _ _ => rfl) (V := V m)
    (hmain := hmain m) (hA := A_eq a m) (hpf := hp) (hin := hin a m) (hout := hout a m) (hQ' := fun _ h => h)

/-- The program ends with its arguments unchanged and every counter at zero. -/
theorem frame_of (hp : ∀ (c : Dev nD) (k : Fin 1), V m c (pre0.ref k) = a.1 k) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) ∧ r.2.sem = fun _ => 0) :=
  (θ_run defs _ _).mono (fun r ⟨h, hz⟩ => ⟨fun c => ⟨((h c).2 main_arg0 (Pipeline.mem_restRefs_of (win := spec0) main_arg0 (by decide) (by decide))).trans (V_main_arg0 m c),
    ((h c).2 main_arg1 (Pipeline.mem_restRefs_of (win := spec0) main_arg1 (by decide) (by decide))).trans (V_main_arg1 m c),
    ((h c).2 main_arg2 (Pipeline.mem_restRefs_of (win := spec0) main_arg2 (by decide) (by decide))).trans (V_main_arg2 m c),
    ((h c).2 main_arg3 (Pipeline.mem_restRefs_of (win := spec0) main_arg3 (by decide) (by decide))).trans (V_main_arg3 m c),
    ((h c).2 main_arg4 (Pipeline.mem_restRefs_of (win := spec0) main_arg4 (by decide) (by decide))).trans (V_main_arg4 m c),
    ((h c).2 main_arg5 (Pipeline.mem_restRefs_of (win := spec0) main_arg5 (by decide) (by decide))).trans (V_main_arg5 m c),
    ((h c).2 main_arg6 (Pipeline.mem_restRefs_of (win := spec0) main_arg6 (by decide) (by decide))).trans (V_main_arg6 m c),
    ((h c).2 main_arg7 (Pipeline.mem_restRefs_of (win := spec0) main_arg7 (by decide) (by decide))).trans (V_main_arg7 m c),
    ((h c).2 main_arg8 (Pipeline.mem_restRefs_of (win := spec0) main_arg8 (by decide) (by decide))).trans (V_main_arg8 m c),
    ((h c).2 main_arg9 (Pipeline.mem_restRefs_of (win := spec0) main_arg9 (by decide) (by decide))).trans (V_main_arg9 m c),
    ((h c).2 main_arg10 (Pipeline.mem_restRefs_of (win := spec0) main_arg10 (by decide) (by decide))).trans (V_main_arg10 m c),
    ((h c).2 main_arg11 (Pipeline.mem_restRefs_of (win := spec0) main_arg11 (by decide) (by decide))).trans (V_main_arg11 m c),
    ((h c).2 main_arg12 (Pipeline.mem_restRefs_of (win := spec0) main_arg12 (by decide) (by decide))).trans (V_main_arg12 m c),
    ((h c).2 main_arg13 (Pipeline.mem_restRefs_of (win := spec0) main_arg13 (by decide) (by decide))).trans (V_main_arg13 m c),
    ((h c).2 main_arg14 (Pipeline.mem_restRefs_of (win := spec0) main_arg14 (by decide) (by decide))).trans (V_main_arg14 m c)⟩, hz⟩) (run_main a m ρ hp)

end Cert.Kernel.Hyd
-- ==== Proof.Hyd.KernelAdm.lean ====
module

public import proofs.«01_k».proof.Defs
public import proofs.«01_k».proof.Proof.Hyd.KernelFrame
public import proofs.«01_k».proof.Proof.Gen.Pre_mid_in_range
public import Idealize.ShloMosaic.Lib.ReduceAll
public import Idealize.ShloMosaic.Lib.StableHlo.Predicate

@[expose] public section

set_option maxRecDepth 16384
set_option maxHeartbeats 1000000

/-! The precondition puts every table word below 3, so every block the table places is inside its array. -/

noncomputable section

namespace Cert.Kernel.Hyd

open Cert.Kernel Cert.Kernel.Gen
open Idealize.ShloMosaic Idealize.ShloMosaic.TcCoe

/-- The table as the pipeline reads it. -/
def tbl (m : (ℓ : Loc nD τ sig) → Buf (Elt Bits) ℓ) : pre0.Contents (Elt Bits) := fun k => V m (0 : Dev nD) (pre0.ref k)

theorem tbl_at (m : (ℓ : Loc nD τ sig) → Buf (Elt Bits) ℓ) (c : Dev nD) (k : Fin 1) : V m c (pre0.ref k) = tbl m k := by
  have hc : c = 0 := Subsingleton.elim _ _
  subst hc; rfl

/-- The table's words are below 3. -/
theorem word_lt (m : (ℓ : Loc nD τ sig) → Buf (Elt Bits) ℓ) (h : Cert.Pre_Kernel m) (x : S4.Idx) :
    BitVec.toNat (w := 32) (m (((0 : Dev nD).tc : Thread nD τ).loc main_arg14) x) < 3 := by
  have e := congrFun (h 0) (fun a => a.elim0)
  have e2 : IntOp.andi (IntOp.cmpi .sge (m (((0 : Dev nD).tc : Thread nD τ).loc main_arg14) x) 0#32) (IntOp.cmpi .slt (m (((0 : Dev nD).tc : Thread nD τ).loc main_arg14) x) 3#32) = 1#1 := by
    haveI : Subsingleton Cert.Pre_mid_in_range.S_.Idx := ⟨fun a b => funext fun i => i.elim0⟩
    exact Host.reduce_andi_all _ _ _ _ _ e x
  generalize (m (((0 : Dev nD).tc : Thread nD τ).loc main_arg14) x : BitVec 32) = w at e2 ⊢
  simp only [IntOp.andi, IntOp.cmpi] at e2
  have hb : ∀ p q : Bool, (BitVec.ofBool p &&& BitVec.ofBool q = 1#1) → p = true ∧ q = true := by decide
  obtain ⟨h1, h2⟩ := hb _ _ e2
  have h1' : (0#32).toInt ≤ w.toInt := by simpa [BitVec.sle] using h1
  have h2' : w.toInt < (3#32).toInt := by simpa [BitVec.slt] using h2
  have a0 : (0#32 : BitVec 32).toInt = 0 := by decide
  have a3 : (3#32 : BitVec 32).toInt = 3 := by decide
  rw [a0] at h1'; rw [a3] at h2'
  have := BitVec.toInt_eq_toNat_cond w
  split at this <;> omega

/-- Below 3 at every word, the pipeline admits the table. -/
theorem ok_of (pf : pre0.Contents (Elt Bits)) (h : ∀ x : S4.Idx, BitVec.toNat (w := 32) (pf 0 x) < 3) : ok0 pf := by
  have h8 : ∀ i : grid0.Coords, (BitVec.ofNat 32 (i 0).val).toNat + 1 ≤ 8 := fun i => by
    have := (i 0).isLt
    have h8 : (i 0).val < 8 := this
    rw [BitVec.toNat_ofNat]; omega
  refine ⟨fun i => ⟨fun a => ?_, .inr (.inr ⟨by decide, rfl, rfl, rfl⟩)⟩, fun i => ⟨fun a => ?_, .inr (.inr ⟨by decide, rfl, rfl, rfl⟩)⟩,
    fun i => ⟨fun a => ?_, .inr (.inr ⟨by decide, rfl, rfl, rfl⟩)⟩, fun i => ⟨fun a => ?_, .inl rfl⟩⟩
  all_goals
    exact match a with
    | ⟨0, _⟩ => by
      have := h ((Rect.unit (s := S4) ![(Scalar.indexCast (BitVec.ofNat 32 (i 1).val) : Index).toNat] S1.size (k0_off1_inb i)).emb (Shape.Idx.first (numel1_S1.symm ▸ Nat.one_pos)))
      exact le_of_eq_of_le (Nat.mul_one _) this
    | ⟨1, _⟩ => le_of_eq_of_le (Nat.mul_one _) (h8 i)
    | ⟨2, _⟩ => le_of_eq (Nat.one_mul _)
    | ⟨3, _⟩ => le_of_eq (Nat.one_mul _)

/-- The table as the pipeline is run at it. -/
def adm (m : (ℓ : Loc nD τ sig) → Buf (Elt Bits) ℓ) (h : Cert.Pre_Kernel m) : (pcfg0 (F := Bits)).Adm :=
  ⟨tbl m, ok_of (tbl m) fun x => by
    have e : tbl m 0 = m (((0 : Dev nD) : Thread nD τ).loc main_arg14) := V_main_arg14 m 0
    rw [e]; exact word_lt m h x⟩

/-- The program's frame. -/
theorem frame : Cert.quiescent_Kernel := fun m g h => frame_of (adm m h) m g (fun c k => tbl_at m c k)

end Cert.Kernel.Hyd
-- ==== Proof.Hyd.KernelIdealFill.lean ====
module

public import proofs.«01_k».proof.Proof.Gen.KernelIdeal.Loops
public import Idealize.ShloMosaic.Lib.Pipeline.FrameBody
public import Idealize.ShloMosaic.Lib.Pipeline.Value
public import Idealize.ShloMosaic.Lib.Pointwise
public import Idealize.ShloMosaic.Lib.WritesUnit
public import Idealize.ShloMosaic.Lib.ValueLayout
public import Idealize.ShloMosaic.Lib.ValueIdxCore

@[expose] public section

set_option maxRecDepth 8192
set_option maxHeartbeats 4000000

/-! The loop that fills the scratch array with the broadcast key scales: its invariant, and one
    trip of it, one part of the trip at a time. -/

noncomputable section

namespace Cert.KernelIdeal.Hyd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- What the scratch holds once filled: row `8·q + s` is the scale at sublane `s`, lane `q`. -/
def kspOf (X9 : S1x8x4096.Idx → F .f32) : S32768x128.Idx → F .f32 := fun y =>
  X9 (fun a => ⟨(![0, (y 0).val % 8, (y 0).val / 8] : Fin 3 → ℕ) a, by
    have h := (y 0).isLt
    have h' : (y 0).val < 32768 := h
    fin_cases a
    · exact Nat.one_pos
    · exact Nat.mod_lt _ (by decide)
    · show (y 0).val / 8 < 4096
      omega⟩)

/-- The scratch with its first `8·(128·k + n)` rows filled, and the scales' window. -/
def FillR (c : Dev nD) (arg9 : Memref sig .tc .vmem S1x8x4096 .f32) (arg22 : Memref sig .tc .vmem S32768x128 .f32)
    (f9 : Buf (Elt F) (arg9.view.loc (c : Thread nD τ))) (k n : ℕ) : sProp 𝕄G :=
  iprop((arg9.view.loc (c : Thread nD τ) ↦[arg9.view.set]{fullShare} f9) ∗ ∃ f : Buf (Elt F) (arg22.view.loc (c : Thread nD τ)),
    ⌜∀ y : S32768x128.Idx, (y 0).val < 8 * (128 * k + n) → arg22.view.read (Elt F) f y = kspOf (arg9.view.read (Elt F) f9) y⌝ ∗
    (arg22.view.loc (c : Thread nD τ) ↦[arg22.view.set]{fullShare} f))

/-- The eight-row block of scales trip `k` reads agrees with what the scratch is to hold. -/
def Spread (W : S32768x128.Idx → F .f32) (k : ℕ) (v : FVec F S8x128 .f32) : Prop :=
  ∀ (s : Fin 8) (j : Fin 128) (y : S32768x128.Idx), (y 0).val = 8 * (128 * k + j.val) + s.val → v (ValueIdx.ix2 s j) = W y

theorem slices_n (n : ℕ) (h : n < 128) : S8x128.Slices ![0, n] S8x1 := by
  refine ⟨rfl, fun a => ?_⟩
  match a with
  | ⟨0, _⟩ => exact Nat.le_refl 8
  | ⟨1, _⟩ => exact h

/-- Lane `n` of a block of scales, over all lanes. -/
def spr (n : ℕ) (h : n < 128) (v : FVec F S8x128 .f32) : FVec F S8x128 .f32 :=
  shapeCast S8x128 (broadcastTo S8x128 (shapeCast S8x1 (extractStridedSlice S8x1 ![0, n] v (slices_n n h)) shapeCasts_S8x1_S8x1) broadcasts_S8x1_S8x128) shapeCasts_S8x128_S8x128

theorem spr_apply (n : ℕ) (h : n < 128) (v : FVec F S8x128 .f32) (x : S8x128.Idx) :
    spr n h v x = v (ValueIdx.ix2 (x 0) ⟨n, h⟩) := by
  unfold spr
  rw [shapeCast_self, shapeCast_self]
  refine (broadcastTo_apply _ _ x (ValueIdx.ix2 (x 0 : Fin 8) (⟨0, Nat.one_pos⟩ : Fin 1)) fun a => ?_).trans
    (extractStridedSlice_apply _ _ _ _ (ValueIdx.ix2 (x 0 : Fin 8) (⟨n, h⟩ : Fin 128)) fun a => ?_)
  · match a with
    | ⟨0, _⟩ => rfl
    | ⟨1, _⟩ => rfl
  · match a with
    | ⟨0, _⟩ => exact (Nat.zero_add _).symm
    | ⟨1, _⟩ => exact (Nat.add_zero _).symm

section Steps

variable (𝒱 : Variants) (c : Dev nD) (bd : Option 𝒱.V) (E : Set ℕ)
  (arg9 : Memref sig .tc .vmem S1x8x4096 .f32) (arg22 : Memref sig .tc .vmem S32768x128 .f32)
  (f9 : Buf (Elt F) (arg9.view.loc (c : Thread nD τ)))

local notation "WPE" => wpE (defs₀ (F := F)) 𝒱 (c : Thread nD τ) bd

theorem fill_ld {α : Type} {Q : α → sProp 𝕄G} {k n : ℕ} {r : LoadRect S32768x128} {hl : arg22.view.LoadsAt r}
    {K : (r.shape.Idx → Elt F .f32) → Prog (TpuEff nD τ sig (Elt F) Λ₀ .tc) α}
    (h : ∀ x, FillR c arg9 arg22 f9 k n ⊢ wp frame WPE E (K x) Q) :
    FillR c arg9 arg22 f9 k n ⊢ wp frame WPE E (Prog.lift (.load arg22 r hl) >>= K) Q := by
  show _ ⊢ wp frame WPE E (.op (.load arg22 r hl) K) Q
  unfold FillR
  iintro ⟨H9, %f, %hf, H22⟩
  iapply (wp_load 𝒱 (c : Thread nD τ) bd E (m := arg22) (r := r) (hl := hl) (k := K) (Q := Q) (S := arg22.view.set) (q := fullShare) (f := f)
    (arg22.view.setOn_subset_set r.set)) $$ H22
  iintro H22
  iapply (h _)
  unfold FillR
  isplitl [H9]; · iexact H9
  iexists f
  isplitr [H22]; · ipureintro; exact hf
  iexact H22

theorem fill_ld9 {α : Type} {Q : α → sProp 𝕄G} {k n : ℕ} {r : LoadRect S1x8x4096} {hl : arg9.view.LoadsAt r}
    {K : (r.shape.Idx → Elt F .f32) → Prog (TpuEff nD τ sig (Elt F) Λ₀ .tc) α}
    (h : FillR c arg9 arg22 f9 k n ⊢ wp frame WPE E (K (arg9.view.readAt (Elt F) r f9)) Q) :
    FillR c arg9 arg22 f9 k n ⊢ wp frame WPE E (Prog.lift (.load arg9 r hl) >>= K) Q := by
  show _ ⊢ wp frame WPE E (.op (.load arg9 r hl) K) Q
  unfold FillR
  iintro ⟨H9, %f, %hf, H22⟩
  iapply (wp_load 𝒱 (c : Thread nD τ) bd E (m := arg9) (r := r) (hl := hl) (k := K) (Q := Q) (S := arg9.view.set) (q := fullShare) (f := f9)
    (arg9.view.setOn_subset_set r.set)) $$ H9
  iintro H9
  iapply h
  unfold FillR
  isplitl [H9]; · iexact H9
  iexists f
  isplitr [H22]; · ipureintro; exact hf
  iexact H22

theorem fill_st {α : Type} {Q : α → sProp 𝕄G} {k : ℕ} (n : ℕ) (hn : n < 128) {v : FVec F S8x128 .f32}
    (hv : Spread (kspOf (arg9.view.read (Elt F) f9)) k v) {off : Fin 2 → ℕ} {inb : ∀ a, off a + S8x128.size a ≤ S32768x128.size a}
    (hoff : off = ![8 * (128 * k + n), 0]) {w : FVec F S8x128 .f32} (hw : w = spr n hn v)
    {hx : (arg22.access (Rect.unit (s := S32768x128) off S8x128.size inb)).Stores Finset.univ}
    {hm : Finset.univ = Finset.univ ∨ ∀ a, (Rect.unit (s := S32768x128) off S8x128.size inb).stride a = 1}
    {K : PUnit → Prog (TpuEff nD τ sig (Elt F) Λ₀ .tc) α}
    (h : FillR c arg9 arg22 f9 k (n + 1) ⊢ wp frame WPE E (K ⟨⟩) Q) :
    FillR c arg9 arg22 f9 k n ⊢ wp frame WPE E
      (Prog.lift (.store arg22 (Rect.unit (s := S32768x128) off S8x128.size inb) w Finset.univ hx hm) >>= K) Q := by
  show _ ⊢ wp frame WPE E (.op (.store arg22 (Rect.unit (s := S32768x128) off S8x128.size inb) w Finset.univ hx hm) K) Q
  unfold FillR
  iintro ⟨H9, %f, %hf, H22⟩
  iapply (wp_store_writes₀ 𝒱 (c : Thread nD τ) bd E (m := arg22) (r := Rect.unit (s := S32768x128) off S8x128.size inb) (w := w) (hx := hx) (hm := hm) (k := K) (Q := Q)
    (S := arg22.view.set) (f := f) (View.set_slice_subset _ _)) $$ H22
  iintro H22
  iapply h
  unfold FillR
  isplitl [H9]; · iexact H9
  iexists (arg22.view.writes (Elt F) f [⟨Rect.unit (s := S32768x128) off S8x128.size inb, w⟩])
  isplitr [H22]
  · ipureintro
    subst hw
    intro y hy
    by_cases hlt : (y 0).val < 8 * (128 * k + n)
    · rw [View.read_writes_cons_unit_of_not_mem arg22.view f inb _ _ y hoff 0 (Or.inl hlt)]
      exact hf y hlt
    · have h1 : (y 1).val < 128 := (y 1).isLt
      rw [View.read_writes_cons_unit_of_mem arg22.view f inb _ _ y
        (ValueIdx.ix2 (⟨(y 0).val - 8 * (128 * k + n), by omega⟩ : Fin 8) (⟨(y 1).val, h1⟩ : Fin 128)) hoff (fun a => ?_)]
      · exact (spr_apply n hn v _).trans (hv _ _ y (by show (y 0).val = 8 * (128 * k + n) + ((y 0).val - 8 * (128 * k + n)); omega))
      · match a with
        | ⟨0, _⟩ => show (y 0).val = 8 * (128 * k + n) + ((y 0).val - 8 * (128 * k + n)); omega
        | ⟨1, _⟩ => exact (Nat.zero_add _).symm
  iexact H22

theorem fill_ret {α : Type} {k n : ℕ} (a : α) :
    FillR c arg9 arg22 f9 k n ⊢ wp frame WPE E (pure a : Prog (TpuEff nD τ sig (Elt F) Λ₀ .tc) α) (fun x => iprop(⌜x = a⌝ ∗ FillR c arg9 arg22 f9 k n)) := by
  iintro H
  sl_step
  isplitr [H]; · ipureintro; rfl
  iexact H

theorem fill_bind {α β : Type} {Q : β → sProp 𝕄G} {k n n' : ℕ} {a : α} {p : Prog (TpuEff nD τ sig (Elt F) Λ₀ .tc) α}
    {K : α → Prog (TpuEff nD τ sig (Elt F) Λ₀ .tc) β}
    (hp : FillR c arg9 arg22 f9 k n ⊢ wp frame WPE E p (fun x => iprop(⌜x = a⌝ ∗ FillR c arg9 arg22 f9 k n')))
    (h : FillR c arg9 arg22 f9 k n' ⊢ wp frame WPE E (K a) Q) :
    FillR c arg9 arg22 f9 k n ⊢ wp frame WPE E (p >>= K) Q := by
  rw [wp_bind]
  refine hp.trans (wp_mono _ _ _ fun x => ?_)
  iintro ⟨%hx, H⟩
  subst hx
  iapply h
  iexact H

end Steps

theorem off3n (k0_t1 : Fin k0_t1_loop.trips) (n : Fin 128) :
    k0_off3 k0_t1 (BitVec.ofNat 32 n.val) = ![8 * (128 * k0_t1.val + n.val), 0] := by
  rw [k0_off3_eq, show 8 * (128 * k0_t1.val + n.val) = 1024 * k0_t1.val + 8 * n.val by omega]

theorem spread_read (i : grid0.Coords) (arg9 : Memref sig .tc .vmem S1x8x4096 .f32) (k0_h1 : k0_cond1 i = 1#1) (c : Dev nD)
    (f9 : Buf (Elt F) (arg9.view.loc (c : Thread nD τ))) (k0_t1 : Fin k0_t1_loop.trips) :
    Spread (kspOf (arg9.view.read (Elt F) f9)) k0_t1.val (k0_pay2 (arg9.view.readAt (Elt F)
      (Rect.unit (s := S1x8x4096) (k0_off2 k0_t1) S1x8x128.size (k0_off2_inb i k0_t1 k0_h1)).toLoadRect f9)) := by
  intro s j y hy
  unfold k0_pay2
  refine (ValueIdx.shapeCast_1ab_ab_apply _ _ s j).trans ?_
  show arg9.view.read (Elt F) f9 _ = arg9.view.read (Elt F) f9 _
  congr 1
  funext a
  apply Fin.ext
  have h0 := k0_off2_eq k0_t1
  match a with
  | ⟨0, _⟩ => show k0_off2 k0_t1 0 + 1 * 0 = 0; rw [h0]; rfl
  | ⟨1, _⟩ =>
    show k0_off2 k0_t1 1 + 1 * s.val = (y 0).val % 8
    rw [h0, hy]; show 0 + 1 * s.val = _; omega
  | ⟨2, _⟩ =>
    show k0_off2 k0_t1 2 + 1 * j.val = (y 0).val / 8
    rw [h0, hy]; show 128 * k0_t1.val + 1 * j.val = _; omega

theorem part1_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) (hv : Spread (kspOf (arg9.view.read (Elt F) f9)) k0_t1.val (k0_pay2 (arg9.view.readAt (Elt F) (Rect.unit (s := S1x8x4096) (k0_off2 k0_t1) S1x8x128.size (k0_off2_inb i k0_t1 k0_h1)).toLoadRect f9))) :
    FillR c arg9 arg22 f9 k0_t1.val 0 ⊢ wp frame (wpE (defs₀ (F := F)) 𝒱 (c : Thread nD τ) bd) E
      (k0_part1 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 0#32 1#32 k0_t1)
      (fun x => iprop(⌜x = ⟨(Scf.iv 0#32 1#32 k0_t1), k0_pay2 (arg9.view.readAt (Elt F) (Rect.unit (s := S1x8x4096) (k0_off2 k0_t1) S1x8x128.size (k0_off2_inb i k0_t1 k0_h1)).toLoadRect f9), (Scalar.muli (Scf.iv 0#32 1#32 k0_t1) 128#32), 3#32⟩⌝ ∗ FillR c arg9 arg22 f9 k0_t1.val 3)) := by
  rw [k0_part1_eq_skeleton]
  unfold k0_part1_skel
  refine fill_ld9 𝒱 c bd E arg9 arg22 f9 ?_
  refine fill_ld 𝒱 c bd E arg9 arg22 f9 fun _ => ?_
  refine fill_st 𝒱 c bd E arg9 arg22 f9 0 (by decide) hv (off3n k0_t1 ⟨0, by decide⟩) rfl ?_
  refine fill_ld 𝒱 c bd E arg9 arg22 f9 fun _ => ?_
  refine fill_st 𝒱 c bd E arg9 arg22 f9 1 (by decide) hv (off3n k0_t1 ⟨1, by decide⟩) rfl ?_
  refine fill_ld 𝒱 c bd E arg9 arg22 f9 fun _ => ?_
  refine fill_st 𝒱 c bd E arg9 arg22 f9 2 (by decide) hv (off3n k0_t1 ⟨2, by decide⟩) rfl ?_
  exact fill_ret 𝒱 c bd E arg9 arg22 f9 _

theorem part2_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 3 ⊢ wp frame (wpE (defs₀ (F := F)) 𝒱 (c : Thread nD τ) bd) E
      (k0_part2 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (Scalar.muli (Scf.iv 0#32 1#32 k0_t1) 128#32) 3#32)
      (fun x => iprop(⌜x = (k0_pay9 v112)⌝ ∗ FillR c arg9 arg22 f9 k0_t1.val 6)) := by
  rw [k0_part2_eq_skeleton]
  unfold k0_part2_skel
  refine fill_ld 𝒱 c bd E arg9 arg22 f9 fun _ => ?_
  refine fill_st 𝒱 c bd E arg9 arg22 f9 3 (by decide) hv (off3n k0_t1 ⟨3, by decide⟩) rfl ?_
  refine fill_ld 𝒱 c bd E arg9 arg22 f9 fun _ => ?_
  refine fill_st 𝒱 c bd E arg9 arg22 f9 4 (by decide) hv (off3n k0_t1 ⟨4, by decide⟩) rfl ?_
  refine fill_ld 𝒱 c bd E arg9 arg22 f9 fun _ => ?_
  refine fill_st 𝒱 c bd E arg9 arg22 f9 5 (by decide) hv (off3n k0_t1 ⟨5, by decide⟩) rfl ?_
  refine fill_ld 𝒱 c bd E arg9 arg22 f9 fun _ => ?_
  exact fill_ret 𝒱 c bd E arg9 arg22 f9 _

theorem part3_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 6 ⊢ wp frame (wpE (defs₀ (F := F)) 𝒱 (c : Thread nD τ) bd) E
      (k0_part3 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (k0_pay9 v112))
      (fun x => iprop(⌜x = (k0_pay13 v112)⌝ ∗ FillR c arg9 arg22 f9 k0_t1.val 10)) := by
  rw [k0_part3_eq_skeleton]
  unfold k0_part3_skel
  refine fill_st 𝒱 c bd E arg9 arg22 f9 6 (by decide) hv (off3n k0_t1 ⟨6, by decide⟩) rfl ?_
  refine fill_ld 𝒱 c bd E arg9 arg22 f9 fun _ => ?_
  refine fill_st 𝒱 c bd E arg9 arg22 f9 7 (by decide) hv (off3n k0_t1 ⟨7, by decide⟩) rfl ?_
  refine fill_ld 𝒱 c bd E arg9 arg22 f9 fun _ => ?_
  refine fill_st 𝒱 c bd E arg9 arg22 f9 8 (by decide) hv (off3n k0_t1 ⟨8, by decide⟩) rfl ?_
  refine fill_ld 𝒱 c bd E arg9 arg22 f9 fun _ => ?_
  refine fill_st 𝒱 c bd E arg9 arg22 f9 9 (by decide) hv (off3n k0_t1 ⟨9, by decide⟩) rfl ?_
  exact fill_ret 𝒱 c bd E arg9 arg22 f9 _

theorem part4_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 10 ⊢ wp frame (wpE (defs₀ (F := F)) 𝒱 (c : Thread nD τ) bd) E
      (k0_part4 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (k0_pay13 v112))
      (fun x => iprop(⌜x = ((Scalar.muli (Scalar.addi (Scalar.muli (Scf.iv 0#32 1#32 k0_t1) 128#32) 14#32) 8#32))⌝ ∗ FillR c arg9 arg22 f9 k0_t1.val 14)) := by
  rw [k0_part4_eq_skeleton]
  unfold k0_part4_skel
  refine fill_ld 𝒱 c bd E arg9 arg22 f9 fun _ => ?_
  refine fill_st 𝒱 c bd E arg9 arg22 f9 10 (by decide) hv (off3n k0_t1 ⟨10, by decide⟩) rfl ?_
  refine fill_ld 𝒱 c bd E arg9 arg22 f9 fun _ => ?_
  refine fill_st 𝒱 c bd E arg9 arg22 f9 11 (by decide) hv (off3n k0_t1 ⟨11, by decide⟩) rfl ?_
  refine fill_ld 𝒱 c bd E arg9 arg22 f9 fun _ => ?_
  refine fill_st 𝒱 c bd E arg9 arg22 f9 12 (by decide) hv (off3n k0_t1 ⟨12, by decide⟩) rfl ?_
  refine fill_ld 𝒱 c bd E arg9 arg22 f9 fun _ => ?_
  refine fill_st 𝒱 c bd E arg9 arg22 f9 13 (by decide) hv (off3n k0_t1 ⟨13, by decide⟩) rfl ?_
  exact fill_ret 𝒱 c bd E arg9 arg22 f9 _

theorem part5_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 14 ⊢ wp frame (wpE (defs₀ (F := F)) 𝒱 (c : Thread nD τ) bd) E
      (k0_part5 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 ((Scalar.muli (Scalar.addi (Scalar.muli (Scf.iv 0#32 1#32 k0_t1) 128#32) 14#32) 8#32)))
      (fun x => iprop(⌜x = ⟨(Scalar.muli (Scf.iv 0#32 1#32 k0_t1) 128#32), 18#32⟩⌝ ∗ FillR c arg9 arg22 f9 k0_t1.val 18)) := by
  rw [k0_part5_eq_skeleton]
  unfold k0_part5_skel
  refine fill_ld 𝒱 c bd E arg9 arg22 f9 fun _ => ?_
  refine fill_st 𝒱 c bd E arg9 arg22 f9 14 (by decide) hv (off3n k0_t1 ⟨14, by decide⟩) rfl ?_
  refine fill_ld 𝒱 c bd E arg9 arg22 f9 fun _ => ?_
  refine fill_st 𝒱 c bd E arg9 arg22 f9 15 (by decide) hv (off3n k0_t1 ⟨15, by decide⟩) rfl ?_
  refine fill_ld 𝒱 c bd E arg9 arg22 f9 fun _ => ?_
  refine fill_st 𝒱 c bd E arg9 arg22 f9 16 (by decide) hv (off3n k0_t1 ⟨16, by decide⟩) rfl ?_
  refine fill_ld 𝒱 c bd E arg9 arg22 f9 fun _ => ?_
  refine fill_st 𝒱 c bd E arg9 arg22 f9 17 (by decide) hv (off3n k0_t1 ⟨17, by decide⟩) rfl ?_
  exact fill_ret 𝒱 c bd E arg9 arg22 f9 _

theorem part6_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 18 ⊢ wp frame (wpE (defs₀ (F := F)) 𝒱 (c : Thread nD τ) bd) E
      (k0_part6 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (Scalar.muli (Scf.iv 0#32 1#32 k0_t1) 128#32) 18#32)
      (fun x => iprop(⌜x = (k0_pay25 v112)⌝ ∗ FillR c arg9 arg22 f9 k0_t1.val 21)) := by
  rw [k0_part6_eq_skeleton]
  unfold k0_part6_skel
  refine fill_ld 𝒱 c bd E arg9 arg22 f9 fun _ => ?_
  refine fill_st 𝒱 c bd E arg9 arg22 f9 18 (by decide) hv (off3n k0_t1 ⟨18, by decide⟩) rfl ?_
  refine fill_ld 𝒱 c bd E arg9 arg22 f9 fun _ => ?_
  refine fill_st 𝒱 c bd E arg9 arg22 f9 19 (by decide) hv (off3n k0_t1 ⟨19, by decide⟩) rfl ?_
  refine fill_ld 𝒱 c bd E arg9 arg22 f9 fun _ => ?_
  refine fill_st 𝒱 c bd E arg9 arg22 f9 20 (by decide) hv (off3n k0_t1 ⟨20, by decide⟩) rfl ?_
  refine fill_ld 𝒱 c bd E arg9 arg22 f9 fun _ => ?_
  exact fill_ret 𝒱 c bd E arg9 arg22 f9 _

theorem part7_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 21 ⊢ wp frame (wpE (defs₀ (F := F)) 𝒱 (c : Thread nD τ) bd) E
      (k0_part7 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (k0_pay25 v112))
      (fun x => iprop(⌜x = (k0_pay29 v112)⌝ ∗ FillR c arg9 arg22 f9 k0_t1.val 25)) := by
  rw [k0_part7_eq_skeleton]
  unfold k0_part7_skel
  refine fill_st 𝒱 c bd E arg9 arg22 f9 21 (by decide) hv (off3n k0_t1 ⟨21, by decide⟩) rfl ?_
  refine fill_ld 𝒱 c bd E arg9 arg22 f9 fun _ => ?_
  refine fill_st 𝒱 c bd E arg9 arg22 f9 22 (by decide) hv (off3n k0_t1 ⟨22, by decide⟩) rfl ?_
  refine fill_ld 𝒱 c bd E arg9 arg22 f9 fun _ => ?_
  refine fill_st 𝒱 c bd E arg9 arg22 f9 23 (by decide) hv (off3n k0_t1 ⟨23, by decide⟩) rfl ?_
  refine fill_ld 𝒱 c bd E arg9 arg22 f9 fun _ => ?_
  refine fill_st 𝒱 c bd E arg9 arg22 f9 24 (by decide) hv (off3n k0_t1 ⟨24, by decide⟩) rfl ?_
  exact fill_ret 𝒱 c bd E arg9 arg22 f9 _

theorem part8_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 25 ⊢ wp frame (wpE (defs₀ (F := F)) 𝒱 (c : Thread nD τ) bd) E
      (k0_part8 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (k0_pay29 v112))
      (fun x => iprop(⌜x = ((Scalar.muli (Scalar.addi (Scalar.muli (Scf.iv 0#32 1#32 k0_t1) 128#32) 29#32) 8#32))⌝ ∗ FillR c arg9 arg22 f9 k0_t1.val 29)) := by
  rw [k0_part8_eq_skeleton]
  unfold k0_part8_skel
  refine fill_ld 𝒱 c bd E arg9 arg22 f9 fun _ => ?_
  refine fill_st 𝒱 c bd E arg9 arg22 f9 25 (by decide) hv (off3n k0_t1 ⟨25, by decide⟩) rfl ?_
  refine fill_ld 𝒱 c bd E arg9 arg22 f9 fun _ => ?_
  refine fill_st 𝒱 c bd E arg9 arg22 f9 26 (by decide) hv (off3n k0_t1 ⟨26, by decide⟩) rfl ?_
  refine fill_ld 𝒱 c bd E arg9 arg22 f9 fun _ => ?_
  refine fill_st 𝒱 c bd E arg9 arg22 f9 27 (by decide) hv (off3n k0_t1 ⟨27, by decide⟩) rfl ?_
  refine fill_ld 𝒱 c bd E arg9 arg22 f9 fun _ => ?_
  refine fill_st 𝒱 c bd E arg9 arg22 f9 28 (by decide) hv (off3n k0_t1 ⟨28, by decide⟩) rfl ?_
  exact fill_ret 𝒱 c bd E arg9 arg22 f9 _

theorem part9_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 29 ⊢ wp frame (wpE (defs₀ (F := F)) 𝒱 (c : Thread nD τ) bd) E
      (k0_part9 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 ((Scalar.muli (Scalar.addi (Scalar.muli (Scf.iv 0#32 1#32 k0_t1) 128#32) 29#32) 8#32)))
      (fun x => iprop(⌜x = ⟨(Scalar.muli (Scf.iv 0#32 1#32 k0_t1) 128#32), 33#32⟩⌝ ∗ FillR c arg9 arg22 f9 k0_t1.val 33)) := by
  rw [k0_part9_eq_skeleton]
  unfold k0_part9_skel
  refine fill_ld 𝒱 c bd E arg9 arg22 f9 fun _ => ?_
  refine fill_st 𝒱 c bd E arg9 arg22 f9 29 (by decide) hv (off3n k0_t1 ⟨29, by decide⟩) rfl ?_
  refine fill_ld 𝒱 c bd E arg9 arg22 f9 fun _ => ?_
  refine fill_st 𝒱 c bd E arg9 arg22 f9 30 (by decide) hv (off3n k0_t1 ⟨30, by decide⟩) rfl ?_
  refine fill_ld 𝒱 c bd E arg9 arg22 f9 fun _ => ?_
  refine fill_st 𝒱 c bd E arg9 arg22 f9 31 (by decide) hv (off3n k0_t1 ⟨31, by decide⟩) rfl ?_
  refine fill_ld 𝒱 c bd E arg9 arg22 f9 fun _ => ?_
  refine fill_st 𝒱 c bd E arg9 arg22 f9 32 (by decide) hv (off3n k0_t1 ⟨32, by decide⟩) rfl ?_
  exact fill_ret 𝒱 c bd E arg9 arg22 f9 _

theorem part10_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 33 ⊢ wp frame (wpE (defs₀ (F := F)) 𝒱 (c : Thread nD τ) bd) E
      (k0_part10 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (Scalar.muli (Scf.iv 0#32 1#32 k0_t1) 128#32) 33#32)
      (fun x => iprop(⌜x = (k0_pay41 v112)⌝ ∗ FillR c arg9 arg22 f9 k0_t1.val 36)) := by
  rw [k0_part10_eq_skeleton]
  unfold k0_part10_skel
  refine fill_ld 𝒱 c bd E arg9 arg22 f9 fun _ => ?_
  refine fill_st 𝒱 c bd E arg9 arg22 f9 33 (by decide) hv (off3n k0_t1 ⟨33, by decide⟩) rfl ?_
  refine fill_ld 𝒱 c bd E arg9 arg22 f9 fun _ => ?_
  refine fill_st 𝒱 c bd E arg9 arg22 f9 34 (by decide) hv (off3n k0_t1 ⟨34, by decide⟩) rfl ?_
  refine fill_ld 𝒱 c bd E arg9 arg22 f9 fun _ => ?_
  refine fill_st 𝒱 c bd E arg9 arg22 f9 35 (by decide) hv (off3n k0_t1 ⟨35, by decide⟩) rfl ?_
  refine fill_ld 𝒱 c bd E arg9 arg22 f9 fun _ => ?_
  exact fill_ret 𝒱 c bd E arg9 arg22 f9 _

theorem part11_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 36 ⊢ wp frame (wpE (defs₀ (F := F)) 𝒱 (c : Thread nD τ) bd) E
      (k0_part11 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (k0_pay41 v112))
      (fun x => iprop(⌜x = (k0_pay45 v112)⌝ ∗ FillR c arg9 arg22 f9 k0_t1.val 40)) := by
  rw [k0_part11_eq_skeleton]
  unfold k0_part11_skel
  refine fill_st 𝒱 c bd E arg9 arg22 f9 36 (by decide) hv (off3n k0_t1 ⟨36, by decide⟩) rfl ?_
  refine fill_ld 𝒱 c bd E arg9 arg22 f9 fun _ => ?_
  refine fill_st 𝒱 c bd E arg9 arg22 f9 37 (by decide) hv (off3n k0_t1 ⟨37, by decide⟩) rfl ?_
  refine fill_ld 𝒱 c bd E arg9 arg22 f9 fun _ => ?_
  refine fill_st 𝒱 c bd E arg9 arg22 f9 38 (by decide) hv (off3n k0_t1 ⟨38, by decide⟩) rfl ?_
  refine fill_ld 𝒱 c bd E arg9 arg22 f9 fun _ => ?_
  refine fill_st 𝒱 c bd E arg9 arg22 f9 39 (by decide) hv (off3n k0_t1 ⟨39, by decide⟩) rfl ?_
  exact fill_ret 𝒱 c bd E arg9 arg22 f9 _

theorem part12_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 40 ⊢ wp frame (wpE (defs₀ (F := F)) 𝒱 (c : Thread nD τ) bd) E
      (k0_part12 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (k0_pay45 v112))
      (fun x => iprop(⌜x = ((Scalar.muli (Scalar.addi (Scalar.muli (Scf.iv 0#32 1#32 k0_t1) 128#32) 44#32) 8#32))⌝ ∗ FillR c arg9 arg22 f9 k0_t1.val 44)) := by
  rw [k0_part12_eq_skeleton]
  unfold k0_part12_skel
  refine fill_ld 𝒱 c bd E arg9 arg22 f9 fun _ => ?_
  refine fill_st 𝒱 c bd E arg9 arg22 f9 40 (by decide) hv (off3n k0_t1 ⟨40, by decide⟩) rfl ?_
  refine fill_ld 𝒱 c bd E arg9 arg22 f9 fun _ => ?_
  refine fill_st 𝒱 c bd E arg9 arg22 f9 41 (by decide) hv (off3n k0_t1 ⟨41, by decide⟩) rfl ?_
  refine fill_ld 𝒱 c bd E arg9 arg22 f9 fun _ => ?_
  refine fill_st 𝒱 c bd E arg9 arg22 f9 42 (by decide) hv (off3n k0_t1 ⟨42, by decide⟩) rfl ?_
  refine fill_ld 𝒱 c bd E arg9 arg22 f9 fun _ => ?_
  refine fill_st 𝒱 c bd E arg9 arg22 f9 43 (by decide) hv (off3n k0_t1 ⟨43, by decide⟩) rfl ?_
  exact fill_ret 𝒱 c bd E arg9 arg22 f9 _

theorem part13_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 44 ⊢ wp frame (wpE (defs₀ (F := F)) 𝒱 (c : Thread nD τ) bd) E
      (k0_part13 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 ((Scalar.muli (Scalar.addi (Scalar.muli (Scf.iv 0#32 1#32 k0_t1) 128#32) 44#32) 8#32)))
      (fun x => iprop(⌜x = ⟨(Scalar.muli (Scf.iv 0#32 1#32 k0_t1) 128#32), 48#32⟩⌝ ∗ FillR c arg9 arg22 f9 k0_t1.val 48)) := by
  rw [k0_part13_eq_skeleton]
  unfold k0_part13_skel
  refine fill_ld 𝒱 c bd E arg9 arg22 f9 fun _ => ?_
  refine fill_st 𝒱 c bd E arg9 arg22 f9 44 (by decide) hv (off3n k0_t1 ⟨44, by decide⟩) rfl ?_
  refine fill_ld 𝒱 c bd E arg9 arg22 f9 fun _ => ?_
  refine fill_st 𝒱 c bd E arg9 arg22 f9 45 (by decide) hv (off3n k0_t1 ⟨45, by decide⟩) rfl ?_
  refine fill_ld 𝒱 c bd E arg9 arg22 f9 fun _ => ?_
  refine fill_st 𝒱 c bd E arg9 arg22 f9 46 (by decide) hv (off3n k0_t1 ⟨46, by decide⟩) rfl ?_
  refine fill_ld 𝒱 c bd E arg9 arg22 f9 fun _ => ?_
  refine fill_st 𝒱 c bd E arg9 arg22 f9 47 (by decide) hv (off3n k0_t1 ⟨47, by decide⟩) rfl ?_
  exact fill_ret 𝒱 c bd E arg9 arg22 f9 _

theorem part14_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 48 ⊢ wp frame (wpE (defs₀ (F := F)) 𝒱 (c : Thread nD τ) bd) E
      (k0_part14 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (Scalar.muli (Scf.iv 0#32 1#32 k0_t1) 128#32) 48#32)
      (fun x => iprop(⌜x = (k0_pay57 v112)⌝ ∗ FillR c arg9 arg22 f9 k0_t1.val 51)) := by
  rw [k0_part14_eq_skeleton]
  unfold k0_part14_skel
  refine fill_ld 𝒱 c bd E arg9 arg22 f9 fun _ => ?_
  refine fill_st 𝒱 c bd E arg9 arg22 f9 48 (by decide) hv (off3n k0_t1 ⟨48, by decide⟩) rfl ?_
  refine fill_ld 𝒱 c bd E arg9 arg22 f9 fun _ => ?_
  refine fill_st 𝒱 c bd E arg9 arg22 f9 49 (by decide) hv (off3n k0_t1 ⟨49, by decide⟩) rfl ?_
  refine fill_ld 𝒱 c bd E arg9 arg22 f9 fun _ => ?_
  refine fill_st 𝒱 c bd E arg9 arg22 f9 50 (by decide) hv (off3n k0_t1 ⟨50, by decide⟩) rfl ?_
  refine fill_ld 𝒱 c bd E arg9 arg22 f9 fun _ => ?_
  exact fill_ret 𝒱 c bd E arg9 arg22 f9 _

theorem part15_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 51 ⊢ wp frame (wpE (defs₀ (F := F)) 𝒱 (c : Thread nD τ) bd) E
      (k0_part15 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (k0_pay57 v112))
      (fun x => iprop(⌜x = (k0_pay61 v112)⌝ ∗ FillR c arg9 arg22 f9 k0_t1.val 55)) := by
  rw [k0_part15_eq_skeleton]
  unfold k0_part15_skel
  refine fill_st 𝒱 c bd E arg9 arg22 f9 51 (by decide) hv (off3n k0_t1 ⟨51, by decide⟩) rfl ?_
  refine fill_ld 𝒱 c bd E arg9 arg22 f9 fun _ => ?_
  refine fill_st 𝒱 c bd E arg9 arg22 f9 52 (by decide) hv (off3n k0_t1 ⟨52, by decide⟩) rfl ?_
  refine fill_ld 𝒱 c bd E arg9 arg22 f9 fun _ => ?_
  refine fill_st 𝒱 c bd E arg9 arg22 f9 53 (by decide) hv (off3n k0_t1 ⟨53, by decide⟩) rfl ?_
  refine fill_ld 𝒱 c bd E arg9 arg22 f9 fun _ => ?_
  refine fill_st 𝒱 c bd E arg9 arg22 f9 54 (by decide) hv (off3n k0_t1 ⟨54, by decide⟩) rfl ?_
  exact fill_ret 𝒱 c bd E arg9 arg22 f9 _

theorem part16_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 55 ⊢ wp frame (wpE (defs₀ (F := F)) 𝒱 (c : Thread nD τ) bd) E
      (k0_part16 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (k0_pay61 v112))
      (fun x => iprop(⌜x = ((Scalar.muli (Scalar.addi (Scalar.muli (Scf.iv 0#32 1#32 k0_t1) 128#32) 59#32) 8#32))⌝ ∗ FillR c arg9 arg22 f9 k0_t1.val 59)) := by
  rw [k0_part16_eq_skeleton]
  unfold k0_part16_skel
  refine fill_ld 𝒱 c bd E arg9 arg22 f9 fun _ => ?_
  refine fill_st 𝒱 c bd E arg9 arg22 f9 55 (by decide) hv (off3n k0_t1 ⟨55, by decide⟩) rfl ?_
  refine fill_ld 𝒱 c bd E arg9 arg22 f9 fun _ => ?_
  refine fill_st 𝒱 c bd E arg9 arg22 f9 56 (by decide) hv (off3n k0_t1 ⟨56, by decide⟩) rfl ?_
  refine fill_ld 𝒱 c bd E arg9 arg22 f9 fun _ => ?_
  refine fill_st 𝒱 c bd E arg9 arg22 f9 57 (by decide) hv (off3n k0_t1 ⟨57, by decide⟩) rfl ?_
  refine fill_ld 𝒱 c bd E arg9 arg22 f9 fun _ => ?_
  refine fill_st 𝒱 c bd E arg9 arg22 f9 58 (by decide) hv (off3n k0_t1 ⟨58, by decide⟩) rfl ?_
  exact fill_ret 𝒱 c bd E arg9 arg22 f9 _

theorem part17_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 59 ⊢ wp frame (wpE (defs₀ (F := F)) 𝒱 (c : Thread nD τ) bd) E
      (k0_part17 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 ((Scalar.muli (Scalar.addi (Scalar.muli (Scf.iv 0#32 1#32 k0_t1) 128#32) 59#32) 8#32)))
      (fun x => iprop(⌜x = ⟨(Scalar.muli (Scf.iv 0#32 1#32 k0_t1) 128#32), 63#32⟩⌝ ∗ FillR c arg9 arg22 f9 k0_t1.val 63)) := by
  rw [k0_part17_eq_skeleton]
  unfold k0_part17_skel
  refine fill_ld 𝒱 c bd E arg9 arg22 f9 fun _ => ?_
  refine fill_st 𝒱 c bd E arg9 arg22 f9 59 (by decide) hv (off3n k0_t1 ⟨59, by decide⟩) rfl ?_
  refine fill_ld 𝒱 c bd E arg9 arg22 f9 fun _ => ?_
  refine fill_st 𝒱 c bd E arg9 arg22 f9 60 (by decide) hv (off3n k0_t1 ⟨60, by decide⟩) rfl ?_
  refine fill_ld 𝒱 c bd E arg9 arg22 f9 fun _ => ?_
  refine fill_st 𝒱 c bd E arg9 arg22 f9 61 (by decide) hv (off3n k0_t1 ⟨61, by decide⟩) rfl ?_
  refine fill_ld 𝒱 c bd E arg9 arg22 f9 fun _ => ?_
  refine fill_st 𝒱 c bd E arg9 arg22 f9 62 (by decide) hv (off3n k0_t1 ⟨62, by decide⟩) rfl ?_
  exact fill_ret 𝒱 c bd E arg9 arg22 f9 _

theorem part18_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 63 ⊢ wp frame (wpE (defs₀ (F := F)) 𝒱 (c : Thread nD τ) bd) E
      (k0_part18 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (Scalar.muli (Scf.iv 0#32 1#32 k0_t1) 128#32) 63#32)
      (fun x => iprop(⌜x = (k0_pay73 v112)⌝ ∗ FillR c arg9 arg22 f9 k0_t1.val 66)) := by
  rw [k0_part18_eq_skeleton]
  unfold k0_part18_skel
  refine fill_ld 𝒱 c bd E arg9 arg22 f9 fun _ => ?_
  refine fill_st 𝒱 c bd E arg9 arg22 f9 63 (by decide) hv (off3n k0_t1 ⟨63, by decide⟩) rfl ?_
  refine fill_ld 𝒱 c bd E arg9 arg22 f9 fun _ => ?_
  refine fill_st 𝒱 c bd E arg9 arg22 f9 64 (by decide) hv (off3n k0_t1 ⟨64, by decide⟩) rfl ?_
  refine fill_ld 𝒱 c bd E arg9 arg22 f9 fun _ => ?_
  refine fill_st 𝒱 c bd E arg9 arg22 f9 65 (by decide) hv (off3n k0_t1 ⟨65, by decide⟩) rfl ?_
  refine fill_ld 𝒱 c bd E arg9 arg22 f9 fun _ => ?_
  exact fill_ret 𝒱 c bd E arg9 arg22 f9 _

theorem part19_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 66 ⊢ wp frame (wpE (defs₀ (F := F)) 𝒱 (c : Thread nD τ) bd) E
      (k0_part19 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (k0_pay73 v112))
      (fun x => iprop(⌜x = (k0_pay77 v112)⌝ ∗ FillR c arg9 arg22 f9 k0_t1.val 70)) := by
  rw [k0_part19_eq_skeleton]
  unfold k0_part19_skel
  refine fill_st 𝒱 c bd E arg9 arg22 f9 66 (by decide) hv (off3n k0_t1 ⟨66, by decide⟩) rfl ?_
  refine fill_ld 𝒱 c bd E arg9 arg22 f9 fun _ => ?_
  refine fill_st 𝒱 c bd E arg9 arg22 f9 67 (by decide) hv (off3n k0_t1 ⟨67, by decide⟩) rfl ?_
  refine fill_ld 𝒱 c bd E arg9 arg22 f9 fun _ => ?_
  refine fill_st 𝒱 c bd E arg9 arg22 f9 68 (by decide) hv (off3n k0_t1 ⟨68, by decide⟩) rfl ?_
  refine fill_ld 𝒱 c bd E arg9 arg22 f9 fun _ => ?_
  refine fill_st 𝒱 c bd E arg9 arg22 f9 69 (by decide) hv (off3n k0_t1 ⟨69, by decide⟩) rfl ?_
  exact fill_ret 𝒱 c bd E arg9 arg22 f9 _

theorem part20_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 70 ⊢ wp frame (wpE (defs₀ (F := F)) 𝒱 (c : Thread nD τ) bd) E
      (k0_part20 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (k0_pay77 v112))
      (fun x => iprop(⌜x = ((Scalar.muli (Scalar.addi (Scalar.muli (Scf.iv 0#32 1#32 k0_t1) 128#32) 74#32) 8#32))⌝ ∗ FillR c arg9 arg22 f9 k0_t1.val 74)) := by
  rw [k0_part20_eq_skeleton]
  unfold k0_part20_skel
  refine fill_ld 𝒱 c bd E arg9 arg22 f9 fun _ => ?_
  refine fill_st 𝒱 c bd E arg9 arg22 f9 70 (by decide) hv (off3n k0_t1 ⟨70, by decide⟩) rfl ?_
  refine fill_ld 𝒱 c bd E arg9 arg22 f9 fun _ => ?_
  refine fill_st 𝒱 c bd E arg9 arg22 f9 71 (by decide) hv (off3n k0_t1 ⟨71, by decide⟩) rfl ?_
  refine fill_ld 𝒱 c bd E arg9 arg22 f9 fun _ => ?_
  refine fill_st 𝒱 c bd E arg9 arg22 f9 72 (by decide) hv (off3n k0_t1 ⟨72, by decide⟩) rfl ?_
  refine fill_ld 𝒱 c bd E arg9 arg22 f9 fun _ => ?_
  refine fill_st 𝒱 c bd E arg9 arg22 f9 73 (by decide) hv (off3n k0_t1 ⟨73, by decide⟩) rfl ?_
  exact fill_ret 𝒱 c bd E arg9 arg22 f9 _

theorem part21_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 74 ⊢ wp frame (wpE (defs₀ (F := F)) 𝒱 (c : Thread nD τ) bd) E
      (k0_part21 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 ((Scalar.muli (Scalar.addi (Scalar.muli (Scf.iv 0#32 1#32 k0_t1) 128#32) 74#32) 8#32)))
      (fun x => iprop(⌜x = ⟨(Scalar.muli (Scf.iv 0#32 1#32 k0_t1) 128#32), 78#32⟩⌝ ∗ FillR c arg9 arg22 f9 k0_t1.val 78)) := by
  rw [k0_part21_eq_skeleton]
  unfold k0_part21_skel
  refine fill_ld 𝒱 c bd E arg9 arg22 f9 fun _ => ?_
  refine fill_st 𝒱 c bd E arg9 arg22 f9 74 (by decide) hv (off3n k0_t1 ⟨74, by decide⟩) rfl ?_
  refine fill_ld 𝒱 c bd E arg9 arg22 f9 fun _ => ?_
  refine fill_st 𝒱 c bd E arg9 arg22 f9 75 (by decide) hv (off3n k0_t1 ⟨75, by decide⟩) rfl ?_
  refine fill_ld 𝒱 c bd E arg9 arg22 f9 fun _ => ?_
  refine fill_st 𝒱 c bd E arg9 arg22 f9 76 (by decide) hv (off3n k0_t1 ⟨76, by decide⟩) rfl ?_
  refine fill_ld 𝒱 c bd E arg9 arg22 f9 fun _ => ?_
  refine fill_st 𝒱 c bd E arg9 arg22 f9 77 (by decide) hv (off3n k0_t1 ⟨77, by decide⟩) rfl ?_
  exact fill_ret 𝒱 c bd E arg9 arg22 f9 _

theorem part22_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 78 ⊢ wp frame (wpE (defs₀ (F := F)) 𝒱 (c : Thread nD τ) bd) E
      (k0_part22 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (Scalar.muli (Scf.iv 0#32 1#32 k0_t1) 128#32) 78#32)
      (fun x => iprop(⌜x = (k0_pay89 v112)⌝ ∗ FillR c arg9 arg22 f9 k0_t1.val 81)) := by
  rw [k0_part22_eq_skeleton]
  unfold k0_part22_skel
  refine fill_ld 𝒱 c bd E arg9 arg22 f9 fun _ => ?_
  refine fill_st 𝒱 c bd E arg9 arg22 f9 78 (by decide) hv (off3n k0_t1 ⟨78, by decide⟩) rfl ?_
  refine fill_ld 𝒱 c bd E arg9 arg22 f9 fun _ => ?_
  refine fill_st 𝒱 c bd E arg9 arg22 f9 79 (by decide) hv (off3n k0_t1 ⟨79, by decide⟩) rfl ?_
  refine fill_ld 𝒱 c bd E arg9 arg22 f9 fun _ => ?_
  refine fill_st 𝒱 c bd E arg9 arg22 f9 80 (by decide) hv (off3n k0_t1 ⟨80, by decide⟩) rfl ?_
  refine fill_ld 𝒱 c bd E arg9 arg22 f9 fun _ => ?_
  exact fill_ret 𝒱 c bd E arg9 arg22 f9 _

theorem part23_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 81 ⊢ wp frame (wpE (defs₀ (F := F)) 𝒱 (c : Thread nD τ) bd) E
      (k0_part23 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (k0_pay89 v112))
      (fun x => iprop(⌜x = (k0_pay93 v112)⌝ ∗ FillR c arg9 arg22 f9 k0_t1.val 85)) := by
  rw [k0_part23_eq_skeleton]
  unfold k0_part23_skel
  refine fill_st 𝒱 c bd E arg9 arg22 f9 81 (by decide) hv (off3n k0_t1 ⟨81, by decide⟩) rfl ?_
  refine fill_ld 𝒱 c bd E arg9 arg22 f9 fun _ => ?_
  refine fill_st 𝒱 c bd E arg9 arg22 f9 82 (by decide) hv (off3n k0_t1 ⟨82, by decide⟩) rfl ?_
  refine fill_ld 𝒱 c bd E arg9 arg22 f9 fun _ => ?_
  refine fill_st 𝒱 c bd E arg9 arg22 f9 83 (by decide) hv (off3n k0_t1 ⟨83, by decide⟩) rfl ?_
  refine fill_ld 𝒱 c bd E arg9 arg22 f9 fun _ => ?_
  refine fill_st 𝒱 c bd E arg9 arg22 f9 84 (by decide) hv (off3n k0_t1 ⟨84, by decide⟩) rfl ?_
  exact fill_ret 𝒱 c bd E arg9 arg22 f9 _

theorem part24_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 85 ⊢ wp frame (wpE (defs₀ (F := F)) 𝒱 (c : Thread nD τ) bd) E
      (k0_part24 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (k0_pay93 v112))
      (fun x => iprop(⌜x = ((Scalar.muli (Scalar.addi (Scalar.muli (Scf.iv 0#32 1#32 k0_t1) 128#32) 89#32) 8#32))⌝ ∗ FillR c arg9 arg22 f9 k0_t1.val 89)) := by
  rw [k0_part24_eq_skeleton]
  unfold k0_part24_skel
  refine fill_ld 𝒱 c bd E arg9 arg22 f9 fun _ => ?_
  refine fill_st 𝒱 c bd E arg9 arg22 f9 85 (by decide) hv (off3n k0_t1 ⟨85, by decide⟩) rfl ?_
  refine fill_ld 𝒱 c bd E arg9 arg22 f9 fun _ => ?_
  refine fill_st 𝒱 c bd E arg9 arg22 f9 86 (by decide) hv (off3n k0_t1 ⟨86, by decide⟩) rfl ?_
  refine fill_ld 𝒱 c bd E arg9 arg22 f9 fun _ => ?_
  refine fill_st 𝒱 c bd E arg9 arg22 f9 87 (by decide) hv (off3n k0_t1 ⟨87, by decide⟩) rfl ?_
  refine fill_ld 𝒱 c bd E arg9 arg22 f9 fun _ => ?_
  refine fill_st 𝒱 c bd E arg9 arg22 f9 88 (by decide) hv (off3n k0_t1 ⟨88, by decide⟩) rfl ?_
  exact fill_ret 𝒱 c bd E arg9 arg22 f9 _

theorem part25_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 89 ⊢ wp frame (wpE (defs₀ (F := F)) 𝒱 (c : Thread nD τ) bd) E
      (k0_part25 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 ((Scalar.muli (Scalar.addi (Scalar.muli (Scf.iv 0#32 1#32 k0_t1) 128#32) 89#32) 8#32)))
      (fun x => iprop(⌜x = ⟨(Scalar.muli (Scf.iv 0#32 1#32 k0_t1) 128#32), 93#32⟩⌝ ∗ FillR c arg9 arg22 f9 k0_t1.val 93)) := by
  rw [k0_part25_eq_skeleton]
  unfold k0_part25_skel
  refine fill_ld 𝒱 c bd E arg9 arg22 f9 fun _ => ?_
  refine fill_st 𝒱 c bd E arg9 arg22 f9 89 (by decide) hv (off3n k0_t1 ⟨89, by decide⟩) rfl ?_
  refine fill_ld 𝒱 c bd E arg9 arg22 f9 fun _ => ?_
  refine fill_st 𝒱 c bd E arg9 arg22 f9 90 (by decide) hv (off3n k0_t1 ⟨90, by decide⟩) rfl ?_
  refine fill_ld 𝒱 c bd E arg9 arg22 f9 fun _ => ?_
  refine fill_st 𝒱 c bd E arg9 arg22 f9 91 (by decide) hv (off3n k0_t1 ⟨91, by decide⟩) rfl ?_
  refine fill_ld 𝒱 c bd E arg9 arg22 f9 fun _ => ?_
  refine fill_st 𝒱 c bd E arg9 arg22 f9 92 (by decide) hv (off3n k0_t1 ⟨92, by decide⟩) rfl ?_
  exact fill_ret 𝒱 c bd E arg9 arg22 f9 _

theorem part26_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 93 ⊢ wp frame (wpE (defs₀ (F := F)) 𝒱 (c : Thread nD τ) bd) E
      (k0_part26 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (Scalar.muli (Scf.iv 0#32 1#32 k0_t1) 128#32) 93#32)
      (fun x => iprop(⌜x = (k0_pay105 v112)⌝ ∗ FillR c arg9 arg22 f9 k0_t1.val 96)) := by
  rw [k0_part26_eq_skeleton]
  unfold k0_part26_skel
  refine fill_ld 𝒱 c bd E arg9 arg22 f9 fun _ => ?_
  refine fill_st 𝒱 c bd E arg9 arg22 f9 93 (by decide) hv (off3n k0_t1 ⟨93, by decide⟩) rfl ?_
  refine fill_ld 𝒱 c bd E arg9 arg22 f9 fun _ => ?_
  refine fill_st 𝒱 c bd E arg9 arg22 f9 94 (by decide) hv (off3n k0_t1 ⟨94, by decide⟩) rfl ?_
  refine fill_ld 𝒱 c bd E arg9 arg22 f9 fun _ => ?_
  refine fill_st 𝒱 c bd E arg9 arg22 f9 95 (by decide) hv (off3n k0_t1 ⟨95, by decide⟩) rfl ?_
  refine fill_ld 𝒱 c bd E arg9 arg22 f9 fun _ => ?_
  exact fill_ret 𝒱 c bd E arg9 arg22 f9 _

theorem part27_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 96 ⊢ wp frame (wpE (defs₀ (F := F)) 𝒱 (c : Thread nD τ) bd) E
      (k0_part27 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (k0_pay105 v112))
      (fun x => iprop(⌜x = (k0_pay109 v112)⌝ ∗ FillR c arg9 arg22 f9 k0_t1.val 100)) := by
  rw [k0_part27_eq_skeleton]
  unfold k0_part27_skel
  refine fill_st 𝒱 c bd E arg9 arg22 f9 96 (by decide) hv (off3n k0_t1 ⟨96, by decide⟩) rfl ?_
  refine fill_ld 𝒱 c bd E arg9 arg22 f9 fun _ => ?_
  refine fill_st 𝒱 c bd E arg9 arg22 f9 97 (by decide) hv (off3n k0_t1 ⟨97, by decide⟩) rfl ?_
  refine fill_ld 𝒱 c bd E arg9 arg22 f9 fun _ => ?_
  refine fill_st 𝒱 c bd E arg9 arg22 f9 98 (by decide) hv (off3n k0_t1 ⟨98, by decide⟩) rfl ?_
  refine fill_ld 𝒱 c bd E arg9 arg22 f9 fun _ => ?_
  refine fill_st 𝒱 c bd E arg9 arg22 f9 99 (by decide) hv (off3n k0_t1 ⟨99, by decide⟩) rfl ?_
  exact fill_ret 𝒱 c bd E arg9 arg22 f9 _

theorem part28_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 100 ⊢ wp frame (wpE (defs₀ (F := F)) 𝒱 (c : Thread nD τ) bd) E
      (k0_part28 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (k0_pay109 v112))
      (fun x => iprop(⌜x = ((Scalar.muli (Scalar.addi (Scalar.muli (Scf.iv 0#32 1#32 k0_t1) 128#32) 104#32) 8#32))⌝ ∗ FillR c arg9 arg22 f9 k0_t1.val 104)) := by
  rw [k0_part28_eq_skeleton]
  unfold k0_part28_skel
  refine fill_ld 𝒱 c bd E arg9 arg22 f9 fun _ => ?_
  refine fill_st 𝒱 c bd E arg9 arg22 f9 100 (by decide) hv (off3n k0_t1 ⟨100, by decide⟩) rfl ?_
  refine fill_ld 𝒱 c bd E arg9 arg22 f9 fun _ => ?_
  refine fill_st 𝒱 c bd E arg9 arg22 f9 101 (by decide) hv (off3n k0_t1 ⟨101, by decide⟩) rfl ?_
  refine fill_ld 𝒱 c bd E arg9 arg22 f9 fun _ => ?_
  refine fill_st 𝒱 c bd E arg9 arg22 f9 102 (by decide) hv (off3n k0_t1 ⟨102, by decide⟩) rfl ?_
  refine fill_ld 𝒱 c bd E arg9 arg22 f9 fun _ => ?_
  refine fill_st 𝒱 c bd E arg9 arg22 f9 103 (by decide) hv (off3n k0_t1 ⟨103, by decide⟩) rfl ?_
  exact fill_ret 𝒱 c bd E arg9 arg22 f9 _

theorem part29_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 104 ⊢ wp frame (wpE (defs₀ (F := F)) 𝒱 (c : Thread nD τ) bd) E
      (k0_part29 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 ((Scalar.muli (Scalar.addi (Scalar.muli (Scf.iv 0#32 1#32 k0_t1) 128#32) 104#32) 8#32)))
      (fun x => iprop(⌜x = ⟨(Scalar.muli (Scf.iv 0#32 1#32 k0_t1) 128#32), 108#32⟩⌝ ∗ FillR c arg9 arg22 f9 k0_t1.val 108)) := by
  rw [k0_part29_eq_skeleton]
  unfold k0_part29_skel
  refine fill_ld 𝒱 c bd E arg9 arg22 f9 fun _ => ?_
  refine fill_st 𝒱 c bd E arg9 arg22 f9 104 (by decide) hv (off3n k0_t1 ⟨104, by decide⟩) rfl ?_
  refine fill_ld 𝒱 c bd E arg9 arg22 f9 fun _ => ?_
  refine fill_st 𝒱 c bd E arg9 arg22 f9 105 (by decide) hv (off3n k0_t1 ⟨105, by decide⟩) rfl ?_
  refine fill_ld 𝒱 c bd E arg9 arg22 f9 fun _ => ?_
  refine fill_st 𝒱 c bd E arg9 arg22 f9 106 (by decide) hv (off3n k0_t1 ⟨106, by decide⟩) rfl ?_
  refine fill_ld 𝒱 c bd E arg9 arg22 f9 fun _ => ?_
  refine fill_st 𝒱 c bd E arg9 arg22 f9 107 (by decide) hv (off3n k0_t1 ⟨107, by decide⟩) rfl ?_
  exact fill_ret 𝒱 c bd E arg9 arg22 f9 _

theorem part30_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 108 ⊢ wp frame (wpE (defs₀ (F := F)) 𝒱 (c : Thread nD τ) bd) E
      (k0_part30 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (Scalar.muli (Scf.iv 0#32 1#32 k0_t1) 128#32) 108#32)
      (fun x => iprop(⌜x = (k0_pay121 v112)⌝ ∗ FillR c arg9 arg22 f9 k0_t1.val 111)) := by
  rw [k0_part30_eq_skeleton]
  unfold k0_part30_skel
  refine fill_ld 𝒱 c bd E arg9 arg22 f9 fun _ => ?_
  refine fill_st 𝒱 c bd E arg9 arg22 f9 108 (by decide) hv (off3n k0_t1 ⟨108, by decide⟩) rfl ?_
  refine fill_ld 𝒱 c bd E arg9 arg22 f9 fun _ => ?_
  refine fill_st 𝒱 c bd E arg9 arg22 f9 109 (by decide) hv (off3n k0_t1 ⟨109, by decide⟩) rfl ?_
  refine fill_ld 𝒱 c bd E arg9 arg22 f9 fun _ => ?_
  refine fill_st 𝒱 c bd E arg9 arg22 f9 110 (by decide) hv (off3n k0_t1 ⟨110, by decide⟩) rfl ?_
  refine fill_ld 𝒱 c bd E arg9 arg22 f9 fun _ => ?_
  exact fill_ret 𝒱 c bd E arg9 arg22 f9 _

theorem part31_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 111 ⊢ wp frame (wpE (defs₀ (F := F)) 𝒱 (c : Thread nD τ) bd) E
      (k0_part31 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (k0_pay121 v112))
      (fun x => iprop(⌜x = (k0_pay125 v112)⌝ ∗ FillR c arg9 arg22 f9 k0_t1.val 115)) := by
  rw [k0_part31_eq_skeleton]
  unfold k0_part31_skel
  refine fill_st 𝒱 c bd E arg9 arg22 f9 111 (by decide) hv (off3n k0_t1 ⟨111, by decide⟩) rfl ?_
  refine fill_ld 𝒱 c bd E arg9 arg22 f9 fun _ => ?_
  refine fill_st 𝒱 c bd E arg9 arg22 f9 112 (by decide) hv (off3n k0_t1 ⟨112, by decide⟩) rfl ?_
  refine fill_ld 𝒱 c bd E arg9 arg22 f9 fun _ => ?_
  refine fill_st 𝒱 c bd E arg9 arg22 f9 113 (by decide) hv (off3n k0_t1 ⟨113, by decide⟩) rfl ?_
  refine fill_ld 𝒱 c bd E arg9 arg22 f9 fun _ => ?_
  refine fill_st 𝒱 c bd E arg9 arg22 f9 114 (by decide) hv (off3n k0_t1 ⟨114, by decide⟩) rfl ?_
  exact fill_ret 𝒱 c bd E arg9 arg22 f9 _

theorem part32_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 115 ⊢ wp frame (wpE (defs₀ (F := F)) 𝒱 (c : Thread nD τ) bd) E
      (k0_part32 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (k0_pay125 v112))
      (fun x => iprop(⌜x = ((Scalar.muli (Scalar.addi (Scalar.muli (Scf.iv 0#32 1#32 k0_t1) 128#32) 119#32) 8#32))⌝ ∗ FillR c arg9 arg22 f9 k0_t1.val 119)) := by
  rw [k0_part32_eq_skeleton]
  unfold k0_part32_skel
  refine fill_ld 𝒱 c bd E arg9 arg22 f9 fun _ => ?_
  refine fill_st 𝒱 c bd E arg9 arg22 f9 115 (by decide) hv (off3n k0_t1 ⟨115, by decide⟩) rfl ?_
  refine fill_ld 𝒱 c bd E arg9 arg22 f9 fun _ => ?_
  refine fill_st 𝒱 c bd E arg9 arg22 f9 116 (by decide) hv (off3n k0_t1 ⟨116, by decide⟩) rfl ?_
  refine fill_ld 𝒱 c bd E arg9 arg22 f9 fun _ => ?_
  refine fill_st 𝒱 c bd E arg9 arg22 f9 117 (by decide) hv (off3n k0_t1 ⟨117, by decide⟩) rfl ?_
  refine fill_ld 𝒱 c bd E arg9 arg22 f9 fun _ => ?_
  refine fill_st 𝒱 c bd E arg9 arg22 f9 118 (by decide) hv (off3n k0_t1 ⟨118, by decide⟩) rfl ?_
  exact fill_ret 𝒱 c bd E arg9 arg22 f9 _

theorem part33_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 119 ⊢ wp frame (wpE (defs₀ (F := F)) 𝒱 (c : Thread nD τ) bd) E
      (k0_part33 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 ((Scalar.muli (Scalar.addi (Scalar.muli (Scf.iv 0#32 1#32 k0_t1) 128#32) 119#32) 8#32)))
      (fun x => iprop(⌜x = ⟨(Scalar.muli (Scf.iv 0#32 1#32 k0_t1) 128#32), 123#32⟩⌝ ∗ FillR c arg9 arg22 f9 k0_t1.val 123)) := by
  rw [k0_part33_eq_skeleton]
  unfold k0_part33_skel
  refine fill_ld 𝒱 c bd E arg9 arg22 f9 fun _ => ?_
  refine fill_st 𝒱 c bd E arg9 arg22 f9 119 (by decide) hv (off3n k0_t1 ⟨119, by decide⟩) rfl ?_
  refine fill_ld 𝒱 c bd E arg9 arg22 f9 fun _ => ?_
  refine fill_st 𝒱 c bd E arg9 arg22 f9 120 (by decide) hv (off3n k0_t1 ⟨120, by decide⟩) rfl ?_
  refine fill_ld 𝒱 c bd E arg9 arg22 f9 fun _ => ?_
  refine fill_st 𝒱 c bd E arg9 arg22 f9 121 (by decide) hv (off3n k0_t1 ⟨121, by decide⟩) rfl ?_
  refine fill_ld 𝒱 c bd E arg9 arg22 f9 fun _ => ?_
  refine fill_st 𝒱 c bd E arg9 arg22 f9 122 (by decide) hv (off3n k0_t1 ⟨122, by decide⟩) rfl ?_
  exact fill_ret 𝒱 c bd E arg9 arg22 f9 _

theorem part34_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) {v112 : FVec F S8x128 .f32} (hv : Spread (kspOf (arg9.view.read (Elt F) f9)) k0_t1.val v112) :
    FillR c arg9 arg22 f9 k0_t1.val 123 ⊢ wp frame (wpE (defs₀ (F := F)) 𝒱 (c : Thread nD τ) bd) E
      (k0_part34 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 (Scf.iv 0#32 1#32 k0_t1) v112 (Scalar.muli (Scf.iv 0#32 1#32 k0_t1) 128#32) 123#32)
      (fun x => iprop(⌜x = (k0_pay137 v112)⌝ ∗ FillR c arg9 arg22 f9 k0_t1.val 126)) := by
  rw [k0_part34_eq_skeleton]
  unfold k0_part34_skel
  refine fill_ld 𝒱 c bd E arg9 arg22 f9 fun _ => ?_
  refine fill_st 𝒱 c bd E arg9 arg22 f9 123 (by decide) hv (off3n k0_t1 ⟨123, by decide⟩) rfl ?_
  refine fill_ld 𝒱 c bd E arg9 arg22 f9 fun _ => ?_
  refine fill_st 𝒱 c bd E arg9 arg22 f9 124 (by decide) hv (off3n k0_t1 ⟨124, by decide⟩) rfl ?_
  refine fill_ld 𝒱 c bd E arg9 arg22 f9 fun _ => ?_
  refine fill_st 𝒱 c bd E arg9 arg22 f9 125 (by decide) hv (off3n k0_t1 ⟨125, by decide⟩) rfl ?_
  refine fill_ld 𝒱 c bd E arg9 arg22 f9 fun _ => ?_
  exact fill_ret 𝒱 c bd E arg9 arg22 f9 _

/-- One trip of the filling loop. -/
theorem trip1_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) (k0_t1 : Fin k0_t1_loop.trips) (u : Unit) :
    FillR c arg9 arg22 f9 k0_t1.val 0 ⊢ wp frame (wpE (defs₀ (F := F)) 𝒱 (c : Thread nD τ) bd) E
      (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 k0_t1 u)
      (fun x => iprop(⌜x = ⟨⟩⌝ ∗ FillR c arg9 arg22 f9 k0_t1.val 128)) := by
  have hv := spread_read i arg9 k0_h1 c f9 k0_t1
  unfold k0_t1_body
  refine fill_bind 𝒱 c bd E arg9 arg22 f9 (part1_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part2_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part3_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part4_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part5_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part6_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part7_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part8_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part9_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part10_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part11_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part12_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part13_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part14_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part15_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part16_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part17_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part18_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part19_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part20_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part21_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part22_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part23_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part24_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part25_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part26_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part27_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part28_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part29_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part30_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part31_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part32_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part33_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_bind 𝒱 c bd E arg9 arg22 f9 (part34_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k0_t1 hv) ?_
  refine fill_st 𝒱 c bd E arg9 arg22 f9 126 (by decide) hv (off3n k0_t1 ⟨126, by decide⟩) rfl ?_
  refine fill_ld 𝒱 c bd E arg9 arg22 f9 fun _ => ?_
  refine fill_st 𝒱 c bd E arg9 arg22 f9 127 (by decide) hv (off3n k0_t1 ⟨127, by decide⟩) rfl ?_
  exact fill_ret 𝒱 c bd E arg9 arg22 f9 _

theorem FillR_next (c : Dev nD) (arg9 : Memref sig .tc .vmem S1x8x4096 .f32) (arg22 : Memref sig .tc .vmem S32768x128 .f32)
    (f9 : Buf (Elt F) (arg9.view.loc (c : Thread nD τ))) (k : ℕ) :
    FillR c arg9 arg22 f9 k 128 ⊢ FillR c arg9 arg22 f9 (k + 1) 0 := by
  unfold FillR
  rw [show 8 * (128 * (k + 1) + 0) = 8 * (128 * k + 128) by omega]

set_option warn.classDefReducibility false in
/-- The filling loop by its invariant: before trip `k` the first `1024·k` rows are filled. -/
@[sl_loop] def loopInv_k0_t1 (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (k0_h1 : k0_cond1 i = 1#1) (f9 : Buf (Elt F) (arg9.view.loc (c : Thread nD τ))) :
    LoopInvTy_k0_t1 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 where
  inv k _ := FillR c arg9 arg22 f9 k 0
  step k acc := by
    refine (trip1_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 f9 k acc).trans (wp_mono _ _ _ fun x => ?_)
    iintro ⟨%hx, H⟩
    iapply (FillR_next c arg9 arg22 f9 k.val)
    iexact H

end Cert.KernelIdeal.Hyd
-- ==== Proof.Hyd.KernelIdealBody.lean ====
module

public import proofs.«01_k».proof.Proof.Hyd.KernelIdealFill

@[expose] public section

set_option maxRecDepth 16384
set_option maxHeartbeats 4000000

/-! What one grid point computes: the three passes over keys and values as recursions on the
    contents of the windows, and the run of the kernel's body that computes them. -/

noncomputable section

namespace Cert.KernelIdeal.Hyd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The entry of `X` at the coordinates `n`, taken modulo the array's extents. -/
def pick {s : Shape} {α : Type} (X : s.Idx → α) (n : Fin s.rank → ℕ) (hs : ∀ a, 0 < s.size a) : α :=
  X fun a => ⟨n a % s.size a, Nat.mod_lt _ (hs a)⟩

theorem pick_eq {s : Shape} {α : Type} (X : s.Idx → α) (n : Fin s.rank → ℕ) (hs : ∀ a, 0 < s.size a) (x : s.Idx)
    (h : ∀ a, (x a).val = n a) : pick X n hs = X x := by
  unfold pick
  congr 1
  funext a
  apply Fin.ext
  show n a % s.size a = _
  rw [← h a]
  exact Nat.mod_eq_of_lt (x a).isLt

/-- The softmax state a pass carries: the weighted sum of values, the sum of weights, the maximum. -/
abbrev St (F : FTy → Type) : Type := FVec F S128x256 .f32 × FVec F S1x256 .f32 × FVec F S1x256 .f32

/-- The block of 512 prompt keys trip `k` reads. -/
def kpB (X6 : Vec F S1x32768x128 .fp8e4m3) (k : ℕ) : Vec F S512x128 .fp8e4m3 := fun y =>
  pick X6 ![0, 512 * k + (y 0).val, (y 1).val] (by decide)
/-- The block of prompt key scales trip `k` reads. -/
def kspB (W : S32768x128.Idx → F .f32) (k : ℕ) : Vec F S512x128 .f32 := fun y =>
  pick W ![512 * k + (y 0).val, (y 1).val] (by decide)
/-- The block of prompt values trip `k` reads. -/
def vtpB (X7 : Vec F S1x128x32768 .fp8e4m3) (k : ℕ) : Vec F S128x512 .fp8e4m3 := fun y =>
  pick X7 ![0, (y 0).val, 512 * k + (y 1).val] (by decide)
/-- The block of prompt value scales trip `k` reads. -/
def vspB (X8 : Vec F S1x1x32768 .bf16) (k : ℕ) : Vec F S1x512 .bf16 := fun y =>
  pick X8 ![0, 0, 512 * k + (y 1).val] (by decide)

/-- One trip of the pass over the prompt. -/
def step2 (v16 : FVec F S256x128 .fp8e4m3) (v20 : FVec F S1x256 .f32)
    (v112 : Vec F S512x128 .fp8e4m3) (v116 : Vec F S512x128 .f32) (v136 : Vec F S128x512 .fp8e4m3) (v142 : Vec F S1x512 .bf16) (a : St F) : St F :=
  (k0_pay143 v16 v20 a.1 a.2.2 v112 v116 v136 v142, k0_pay142 v16 v20 a.2.1 a.2.2 v112 v116,
    k0_pay139 v16 v20 a.2.2 v112 v116)

/-- The state before trip `k` of the pass over the prompt. -/
def st2 (v16 : FVec F S256x128 .fp8e4m3) (v20 : FVec F S1x256 .f32) (X6 : Vec F S1x32768x128 .fp8e4m3)
    (W : S32768x128.Idx → F .f32) (X7 : Vec F S1x128x32768 .fp8e4m3) (X8 : Vec F S1x1x32768 .bf16) : ℕ → St F
  | 0 => (k0_pay160 (F := F), k0_pay161 (F := F), k0_pay162 (F := F))
  | k + 1 => step2 v16 v20 (kpB X6 k) (kspB W k) (vtpB X7 k) (vspB X8 k) (st2 v16 v20 X6 W X7 X8 k)

/-- A block of `n` rows, or `n` columns, of a four-dimensional window. -/
def rowB {α : Type} {N : ℕ} (hN : 0 < N) (X : (⟨4, ![1, 1, N, 128]⟩ : Shape).Idx → α) (n k : ℕ) : (⟨2, ![n, 128]⟩ : Shape).Idx → α := fun y =>
  pick X ![0, 0, n * k + (y 0).val, (y 1).val] (fun a => match a with | ⟨0, _⟩ => Nat.one_pos | ⟨1, _⟩ => Nat.one_pos | ⟨2, _⟩ => hN | ⟨3, _⟩ => Nat.succ_pos 127)
def colB {α : Type} {N D : ℕ} (hN : 0 < N) (hD : 0 < D) (X : (⟨4, ![1, 1, D, N]⟩ : Shape).Idx → α) (n k : ℕ) : (⟨2, ![D, n]⟩ : Shape).Idx → α := fun y =>
  pick X ![0, 0, (y 0).val, n * k + (y 1).val] (fun a => match a with | ⟨0, _⟩ => Nat.one_pos | ⟨1, _⟩ => Nat.one_pos | ⟨2, _⟩ => hD | ⟨3, _⟩ => hN)

/-- One trip of the pass over the shared middle segment. -/
def step3 (v16 : FVec F S256x128 .fp8e4m3) (v20 : FVec F S1x256 .f32)
    (v112 : Vec F S128x128 .fp8e4m3) (v118 : Vec F S128x128 .f32) (v139 : Vec F S128x128 .fp8e4m3) (v145 : Vec F S1x128 .bf16) (a : St F) : St F :=
  (k0_pay166 a.1 (k0_pay146 v16 v20 a.2.2 v112 v118) (k0_pay149 v139 v145) (k0_pay150 v16 v20 a.2.2 v112 v118),
    k0_pay148 v16 v20 a.2.1 a.2.2 v112 v118, k0_pay145 v16 v20 a.2.2 v112 v118)

/-- The state before trip `k` of the pass over the middle segment. -/
def st3 (v16 : FVec F S256x128 .fp8e4m3) (v20 : FVec F S1x256 .f32) (X14 : Vec F S1x1x384x128 .fp8e4m3)
    (X17 : Vec F S1x1x384x128 .f32) (X15 : Vec F S1x1x128x384 .fp8e4m3) (X16 : Vec F S1x1x1x384 .bf16) : ℕ → St F
  | 0 => (k0_pay163 (F := F), k0_pay164 (F := F), k0_pay165 (F := F))
  | k + 1 => step3 v16 v20 (rowB (by decide) X14 128 k) (rowB (by decide) X17 128 k) (colB (by decide) (by decide) X15 128 k) (colB (by decide) (by decide) X16 128 k)
      (st3 v16 v20 X14 X17 X15 X16 k)

/-- One trip of the pass over the point's own keys, of which a row sees those at or before it. -/
def step4 (v16 : FVec F S256x128 .fp8e4m3) (v20 : FVec F S1x256 .f32) (v31 : BitVec 32) (k : Fin k0_t4_loop.trips)
    (v112 : Vec F S256x128 .fp8e4m3) (v118 : Vec F S256x128 .f32) (v148 : Vec F S128x256 .fp8e4m3) (v154 : Vec F S1x256 .bf16) (a : St F) : St F :=
  (k0_pay170 a.1 (k0_pay153 v16 v20 v31 0#32 1#32 k a.2.2 v112 v118) (k0_pay154 v16 v20 v31 0#32 1#32 k a.2.2 v112 v118) (k0_pay156 v148) v154,
    k0_pay155 v16 v20 v31 0#32 1#32 k a.2.1 a.2.2 v112 v118, k0_pay152 v16 v20 v31 0#32 1#32 k a.2.2 v112 v118)

/-- The state before trip `k` of the pass over the point's own keys. -/
def st4 (v16 : FVec F S256x128 .fp8e4m3) (v20 : FVec F S1x256 .f32) (v31 : BitVec 32) (X10 : Vec F S1x1x512x128 .fp8e4m3)
    (X13 : Vec F S1x1x512x128 .f32) (X11 : Vec F S1x1x128x512 .fp8e4m3) (X12 : Vec F S1x1x1x512 .bf16) : ℕ → St F
  | 0 => (k0_pay167 (F := F), k0_pay168 (F := F), k0_pay169 (F := F))
  | k + 1 => if h : k < k0_t4_loop.trips then
      step4 v16 v20 v31 ⟨k, h⟩ (rowB (by decide) X10 256 k) (rowB (by decide) X13 256 k) (colB (by decide) (by decide) X11 256 k) (colB (by decide) (by decide) X12 256 k)
        (st4 v16 v20 v31 X10 X13 X11 X12 k)
    else st4 v16 v20 v31 X10 X13 X11 X12 k

/-- The parity of the query tile. -/
def par (i : grid0.Coords) : BitVec 32 :=
  let arg2 : BitVec 32 := BitVec.ofNat 32 (i 2).val
  let v0 : BitVec 1 := Scalar.cmpi .eq 2#32 0#32
  let v1 : BitVec 32 := Scalar.select v0 1#32 2#32
  let v2 : BitVec 32 := Scalar.remsi arg2 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  Scalar.select v7 v8 v2

/-- A window with one leading unit axis, read with that axis dropped. -/
theorem sq3_read {a b : ℕ} {e : EltTy} (arg : Memref sig .tc .vmem (⟨3, ![1, a, b]⟩ : Shape) e)
    (inb : ∀ x, (![0, 0, 0] : Fin 3 → ℕ) x + (⟨3, ![1, a, b]⟩ : Shape).size x ≤ (⟨3, ![1, a, b]⟩ : Shape).size x) {hs}
    (sq : (⟨3, ![1, a, b]⟩ : Shape).Squeezes ⟨2, ![a, b]⟩) (X : BufTy.Contents (Elt F) arg.view.ty) (j : (⟨2, ![a, b]⟩ : Shape).Idx) :
    ((arg.slice (Rect.unit (s := (⟨3, ![1, a, b]⟩ : Shape)) ![0, 0, 0] (⟨3, ![1, a, b]⟩ : Shape).size inb) hs).squeeze ⟨2, ![a, b]⟩ sq).view.read (Elt F) X j
      = arg.view.read (Elt F) X (ValueIdx.ix3 (0 : Fin 1) (j 0) (j 1)) := by
  have h : (Shape.reshapeEquiv sq.numel_eq j : (⟨3, ![1, a, b]⟩ : Shape).Idx) = ValueIdx.ix3 (0 : Fin 1) (j 0) (j 1) := by
    apply Shape.reshapeEquiv_eq_of_rowMajor
    refine (Shape.rowMajor_val_three (d := ![1, a, b]) _).trans (Eq.trans ?_ (Shape.rowMajor_val_two (d := ![a, b]) j).symm)
    show (0 * a + (j 0).val) * b + (j 1).val = (j 0).val * b + (j 1).val
    rw [Nat.zero_mul, Nat.zero_add]
  show arg.view.read (Elt F) X ((Rect.unit (s := (⟨3, ![1, a, b]⟩ : Shape)) ![0, 0, 0] (⟨3, ![1, a, b]⟩ : Shape).size inb).emb (Shape.reshapeEquiv sq.numel_eq j)) = _
  rw [h]
  congr 1
  funext x
  apply Fin.ext
  match x with
  | ⟨0, _⟩ => show 0 + 1 * 0 = 0; rfl
  | ⟨1, _⟩ => show 0 + 1 * (j 0).val = (j 0).val; omega
  | ⟨2, _⟩ => show 0 + 1 * (j 1).val = (j 1).val; omega

/-- A window with two leading unit axes, read with those axes dropped. -/
theorem sq4_read {a b : ℕ} {e : EltTy} (arg : Memref sig .tc .vmem (⟨4, ![1, 1, a, b]⟩ : Shape) e)
    (inb : ∀ x, (![0, 0, 0, 0] : Fin 4 → ℕ) x + (⟨4, ![1, 1, a, b]⟩ : Shape).size x ≤ (⟨4, ![1, 1, a, b]⟩ : Shape).size x) {hs}
    (sq : (⟨4, ![1, 1, a, b]⟩ : Shape).Squeezes ⟨2, ![a, b]⟩) (X : BufTy.Contents (Elt F) arg.view.ty) (j : (⟨2, ![a, b]⟩ : Shape).Idx) :
    ((arg.slice (Rect.unit (s := (⟨4, ![1, 1, a, b]⟩ : Shape)) ![0, 0, 0, 0] (⟨4, ![1, 1, a, b]⟩ : Shape).size inb) hs).squeeze ⟨2, ![a, b]⟩ sq).view.read (Elt F) X j
      = arg.view.read (Elt F) X (ValueIdx.ix4 (0 : Fin 1) (0 : Fin 1) (j 0) (j 1)) := by
  have h : (Shape.reshapeEquiv sq.numel_eq j : (⟨4, ![1, 1, a, b]⟩ : Shape).Idx) = ValueIdx.ix4 (0 : Fin 1) (0 : Fin 1) (j 0) (j 1) := by
    apply Shape.reshapeEquiv_eq_of_rowMajor
    refine (Shape.rowMajor_val_four (d := ![1, 1, a, b]) _).trans (Eq.trans ?_ (Shape.rowMajor_val_two (d := ![a, b]) j).symm)
    show ((0 * 1 + 0) * a + (j 0).val) * b + (j 1).val = (j 0).val * b + (j 1).val
    simp only [Nat.zero_mul, Nat.zero_add]
  show arg.view.read (Elt F) X ((Rect.unit (s := (⟨4, ![1, 1, a, b]⟩ : Shape)) ![0, 0, 0, 0] (⟨4, ![1, 1, a, b]⟩ : Shape).size inb).emb (Shape.reshapeEquiv sq.numel_eq j)) = _
  rw [h]
  congr 1
  funext x
  apply Fin.ext
  match x with
  | ⟨0, _⟩ => show 0 + 1 * 0 = 0; rfl
  | ⟨1, _⟩ => show 0 + 1 * 0 = 0; rfl
  | ⟨2, _⟩ => show 0 + 1 * (j 0).val = (j 0).val; omega
  | ⟨3, _⟩ => show 0 + 1 * (j 1).val = (j 1).val; omega

/-- A block of rows of an array read with its unit axes dropped. -/
theorem row_read {α : Type} {N n : ℕ} (hN : 0 < N) (X : (⟨4, ![1, 1, N, 128]⟩ : Shape).Idx → α) (Y : (⟨2, ![N, 128]⟩ : Shape).Idx → α)
    (h : ∀ j, Y j = X (ValueIdx.ix4 (0 : Fin 1) (0 : Fin 1) (j 0) (j 1))) (k : ℕ) {off : Fin 2 → ℕ}
    {inb2 : ∀ x, off x + (⟨2, ![n, 128]⟩ : Shape).size x ≤ (⟨2, ![N, 128]⟩ : Shape).size x} (hoff : off = ![n * k, 0]) :
    (fun y => Y ((Rect.unit (s := (⟨2, ![N, 128]⟩ : Shape)) off (⟨2, ![n, 128]⟩ : Shape).size inb2).toLoadRect.idx y)) = rowB hN X n k := by
  funext y
  refine (h _).trans (pick_eq _ _ _ _ fun x => ?_).symm
  subst hoff
  match x with
  | ⟨0, _⟩ => rfl
  | ⟨1, _⟩ => rfl
  | ⟨2, _⟩ => show n * k + 1 * (y 0).val = n * k + (y 0).val; omega
  | ⟨3, _⟩ => show 0 + 1 * (y 1).val = (y 1).val; omega

/-- A block of columns of an array read with its unit axes dropped. -/
theorem col_read {α : Type} {N D n : ℕ} (hN : 0 < N) (hD : 0 < D) (X : (⟨4, ![1, 1, D, N]⟩ : Shape).Idx → α) (Y : (⟨2, ![D, N]⟩ : Shape).Idx → α)
    (h : ∀ j, Y j = X (ValueIdx.ix4 (0 : Fin 1) (0 : Fin 1) (j 0) (j 1))) (k : ℕ) {off : Fin 2 → ℕ}
    {inb2 : ∀ x, off x + (⟨2, ![D, n]⟩ : Shape).size x ≤ (⟨2, ![D, N]⟩ : Shape).size x} (hoff : off = ![0, n * k]) :
    (fun y => Y ((Rect.unit (s := (⟨2, ![D, N]⟩ : Shape)) off (⟨2, ![D, n]⟩ : Shape).size inb2).toLoadRect.idx y)) = colB hN hD X n k := by
  funext y
  refine (h _).trans (pick_eq _ _ _ _ fun x => ?_).symm
  subst hoff
  match x with
  | ⟨0, _⟩ => rfl
  | ⟨1, _⟩ => rfl
  | ⟨2, _⟩ => show 0 + 1 * (y 0).val = (y 0).val; omega
  | ⟨3, _⟩ => show n * k + 1 * (y 1).val = n * k + (y 1).val; omega

theorem trip2_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole) (v15 : Vec F S1x1x256x128 .fp8e4m3) (v17 : Vec F S1x1x1x256 .f32)
    (f22 : Buf (Elt F) (arg22.view.loc (c : Thread nD τ))) (f6 : Buf (Elt F) (arg6.view.loc (c : Thread nD τ))) (f7 : Buf (Elt F) (arg7.view.loc (c : Thread nD τ))) (f8 : Buf (Elt F) (arg8.view.loc (c : Thread nD τ))) (W : S32768x128.Idx → F .f32) (hW : ∀ y, arg22.view.read (Elt F) f22 y = W y) (k : Fin k0_t2_loop.trips) (acc : St F) :
    (iprop((arg22.view.loc (c : Thread nD τ) ↦[arg22.view.set]{fullShare} f22) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8)) : sProp 𝕄G) ⊢ wp frame (wpE (defs₀ (F := F)) 𝒱 (c : Thread nD τ) bd) E (k0_t2_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v15 v17 k acc)
      (fun yld => iprop(⌜yld = step2 (k0_pay158 v15) (k0_pay159 v17) (kpB (arg6.view.read (Elt F) f6) k.val) (kspB W k.val) (vtpB (arg7.view.read (Elt F) f7) k.val) (vspB (arg8.view.read (Elt F) f8) k.val) acc⌝ ∗ (arg22.view.loc (c : Thread nD τ) ↦[arg22.view.set]{fullShare} f22) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8))) := by
  have hk : k.val < 64 := Nat.lt_of_lt_of_le k.isLt k0_t2_abs.2.1
  unfold k0_t2_body
  iintro ⟨H22, H6, H7, H8⟩
  sl_exec
  sl_step
  isplitr
  · ipureintro
    show step2 _ _ _ _ _ _ _ = step2 _ _ _ _ _ _ _
    congr 1
    · funext y
      refine (sq3_read arg6 _ _ f6 _).trans (pick_eq _ _ _ _ fun x => ?_).symm
      have ho := k0_off4_eq k
      match x with
      | ⟨0, _⟩ => rfl
      | ⟨1, _⟩ =>
        have h1 : k0_off4 k 0 = 512 * k.val := congrFun ho 0
        show k0_off4 k 0 + 1 * (y 0).val = 512 * k.val + (y 0).val; omega
      | ⟨2, _⟩ =>
        have h1 : k0_off4 k 1 = 0 := congrFun ho 1
        show k0_off4 k 1 + 1 * (y 1).val = (y 1).val; omega
    · funext y
      refine (hW _).trans (pick_eq W _ _ _ fun x => ?_).symm
      have ho := k0_off4_eq k
      match x with
      | ⟨0, _⟩ =>
        have h1 : k0_off4 k 0 = 512 * k.val := congrFun ho 0
        show k0_off4 k 0 + 1 * (y 0).val = 512 * k.val + (y 0).val; omega
      | ⟨1, _⟩ =>
        have h1 : k0_off4 k 1 = 0 := congrFun ho 1
        show k0_off4 k 1 + 1 * (y 1).val = (y 1).val; omega
    · funext y
      refine (sq3_read arg7 _ _ f7 _).trans (pick_eq _ _ _ _ fun x => ?_).symm
      have ho := k0_off5_eq k
      match x with
      | ⟨0, _⟩ => rfl
      | ⟨1, _⟩ =>
        have h1 : k0_off5 k 0 = 0 := congrFun ho 0
        show k0_off5 k 0 + 1 * (y 0).val = (y 0).val; omega
      | ⟨2, _⟩ =>
        have h1 : k0_off5 k 1 = 512 * k.val := congrFun ho 1
        show k0_off5 k 1 + 1 * (y 1).val = 512 * k.val + (y 1).val; omega
    · funext y
      refine (sq3_read arg8 _ _ f8 _).trans (pick_eq _ _ _ _ fun x => ?_).symm
      have ho := k0_off6_eq k
      match x with
      | ⟨0, _⟩ => rfl
      | ⟨1, _⟩ => exact Nat.lt_one_iff.mp (Fin.isLt _)
      | ⟨2, _⟩ =>
        have h1 : k0_off6 k 1 = 512 * k.val := congrFun ho 1
        show k0_off6 k 1 + 1 * (y 1).val = 512 * k.val + (y 1).val; omega
  isplitl [H22]; · iexact H22
  isplitl [H6]; · iexact H6
  isplitl [H7]; · iexact H7
  iexact H8

set_option warn.classDefReducibility false in
/-- The pass over the prompt by its invariant: the carried state is the recursion's. -/
def inv2 (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole) (v15 : Vec F S1x1x256x128 .fp8e4m3) (v17 : Vec F S1x1x1x256 .f32)
    (f22 : Buf (Elt F) (arg22.view.loc (c : Thread nD τ))) (f6 : Buf (Elt F) (arg6.view.loc (c : Thread nD τ))) (f7 : Buf (Elt F) (arg7.view.loc (c : Thread nD τ))) (f8 : Buf (Elt F) (arg8.view.loc (c : Thread nD τ))) (W : S32768x128.Idx → F .f32) (hW : ∀ y, arg22.view.read (Elt F) f22 y = W y) :
    LoopInvTy_k0_t2 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v15 v17 (k0_pay160 (F := F), k0_pay161 (F := F), k0_pay162 (F := F)) where
  inv k acc := iprop((arg22.view.loc (c : Thread nD τ) ↦[arg22.view.set]{fullShare} f22) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ ⌜acc = st2 (k0_pay158 v15) (k0_pay159 v17) (arg6.view.read (Elt F) f6) W (arg7.view.read (Elt F) f7) (arg8.view.read (Elt F) f8) k⌝)
  step k acc := by
    iintro ⟨H22, H6, H7, H8, %h⟩
    subst h
    iapply (wp_wand_r Idealize.ShloMosaic.frame (wpE (defs₀ (F := F)) 𝒱 (c : Thread nD τ) bd) E)
    isplitl [H22 H6 H7 H8]
    · iapply (trip2_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v15 v17 f22 f6 f7 f8 W hW k _)
      isplitl [H22]; · iexact H22
      isplitl [H6]; · iexact H6
      isplitl [H7]; · iexact H7
      iexact H8
    · iintro %yld ⟨%h, H22, H6, H7, H8⟩
      isplitl [H22]; · iexact H22
      isplitl [H6]; · iexact H6
      isplitl [H7]; · iexact H7
      isplitl [H8]; · iexact H8
      ipureintro
      exact h

theorem trip3_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole) (v9 : BitVec 32) (v16 : FVec F S256x128 .fp8e4m3) (v20 : FVec F S1x256 .f32) (v25_0 : FVec F S128x256 .f32) (v25_1 : FVec F S1x256 .f32) (v25_2 : FVec F S1x256 .f32) (v26 : FVec F S128x256 .f32)
    (f14 : Buf (Elt F) (arg14.view.loc (c : Thread nD τ))) (f17 : Buf (Elt F) (arg17.view.loc (c : Thread nD τ))) (f15 : Buf (Elt F) (arg15.view.loc (c : Thread nD τ))) (f16 : Buf (Elt F) (arg16.view.loc (c : Thread nD τ))) (k : Fin k0_t3_loop.trips) (acc : St F) :
    (iprop((arg14.view.loc (c : Thread nD τ) ↦[arg14.view.set]{fullShare} f14) ∗ (arg17.view.loc (c : Thread nD τ) ↦[arg17.view.set]{fullShare} f17) ∗ (arg15.view.loc (c : Thread nD τ) ↦[arg15.view.set]{fullShare} f15) ∗ (arg16.view.loc (c : Thread nD τ) ↦[arg16.view.set]{fullShare} f16)) : sProp 𝕄G) ⊢ wp frame (wpE (defs₀ (F := F)) 𝒱 (c : Thread nD τ) bd) E (k0_t3_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v16 v20 v25_0 v25_1 v25_2 v26 k acc)
      (fun yld => iprop(⌜yld = step3 v16 v20  (rowB (by decide) (arg14.view.read (Elt F) f14) 128 k.val) (rowB (by decide) (arg17.view.read (Elt F) f17) 128 k.val) (colB (by decide) (by decide) (arg15.view.read (Elt F) f15) 128 k.val) (colB (by decide) (by decide) (arg16.view.read (Elt F) f16) 128 k.val) acc⌝ ∗ (arg14.view.loc (c : Thread nD τ) ↦[arg14.view.set]{fullShare} f14) ∗ (arg17.view.loc (c : Thread nD τ) ↦[arg17.view.set]{fullShare} f17) ∗ (arg15.view.loc (c : Thread nD τ) ↦[arg15.view.set]{fullShare} f15) ∗ (arg16.view.loc (c : Thread nD τ) ↦[arg16.view.set]{fullShare} f16))) := by
  have hk : k.val < 3 := Nat.lt_of_lt_of_le k.isLt k0_t3_abs.2.1
  unfold k0_t3_body
  iintro ⟨H14, H17, H15, H16⟩
  sl_exec
  sl_step
  isplitr
  · ipureintro
    show step3 _ _ _ _ _ _ _ = step3 _ _ _ _ _ _ _
    congr 1
    · exact row_read (by decide) _ _ (sq4_read arg14 _ _ f14) k.val (k0_off7_eq k)
    · exact row_read (by decide) _ _ (sq4_read arg17 _ _ f17) k.val (k0_off7_eq k)
    · exact col_read (by decide) (by decide) _ _ (sq4_read arg15 _ _ f15) k.val (k0_off8_eq k)
    · exact col_read (by decide) (by decide) _ _ (sq4_read arg16 _ _ f16) k.val (k0_off9_eq k)
  isplitl [H14]; · iexact H14
  isplitl [H17]; · iexact H17
  isplitl [H15]; · iexact H15
  iexact H16

set_option warn.classDefReducibility false in
/-- The pass over the middle segment by its invariant. -/
def inv3 (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole) (v9 : BitVec 32) (v16 : FVec F S256x128 .fp8e4m3) (v20 : FVec F S1x256 .f32) (v25_0 : FVec F S128x256 .f32) (v25_1 : FVec F S1x256 .f32) (v25_2 : FVec F S1x256 .f32) (v26 : FVec F S128x256 .f32)
    (f14 : Buf (Elt F) (arg14.view.loc (c : Thread nD τ))) (f17 : Buf (Elt F) (arg17.view.loc (c : Thread nD τ))) (f15 : Buf (Elt F) (arg15.view.loc (c : Thread nD τ))) (f16 : Buf (Elt F) (arg16.view.loc (c : Thread nD τ))) :
    LoopInvTy_k0_t3 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v16 v20 v25_0 v25_1 v25_2 v26 (k0_pay163 (F := F), k0_pay164 (F := F), k0_pay165 (F := F)) where
  inv k acc := iprop((arg14.view.loc (c : Thread nD τ) ↦[arg14.view.set]{fullShare} f14) ∗ (arg17.view.loc (c : Thread nD τ) ↦[arg17.view.set]{fullShare} f17) ∗ (arg15.view.loc (c : Thread nD τ) ↦[arg15.view.set]{fullShare} f15) ∗ (arg16.view.loc (c : Thread nD τ) ↦[arg16.view.set]{fullShare} f16) ∗ ⌜acc = st3 v16 v20  (arg14.view.read (Elt F) f14) (arg17.view.read (Elt F) f17) (arg15.view.read (Elt F) f15) (arg16.view.read (Elt F) f16) k⌝)
  step k acc := by
    iintro ⟨H14, H17, H15, H16, %h⟩
    subst h
    iapply (wp_wand_r Idealize.ShloMosaic.frame (wpE (defs₀ (F := F)) 𝒱 (c : Thread nD τ) bd) E)
    isplitl [H14 H17 H15 H16]
    · iapply (trip3_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v16 v20 v25_0 v25_1 v25_2 v26 f14 f17 f15 f16 k _)
      isplitl [H14]; · iexact H14
      isplitl [H17]; · iexact H17
      isplitl [H15]; · iexact H15
      iexact H16
    · iintro %yld ⟨%h, H14, H17, H15, H16⟩
      isplitl [H14]; · iexact H14
      isplitl [H17]; · iexact H17
      isplitl [H15]; · iexact H15
      isplitl [H16]; · iexact H16
      ipureintro
      exact h

theorem trip4_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole) (v9 : BitVec 32) (v16 : FVec F S256x128 .fp8e4m3) (v20 : FVec F S1x256 .f32) (v25_0 : FVec F S128x256 .f32) (v25_1 : FVec F S1x256 .f32) (v25_2 : FVec F S1x256 .f32) (v26 : FVec F S128x256 .f32) (v31 : BitVec 32)
    (f10 : Buf (Elt F) (arg10.view.loc (c : Thread nD τ))) (f13 : Buf (Elt F) (arg13.view.loc (c : Thread nD τ))) (f11 : Buf (Elt F) (arg11.view.loc (c : Thread nD τ))) (f12 : Buf (Elt F) (arg12.view.loc (c : Thread nD τ))) (k : Fin k0_t4_loop.trips) (acc : St F) :
    (iprop((arg10.view.loc (c : Thread nD τ) ↦[arg10.view.set]{fullShare} f10) ∗ (arg13.view.loc (c : Thread nD τ) ↦[arg13.view.set]{fullShare} f13) ∗ (arg11.view.loc (c : Thread nD τ) ↦[arg11.view.set]{fullShare} f11) ∗ (arg12.view.loc (c : Thread nD τ) ↦[arg12.view.set]{fullShare} f12)) : sProp 𝕄G) ⊢ wp frame (wpE (defs₀ (F := F)) 𝒱 (c : Thread nD τ) bd) E (k0_t4_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v16 v20 v25_0 v25_1 v25_2 v26 v31 k acc)
      (fun yld => iprop(⌜yld = step4 v16 v20 v31 k (rowB (by decide) (arg10.view.read (Elt F) f10) 256 k.val) (rowB (by decide) (arg13.view.read (Elt F) f13) 256 k.val) (colB (by decide) (by decide) (arg11.view.read (Elt F) f11) 256 k.val) (colB (by decide) (by decide) (arg12.view.read (Elt F) f12) 256 k.val) acc⌝ ∗ (arg10.view.loc (c : Thread nD τ) ↦[arg10.view.set]{fullShare} f10) ∗ (arg13.view.loc (c : Thread nD τ) ↦[arg13.view.set]{fullShare} f13) ∗ (arg11.view.loc (c : Thread nD τ) ↦[arg11.view.set]{fullShare} f11) ∗ (arg12.view.loc (c : Thread nD τ) ↦[arg12.view.set]{fullShare} f12))) := by
  have hk : k.val < 2 := Nat.lt_of_lt_of_le k.isLt k0_t4_abs.2.1
  unfold k0_t4_body
  iintro ⟨H10, H13, H11, H12⟩
  sl_exec
  sl_step
  isplitr
  · ipureintro
    show step4 _ _ _ _ _ _ _ _ _ = step4 _ _ _ _ _ _ _ _ _
    congr 1
    · exact row_read (by decide) _ _ (sq4_read arg10 _ _ f10) k.val (k0_off10_eq k)
    · exact row_read (by decide) _ _ (sq4_read arg13 _ _ f13) k.val (k0_off10_eq k)
    · exact col_read (by decide) (by decide) _ _ (sq4_read arg11 _ _ f11) k.val (k0_off11_eq k)
    · exact col_read (by decide) (by decide) _ _ (sq4_read arg12 _ _ f12) k.val (k0_off12_eq k)
  isplitl [H10]; · iexact H10
  isplitl [H13]; · iexact H13
  isplitl [H11]; · iexact H11
  iexact H12

set_option warn.classDefReducibility false in
/-- The pass over the point's own keys by its invariant. -/
def inv4 (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole) (v9 : BitVec 32) (v16 : FVec F S256x128 .fp8e4m3) (v20 : FVec F S1x256 .f32) (v25_0 : FVec F S128x256 .f32) (v25_1 : FVec F S1x256 .f32) (v25_2 : FVec F S1x256 .f32) (v26 : FVec F S128x256 .f32) (v31 : BitVec 32)
    (f10 : Buf (Elt F) (arg10.view.loc (c : Thread nD τ))) (f13 : Buf (Elt F) (arg13.view.loc (c : Thread nD τ))) (f11 : Buf (Elt F) (arg11.view.loc (c : Thread nD τ))) (f12 : Buf (Elt F) (arg12.view.loc (c : Thread nD τ))) :
    LoopInvTy_k0_t4 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v16 v20 v25_0 v25_1 v25_2 v26 v31 (k0_pay167 (F := F), k0_pay168 (F := F), k0_pay169 (F := F)) where
  inv k acc := iprop((arg10.view.loc (c : Thread nD τ) ↦[arg10.view.set]{fullShare} f10) ∗ (arg13.view.loc (c : Thread nD τ) ↦[arg13.view.set]{fullShare} f13) ∗ (arg11.view.loc (c : Thread nD τ) ↦[arg11.view.set]{fullShare} f11) ∗ (arg12.view.loc (c : Thread nD τ) ↦[arg12.view.set]{fullShare} f12) ∗ ⌜acc = st4 v16 v20 v31 (arg10.view.read (Elt F) f10) (arg13.view.read (Elt F) f13) (arg11.view.read (Elt F) f11) (arg12.view.read (Elt F) f12) k⌝)
  step k acc := by
    iintro ⟨H10, H13, H11, H12, %h⟩
    subst h
    iapply (wp_wand_r Idealize.ShloMosaic.frame (wpE (defs₀ (F := F)) 𝒱 (c : Thread nD τ) bd) E)
    isplitl [H10 H13 H11 H12]
    · iapply (trip4_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v16 v20 v25_0 v25_1 v25_2 v26 v31 f10 f13 f11 f12 k _)
      isplitl [H10]; · iexact H10
      isplitl [H13]; · iexact H13
      isplitl [H11]; · iexact H11
      iexact H12
    · iintro %yld ⟨%h, H10, H13, H11, H12⟩
      isplitl [H10]; · iexact H10
      isplitl [H13]; · iexact H13
      isplitl [H11]; · iexact H11
      isplitl [H12]; · iexact H12
      ipureintro
      have hl : k.val < k0_t4_loop.trips := k.isLt
      rw [h, st4.eq_2, dif_pos hl]

end Cert.KernelIdeal.Hyd
-- ==== Proof.Hyd.KernelIdealRun.lean ====
module

public import proofs.«01_k».proof.Proof.Hyd.KernelIdealBody

@[expose] public section

set_option maxRecDepth 16384
set_option maxHeartbeats 4000000

/-! The run of the kernel's body at one grid point. -/

noncomputable section

namespace Cert.KernelIdeal.Hyd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- A load of a whole window reads the window. -/
theorem readAt_whole {κ : Kind} {sp : Space} {s : Shape} {e : EltTy} (m : Memref sig κ sp s e) (off : Fin s.rank → ℕ) (inb : ∀ a, off a + s.size a ≤ s.size a)
    (f : BufTy.Contents (Elt F) m.view.ty) : m.view.readAt (Elt F) (Rect.unit (s := s) off s.size inb).toLoadRect f = m.view.read (Elt F) f := by
  funext y
  show m.view.read (Elt F) f _ = m.view.read (Elt F) f y
  congr 1
  funext a
  apply Fin.ext
  show off a + 1 * (y a).val = (y a).val
  have := inb a
  omega

/-- A program run to a known result, and then what follows it. -/
theorem run_bind {α β : Type} {𝒱 : Variants} {c : Dev nD} {bd : Option 𝒱.V} {E : Set ℕ} {P R : sProp 𝕄G} {a : α} {p : Prog (TpuEff nD τ sig (Elt F) Λ₀ .tc) α}
    {K : α → Prog (TpuEff nD τ sig (Elt F) Λ₀ .tc) β} {Q : β → sProp 𝕄G}
    (hp : P ⊢ wp frame (wpE (defs₀ (F := F)) 𝒱 (c : Thread nD τ) bd) E p (fun x => iprop(⌜x = a⌝ ∗ R))) :
    iprop(P ∗ (R -∗ wp frame (wpE (defs₀ (F := F)) 𝒱 (c : Thread nD τ) bd) E (K a) Q)) ⊢ wp frame (wpE (defs₀ (F := F)) 𝒱 (c : Thread nD τ) bd) E (p >>= K) Q := by
  rw [wp_bind]
  iintro ⟨HP, HK⟩
  iapply (wp_wand_r Idealize.ShloMosaic.frame (wpE (defs₀ (F := F)) 𝒱 (c : Thread nD τ) bd) E)
  isplitl [HP]
  · iapply hp
    iexact HP
  iintro %x ⟨%hx, HR⟩
  subst hx
  iapply HK
  iexact HR

theorem loop2_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole) (v15 : Vec F S1x1x256x128 .fp8e4m3) (v17 : Vec F S1x1x1x256 .f32)
    (f22 : Buf (Elt F) (arg22.view.loc (c : Thread nD τ))) (f6 : Buf (Elt F) (arg6.view.loc (c : Thread nD τ))) (f7 : Buf (Elt F) (arg7.view.loc (c : Thread nD τ))) (f8 : Buf (Elt F) (arg8.view.loc (c : Thread nD τ))) (W : S32768x128.Idx → F .f32) (hW : ∀ y, arg22.view.read (Elt F) f22 y = W y) :
    (iprop((arg22.view.loc (c : Thread nD τ) ↦[arg22.view.set]{fullShare} f22) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8)) : sProp 𝕄G) ⊢ wp frame (wpE (defs₀ (F := F)) 𝒱 (c : Thread nD τ) bd) E
      (Scf.Loop.for k0_t2_loop k0_t2_ok (k0_pay160 (F := F), k0_pay161 (F := F), k0_pay162 (F := F)) (k0_t2_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v15 v17))
      (fun x => iprop(⌜x = st2 (k0_pay158 v15) (k0_pay159 v17) (arg6.view.read (Elt F) f6) W (arg7.view.read (Elt F) f7) (arg8.view.read (Elt F) f8) 64⌝ ∗ (arg22.view.loc (c : Thread nD τ) ↦[arg22.view.set]{fullShare} f22) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8))) := by
  iintro ⟨H22, H6, H7, H8⟩
  iapply (exec_loop_last Idealize.ShloMosaic.frame (wpE (defs₀ (F := F)) 𝒱 (c : Thread nD τ) bd) E _ _ _ _ _ _ (inv2 (F := F) 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v15 v17 f22 f6 f7 f8 W hW)) $$ [H22 H6 H7 H8]
  · unfold inv2; dsimp only
    isplitl [H22]; · iexact H22
    isplitl [H6]; · iexact H6
    isplitl [H7]; · iexact H7
    isplitl [H8]; · iexact H8
    ipureintro; rfl
  iintro %a HI
  unfold inv2; dsimp only
  icases HI with ⟨H22, H6, H7, H8, %h⟩
  isplitr
  · ipureintro; exact h
  isplitl [H22]; · iexact H22
  isplitl [H6]; · iexact H6
  isplitl [H7]; · iexact H7
  iexact H8

theorem loop3_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole) (v9 : BitVec 32) (v16 : FVec F S256x128 .fp8e4m3) (v20 : FVec F S1x256 .f32) (v25_0 : FVec F S128x256 .f32) (v25_1 : FVec F S1x256 .f32) (v25_2 : FVec F S1x256 .f32) (v26 : FVec F S128x256 .f32)
    (f14 : Buf (Elt F) (arg14.view.loc (c : Thread nD τ))) (f17 : Buf (Elt F) (arg17.view.loc (c : Thread nD τ))) (f15 : Buf (Elt F) (arg15.view.loc (c : Thread nD τ))) (f16 : Buf (Elt F) (arg16.view.loc (c : Thread nD τ)))  :
    (iprop((arg14.view.loc (c : Thread nD τ) ↦[arg14.view.set]{fullShare} f14) ∗ (arg17.view.loc (c : Thread nD τ) ↦[arg17.view.set]{fullShare} f17) ∗ (arg15.view.loc (c : Thread nD τ) ↦[arg15.view.set]{fullShare} f15) ∗ (arg16.view.loc (c : Thread nD τ) ↦[arg16.view.set]{fullShare} f16)) : sProp 𝕄G) ⊢ wp frame (wpE (defs₀ (F := F)) 𝒱 (c : Thread nD τ) bd) E
      (Scf.Loop.for k0_t3_loop k0_t3_ok (k0_pay163 (F := F), k0_pay164 (F := F), k0_pay165 (F := F)) (k0_t3_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v16 v20 v25_0 v25_1 v25_2 v26))
      (fun x => iprop(⌜x = st3 v16 v20 (arg14.view.read (Elt F) f14) (arg17.view.read (Elt F) f17) (arg15.view.read (Elt F) f15) (arg16.view.read (Elt F) f16) 3⌝ ∗ (arg14.view.loc (c : Thread nD τ) ↦[arg14.view.set]{fullShare} f14) ∗ (arg17.view.loc (c : Thread nD τ) ↦[arg17.view.set]{fullShare} f17) ∗ (arg15.view.loc (c : Thread nD τ) ↦[arg15.view.set]{fullShare} f15) ∗ (arg16.view.loc (c : Thread nD τ) ↦[arg16.view.set]{fullShare} f16))) := by
  iintro ⟨H14, H17, H15, H16⟩
  iapply (exec_loop_last Idealize.ShloMosaic.frame (wpE (defs₀ (F := F)) 𝒱 (c : Thread nD τ) bd) E _ _ _ _ _ _ (inv3 (F := F) 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v16 v20 v25_0 v25_1 v25_2 v26 f14 f17 f15 f16)) $$ [H14 H17 H15 H16]
  · unfold inv3; dsimp only
    isplitl [H14]; · iexact H14
    isplitl [H17]; · iexact H17
    isplitl [H15]; · iexact H15
    isplitl [H16]; · iexact H16
    ipureintro; rfl
  iintro %a HI
  unfold inv3; dsimp only
  icases HI with ⟨H14, H17, H15, H16, %h⟩
  isplitr
  · ipureintro; exact h
  isplitl [H14]; · iexact H14
  isplitl [H17]; · iexact H17
  isplitl [H15]; · iexact H15
  iexact H16

theorem loop4_run (𝒱 : Variants) (c : Dev nD) (bd : Option 𝒱.V) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole) (v9 : BitVec 32) (v16 : FVec F S256x128 .fp8e4m3) (v20 : FVec F S1x256 .f32) (v25_0 : FVec F S128x256 .f32) (v25_1 : FVec F S1x256 .f32) (v25_2 : FVec F S1x256 .f32) (v26 : FVec F S128x256 .f32) (v31 : BitVec 32)
    (f10 : Buf (Elt F) (arg10.view.loc (c : Thread nD τ))) (f13 : Buf (Elt F) (arg13.view.loc (c : Thread nD τ))) (f11 : Buf (Elt F) (arg11.view.loc (c : Thread nD τ))) (f12 : Buf (Elt F) (arg12.view.loc (c : Thread nD τ)))  :
    (iprop((arg10.view.loc (c : Thread nD τ) ↦[arg10.view.set]{fullShare} f10) ∗ (arg13.view.loc (c : Thread nD τ) ↦[arg13.view.set]{fullShare} f13) ∗ (arg11.view.loc (c : Thread nD τ) ↦[arg11.view.set]{fullShare} f11) ∗ (arg12.view.loc (c : Thread nD τ) ↦[arg12.view.set]{fullShare} f12)) : sProp 𝕄G) ⊢ wp frame (wpE (defs₀ (F := F)) 𝒱 (c : Thread nD τ) bd) E
      (Scf.Loop.for k0_t4_loop k0_t4_ok (k0_pay167 (F := F), k0_pay168 (F := F), k0_pay169 (F := F)) (k0_t4_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v16 v20 v25_0 v25_1 v25_2 v26 v31))
      (fun x => iprop(⌜x = st4 v16 v20 v31 (arg10.view.read (Elt F) f10) (arg13.view.read (Elt F) f13) (arg11.view.read (Elt F) f11) (arg12.view.read (Elt F) f12) 2⌝ ∗ (arg10.view.loc (c : Thread nD τ) ↦[arg10.view.set]{fullShare} f10) ∗ (arg13.view.loc (c : Thread nD τ) ↦[arg13.view.set]{fullShare} f13) ∗ (arg11.view.loc (c : Thread nD τ) ↦[arg11.view.set]{fullShare} f11) ∗ (arg12.view.loc (c : Thread nD τ) ↦[arg12.view.set]{fullShare} f12))) := by
  iintro ⟨H10, H13, H11, H12⟩
  iapply (exec_loop_last Idealize.ShloMosaic.frame (wpE (defs₀ (F := F)) 𝒱 (c : Thread nD τ) bd) E _ _ _ _ _ _ (inv4 (F := F) 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v16 v20 v25_0 v25_1 v25_2 v26 v31 f10 f13 f11 f12)) $$ [H10 H13 H11 H12]
  · unfold inv4; dsimp only
    isplitl [H10]; · iexact H10
    isplitl [H13]; · iexact H13
    isplitl [H11]; · iexact H11
    isplitl [H12]; · iexact H12
    ipureintro; rfl
  iintro %a HI
  unfold inv4; dsimp only
  icases HI with ⟨H10, H13, H11, H12, %h⟩
  isplitr
  · ipureintro; exact h
  isplitl [H10]; · iexact H10
  isplitl [H13]; · iexact H13
  isplitl [H11]; · iexact H11
  iexact H12

/-- The part of the body after the scratch is filled, through the pass over the prompt. -/
def part38_rest (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole) :
    Prog (TpuEff nD τ sig (Elt F) Λ₀ .tc) (Σ' (v9 : BitVec 32) (v16 : FVec F S256x128 .fp8e4m3) (v20 : FVec F S1x256 .f32) (v25_0 : FVec F S128x256 .f32) (v25_1 : FVec F S1x256 .f32) (v25_2 : FVec F S1x256 .f32), FVec F S128x256 .f32) := do
  let v15 : Vec F S1x1x256x128 .fp8e4m3 ← Prog.lift (.load arg4 (Rect.unit (s := S1x1x256x128) ![0, 0, 0, 0] S1x1x256x128.size inb_S1x1x256x128_S1x1x256x128_0_0_0_0).toLoadRect (View.loadsAt_vmem h_S1x1x256x128))
  let v17 : Vec F S1x1x1x256 .f32 ← Prog.lift (.load arg5 (Rect.unit (s := S1x1x1x256) ![0, 0, 0, 0] S1x1x1x256.size inb_S1x1x1x256_S1x1x1x256_0_0_0_0).toLoadRect (View.loadsAt_vmem h_S1x1x1x256))
  let (v25_0, v25_1, v25_2) ← Scf.Loop.for k0_t2_loop k0_t2_ok (k0_pay160 (F := F), k0_pay161 (F := F), k0_pay162 (F := F)) (k0_t2_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v15 v17)
  pure ⟨par i, k0_pay158 v15, k0_pay159 v17, v25_0, v25_1, v25_2, k0_pay163 (F := F)⟩

theorem part38_split (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole) :
    k0_part38 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22
      = if h : k0_cond1 i = 1#1 then (Scf.Loop.for k0_t1_loop (k0_t1_ok i h) ⟨⟩ (k0_t1_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h) >>= fun _ => part38_rest i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
        else part38_rest i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 := by
  rw [k0_part38_eq_skeleton]
  unfold k0_part38_skel part38_rest par
  rfl

theorem part38_rest_run (c : Dev nD) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f22 : Buf (Elt F) (arg22.view.loc (c : Thread nD τ)))
    (W : S32768x128.Idx → F .f32) (hW : ∀ y, arg22.view.read (Elt F) f22 y = W y) :
    (iprop((arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg22.view.loc (c : Thread nD τ) ↦[arg22.view.set]{fullShare} f22)) : sProp 𝕄G) ⊢ wp frame (wpE (defs₀ (F := F)) Variants.none (c : Thread nD τ) none) E
      (part38_rest (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
      (fun x => iprop(⌜x = ⟨par i, k0_pay158 (arg4.view.read (Elt F) f4), k0_pay159 (arg5.view.read (Elt F) f5),
        (st2 (k0_pay158 (arg4.view.read (Elt F) f4)) (k0_pay159 (arg5.view.read (Elt F) f5)) (arg6.view.read (Elt F) f6) W (arg7.view.read (Elt F) f7) (arg8.view.read (Elt F) f8) 64).1,
        (st2 (k0_pay158 (arg4.view.read (Elt F) f4)) (k0_pay159 (arg5.view.read (Elt F) f5)) (arg6.view.read (Elt F) f6) W (arg7.view.read (Elt F) f7) (arg8.view.read (Elt F) f8) 64).2.1,
        (st2 (k0_pay158 (arg4.view.read (Elt F) f4)) (k0_pay159 (arg5.view.read (Elt F) f5)) (arg6.view.read (Elt F) f6) W (arg7.view.read (Elt F) f7) (arg8.view.read (Elt F) f8) 64).2.2, k0_pay163 (F := F)⟩⌝ ∗
        (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg22.view.loc (c : Thread nD τ) ↦[arg22.view.set]{fullShare} f22))) := by
  unfold part38_rest
  iintro ⟨H4, H5, H6, H7, H8, H22⟩
  sl_exec
  iapply (run_bind (loop2_run (F := F) Variants.none c none E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ f22 f6 f7 f8 W hW))
  isplitl [H22 H6 H7 H8]
  · isplitl [H22]; · iexact H22
    isplitl [H6]; · iexact H6
    isplitl [H7]; · iexact H7
    iexact H8
  iintro ⟨H22, H6, H7, H8⟩
  dsimp only
  sl_step
  isplitr
  · ipureintro
    rw [readAt_whole, readAt_whole]
  isplitl [H4]; · iexact H4
  isplitl [H5]; · iexact H5
  isplitl [H6]; · iexact H6
  isplitl [H7]; · iexact H7
  isplitl [H8]; · iexact H8
  iexact H22

/-- The state after the pass over the prompt, from the windows' contents. -/
def s2 (X4 : Vec F S1x1x256x128 .fp8e4m3) (X5 : Vec F S1x1x1x256 .f32) (X6 : Vec F S1x32768x128 .fp8e4m3) (X7 : Vec F S1x128x32768 .fp8e4m3)
    (X8 : Vec F S1x1x32768 .bf16) (X9 : Vec F S1x8x4096 .f32) : St F :=
  st2 (k0_pay158 X4) (k0_pay159 X5) X6 (kspOf X9) X7 X8 64

/-- The state after the pass over the middle segment. -/
def s3 (X4 : Vec F S1x1x256x128 .fp8e4m3) (X5 : Vec F S1x1x1x256 .f32) (X14 : Vec F S1x1x384x128 .fp8e4m3) (X15 : Vec F S1x1x128x384 .fp8e4m3)
    (X16 : Vec F S1x1x1x384 .bf16) (X17 : Vec F S1x1x384x128 .f32) : St F :=
  st3 (k0_pay158 X4) (k0_pay159 X5) X14 X17 X15 X16 3

/-- The state after the pass over the point's own keys. -/
def s4 (i : grid0.Coords) (X4 : Vec F S1x1x256x128 .fp8e4m3) (X5 : Vec F S1x1x1x256 .f32) (X10 : Vec F S1x1x512x128 .fp8e4m3) (X11 : Vec F S1x1x128x512 .fp8e4m3)
    (X12 : Vec F S1x1x1x512 .bf16) (X13 : Vec F S1x1x512x128 .f32) : St F :=
  st4 (k0_pay158 X4) (k0_pay159 X5) (Scalar.muli (par i) 256#32) X10 X13 X11 X12 2

/-- What a point stores of the attention output, from the three passes' states. -/
def oO (a b d : St F) : FVec F S1x256x128 .bf16 :=
  k0_pay178 b.1 d.1 (k0_pay174 a.2.2 b.2.2 d.2.2) (k0_pay175 a.2.1 a.2.2 b.2.1 b.2.2 d.2.1 d.2.2) (k0_pay176 a.1 a.2.1 a.2.2 b.2.1 b.2.2 d.2.1 d.2.2)
    (k0_pay177 a.2.1 a.2.2 b.2.1 b.2.2 d.2.1 d.2.2)
/-- What it stores of the prompt's log-sum-exp. -/
def oP (a : St F) : FVec F S1x1x1x256 .f32 := k0_pay179 a.2.1 a.2.2
/-- What it stores of the middle segment's log-sum-exp. -/
def oM (b : St F) : FVec F S1x1x1x256 .f32 := k0_pay180 b.2.1 b.2.2
/-- What it stores of the log-sum-exp over its own keys. -/
def oC (i : grid0.Coords) (d : St F) : FVec F S1x1x1x256 .f32 :=
  k0_pay1 d.2.1 d.2.2 (iota .tc S1x256 32 [1] iota_S1x256_d1_w32) (k0_pay181 (par i))

/-- A store over a whole window leaves what was stored. -/
theorem read_store_whole {κ : Kind} {sp : Space} {s : Shape} {e : EltTy} (m : Memref sig κ sp s e) (off : Fin s.rank → ℕ) (inb : ∀ a, off a + s.size a ≤ s.size a)
    (f : BufTy.Contents (Elt F) m.view.ty) (w : s.Idx → Elt F e) :
    m.view.read (Elt F) (m.view.writes (Elt F) f [⟨Rect.unit (s := s) off s.size inb, w⟩]) = w := by
  funext y
  refine View.read_writes_cons_unit_of_mem m.view f inb w [] y y (off := off) rfl fun a => ?_
  have := inb a
  omega

theorem FillR_zero (c : Dev nD) (arg9 : Memref sig .tc .vmem S1x8x4096 .f32) (arg22 : Memref sig .tc .vmem S32768x128 .f32) (f9 : Buf (Elt F) (arg9.view.loc (c : Thread nD τ))) (f22 : Buf (Elt F) (arg22.view.loc (c : Thread nD τ))) :
    (iprop((arg9.view.loc (c : Thread nD τ) ↦[arg9.view.set]{fullShare} f9) ∗ (arg22.view.loc (c : Thread nD τ) ↦[arg22.view.set]{fullShare} f22)) : sProp 𝕄G) ⊢ FillR (F := F) c arg9 arg22 f9 0 0 := by
  unfold FillR
  iintro ⟨H9, H22⟩
  isplitl [H9]; · iexact H9
  iexists f22
  isplitr [H22]; · ipureintro; exact fun y hy => absurd hy (Nat.not_lt_zero _)
  iexact H22

theorem FillR_end (c : Dev nD) (arg9 : Memref sig .tc .vmem S1x8x4096 .f32) (arg22 : Memref sig .tc .vmem S32768x128 .f32) (f9 : Buf (Elt F) (arg9.view.loc (c : Thread nD τ))) :
    FillR (F := F) c arg9 arg22 f9 k0_t1_loop.trips 0 ⊢ iprop((arg9.view.loc (c : Thread nD τ) ↦[arg9.view.set]{fullShare} f9) ∗ ∃ g : Buf (Elt F) (arg22.view.loc (c : Thread nD τ)),
      ⌜∀ y, arg22.view.read (Elt F) g y = kspOf (arg9.view.read (Elt F) f9) y⌝ ∗ (arg22.view.loc (c : Thread nD τ) ↦[arg22.view.set]{fullShare} g)) := by
  unfold FillR
  iintro ⟨H9, %g, %hg, H22⟩
  isplitl [H9]; · iexact H9
  iexists g
  isplitr [H22]
  · ipureintro
    intro y
    refine hg y ?_
    have h : (y 0).val < 32768 := (y 0).isLt
    rw [show k0_t1_loop.trips = 32 by decide]
    omega
  iexact H22

theorem part38_run (c : Dev nD) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f22 : Buf (Elt F) (arg22.view.loc (c : Thread nD τ))) (hS : k0_cond1 i ≠ 1#1 → ∀ y, arg22.view.read (Elt F) f22 y = kspOf (arg9.view.read (Elt F) f9) y) :
    (iprop((arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg22.view.loc (c : Thread nD τ) ↦[arg22.view.set]{fullShare} f22)) : sProp 𝕄G) ⊢ wp frame (wpE (defs₀ (F := F)) Variants.none (c : Thread nD τ) none) E
      (k0_part38 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
      (fun x => iprop(⌜x = ⟨par i, k0_pay158 (arg4.view.read (Elt F) f4), k0_pay159 (arg5.view.read (Elt F) f5), (s2 (arg4.view.read (Elt F) f4) (arg5.view.read (Elt F) f5) (arg6.view.read (Elt F) f6) (arg7.view.read (Elt F) f7) (arg8.view.read (Elt F) f8) (arg9.view.read (Elt F) f9)).1,
        (s2 (arg4.view.read (Elt F) f4) (arg5.view.read (Elt F) f5) (arg6.view.read (Elt F) f6) (arg7.view.read (Elt F) f7) (arg8.view.read (Elt F) f8) (arg9.view.read (Elt F) f9)).2.1, (s2 (arg4.view.read (Elt F) f4) (arg5.view.read (Elt F) f5) (arg6.view.read (Elt F) f6) (arg7.view.read (Elt F) f7) (arg8.view.read (Elt F) f8) (arg9.view.read (Elt F) f9)).2.2, k0_pay163 (F := F)⟩⌝ ∗
        (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ ∃ g : Buf (Elt F) (arg22.view.loc (c : Thread nD τ)), ⌜∀ y, arg22.view.read (Elt F) g y = kspOf (arg9.view.read (Elt F) f9) y⌝ ∗
          (arg22.view.loc (c : Thread nD τ) ↦[arg22.view.set]{fullShare} g))) := by
  rw [part38_split]
  by_cases h : k0_cond1 i = 1#1
  · rw [dif_pos h]
    iintro ⟨H4, H5, H6, H7, H8, H9, H22⟩
    iapply (exec_loop Idealize.ShloMosaic.frame (wpE (defs₀ (F := F)) Variants.none (c : Thread nD τ) none) E _ _ _ _ _ _ (loopInv_k0_t1 (F := F) Variants.none c none E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h f9)) $$ [H9 H22]
    · unfold loopInv_k0_t1; dsimp only
      iapply (FillR_zero (F := F) c arg9 arg22 f9 f22)
      isplitl [H9]; · iexact H9
      iexact H22
    iintro %a HI
    unfold loopInv_k0_t1; dsimp only
    ihave HI2 := (FillR_end (F := F) c arg9 arg22 f9) $$ HI
    icases HI2 with ⟨H9, %g, %hg, H22⟩
    iapply (wp_wand_r Idealize.ShloMosaic.frame (wpE (defs₀ (F := F)) Variants.none (c : Thread nD τ) none) E)
    isplitl [H4 H5 H6 H7 H8 H22]
    · iapply (part38_rest_run c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f4 f5 f6 f7 f8 g _ hg)
      isplitl [H4]; · iexact H4
      isplitl [H5]; · iexact H5
      isplitl [H6]; · iexact H6
      isplitl [H7]; · iexact H7
      isplitl [H8]; · iexact H8
      iexact H22
    iintro %x ⟨%hx, H4, H5, H6, H7, H8, H22⟩
    isplitr; · ipureintro; exact hx
    isplitl [H4]; · iexact H4
    isplitl [H5]; · iexact H5
    isplitl [H6]; · iexact H6
    isplitl [H7]; · iexact H7
    isplitl [H8]; · iexact H8
    isplitl [H9]; · iexact H9
    iexists g
    isplitr; · ipureintro; exact hg
    iexact H22
  · rw [dif_neg h]
    iintro ⟨H4, H5, H6, H7, H8, H9, H22⟩
    iapply (wp_wand_r Idealize.ShloMosaic.frame (wpE (defs₀ (F := F)) Variants.none (c : Thread nD τ) none) E)
    isplitl [H4 H5 H6 H7 H8 H22]
    · iapply (part38_rest_run c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f4 f5 f6 f7 f8 f22 _ (hS h))
      isplitl [H4]; · iexact H4
      isplitl [H5]; · iexact H5
      isplitl [H6]; · iexact H6
      isplitl [H7]; · iexact H7
      isplitl [H8]; · iexact H8
      iexact H22
    iintro %x ⟨%hx, H4, H5, H6, H7, H8, H22⟩
    isplitr; · ipureintro; exact hx
    isplitl [H4]; · iexact H4
    isplitl [H5]; · iexact H5
    isplitl [H6]; · iexact H6
    isplitl [H7]; · iexact H7
    isplitl [H8]; · iexact H8
    isplitl [H9]; · iexact H9
    iexists f22
    isplitr; · ipureintro; exact hS h
    iexact H22

/-- The second part of the body: the passes over the middle segment and over the point's own keys. -/
theorem part39_run (c : Dev nD) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole) (v9 : BitVec 32) (v16 : FVec F S256x128 .fp8e4m3) (v20 : FVec F S1x256 .f32)
    (v25_0 : FVec F S128x256 .f32) (v25_1 : FVec F S1x256 .f32) (v25_2 : FVec F S1x256 .f32)
    (f14 : Buf (Elt F) (arg14.view.loc (c : Thread nD τ))) (f17 : Buf (Elt F) (arg17.view.loc (c : Thread nD τ))) (f15 : Buf (Elt F) (arg15.view.loc (c : Thread nD τ))) (f16 : Buf (Elt F) (arg16.view.loc (c : Thread nD τ))) (f10 : Buf (Elt F) (arg10.view.loc (c : Thread nD τ))) (f13 : Buf (Elt F) (arg13.view.loc (c : Thread nD τ))) (f11 : Buf (Elt F) (arg11.view.loc (c : Thread nD τ))) (f12 : Buf (Elt F) (arg12.view.loc (c : Thread nD τ))) :
    (iprop((arg14.view.loc (c : Thread nD τ) ↦[arg14.view.set]{fullShare} f14) ∗ (arg17.view.loc (c : Thread nD τ) ↦[arg17.view.set]{fullShare} f17) ∗ (arg15.view.loc (c : Thread nD τ) ↦[arg15.view.set]{fullShare} f15) ∗ (arg16.view.loc (c : Thread nD τ) ↦[arg16.view.set]{fullShare} f16) ∗ (arg10.view.loc (c : Thread nD τ) ↦[arg10.view.set]{fullShare} f10) ∗ (arg13.view.loc (c : Thread nD τ) ↦[arg13.view.set]{fullShare} f13) ∗ (arg11.view.loc (c : Thread nD τ) ↦[arg11.view.set]{fullShare} f11) ∗ (arg12.view.loc (c : Thread nD τ) ↦[arg12.view.set]{fullShare} f12)) : sProp 𝕄G) ⊢ wp frame (wpE (defs₀ (F := F)) Variants.none (c : Thread nD τ) none) E
      (k0_part39 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v16 v20 v25_0 v25_1 v25_2 (k0_pay163 (F := F)))
      (fun x => iprop(⌜x = ⟨(st3 v16 v20 (arg14.view.read (Elt F) f14) (arg17.view.read (Elt F) f17) (arg15.view.read (Elt F) f15) (arg16.view.read (Elt F) f16) 3).1, (st3 v16 v20 (arg14.view.read (Elt F) f14) (arg17.view.read (Elt F) f17) (arg15.view.read (Elt F) f15) (arg16.view.read (Elt F) f16) 3).2.1, (st3 v16 v20 (arg14.view.read (Elt F) f14) (arg17.view.read (Elt F) f17) (arg15.view.read (Elt F) f15) (arg16.view.read (Elt F) f16) 3).2.2, (st4 v16 v20 (Scalar.muli v9 256#32) (arg10.view.read (Elt F) f10) (arg13.view.read (Elt F) f13) (arg11.view.read (Elt F) f11) (arg12.view.read (Elt F) f12) 2).1, (st4 v16 v20 (Scalar.muli v9 256#32) (arg10.view.read (Elt F) f10) (arg13.view.read (Elt F) f13) (arg11.view.read (Elt F) f11) (arg12.view.read (Elt F) f12) 2).2.1, (st4 v16 v20 (Scalar.muli v9 256#32) (arg10.view.read (Elt F) f10) (arg13.view.read (Elt F) f13) (arg11.view.read (Elt F) f11) (arg12.view.read (Elt F) f12) 2).2.2, k0_pay174 v25_2 (st3 v16 v20 (arg14.view.read (Elt F) f14) (arg17.view.read (Elt F) f17) (arg15.view.read (Elt F) f15) (arg16.view.read (Elt F) f16) 3).2.2 (st4 v16 v20 (Scalar.muli v9 256#32) (arg10.view.read (Elt F) f10) (arg13.view.read (Elt F) f13) (arg11.view.read (Elt F) f11) (arg12.view.read (Elt F) f12) 2).2.2, k0_pay175 v25_1 v25_2 (st3 v16 v20 (arg14.view.read (Elt F) f14) (arg17.view.read (Elt F) f17) (arg15.view.read (Elt F) f15) (arg16.view.read (Elt F) f16) 3).2.1 (st3 v16 v20 (arg14.view.read (Elt F) f14) (arg17.view.read (Elt F) f17) (arg15.view.read (Elt F) f15) (arg16.view.read (Elt F) f16) 3).2.2 (st4 v16 v20 (Scalar.muli v9 256#32) (arg10.view.read (Elt F) f10) (arg13.view.read (Elt F) f13) (arg11.view.read (Elt F) f11) (arg12.view.read (Elt F) f12) 2).2.1 (st4 v16 v20 (Scalar.muli v9 256#32) (arg10.view.read (Elt F) f10) (arg13.view.read (Elt F) f13) (arg11.view.read (Elt F) f11) (arg12.view.read (Elt F) f12) 2).2.2, k0_pay176 v25_0 v25_1 v25_2 (st3 v16 v20 (arg14.view.read (Elt F) f14) (arg17.view.read (Elt F) f17) (arg15.view.read (Elt F) f15) (arg16.view.read (Elt F) f16) 3).2.1 (st3 v16 v20 (arg14.view.read (Elt F) f14) (arg17.view.read (Elt F) f17) (arg15.view.read (Elt F) f15) (arg16.view.read (Elt F) f16) 3).2.2 (st4 v16 v20 (Scalar.muli v9 256#32) (arg10.view.read (Elt F) f10) (arg13.view.read (Elt F) f13) (arg11.view.read (Elt F) f11) (arg12.view.read (Elt F) f12) 2).2.1 (st4 v16 v20 (Scalar.muli v9 256#32) (arg10.view.read (Elt F) f10) (arg13.view.read (Elt F) f13) (arg11.view.read (Elt F) f11) (arg12.view.read (Elt F) f12) 2).2.2, k0_pay177 v25_1 v25_2 (st3 v16 v20 (arg14.view.read (Elt F) f14) (arg17.view.read (Elt F) f17) (arg15.view.read (Elt F) f15) (arg16.view.read (Elt F) f16) 3).2.1 (st3 v16 v20 (arg14.view.read (Elt F) f14) (arg17.view.read (Elt F) f17) (arg15.view.read (Elt F) f15) (arg16.view.read (Elt F) f16) 3).2.2 (st4 v16 v20 (Scalar.muli v9 256#32) (arg10.view.read (Elt F) f10) (arg13.view.read (Elt F) f13) (arg11.view.read (Elt F) f11) (arg12.view.read (Elt F) f12) 2).2.1 (st4 v16 v20 (Scalar.muli v9 256#32) (arg10.view.read (Elt F) f10) (arg13.view.read (Elt F) f13) (arg11.view.read (Elt F) f11) (arg12.view.read (Elt F) f12) 2).2.2⟩⌝ ∗ (arg14.view.loc (c : Thread nD τ) ↦[arg14.view.set]{fullShare} f14) ∗ (arg17.view.loc (c : Thread nD τ) ↦[arg17.view.set]{fullShare} f17) ∗ (arg15.view.loc (c : Thread nD τ) ↦[arg15.view.set]{fullShare} f15) ∗ (arg16.view.loc (c : Thread nD τ) ↦[arg16.view.set]{fullShare} f16) ∗ (arg10.view.loc (c : Thread nD τ) ↦[arg10.view.set]{fullShare} f10) ∗ (arg13.view.loc (c : Thread nD τ) ↦[arg13.view.set]{fullShare} f13) ∗ (arg11.view.loc (c : Thread nD τ) ↦[arg11.view.set]{fullShare} f11) ∗ (arg12.view.loc (c : Thread nD τ) ↦[arg12.view.set]{fullShare} f12))) := by
  unfold k0_part39
  iintro ⟨H14, H17, H15, H16, H10, H13, H11, H12⟩
  iapply (run_bind (loop3_run (F := F) Variants.none c none E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v16 v20 v25_0 v25_1 v25_2 (k0_pay163 (F := F)) f14 f17 f15 f16))
  isplitl [H14 H17 H15 H16]
  · isplitl [H14]; · iexact H14
    isplitl [H17]; · iexact H17
    isplitl [H15]; · iexact H15
    iexact H16
  iintro ⟨H14, H17, H15, H16⟩
  dsimp only
  iapply (run_bind (loop4_run (F := F) Variants.none c none E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v16 v20 v25_0 v25_1 v25_2 (k0_pay163 (F := F)) (Scalar.muli v9 256#32) f10 f13 f11 f12))
  isplitl [H10 H13 H11 H12]
  · isplitl [H10]; · iexact H10
    isplitl [H13]; · iexact H13
    isplitl [H11]; · iexact H11
    iexact H12
  iintro ⟨H10, H13, H11, H12⟩
  dsimp only
  sl_step
  isplitr
  · ipureintro; rfl
  isplitl [H14]; · iexact H14
  isplitl [H17]; · iexact H17
  isplitl [H15]; · iexact H15
  isplitl [H16]; · iexact H16
  isplitl [H10]; · iexact H10
  isplitl [H13]; · iexact H13
  isplitl [H11]; · iexact H11
  iexact H12

/-- The third part of the body: three of the four stores. -/
theorem part40_run (c : Dev nD) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole) (v9 : BitVec 32)
    (v25_1 v25_2 : FVec F S1x256 .f32) (v30_0 : FVec F S128x256 .f32) (v30_1 v30_2 : FVec F S1x256 .f32) (v36_0 : FVec F S128x256 .f32)
    (v44 v51 : FVec F S1x256 .f32) (v54 : FVec F S128x256 .f32) (v55 : FVec F S1x256 .f32)
    (f18 : Buf (Elt F) (arg18.view.loc (c : Thread nD τ))) (f19 : Buf (Elt F) (arg19.view.loc (c : Thread nD τ))) (f21 : Buf (Elt F) (arg21.view.loc (c : Thread nD τ))) :
    (iprop((arg18.view.loc (c : Thread nD τ) ↦[arg18.view.set]{fullShare} f18) ∗ (arg19.view.loc (c : Thread nD τ) ↦[arg19.view.set]{fullShare} f19) ∗ (arg21.view.loc (c : Thread nD τ) ↦[arg21.view.set]{fullShare} f21)) : sProp 𝕄G) ⊢ wp frame (wpE (defs₀ (F := F)) Variants.none (c : Thread nD τ) none) E
      (k0_part40 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v9 v25_1 v25_2 v30_0 v30_1 v30_2 v36_0 v44 v51 v54 v55)
      (fun x => iprop(⌜x = ⟨iota .tc S1x256 32 [1] iota_S1x256_d1_w32, k0_pay181 v9⟩⌝ ∗
        (∃ g : Buf (Elt F) (arg18.view.loc (c : Thread nD τ)), ⌜arg18.view.read (Elt F) g = k0_pay178 v30_0 v36_0 v44 v51 v54 v55⌝ ∗ (arg18.view.loc (c : Thread nD τ) ↦[arg18.view.set]{fullShare} g)) ∗
        (∃ g : Buf (Elt F) (arg19.view.loc (c : Thread nD τ)), ⌜arg19.view.read (Elt F) g = k0_pay179 v25_1 v25_2⌝ ∗ (arg19.view.loc (c : Thread nD τ) ↦[arg19.view.set]{fullShare} g)) ∗
        (∃ g : Buf (Elt F) (arg21.view.loc (c : Thread nD τ)), ⌜arg21.view.read (Elt F) g = k0_pay180 v30_1 v30_2⌝ ∗ (arg21.view.loc (c : Thread nD τ) ↦[arg21.view.set]{fullShare} g)))) := by
  unfold k0_part40
  iintro ⟨H18, H19, H21⟩
  sl_exec
  sl_step
  isplitr
  · ipureintro; rfl
  isplitl [H18]
  · iexists _
    isplitr
    on_goal 2 => iexact H18
    ipureintro; exact read_store_whole _ _ _ _ _
  isplitl [H19]
  · iexists _
    isplitr
    on_goal 2 => iexact H19
    ipureintro; exact read_store_whole _ _ _ _ _
  iexists _
  isplitr
  on_goal 2 => iexact H21
  ipureintro; exact read_store_whole _ _ _ _ _

/-- The whole body: from whole windows and the scratch, the four results at whole windows. -/
theorem body_run (c : Dev nD) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))) (f19 : Buf (Elt F) (arg19.view.loc (c : Thread nD τ))) (f20 : Buf (Elt F) (arg20.view.loc (c : Thread nD τ))) (f21 : Buf (Elt F) (arg21.view.loc (c : Thread nD τ))) (f22 : Buf (Elt F) (arg22.view.loc (c : Thread nD τ))) (hS : k0_cond1 i ≠ 1#1 → ∀ y, arg22.view.read (Elt F) f22 y = kspOf (arg9.view.read (Elt F) f9) y) :
    (iprop((arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22)) : sProp 𝕄G) ⊢ wp frame (wpE (defs₀ (F := F)) Variants.none (c : Thread nD τ) none) E
      (cc0_hydragen_attention (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
      (fun _ => iprop((arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗
        (∃ g : Buf (Elt F) (arg18.view.loc (c : Thread nD τ)), ⌜arg18.view.read (Elt F) g = oO (s2 (arg4.view.read (Elt F) f4) (arg5.view.read (Elt F) f5) (arg6.view.read (Elt F) f6) (arg7.view.read (Elt F) f7) (arg8.view.read (Elt F) f8) (arg9.view.read (Elt F) f9)) (s3 (arg4.view.read (Elt F) f4) (arg5.view.read (Elt F) f5) (arg14.view.read (Elt F) f14) (arg15.view.read (Elt F) f15) (arg16.view.read (Elt F) f16) (arg17.view.read (Elt F) f17)) (s4 i (arg4.view.read (Elt F) f4) (arg5.view.read (Elt F) f5) (arg10.view.read (Elt F) f10) (arg11.view.read (Elt F) f11) (arg12.view.read (Elt F) f12) (arg13.view.read (Elt F) f13))⌝ ∗ (arg18.view.loc (c : Thread nD τ) ↦[arg18.view.set]{fullShare} g)) ∗
        (∃ g : Buf (Elt F) (arg19.view.loc (c : Thread nD τ)), ⌜arg19.view.read (Elt F) g = oP (s2 (arg4.view.read (Elt F) f4) (arg5.view.read (Elt F) f5) (arg6.view.read (Elt F) f6) (arg7.view.read (Elt F) f7) (arg8.view.read (Elt F) f8) (arg9.view.read (Elt F) f9))⌝ ∗ (arg19.view.loc (c : Thread nD τ) ↦[arg19.view.set]{fullShare} g)) ∗
        (∃ g : Buf (Elt F) (arg20.view.loc (c : Thread nD τ)), ⌜arg20.view.read (Elt F) g = oC i (s4 i (arg4.view.read (Elt F) f4) (arg5.view.read (Elt F) f5) (arg10.view.read (Elt F) f10) (arg11.view.read (Elt F) f11) (arg12.view.read (Elt F) f12) (arg13.view.read (Elt F) f13))⌝ ∗ (arg20.view.loc (c : Thread nD τ) ↦[arg20.view.set]{fullShare} g)) ∗
        (∃ g : Buf (Elt F) (arg21.view.loc (c : Thread nD τ)), ⌜arg21.view.read (Elt F) g = oM (s3 (arg4.view.read (Elt F) f4) (arg5.view.read (Elt F) f5) (arg14.view.read (Elt F) f14) (arg15.view.read (Elt F) f15) (arg16.view.read (Elt F) f16) (arg17.view.read (Elt F) f17))⌝ ∗ (arg21.view.loc (c : Thread nD τ) ↦[arg21.view.set]{fullShare} g)) ∗
        (∃ g : Buf (Elt F) (arg22.view.loc (c : Thread nD τ)), ⌜∀ y, arg22.view.read (Elt F) g y = kspOf (arg9.view.read (Elt F) f9) y⌝ ∗ (arg22.view.loc (c : Thread nD τ) ↦[arg22.view.set]{fullShare} g)))) := by
  simp only [cc0_hydragen_attention_eq_skeleton]
  unfold cc0_hydragen_attention_skel
  iintro ⟨H4, H5, H6, H7, H8, H9, H10, H11, H12, H13, H14, H15, H16, H17, H18, H19, H20, H21, H22⟩
  iapply (run_bind (part38_run (F := F) c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f4 f5 f6 f7 f8 f9 f22 hS))
  isplitl [H4 H5 H6 H7 H8 H9 H22]
  · isplitl [H4]; · iexact H4
    isplitl [H5]; · iexact H5
    isplitl [H6]; · iexact H6
    isplitl [H7]; · iexact H7
    isplitl [H8]; · iexact H8
    isplitl [H9]; · iexact H9
    iexact H22
  iintro ⟨H4, H5, H6, H7, H8, H9, H22⟩
  dsimp only
  iapply (run_bind (part39_run (F := F) c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ f14 f17 f15 f16 f10 f13 f11 f12))
  isplitl [H14 H17 H15 H16 H10 H13 H11 H12]
  · isplitl [H14]; · iexact H14
    isplitl [H17]; · iexact H17
    isplitl [H15]; · iexact H15
    isplitl [H16]; · iexact H16
    isplitl [H10]; · iexact H10
    isplitl [H13]; · iexact H13
    isplitl [H11]; · iexact H11
    iexact H12
  iintro ⟨H14, H17, H15, H16, H10, H13, H11, H12⟩
  dsimp only
  iapply (run_bind (part40_run (F := F) c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ _ _ _ _ _ f18 f19 f21))
  isplitl [H18 H19 H21]
  · isplitl [H18]; · iexact H18
    isplitl [H19]; · iexact H19
    iexact H21
  iintro ⟨H18, H19, H21⟩
  dsimp only
  sl_exec
  sl_step
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]
  · iexists _
    isplitr
    on_goal 2 => iexact H20
    ipureintro; exact read_store_whole _ _ _ _ _
  isplitl [H21]; · iexact H21
  iexact H22

end Cert.KernelIdeal.Hyd
-- ==== Proof.Hyd.KernelIdealFrame.lean ====
module

public import proofs.«01_k».proof.Proof.Hyd.KernelIdealRun
public import proofs.«01_k».proof.Proof.Gen.KernelIdeal.Launch
public import Idealize.ShloMosaic.Lib.Pipeline.FrameBody
public import Idealize.ShloMosaic.Lib.Claim

@[expose] public section

set_option maxRecDepth 16384
set_option maxHeartbeats 4000000

/-! The kernel's pipeline: what each window holds at each grid point, and what the whole program leaves. -/

noncomputable section

namespace Cert.KernelIdeal.Hyd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄G" => MT nD τ sig Unit (Elt F) ℕ (UR sig nD τ) ℕ

/-- The body on whole windows: the inputs read `X4`, …, `X17`, the results left at the body's functions of them, the scratch left filled. -/
theorem sound_kernel (c : Dev nD) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (X4 : Vec F S1x1x256x128 .fp8e4m3) (X5 : Vec F S1x1x1x256 .f32) (X6 : Vec F S1x32768x128 .fp8e4m3) (X7 : Vec F S1x128x32768 .fp8e4m3) (X8 : Vec F S1x1x32768 .bf16) (X9 : Vec F S1x8x4096 .f32) (X10 : Vec F S1x1x512x128 .fp8e4m3) (X11 : Vec F S1x1x128x512 .fp8e4m3) (X12 : Vec F S1x1x1x512 .bf16) (X13 : Vec F S1x1x512x128 .f32) (X14 : Vec F S1x1x384x128 .fp8e4m3) (X15 : Vec F S1x1x128x384 .fp8e4m3) (X16 : Vec F S1x1x1x384 .bf16) (X17 : Vec F S1x1x384x128 .f32)
    (f22 : Buf (Elt F) (arg22.view.loc (c : Thread nD τ))) (hS : k0_cond1 i ≠ 1#1 → ∀ y, arg22.view.read (Elt F) f22 y = kspOf X9 y) :
    (iprop(owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (arg22.view.loc (c : Thread nD τ) ↦[arg22.view.set]{fullShare} f22)) : sProp 𝕄G)
      ⊢ wp frame (wpE (defs₀ (F := F)) Variants.none (c : Thread nD τ) none) E (cc0_hydragen_attention (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
        (fun _ => iprop(owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17 ∗ owns (c : Thread nD τ) arg18 fullShare (oO (s2 X4 X5 X6 X7 X8 X9) (s3 X4 X5 X14 X15 X16 X17) (s4 i X4 X5 X10 X11 X12 X13)) ∗ owns (c : Thread nD τ) arg19 fullShare (oP (s2 X4 X5 X6 X7 X8 X9)) ∗ owns (c : Thread nD τ) arg20 fullShare (oC i (s4 i X4 X5 X10 X11 X12 X13)) ∗ owns (c : Thread nD τ) arg21 fullShare (oM (s3 X4 X5 X14 X15 X16 X17)) ∗
          ∃ g : Buf (Elt F) (arg22.view.loc (c : Thread nD τ)), ⌜∀ y, arg22.view.read (Elt F) g y = kspOf X9 y⌝ ∗ (arg22.view.loc (c : Thread nD τ) ↦[arg22.view.set]{fullShare} g))) := by
  unfold owns
  iintro ⟨⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%d18, %f18, -, H18⟩, ⟨%d19, %f19, -, H19⟩, ⟨%d20, %f20, -, H20⟩, ⟨%d21, %f21, -, H21⟩, H22⟩
  subst h4 h5 h6 h7 h8 h9 h10 h11 h12 h13 h14 h15 h16 h17
  iapply (wp_wand_r Idealize.ShloMosaic.frame (wpE (defs₀ (F := F)) Variants.none (c : Thread nD τ) none) E)
  isplitl [H4 H5 H6 H7 H8 H9 H10 H11 H12 H13 H14 H15 H16 H17 H18 H19 H20 H21 H22]
  · iapply (body_run (F := F) c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f4 f5 f6 f7 f8 f9 f10 f11 f12 f13 f14 f15 f16 f17 f18 f19 f20 f21 f22 hS)
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22
  iintro %u ⟨H4, H5, H6, H7, H8, H9, H10, H11, H12, H13, H14, H15, H16, H17, ⟨%g18, %e18, H18⟩, ⟨%g19, %e19, H19⟩, ⟨%g20, %e20, H20⟩, ⟨%g21, %e21, H21⟩, H22⟩
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]; · iexists f7; isplitr; (· ipureintro; rfl); iexact H7
  isplitl [H8]; · iexists f8; isplitr; (· ipureintro; rfl); iexact H8
  isplitl [H9]; · iexists f9; isplitr; (· ipureintro; rfl); iexact H9
  isplitl [H10]; · iexists f10; isplitr; (· ipureintro; rfl); iexact H10
  isplitl [H11]; · iexists f11; isplitr; (· ipureintro; rfl); iexact H11
  isplitl [H12]; · iexists f12; isplitr; (· ipureintro; rfl); iexact H12
  isplitl [H13]; · iexists f13; isplitr; (· ipureintro; rfl); iexact H13
  isplitl [H14]; · iexists f14; isplitr; (· ipureintro; rfl); iexact H14
  isplitl [H15]; · iexists f15; isplitr; (· ipureintro; rfl); iexact H15
  isplitl [H16]; · iexists f16; isplitr; (· ipureintro; rfl); iexact H16
  isplitl [H17]; · iexists f17; isplitr; (· ipureintro; rfl); iexact H17
  isplitl [H18]; · iexists g18; isplitr; (· ipureintro; exact e18); iexact H18
  isplitl [H19]; · iexists g19; isplitr; (· ipureintro; exact e19); iexact H19
  isplitl [H20]; · iexists g20; isplitr; (· ipureintro; exact e20); iexact H20
  isplitl [H21]; · iexists g21; isplitr; (· ipureintro; exact e21); iexact H21
  iexact H22

/-- The same with what the pipeline carries along: `P0` opens to the scratch's contents and `Q`, `P1` closes over them, `R` is untouched. -/
theorem sound_step (c : Dev nD) (E : Set ℕ) (i : grid0.Coords) (arg3 : Memref sig .tc .smem S4 .i32) (harg3 : arg3.IsWhole) (arg4 : Memref sig .tc .vmem S1x1x256x128 .fp8e4m3) (harg4 : arg4.IsWhole) (arg5 : Memref sig .tc .vmem S1x1x1x256 .f32) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x32768 .bf16) (harg8 : arg8.IsWhole) (arg9 : Memref sig .tc .vmem S1x8x4096 .f32) (harg9 : arg9.IsWhole) (arg10 : Memref sig .tc .vmem S1x1x512x128 .fp8e4m3) (harg10 : arg10.IsWhole) (arg11 : Memref sig .tc .vmem S1x1x128x512 .fp8e4m3) (harg11 : arg11.IsWhole) (arg12 : Memref sig .tc .vmem S1x1x1x512 .bf16) (harg12 : arg12.IsWhole) (arg13 : Memref sig .tc .vmem S1x1x512x128 .f32) (harg13 : arg13.IsWhole) (arg14 : Memref sig .tc .vmem S1x1x384x128 .fp8e4m3) (harg14 : arg14.IsWhole) (arg15 : Memref sig .tc .vmem S1x1x128x384 .fp8e4m3) (harg15 : arg15.IsWhole) (arg16 : Memref sig .tc .vmem S1x1x1x384 .bf16) (harg16 : arg16.IsWhole) (arg17 : Memref sig .tc .vmem S1x1x384x128 .f32) (harg17 : arg17.IsWhole) (arg18 : Memref sig .tc .vmem S1x256x128 .bf16) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x256 .f32) (harg21 : arg21.IsWhole) (arg22 : Memref sig .tc .vmem S32768x128 .f32) (harg22 : arg22.IsWhole)
    (X4 : Vec F S1x1x256x128 .fp8e4m3) (X5 : Vec F S1x1x1x256 .f32) (X6 : Vec F S1x32768x128 .fp8e4m3) (X7 : Vec F S1x128x32768 .fp8e4m3) (X8 : Vec F S1x1x32768 .bf16) (X9 : Vec F S1x8x4096 .f32) (X10 : Vec F S1x1x512x128 .fp8e4m3) (X11 : Vec F S1x1x128x512 .fp8e4m3) (X12 : Vec F S1x1x1x512 .bf16) (X13 : Vec F S1x1x512x128 .f32) (X14 : Vec F S1x1x384x128 .fp8e4m3) (X15 : Vec F S1x1x128x384 .fp8e4m3) (X16 : Vec F S1x1x1x384 .bf16) (X17 : Vec F S1x1x384x128 .f32)
    (B18 : Vec F S1x256x128 .bf16 → Vec F S1x256x128 .bf16) (B19 : Vec F S1x1x1x256 .f32 → Vec F S1x1x1x256 .f32) (B20 : Vec F S1x1x1x256 .f32 → Vec F S1x1x1x256 .f32) (B21 : Vec F S1x1x1x256 .f32 → Vec F S1x1x1x256 .f32) (R : sProp 𝕄G) (C : (Buf (Elt F) (arg22.view.loc (c : Thread nD τ))) → Prop) {P0 P1 Q : sProp 𝕄G}
    (hS : ∀ f, C f → k0_cond1 i ≠ 1#1 → ∀ y, arg22.view.read (Elt F) f y = kspOf X9 y)
    (h0 : P0 ⊢ iprop((∃ f : (Buf (Elt F) (arg22.view.loc (c : Thread nD τ))), ⌜C f⌝ ∗ (arg22.view.loc (c : Thread nD τ) ↦[arg22.view.set]{fullShare} f)) ∗ Q))
    (h1 : (iprop((∃ g : (Buf (Elt F) (arg22.view.loc (c : Thread nD τ))), ⌜∀ y, arg22.view.read (Elt F) g y = kspOf X9 y⌝ ∗ (arg22.view.loc (c : Thread nD τ) ↦[arg22.view.set]{fullShare} g)) ∗ Q) : sProp 𝕄G) ⊢ P1) :
    (iprop(P0 ∗ R ∗ (∃ _d : Vec F S1x1x256x128 .fp8e4m3, owns (c : Thread nD τ) arg4 fullShare X4) ∗ (∃ _d : Vec F S1x1x1x256 .f32, owns (c : Thread nD τ) arg5 fullShare X5) ∗ (∃ _d : Vec F S1x32768x128 .fp8e4m3, owns (c : Thread nD τ) arg6 fullShare X6) ∗ (∃ _d : Vec F S1x128x32768 .fp8e4m3, owns (c : Thread nD τ) arg7 fullShare X7) ∗ (∃ _d : Vec F S1x1x32768 .bf16, owns (c : Thread nD τ) arg8 fullShare X8) ∗ (∃ _d : Vec F S1x8x4096 .f32, owns (c : Thread nD τ) arg9 fullShare X9) ∗ (∃ _d : Vec F S1x1x512x128 .fp8e4m3, owns (c : Thread nD τ) arg10 fullShare X10) ∗ (∃ _d : Vec F S1x1x128x512 .fp8e4m3, owns (c : Thread nD τ) arg11 fullShare X11) ∗ (∃ _d : Vec F S1x1x1x512 .bf16, owns (c : Thread nD τ) arg12 fullShare X12) ∗ (∃ _d : Vec F S1x1x512x128 .f32, owns (c : Thread nD τ) arg13 fullShare X13) ∗ (∃ _d : Vec F S1x1x384x128 .fp8e4m3, owns (c : Thread nD τ) arg14 fullShare X14) ∗ (∃ _d : Vec F S1x1x128x384 .fp8e4m3, owns (c : Thread nD τ) arg15 fullShare X15) ∗ (∃ _d : Vec F S1x1x1x384 .bf16, owns (c : Thread nD τ) arg16 fullShare X16) ∗ (∃ _d : Vec F S1x1x384x128 .f32, owns (c : Thread nD τ) arg17 fullShare X17) ∗ (∃ d : Vec F S1x256x128 .bf16, owns (c : Thread nD τ) arg18 fullShare (B18 d)) ∗ (∃ d : Vec F S1x1x1x256 .f32, owns (c : Thread nD τ) arg19 fullShare (B19 d)) ∗ (∃ d : Vec F S1x1x1x256 .f32, owns (c : Thread nD τ) arg20 fullShare (B20 d)) ∗ (∃ d : Vec F S1x1x1x256 .f32, owns (c : Thread nD τ) arg21 fullShare (B21 d))) : sProp 𝕄G)
      ⊢ wp frame (wpE (defs₀ (F := F)) Variants.none (c : Thread nD τ) none) E (cc0_hydragen_attention (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
        (fun _ => iprop(P1 ∗ R ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17 ∗ owns (c : Thread nD τ) arg18 fullShare (oO (s2 X4 X5 X6 X7 X8 X9) (s3 X4 X5 X14 X15 X16 X17) (s4 i X4 X5 X10 X11 X12 X13)) ∗ owns (c : Thread nD τ) arg19 fullShare (oP (s2 X4 X5 X6 X7 X8 X9)) ∗ owns (c : Thread nD τ) arg20 fullShare (oC i (s4 i X4 X5 X10 X11 X12 X13)) ∗ owns (c : Thread nD τ) arg21 fullShare (oM (s3 X4 X5 X14 X15 X16 X17)))) := by
  iintro ⟨HP, HR, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩⟩
  icases (h0) $$ HP with ⟨⟨%f22, %hC, HS⟩, HQ⟩
  iapply (wp_wand_r Idealize.ShloMosaic.frame (wpE (defs₀ (F := F)) Variants.none (c : Thread nD τ) none) E)
  isplitl [HS H4 H5 H6 H7 H8 H9 H10 H11 H12 H13 H14 H15 H16 H17 H18 H19 H20 H21]
  · iapply (sound_kernel (F := F) c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X4 X5 X6 X7 X8 X9 X10 X11 X12 X13 X14 X15 X16 X17 f22 (hS f22 hC))
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexists _; iexact H19
    isplitl [H20]; · iexists _; iexact H20
    isplitl [H21]; · iexists _; iexact H21
    iexact HS
  iintro %u ⟨H4, H5, H6, H7, H8, H9, H10, H11, H12, H13, H14, H15, H16, H17, H18, H19, H20, H21, HS⟩
  isplitl [HS HQ]; · iapply h1; isplitl [HS]; (· iexact HS); iexact HQ
  isplitl [HR]; · iexact HR
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

variable (a : (pcfg0 (F := F)).Adm) (m : (ℓ : Loc nD τ sig) → Buf (Elt F) ℓ) (ρ : Dev nD → PrngReg)

/-! ## The host's preparation -/

/-- The buffers' contents when the kernel starts. -/
abbrev V (c : Dev nD) (b : Ref sig .tc) : Buf (Elt F) ((c : Thread nD τ).loc b) := StableHlo.after hostOps0 (fun b => m (c, b)) (Proc.devRef .tc b)

theorem hostOps0_fresh : (hostOps0 : List (HloOp τ sig (Elt F))).Forall fun op => op.fresh = ∅ := by
  simp only [List.Forall]; repeat' constructor

theorem hostOps0_writes : (hostOps0 : List (HloOp τ sig (Elt F))).Forall fun op => op.writes ⊆ (([main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25] : List (Ref sig .tc)).map (Proc.devRef (τ := τ) .tc)).toFinset :=
  StableHlo.forall_writes_sub_of_map rfl

theorem V_main_arg0 (c : Dev nD) : V m c main_arg0 = m ((c : Thread nD τ).loc main_arg0) :=
  StableHlo.after_of_writes_sub hostOps0 _ hostOps0_writes (by decide)
theorem V_main_arg1 (c : Dev nD) : V m c main_arg1 = m ((c : Thread nD τ).loc main_arg1) :=
  StableHlo.after_of_writes_sub hostOps0 _ hostOps0_writes (by decide)
theorem V_main_arg2 (c : Dev nD) : V m c main_arg2 = m ((c : Thread nD τ).loc main_arg2) :=
  StableHlo.after_of_writes_sub hostOps0 _ hostOps0_writes (by decide)
theorem V_main_arg3 (c : Dev nD) : V m c main_arg3 = m ((c : Thread nD τ).loc main_arg3) :=
  StableHlo.after_of_writes_sub hostOps0 _ hostOps0_writes (by decide)
theorem V_main_arg4 (c : Dev nD) : V m c main_arg4 = m ((c : Thread nD τ).loc main_arg4) :=
  StableHlo.after_of_writes_sub hostOps0 _ hostOps0_writes (by decide)
theorem V_main_arg5 (c : Dev nD) : V m c main_arg5 = m ((c : Thread nD τ).loc main_arg5) :=
  StableHlo.after_of_writes_sub hostOps0 _ hostOps0_writes (by decide)
theorem V_main_arg6 (c : Dev nD) : V m c main_arg6 = m ((c : Thread nD τ).loc main_arg6) :=
  StableHlo.after_of_writes_sub hostOps0 _ hostOps0_writes (by decide)
theorem V_main_arg7 (c : Dev nD) : V m c main_arg7 = m ((c : Thread nD τ).loc main_arg7) :=
  StableHlo.after_of_writes_sub hostOps0 _ hostOps0_writes (by decide)
theorem V_main_arg8 (c : Dev nD) : V m c main_arg8 = m ((c : Thread nD τ).loc main_arg8) :=
  StableHlo.after_of_writes_sub hostOps0 _ hostOps0_writes (by decide)
theorem V_main_arg9 (c : Dev nD) : V m c main_arg9 = m ((c : Thread nD τ).loc main_arg9) :=
  StableHlo.after_of_writes_sub hostOps0 _ hostOps0_writes (by decide)
theorem V_main_arg10 (c : Dev nD) : V m c main_arg10 = m ((c : Thread nD τ).loc main_arg10) :=
  StableHlo.after_of_writes_sub hostOps0 _ hostOps0_writes (by decide)
theorem V_main_arg11 (c : Dev nD) : V m c main_arg11 = m ((c : Thread nD τ).loc main_arg11) :=
  StableHlo.after_of_writes_sub hostOps0 _ hostOps0_writes (by decide)
theorem V_main_arg12 (c : Dev nD) : V m c main_arg12 = m ((c : Thread nD τ).loc main_arg12) :=
  StableHlo.after_of_writes_sub hostOps0 _ hostOps0_writes (by decide)
theorem V_main_arg13 (c : Dev nD) : V m c main_arg13 = m ((c : Thread nD τ).loc main_arg13) :=
  StableHlo.after_of_writes_sub hostOps0 _ hostOps0_writes (by decide)
theorem V_main_arg14 (c : Dev nD) : V m c main_arg14 = m ((c : Thread nD τ).loc main_arg14) :=
  StableHlo.after_of_writes_sub hostOps0 _ hostOps0_writes (by decide)

theorem hmain : Pipeline.HMainP (Ix := Unit) (Name := ℕ) (U := UR sig nD τ) (Lvl := ℕ) (pcfgs (F := F)) 0 defs₀ Variants.none m (main (F := F)) (V m) :=
  Pipeline.hmainP_prefix (pcfgs (F := F)) 0 defs₀ Variants.none m main hostOps0 hostOps0_sub hostOps0_fresh main_chain

/-! ## The windows -/

/-- Window `w`'s block at point `t`. -/
def iblk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V m c (Pipeline.arrRef spec0 w))

abbrev st0_0 (t : Fin (cfg0 a).N) := ((cfg0 a).win 0).stage ((cfg0 a).slots t 0)
abbrev st0_1 (t : Fin (cfg0 a).N) := ((cfg0 a).win 1).stage ((cfg0 a).slots t 1)
abbrev st0_2 (t : Fin (cfg0 a).N) := ((cfg0 a).win 2).stage ((cfg0 a).slots t 2)
abbrev st0_3 (t : Fin (cfg0 a).N) := ((cfg0 a).win 3).stage ((cfg0 a).slots t 3)
abbrev st0_4 (t : Fin (cfg0 a).N) := ((cfg0 a).win 4).stage ((cfg0 a).slots t 4)
abbrev st0_5 (t : Fin (cfg0 a).N) := ((cfg0 a).win 5).stage ((cfg0 a).slots t 5)
abbrev st0_6 (t : Fin (cfg0 a).N) := ((cfg0 a).win 6).stage ((cfg0 a).slots t 6)
abbrev st0_7 (t : Fin (cfg0 a).N) := ((cfg0 a).win 7).stage ((cfg0 a).slots t 7)
abbrev st0_8 (t : Fin (cfg0 a).N) := ((cfg0 a).win 8).stage ((cfg0 a).slots t 8)
abbrev st0_9 (t : Fin (cfg0 a).N) := ((cfg0 a).win 9).stage ((cfg0 a).slots t 9)
abbrev st0_10 (t : Fin (cfg0 a).N) := ((cfg0 a).win 10).stage ((cfg0 a).slots t 10)
abbrev st0_11 (t : Fin (cfg0 a).N) := ((cfg0 a).win 11).stage ((cfg0 a).slots t 11)
abbrev st0_12 (t : Fin (cfg0 a).N) := ((cfg0 a).win 12).stage ((cfg0 a).slots t 12)
abbrev st0_13 (t : Fin (cfg0 a).N) := ((cfg0 a).win 13).stage ((cfg0 a).slots t 13)
abbrev st0_14 (t : Fin (cfg0 a).N) := ((cfg0 a).win 14).stage ((cfg0 a).slots t 14)
abbrev st0_15 (t : Fin (cfg0 a).N) := ((cfg0 a).win 15).stage ((cfg0 a).slots t 15)
abbrev st0_16 (t : Fin (cfg0 a).N) := ((cfg0 a).win 16).stage ((cfg0 a).slots t 16)
abbrev st0_17 (t : Fin (cfg0 a).N) := ((cfg0 a).win 17).stage ((cfg0 a).slots t 17)

/-- The body as the pipeline calls it at point `t`. -/
abbrev bodyAt0 (t : Fin (cfg0 a).N) : Prog (TpuEff nD τ sig (Elt F) Λ₀ .tc) PUnit :=
  cc0_hydragen_attention (grid0.coords t) (Memref.whole main_arg14) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (spec0_15.stage ((cfg0 a).slots t 15)) (hstage0_15 (((cfg0 a).slots t 15).cast nbuf0_15)) (spec0_16.stage ((cfg0 a).slots t 16)) (hstage0_16 (((cfg0 a).slots t 16).cast nbuf0_16)) (spec0_17.stage ((cfg0 a).slots t 17)) (hstage0_17 (((cfg0 a).slots t 17).cast nbuf0_17)) (Memref.whole cc0_scratch0) (Memref.isWhole_whole _)

/-- The three passes' states at point `t`. -/
def pA (c : Dev nD) (t : Fin (cfg0 a).N) : St F := (s2 (iblk a m c 0 t) (iblk a m c 1 t) (iblk a m c 2 t) (iblk a m c 3 t) (iblk a m c 4 t) (iblk a m c 5 t))
def pB (c : Dev nD) (t : Fin (cfg0 a).N) : St F := (s3 (iblk a m c 0 t) (iblk a m c 1 t) (iblk a m c 10 t) (iblk a m c 11 t) (iblk a m c 12 t) (iblk a m c 13 t))
def pD (c : Dev nD) (t : Fin (cfg0 a).N) : St F := (s4 (grid0.coords t) (iblk a m c 0 t) (iblk a m c 1 t) (iblk a m c 6 t) (iblk a m c 7 t) (iblk a m c 8 t) (iblk a m c 9 t))

/-- The scales of the prompt keys, spread over rows and lanes, from point `t`'s block. -/
def scrOf (c : Dev nD) (t : Fin (cfg0 a).N) : Vec F S32768x128 .f32 := kspOf (F := F) (iblk a m c 5 t)

/-- What the scratch holds before point `t`: away from a new key head's first point, the scales of the head's prompt keys. -/
def Phi (c : Dev nD) (t : Fin ((cfg0 a).N + 1)) : sProp 𝕄G :=
  iprop((∃ f : Buf (Elt F) ((Memref.whole cc0_scratch0).view.loc (c : Thread nD τ)),
      ⌜∀ t' : Fin (cfg0 a).N, t'.val = t.val → t'.val % 40 ≠ 0 → ∀ y, (Memref.whole cc0_scratch0).view.read (Elt F) f y = scrOf a m c t' y⌝ ∗
      ((Memref.whole cc0_scratch0).view.loc (c : Thread nD τ) ↦[(Memref.whole cc0_scratch0).view.set]{fullShare} f)) ∗ ∃ r, prngReg c r)

/-- The pipeline's data: each input left as found, each result at the body's function of the inputs. -/
def dats (_ : Fin 1) (c : Dev nD) : Dat τ (Elt F) Unit ℕ (UR sig nD τ) ℕ (cfg0 a) c where
  A w := V m c (Pipeline.arrRef spec0 w)
  after w t := match w with
    | ⟨0, _⟩ => iblk a m c 0 t
    | ⟨1, _⟩ => iblk a m c 1 t
    | ⟨2, _⟩ => iblk a m c 2 t
    | ⟨3, _⟩ => iblk a m c 3 t
    | ⟨4, _⟩ => iblk a m c 4 t
    | ⟨5, _⟩ => iblk a m c 5 t
    | ⟨6, _⟩ => iblk a m c 6 t
    | ⟨7, _⟩ => iblk a m c 7 t
    | ⟨8, _⟩ => iblk a m c 8 t
    | ⟨9, _⟩ => iblk a m c 9 t
    | ⟨10, _⟩ => iblk a m c 10 t
    | ⟨11, _⟩ => iblk a m c 11 t
    | ⟨12, _⟩ => iblk a m c 12 t
    | ⟨13, _⟩ => iblk a m c 13 t
    | ⟨14, _⟩ => oO (pA a m c t) (pB a m c t) (pD a m c t)
    | ⟨15, _⟩ => oP (pA a m c t)
    | ⟨16, _⟩ => oC (grid0.coords t) (pD a m c t)
    | ⟨17, _⟩ => oM (pB a m c t)
    | ⟨n + 18, h⟩ => absurd (show n + 18 < 18 from h) (by omega)
  Φ t := Phi a m c t
  q _ := fullShare
  owed _ := 0

theorem A_eq (c : Dev nD) (w : Fin (cfg0 a).W) : (dats a m 0 c).A w = V m c (Pipeline.arrRef spec0 w) := by
  dsimp only [dats]

theorem after0_0 (c : Dev nD) (t : Fin (cfg0 a).N) : (dats a m 0 c).after 0 t = iblk a m c 0 t := by dsimp only [dats]; try rfl
theorem after0_1 (c : Dev nD) (t : Fin (cfg0 a).N) : (dats a m 0 c).after 1 t = iblk a m c 1 t := by dsimp only [dats]; try rfl
theorem after0_2 (c : Dev nD) (t : Fin (cfg0 a).N) : (dats a m 0 c).after 2 t = iblk a m c 2 t := by dsimp only [dats]; try rfl
theorem after0_3 (c : Dev nD) (t : Fin (cfg0 a).N) : (dats a m 0 c).after 3 t = iblk a m c 3 t := by dsimp only [dats]; try rfl
theorem after0_4 (c : Dev nD) (t : Fin (cfg0 a).N) : (dats a m 0 c).after 4 t = iblk a m c 4 t := by dsimp only [dats]; try rfl
theorem after0_5 (c : Dev nD) (t : Fin (cfg0 a).N) : (dats a m 0 c).after 5 t = iblk a m c 5 t := by dsimp only [dats]; try rfl
theorem after0_6 (c : Dev nD) (t : Fin (cfg0 a).N) : (dats a m 0 c).after 6 t = iblk a m c 6 t := by dsimp only [dats]; try rfl
theorem after0_7 (c : Dev nD) (t : Fin (cfg0 a).N) : (dats a m 0 c).after 7 t = iblk a m c 7 t := by dsimp only [dats]; try rfl
theorem after0_8 (c : Dev nD) (t : Fin (cfg0 a).N) : (dats a m 0 c).after 8 t = iblk a m c 8 t := by dsimp only [dats]; try rfl
theorem after0_9 (c : Dev nD) (t : Fin (cfg0 a).N) : (dats a m 0 c).after 9 t = iblk a m c 9 t := by dsimp only [dats]; try rfl
theorem after0_10 (c : Dev nD) (t : Fin (cfg0 a).N) : (dats a m 0 c).after 10 t = iblk a m c 10 t := by dsimp only [dats]; try rfl
theorem after0_11 (c : Dev nD) (t : Fin (cfg0 a).N) : (dats a m 0 c).after 11 t = iblk a m c 11 t := by dsimp only [dats]; try rfl
theorem after0_12 (c : Dev nD) (t : Fin (cfg0 a).N) : (dats a m 0 c).after 12 t = iblk a m c 12 t := by dsimp only [dats]; try rfl
theorem after0_13 (c : Dev nD) (t : Fin (cfg0 a).N) : (dats a m 0 c).after 13 t = iblk a m c 13 t := by dsimp only [dats]; try rfl
theorem after0_14 (c : Dev nD) (t : Fin (cfg0 a).N) : (dats a m 0 c).after 14 t = oO (pA a m c t) (pB a m c t) (pD a m c t) := by dsimp only [dats]; try rfl
theorem after0_15 (c : Dev nD) (t : Fin (cfg0 a).N) : (dats a m 0 c).after 15 t = oP (pA a m c t) := by dsimp only [dats]; try rfl
theorem after0_16 (c : Dev nD) (t : Fin (cfg0 a).N) : (dats a m 0 c).after 16 t = oC (grid0.coords t) (pD a m c t) := by dsimp only [dats]; try rfl
theorem after0_17 (c : Dev nD) (t : Fin (cfg0 a).N) : (dats a m 0 c).after 17 t = oM (pB a m c t) := by dsimp only [dats]; try rfl

theorem before0_0 (c : Dev nD) (t : Fin (cfg0 a).N) (d) : (dats a m 0 c).before 0 t d = iblk a m c 0 t :=
  ((dats a m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfg0 a).N) (d) : (dats a m 0 c).before 1 t d = iblk a m c 1 t :=
  ((dats a m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfg0 a).N) (d) : (dats a m 0 c).before 2 t d = iblk a m c 2 t :=
  ((dats a m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin (cfg0 a).N) (d) : (dats a m 0 c).before 3 t d = iblk a m c 3 t :=
  ((dats a m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin (cfg0 a).N) (d) : (dats a m 0 c).before 4 t d = iblk a m c 4 t :=
  ((dats a m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin (cfg0 a).N) (d) : (dats a m 0 c).before 5 t d = iblk a m c 5 t :=
  ((dats a m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin (cfg0 a).N) (d) : (dats a m 0 c).before 6 t d = iblk a m c 6 t :=
  ((dats a m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin (cfg0 a).N) (d) : (dats a m 0 c).before 7 t d = iblk a m c 7 t :=
  ((dats a m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin (cfg0 a).N) (d) : (dats a m 0 c).before 8 t d = iblk a m c 8 t :=
  ((dats a m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin (cfg0 a).N) (d) : (dats a m 0 c).before 9 t d = iblk a m c 9 t :=
  ((dats a m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin (cfg0 a).N) (d) : (dats a m 0 c).before 10 t d = iblk a m c 10 t :=
  ((dats a m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem before0_11 (c : Dev nD) (t : Fin (cfg0 a).N) (d) : (dats a m 0 c).before 11 t d = iblk a m c 11 t :=
  ((dats a m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)
theorem before0_12 (c : Dev nD) (t : Fin (cfg0 a).N) (d) : (dats a m 0 c).before 12 t d = iblk a m c 12 t :=
  ((dats a m 0 c).before_in_eq_fetched 12 rfl (fun _ => rfl) (fun _ _ _ => rfl) (fun t => by rw [after0_12]; unfold Dat.blockOf iblk; rw [A_eq]; try rfl) t d).trans
    (by unfold Dat.fetched Dat.blockOf iblk; rw [A_eq]; try rfl)
theorem before0_13 (c : Dev nD) (t : Fin (cfg0 a).N) (d) : (dats a m 0 c).before 13 t d = iblk a m c 13 t :=
  ((dats a m 0 c).before_in_eq_fetched 13 rfl (fun _ => rfl) (fun _ _ _ => rfl) (fun t => by rw [after0_13]; unfold Dat.blockOf iblk; rw [A_eq]; try rfl) t d).trans
    (by unfold Dat.fetched Dat.blockOf iblk; rw [A_eq]; try rfl)

/-- Two points with the same block index have the same block of prompt key scales. -/
theorem iblk5_congr (c : Dev nD) (t t' : Fin (cfg0 a).N) (h : ((cfg0 a).win 5).index t = ((cfg0 a).win 5).index t') : iblk a m c 5 t = iblk a m c 5 t' := by
  have e := (dats a m 0 c).fetched_congr 5 h (by rfl) (iblk a m c 5 t)
  unfold Dat.fetched Dat.blockOf at e
  rw [A_eq] at e
  exact e

theorem scrOf_congr (c : Dev nD) (t t' : Fin (cfg0 a).N) (h : ((cfg0 a).win 5).index t = ((cfg0 a).win 5).index t') : scrOf a m c t = scrOf a m c t' := by
  have e := iblk5_congr a m c t t' h
  unfold scrOf
  exact congrArg (kspOf (F := F)) e

theorem cond_first : ∀ t : Fin grid0.N, t.val % 40 = 0 → k0_cond1 (grid0.coords t) = 1#1 := by decide +kernel

theorem ix5_step : ∀ t t' : Fin grid0.N, t'.val = t.val + 1 → t'.val % 40 ≠ 0 → cc0_transform_5 (grid0.coords t') = cc0_transform_5 (grid0.coords t) := by
  have h : ∀ t : Fin grid0.N, ∀ h : t.val + 1 < grid0.N, (t.val + 1) % 40 ≠ 0 → cc0_transform_5 (grid0.coords ⟨t.val + 1, h⟩) = cc0_transform_5 (grid0.coords t) := by decide +kernel
  intro t t' e hne
  obtain ⟨v, hv⟩ := t'
  obtain rfl : v = t.val + 1 := e
  exact h t hv hne

/-! ## The body at a point -/

def bodyPre (c : Dev nD) (t : Fin (cfg0 a).N) : sProp 𝕄G :=
  iprop((dats a m 0 c).Φ t.castSucc ∗ (dats a m 0 c).owesAt () t.castSucc
    ∗ (∃ d, owns (c : Thread nD τ) (st0_0 a t) fullShare ((dats a m 0 c).before 0 t d))
    ∗ (∃ d, owns (c : Thread nD τ) (st0_1 a t) fullShare ((dats a m 0 c).before 1 t d))
    ∗ (∃ d, owns (c : Thread nD τ) (st0_2 a t) fullShare ((dats a m 0 c).before 2 t d))
    ∗ (∃ d, owns (c : Thread nD τ) (st0_3 a t) fullShare ((dats a m 0 c).before 3 t d))
    ∗ (∃ d, owns (c : Thread nD τ) (st0_4 a t) fullShare ((dats a m 0 c).before 4 t d))
    ∗ (∃ d, owns (c : Thread nD τ) (st0_5 a t) fullShare ((dats a m 0 c).before 5 t d))
    ∗ (∃ d, owns (c : Thread nD τ) (st0_6 a t) fullShare ((dats a m 0 c).before 6 t d))
    ∗ (∃ d, owns (c : Thread nD τ) (st0_7 a t) fullShare ((dats a m 0 c).before 7 t d))
    ∗ (∃ d, owns (c : Thread nD τ) (st0_8 a t) fullShare ((dats a m 0 c).before 8 t d))
    ∗ (∃ d, owns (c : Thread nD τ) (st0_9 a t) fullShare ((dats a m 0 c).before 9 t d))
    ∗ (∃ d, owns (c : Thread nD τ) (st0_10 a t) fullShare ((dats a m 0 c).before 10 t d))
    ∗ (∃ d, owns (c : Thread nD τ) (st0_11 a t) fullShare ((dats a m 0 c).before 11 t d))
    ∗ (∃ d, owns (c : Thread nD τ) (st0_12 a t) fullShare ((dats a m 0 c).before 12 t d))
    ∗ (∃ d, owns (c : Thread nD τ) (st0_13 a t) fullShare ((dats a m 0 c).before 13 t d))
    ∗ (∃ d, owns (c : Thread nD τ) (st0_14 a t) fullShare ((dats a m 0 c).before 14 t d))
    ∗ (∃ d, owns (c : Thread nD τ) (st0_15 a t) fullShare ((dats a m 0 c).before 15 t d))
    ∗ (∃ d, owns (c : Thread nD τ) (st0_16 a t) fullShare ((dats a m 0 c).before 16 t d))
    ∗ (∃ d, owns (c : Thread nD τ) (st0_17 a t) fullShare ((dats a m 0 c).before 17 t d)))

def bodyPost (c : Dev nD) (t : Fin (cfg0 a).N) : sProp 𝕄G :=
  iprop((dats a m 0 c).Φ t.succ ∗ (dats a m 0 c).owesAt () t.succ
    ∗ owns (c : Thread nD τ) (st0_0 a t) fullShare ((dats a m 0 c).after 0 t)
    ∗ owns (c : Thread nD τ) (st0_1 a t) fullShare ((dats a m 0 c).after 1 t)
    ∗ owns (c : Thread nD τ) (st0_2 a t) fullShare ((dats a m 0 c).after 2 t)
    ∗ owns (c : Thread nD τ) (st0_3 a t) fullShare ((dats a m 0 c).after 3 t)
    ∗ owns (c : Thread nD τ) (st0_4 a t) fullShare ((dats a m 0 c).after 4 t)
    ∗ owns (c : Thread nD τ) (st0_5 a t) fullShare ((dats a m 0 c).after 5 t)
    ∗ owns (c : Thread nD τ) (st0_6 a t) fullShare ((dats a m 0 c).after 6 t)
    ∗ owns (c : Thread nD τ) (st0_7 a t) fullShare ((dats a m 0 c).after 7 t)
    ∗ owns (c : Thread nD τ) (st0_8 a t) fullShare ((dats a m 0 c).after 8 t)
    ∗ owns (c : Thread nD τ) (st0_9 a t) fullShare ((dats a m 0 c).after 9 t)
    ∗ owns (c : Thread nD τ) (st0_10 a t) fullShare ((dats a m 0 c).after 10 t)
    ∗ owns (c : Thread nD τ) (st0_11 a t) fullShare ((dats a m 0 c).after 11 t)
    ∗ owns (c : Thread nD τ) (st0_12 a t) fullShare ((dats a m 0 c).after 12 t)
    ∗ owns (c : Thread nD τ) (st0_13 a t) fullShare ((dats a m 0 c).after 13 t)
    ∗ owns (c : Thread nD τ) (st0_14 a t) fullShare ((dats a m 0 c).after 14 t)
    ∗ owns (c : Thread nD τ) (st0_15 a t) fullShare ((dats a m 0 c).after 15 t)
    ∗ owns (c : Thread nD τ) (st0_16 a t) fullShare ((dats a m 0 c).after 16 t)
    ∗ owns (c : Thread nD τ) (st0_17 a t) fullShare ((dats a m 0 c).after 17 t))

theorem Phi_open (c : Dev nD) (t : Fin (cfg0 a).N) :
    Phi a m c t.castSucc ⊢ iprop((∃ f : Buf (Elt F) ((Memref.whole cc0_scratch0).view.loc (c : Thread nD τ)),
      ⌜t.val % 40 ≠ 0 → ∀ y, (Memref.whole cc0_scratch0).view.read (Elt F) f y = scrOf a m c t y⌝ ∗
      ((Memref.whole cc0_scratch0).view.loc (c : Thread nD τ) ↦[(Memref.whole cc0_scratch0).view.set]{fullShare} f)) ∗ ∃ r, prngReg c r) := by
  unfold Phi
  iintro ⟨⟨%f, %hf, HS⟩, HP⟩
  isplitl [HS]
  · iexists f
    isplitr
    · ipureintro
      intro hne y
      have e : t.val = t.castSucc.val := (Fin.val_castSucc t).symm
      have h1 := hf t e
      have h2 := h1 hne
      exact h2 y
    iexact HS
  iexact HP

theorem Phi_close (c : Dev nD) (t : Fin (cfg0 a).N) :
    (iprop((∃ g : Buf (Elt F) ((Memref.whole cc0_scratch0).view.loc (c : Thread nD τ)),
      ⌜∀ y, (Memref.whole cc0_scratch0).view.read (Elt F) g y = scrOf a m c t y⌝ ∗
      ((Memref.whole cc0_scratch0).view.loc (c : Thread nD τ) ↦[(Memref.whole cc0_scratch0).view.set]{fullShare} g)) ∗ ∃ r, prngReg c r) : sProp 𝕄G)
      ⊢ Phi a m c t.succ := by
  unfold Phi
  iintro ⟨⟨%g, %hg, HS⟩, HP⟩
  isplitl [HS]
  · iexists g
    isplitr
    · ipureintro
      intro t' h hne y
      exact (hg y).trans (congrFun (scrOf_congr a m c t' t (ix5_step t t' h hne)) y).symm
    iexact HS
  iexact HP

theorem sound_body (c : Dev nD) (t : Fin (cfg0 a).N) :
    bodyPre a m c t ⊢ wp frame (wpE (defs₀ (F := F)) Variants.none c none) Set.univ (bodyAt0 a t) (fun _ => bodyPost a m c t) := by
  unfold bodyPre bodyPost bodyAt0
  simp only [before0_0, before0_1, before0_2, before0_3, before0_4, before0_5, before0_6, before0_7, before0_8, before0_9, before0_10, before0_11, before0_12, before0_13]
  rw [show (dats a m 0 c).owesAt () t.succ = (dats a m 0 c).owesAt () t.castSucc from rfl,
    show (dats a m 0 c).Φ t.succ = Phi a m c t.succ from rfl, show (dats a m 0 c).Φ t.castSucc = Phi a m c t.castSucc from rfl,
    after0_0, after0_1, after0_2, after0_3, after0_4, after0_5, after0_6, after0_7, after0_8, after0_9, after0_10, after0_11, after0_12, after0_13, after0_14, after0_15, after0_16, after0_17]
  exact sound_step c Set.univ (grid0.coords t) (Memref.whole main_arg14) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (spec0_15.stage ((cfg0 a).slots t 15)) (hstage0_15 (((cfg0 a).slots t 15).cast nbuf0_15)) (spec0_16.stage ((cfg0 a).slots t 16)) (hstage0_16 (((cfg0 a).slots t 16).cast nbuf0_16)) (spec0_17.stage ((cfg0 a).slots t 17)) (hstage0_17 (((cfg0 a).slots t 17).cast nbuf0_17)) (Memref.whole cc0_scratch0) (Memref.isWhole_whole _) (iblk a m c 0 t) (iblk a m c 1 t) (iblk a m c 2 t) (iblk a m c 3 t) (iblk a m c 4 t) (iblk a m c 5 t) (iblk a m c 6 t) (iblk a m c 7 t) (iblk a m c 8 t) (iblk a m c 9 t) (iblk a m c 10 t) (iblk a m c 11 t) (iblk a m c 12 t) (iblk a m c 13 t)
    _ _ _ _ _ (fun f => t.val % 40 ≠ 0 → ∀ y, (Memref.whole cc0_scratch0).view.read (Elt F) f y = scrOf a m c t y)
    (fun f hf hc => hf fun h0 => hc (cond_first t h0)) (Phi_open a m c t) (Phi_close a m c t)

theorem defs₀_row (t : Fin (cfg0 a).N) :
    defs₀ (F := F) .tc (cfg0 a).body ((cfg0 a).bodyArgs t ((cfg0 a).slots t)) = bodyAt0 a t := by
  unfold defs₀; rw [Defs.onTc_tc]

theorem body_obligation (c : Dev nD) : BodyObligation (dats (F := F) a m 0 c) (defs₀ (F := F)) Variants.none () Set.univ := fun t => by
  rw [bigSep_W0, bigSep_W0, defs₀_row]
  exact triple_restated (sound_body a m c t) rfl .rfl fun _ => .rfl

/-! ## The whole program -/

theorem share_eq (c : Dev nD) (w : Fin (cfg0 a).W) : (dats a m 0 c).share w = fullShare := by unfold Dat.share; split <;> rfl

theorem scr_eq (c : Dev nD) (f : Buf (Elt F) ((c : Thread nD τ).loc cc0_scratch0)) :
    (iprop((Memref.whole cc0_scratch0).view.loc (c : Thread nD τ) ↦[(Memref.whole cc0_scratch0).view.set]{fullShare} f) : sProp 𝕄G)
      = iprop((c : Thread nD τ).loc cc0_scratch0 ↦{fullShare} f) := by
  rw [show (Memref.whole cc0_scratch0).view.set = Finset.univ from View.set_whole _]

theorem scr_in (c : Dev nD) (f : Buf (Elt F) ((c : Thread nD τ).loc cc0_scratch0)) :
    (iprop((c : Thread nD τ).loc cc0_scratch0 ↦{fullShare} f) : sProp 𝕄G)
      ⊢ iprop((Memref.whole cc0_scratch0).view.loc (c : Thread nD τ) ↦[(Memref.whole cc0_scratch0).view.set]{fullShare} f) := by
  rw [scr_eq]

theorem scr_out (c : Dev nD) (f : Buf (Elt F) ((c : Thread nD τ).loc cc0_scratch0)) :
    (iprop((Memref.whole cc0_scratch0).view.loc (c : Thread nD τ) ↦[(Memref.whole cc0_scratch0).view.set]{fullShare} f) : sProp 𝕄G)
      ⊢ iprop((c : Thread nD τ).loc cc0_scratch0 ↦{fullShare} f) := by
  rw [scr_eq]

theorem hin (c : Dev nD) : iprop(Pipeline.ΦA spec0 c ∗ Pipeline.ΦT pre0 a.1 c) ⊢ (dats a m 0 c).Φ 0 := by
  unfold Pipeline.ΦA
  rw [scopedRest0_eq, show (dats a m 0 c).Φ 0 = Phi a m c 0 from rfl]
  unfold Phi
  iintro ⟨⟨⟨%f, HS⟩, HP⟩, -⟩
  isplitl [HS]
  · iexists f
    isplitr
    · ipureintro; exact fun t' h hne => absurd (by rw [h]; rfl) hne
    iapply (scr_in c f)
    iexact HS
  iexact HP

theorem hout (c : Dev nD) : (dats a m 0 c).Φ (Fin.last (cfg0 a).N) ⊢ Pipeline.ΦA spec0 c := by
  unfold Pipeline.ΦA
  rw [scopedRest0_eq, show (dats a m 0 c).Φ (Fin.last (cfg0 a).N) = Phi a m c (Fin.last _) from rfl]
  unfold Phi
  iintro ⟨⟨%f, -, HS⟩, HP⟩
  isplitl [HS]
  · iexists f
    iapply (scr_out c f)
    iexact HS
  iexact HP

set_option backward.isDefEq.respectTransparency.types false in
/-- From a table the pipeline admits, the program ends with each array at what the pipeline's data say and every counter at zero. -/
theorem run_main (hp : ∀ (c : Dev nD) (k : Fin 1), V m c (pre0.ref k) = a.1 k) :
    θ_run defs (onTc (τ := τ) (main (F := F))) (s₀ m ρ) (fun r => Pipeline.FramePost (Pipeline.pin (pcfgs (F := F)) (fun _ => a)) (dats a m) 0 (V m) r ∧ r.2.sem = fun _ => 0) :=
  Pipeline.θ_run_frameP_track (Q' := _) (pcfgs (F := F)) (fun _ => a) (dats a m) (0 : Fin 1) launch0 defs₀ Variants.none m ρ main
    (hbody := fun c => (body_obligation a m c).loose) (hshare := share_eq a m)
    (howed := fun _ _ => rfl) (V := V m)
    (hmain := hmain m) (hA := A_eq a m) (hpf := hp) (hin := hin a m) (hout := hout a m) (hQ' := fun _ h => h)

/-- The program ends with its arguments unchanged and every counter at zero. -/
theorem frame_of (hp : ∀ (c : Dev nD) (k : Fin 1), V m c (pre0.ref k) = a.1 k) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) ∧ r.2.sem = fun _ => 0) :=
  (θ_run defs _ _).mono (fun r ⟨h, hz⟩ => ⟨fun c => ⟨((h c).2 main_arg0 (Pipeline.mem_restRefs_of (win := spec0) main_arg0 (by decide) (by decide))).trans (V_main_arg0 m c),
    ((h c).2 main_arg1 (Pipeline.mem_restRefs_of (win := spec0) main_arg1 (by decide) (by decide))).trans (V_main_arg1 m c),
    ((h c).2 main_arg2 (Pipeline.mem_restRefs_of (win := spec0) main_arg2 (by decide) (by decide))).trans (V_main_arg2 m c),
    ((h c).2 main_arg3 (Pipeline.mem_restRefs_of (win := spec0) main_arg3 (by decide) (by decide))).trans (V_main_arg3 m c),
    ((h c).2 main_arg4 (Pipeline.mem_restRefs_of (win := spec0) main_arg4 (by decide) (by decide))).trans (V_main_arg4 m c),
    ((h c).2 main_arg5 (Pipeline.mem_restRefs_of (win := spec0) main_arg5 (by decide) (by decide))).trans (V_main_arg5 m c),
    ((h c).2 main_arg6 (Pipeline.mem_restRefs_of (win := spec0) main_arg6 (by decide) (by decide))).trans (V_main_arg6 m c),
    ((h c).2 main_arg7 (Pipeline.mem_restRefs_of (win := spec0) main_arg7 (by decide) (by decide))).trans (V_main_arg7 m c),
    ((h c).2 main_arg8 (Pipeline.mem_restRefs_of (win := spec0) main_arg8 (by decide) (by decide))).trans (V_main_arg8 m c),
    ((h c).2 main_arg9 (Pipeline.mem_restRefs_of (win := spec0) main_arg9 (by decide) (by decide))).trans (V_main_arg9 m c),
    ((h c).2 main_arg10 (Pipeline.mem_restRefs_of (win := spec0) main_arg10 (by decide) (by decide))).trans (V_main_arg10 m c),
    ((h c).2 main_arg11 (Pipeline.mem_restRefs_of (win := spec0) main_arg11 (by decide) (by decide))).trans (V_main_arg11 m c),
    ((h c).2 main_arg12 (Pipeline.mem_restRefs_of (win := spec0) main_arg12 (by decide) (by decide))).trans (V_main_arg12 m c),
    ((h c).2 main_arg13 (Pipeline.mem_restRefs_of (win := spec0) main_arg13 (by decide) (by decide))).trans (V_main_arg13 m c),
    ((h c).2 main_arg14 (Pipeline.mem_restRefs_of (win := spec0) main_arg14 (by decide) (by decide))).trans (V_main_arg14 m c)⟩, hz⟩) (run_main a m ρ hp)

end Cert.KernelIdeal.Hyd
-- ==== Proof.Hyd.KernelIdealAdm.lean ====
module

public import proofs.«01_k».proof.Defs
public import proofs.«01_k».proof.Proof.Hyd.KernelIdealFrame
public import proofs.«01_k».proof.Proof.Gen.Pre_mid_in_range
public import Idealize.ShloMosaic.Lib.ReduceAll
public import Idealize.ShloMosaic.Lib.StableHlo.Predicate

@[expose] public section

set_option maxRecDepth 16384
set_option maxHeartbeats 1000000

/-! The precondition puts every table word below 3, so every block the table places is inside its array. -/

noncomputable section

namespace Cert.KernelIdeal.Hyd

open Cert.KernelIdeal Cert.KernelIdeal.Gen
open Idealize.ShloMosaic Idealize.ShloMosaic.TcCoe

/-- The table as the pipeline reads it. -/
def tbl (m : (ℓ : Loc nD τ sig) → Buf (Elt Ideal) ℓ) : pre0.Contents (Elt Ideal) := fun k => V m (0 : Dev nD) (pre0.ref k)

theorem tbl_at (m : (ℓ : Loc nD τ sig) → Buf (Elt Ideal) ℓ) (c : Dev nD) (k : Fin 1) : V m c (pre0.ref k) = tbl m k := by
  have hc : c = 0 := Subsingleton.elim _ _
  subst hc; rfl

/-- The table's words are below 3. -/
theorem word_lt (m : (ℓ : Loc nD τ sig) → Buf (Elt Ideal) ℓ) (h : Cert.Pre_KernelIdeal m) (x : S4.Idx) :
    BitVec.toNat (w := 32) (m (((0 : Dev nD).tc : Thread nD τ).loc main_arg14) x) < 3 := by
  have e := congrFun (h 0) (fun a => a.elim0)
  have e2 : IntOp.andi (IntOp.cmpi .sge (m (((0 : Dev nD).tc : Thread nD τ).loc main_arg14) x) 0#32) (IntOp.cmpi .slt (m (((0 : Dev nD).tc : Thread nD τ).loc main_arg14) x) 3#32) = 1#1 := by
    haveI : Subsingleton Cert.Pre_mid_in_range.S_.Idx := ⟨fun a b => funext fun i => i.elim0⟩
    exact Host.reduce_andi_all _ _ _ _ _ e x
  generalize (m (((0 : Dev nD).tc : Thread nD τ).loc main_arg14) x : BitVec 32) = w at e2 ⊢
  simp only [IntOp.andi, IntOp.cmpi] at e2
  have hb : ∀ p q : Bool, (BitVec.ofBool p &&& BitVec.ofBool q = 1#1) → p = true ∧ q = true := by decide
  obtain ⟨h1, h2⟩ := hb _ _ e2
  have h1' : (0#32).toInt ≤ w.toInt := by simpa [BitVec.sle] using h1
  have h2' : w.toInt < (3#32).toInt := by simpa [BitVec.slt] using h2
  have a0 : (0#32 : BitVec 32).toInt = 0 := by decide
  have a3 : (3#32 : BitVec 32).toInt = 3 := by decide
  rw [a0] at h1'; rw [a3] at h2'
  have := BitVec.toInt_eq_toNat_cond w
  split at this <;> omega

/-- Below 3 at every word, the pipeline admits the table. -/
theorem ok_of (pf : pre0.Contents (Elt Ideal)) (h : ∀ x : S4.Idx, BitVec.toNat (w := 32) (pf 0 x) < 3) : ok0 pf := by
  have h8 : ∀ i : grid0.Coords, (BitVec.ofNat 32 (i 0).val).toNat + 1 ≤ 8 := fun i => by
    have := (i 0).isLt
    have h8 : (i 0).val < 8 := this
    rw [BitVec.toNat_ofNat]; omega
  refine ⟨fun i => ⟨fun a => ?_, .inr (.inr ⟨by decide, rfl, rfl, rfl⟩)⟩, fun i => ⟨fun a => ?_, .inr (.inr ⟨by decide, rfl, rfl, rfl⟩)⟩,
    fun i => ⟨fun a => ?_, .inr (.inr ⟨by decide, rfl, rfl, rfl⟩)⟩, fun i => ⟨fun a => ?_, .inl rfl⟩⟩
  all_goals
    exact match a with
    | ⟨0, _⟩ => by
      have := h ((Rect.unit (s := S4) ![(Scalar.indexCast (BitVec.ofNat 32 (i 1).val) : Index).toNat] S1.size (k0_off1_inb i)).emb (Shape.Idx.first (numel1_S1.symm ▸ Nat.one_pos)))
      exact le_of_eq_of_le (Nat.mul_one _) this
    | ⟨1, _⟩ => le_of_eq_of_le (Nat.mul_one _) (h8 i)
    | ⟨2, _⟩ => le_of_eq (Nat.one_mul _)
    | ⟨3, _⟩ => le_of_eq (Nat.one_mul _)

/-- The table as the pipeline is run at it. -/
def adm (m : (ℓ : Loc nD τ sig) → Buf (Elt Ideal) ℓ) (h : Cert.Pre_KernelIdeal m) : (pcfg0 (F := Ideal)).Adm :=
  ⟨tbl m, ok_of (tbl m) fun x => by
    have e : tbl m 0 = m (((0 : Dev nD) : Thread nD τ).loc main_arg14) := V_main_arg14 m 0
    rw [e]; exact word_lt m h x⟩

/-- The program's frame. -/
theorem frame : Cert.quiescent_KernelIdeal := fun m g h => frame_of (adm m h) m g (fun c k => tbl_at m c k)

end Cert.KernelIdeal.Hyd
-- ==== Proof.Hyd.Soft.lean ====
module

public import Idealize.ShloMosaic.Lib.Pointwise

@[expose] public section

set_option maxHeartbeats 1000000

/-! Softmax over the extended reals: a running maximum with its rescaled sums gives the sums against the final maximum, and the sums'
quotients do not depend on the reference point. -/

noncomputable section

namespace Cert.Soft

open Idealize.ShloMosaic

theorem tri (x : EReal) : x = ⊥ ∨ x = ⊤ ∨ ∃ r : ℝ, x = (r : EReal) := by
  induction x with
  | bot => exact .inl rfl
  | top => exact .inr (.inl rfl)
  | coe r => exact .inr (.inr ⟨r, rfl⟩)

theorem coe_max' (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

theorem e2_nonneg (x : EReal) : 0 ≤ Ideal.exp2 x := by
  induction x with
  | bot => exact le_refl _
  | top => exact le_top
  | coe r => exact EReal.coe_nonneg.mpr (Real.rpow_nonneg (by norm_num) r)

theorem e2_coe (r : ℝ) : Ideal.exp2 (r : EReal) = ((2 : ℝ) ^ r : ℝ) := rfl
theorem e2_bot : Ideal.exp2 ⊥ = 0 := rfl

theorem sub_top' (x : EReal) : x - ⊤ = ⊥ := by rw [sub_eq_add_neg, EReal.neg_top, EReal.add_bot]
theorem bot_sub' (x : EReal) : ⊥ - x = ⊥ := by rw [sub_eq_add_neg, EReal.bot_add]

/-- Below the reference point the exponential is a real. -/
theorem e2_ne_top {x m : EReal} (h : x ≤ m) : Ideal.exp2 (x - m) ≠ ⊤ := by
  induction m with
  | bot => rw [le_bot_iff.mp h, bot_sub', e2_bot]; exact EReal.zero_ne_top
  | top => rw [sub_top', e2_bot]; exact EReal.zero_ne_top
  | coe r =>
    induction x with
    | bot => rw [bot_sub', e2_bot]; exact EReal.zero_ne_top
    | top => exact absurd (top_le_iff.mp h) (EReal.coe_ne_top r)
    | coe s => rw [← EReal.coe_sub, e2_coe]; exact EReal.coe_ne_top _

/-- Changing the reference point upwards multiplies the exponential. -/
theorem e2_shift {x m m' : EReal} (h : x ≤ m) (h' : m ≤ m') (hm : m ≠ ⊥) : Ideal.exp2 (x - m) * Ideal.exp2 (m - m') = Ideal.exp2 (x - m') := by
  induction m' with
  | bot => exact absurd (le_bot_iff.mp h') hm
  | top => rw [sub_top', sub_top', e2_bot, mul_zero]
  | coe r' =>
    induction m with
    | bot => exact absurd rfl hm
    | top => exact absurd (top_le_iff.mp h') (EReal.coe_ne_top r')
    | coe r =>
      induction x with
      | bot => rw [bot_sub', bot_sub', e2_bot, zero_mul]
      | top => exact absurd (top_le_iff.mp h) (EReal.coe_ne_top r)
      | coe s =>
        rw [← EReal.coe_sub, ← EReal.coe_sub, ← EReal.coe_sub, e2_coe, e2_coe, e2_coe, ← EReal.coe_mul, ← Real.rpow_add (by norm_num)]
        congr 2; ring

/-- A finite sum times a nonnegative real. -/
theorem sum_mul' {ι : Type*} (s : Finset ι) (f : ι → EReal) {a : EReal} (h0 : 0 ≤ a) (h1 : a ≠ ⊤) : (∑ i ∈ s, f i) * a = ∑ i ∈ s, f i * a := by
  classical
  induction s using Finset.induction_on with
  | empty => simp
  | insert i s hi ih => rw [Finset.sum_insert hi, Finset.sum_insert hi, EReal.right_distrib_of_nonneg_of_ne_top h0 h1, ih]

/-- The sum of the keys' weights against the reference point `m`, and of their weighted values. -/
def A (x : ℕ → EReal) (N : ℕ) (m : EReal) : EReal := ∑ p ∈ Finset.range N, Ideal.exp2 (x p - m)
def U (x v : ℕ → EReal) (N : ℕ) (m : EReal) : EReal := ∑ p ∈ Finset.range N, v p * Ideal.exp2 (x p - m)
/-- The largest score of the first `N` keys. -/
def X (x : ℕ → EReal) (N : ℕ) : EReal := (Finset.range N).sup x
/-- The running maximum, started at `c`. -/
def M (c : EReal) (x : ℕ → EReal) (N : ℕ) : EReal := max c (X x N)

theorem le_X (x : ℕ → EReal) {N p : ℕ} (h : p < N) : x p ≤ X x N := Finset.le_sup (Finset.mem_range.mpr h)
theorem le_M (c : EReal) (x : ℕ → EReal) {N p : ℕ} (h : p < N) : x p ≤ M c x N := (le_X x h).trans (le_max_right _ _)
theorem M_ne_bot {c : EReal} (hc : c ≠ ⊥) (x : ℕ → EReal) (N : ℕ) : M c x N ≠ ⊥ := fun h => hc (le_bot_iff.mp (h ▸ le_max_left _ _))

theorem X_add (x : ℕ → EReal) (N n : ℕ) : X x (N + n) = max (X x N) (Finset.univ.fold max ⊥ fun j : Fin n => x (N + j.val)) := by
  have e : (Finset.univ.fold max ⊥ fun j : Fin n => x (N + j.val)) = Finset.univ.sup fun j : Fin n => x (N + j.val) := rfl
  rw [e]
  apply le_antisymm
  · refine Finset.sup_le fun p hp => ?_
    by_cases h : p < N
    · exact (le_X x h).trans (le_max_left _ _)
    · have hp := Finset.mem_range.mp hp
      have := Finset.le_sup (f := fun j : Fin n => x (N + j.val)) (Finset.mem_univ ⟨p - N, by omega⟩)
      refine le_trans (le_of_eq ?_) (this.trans (le_max_right _ _))
      show x p = x (N + (p - N)); congr 1; omega
  · refine max_le (Finset.sup_le fun p hp => le_X x (by have := Finset.mem_range.mp hp; omega)) (Finset.sup_le fun j _ => le_X x (by have := j.isLt; omega))

theorem X_univ (x : ℕ → EReal) (n : ℕ) : X x n = Finset.univ.fold max ⊥ fun j : Fin n => x j.val := by
  have := X_add x 0 n
  rw [Nat.zero_add] at this
  rw [this, show X x 0 = ⊥ from rfl, max_eq_right bot_le]
  simp only [Nat.zero_add]

theorem M_step (c : EReal) (x : ℕ → EReal) (N n : ℕ) : M c x (N + n) = max (M c x N) (Finset.univ.fold max ⊥ fun j : Fin n => x (N + j.val)) := by
  unfold M; rw [X_add, max_assoc]

theorem M_mono (c : EReal) (x : ℕ → EReal) (N n : ℕ) : M c x N ≤ M c x (N + n) := by rw [M_step]; exact le_max_left _ _

/-- The sums against a larger reference point. -/
theorem A_shift (x : ℕ → EReal) (N : ℕ) {m m' : EReal} (h : ∀ p < N, x p ≤ m) (h' : m ≤ m') (hm : m ≠ ⊥) : A x N m * Ideal.exp2 (m - m') = A x N m' := by
  unfold A
  rw [sum_mul' _ _ (e2_nonneg _) (e2_ne_top h')]
  exact Finset.sum_congr rfl fun p hp => e2_shift (h p (Finset.mem_range.mp hp)) h' hm

theorem U_shift (x v : ℕ → EReal) (N : ℕ) {m m' : EReal} (h : ∀ p < N, x p ≤ m) (h' : m ≤ m') (hm : m ≠ ⊥) : U x v N m * Ideal.exp2 (m - m') = U x v N m' := by
  unfold U
  rw [sum_mul' _ _ (e2_nonneg _) (e2_ne_top h')]
  exact Finset.sum_congr rfl fun p hp => by rw [mul_assoc, e2_shift (h p (Finset.mem_range.mp hp)) h' hm]

theorem A_step (x : ℕ → EReal) (N n : ℕ) (m : EReal) : A x (N + n) m = A x N m + ∑ j : Fin n, Ideal.exp2 (x (N + j.val) - m) := by
  unfold A; rw [Finset.sum_range_add, Finset.sum_range (fun j => Ideal.exp2 (x (N + j) - m))]

theorem U_step (x v : ℕ → EReal) (N n : ℕ) (m : EReal) : U x v (N + n) m = U x v N m + ∑ j : Fin n, v (N + j.val) * Ideal.exp2 (x (N + j.val) - m) := by
  unfold U; rw [Finset.sum_range_add, Finset.sum_range (fun j => v (N + j) * Ideal.exp2 (x (N + j) - m))]

/-- One block of the running pass: the sums. -/
theorem L_next {c : EReal} (hc : c ≠ ⊥) (x : ℕ → EReal) (N n : ℕ) :
    A x N (M c x N) * Ideal.exp2 (M c x N - M c x (N + n)) + ∑ j : Fin n, Ideal.exp2 (x (N + j.val) - M c x (N + n)) = A x (N + n) (M c x (N + n)) := by
  rw [A_step, A_shift x N (fun p hp => le_M c x hp) (M_mono c x N n) (M_ne_bot hc x N)]

theorem O_next {c : EReal} (hc : c ≠ ⊥) (x v : ℕ → EReal) (N n : ℕ) :
    U x v N (M c x N) * Ideal.exp2 (M c x N - M c x (N + n)) + ∑ j : Fin n, v (N + j.val) * Ideal.exp2 (x (N + j.val) - M c x (N + n)) = U x v (N + n) (M c x (N + n)) := by
  rw [U_step, U_shift x v N (fun p hp => le_M c x hp) (M_mono c x N n) (M_ne_bot hc x N)]

/-! ## Against the maximum itself -/

theorem A_nonneg (x : ℕ → EReal) (N : ℕ) (m : EReal) : 0 ≤ A x N m := Finset.sum_nonneg fun p _ => e2_nonneg _

theorem A_ne_top (x : ℕ → EReal) (N : ℕ) {m : EReal} (h : ∀ p < N, x p ≤ m) : A x N m ≠ ⊤ := by
  have key : ∀ s : Finset ℕ, (∀ p ∈ s, x p ≤ m) → ∑ p ∈ s, Ideal.exp2 (x p - m) ≠ ⊤ := by
    intro s
    induction s using Finset.induction_on with
    | empty => intro _; simp
    | insert i s hi ih =>
      intro hs
      rw [Finset.sum_insert hi]
      exact EReal.add_ne_top (e2_ne_top (hs i (Finset.mem_insert_self i s))) (ih fun p hp => hs p (Finset.mem_insert_of_mem hp))
  exact key _ fun p hp => h p (Finset.mem_range.mp hp)

/-- Where the weights sum to nothing, so do the weighted values. -/
theorem U_zero (x v : ℕ → EReal) (N : ℕ) (m : EReal) (h : A x N m = 0) : U x v N m = 0 := by
  have := (Finset.sum_eq_zero_iff_of_nonneg (fun p _ => e2_nonneg (x p - m))).mp h
  exact Finset.sum_eq_zero fun p hp => by rw [this p hp, mul_zero]

/-- Against a real maximum the sum of the weights is a positive real. -/
theorem A_pos (x : ℕ → EReal) (N : ℕ) (m : ℝ) (h : ∀ p < N, x p ≤ m) (p : ℕ) (hp : p < N) (he : x p = m) : ∃ r : ℝ, 0 < r ∧ A x N m = r := by
  have h1 : (1 : EReal) ≤ A x N m := by
    have e : Ideal.exp2 (x p - m) = 1 := by
      rw [he, ← EReal.coe_sub, sub_self, e2_coe, Real.rpow_zero]; rfl
    rw [← e]
    exact Finset.single_le_sum (f := fun p => Ideal.exp2 (x p - (m : EReal))) (fun p _ => e2_nonneg _) (Finset.mem_range.mpr hp)
  have h2 := A_ne_top x N h
  generalize A x N m = a at h1 h2
  induction a with
  | bot => exact absurd (le_bot_iff.mp h1) (EReal.coe_ne_bot 1)
  | top => exact absurd rfl h2
  | coe r => exact ⟨r, lt_of_lt_of_le one_pos (by exact_mod_cast h1), rfl⟩

theorem X_attained (x : ℕ → EReal) {N : ℕ} (hN : 0 < N) : ∃ p < N, x p = X x N := by
  obtain ⟨p, hp, e⟩ := Finset.exists_mem_eq_sup (Finset.range N) ⟨0, Finset.mem_range.mpr hN⟩ x
  exact ⟨p, Finset.mem_range.mp hp, e.symm⟩

theorem A_top (x : ℕ → EReal) (N : ℕ) : A x N ⊤ = 0 := Finset.sum_eq_zero fun p _ => by rw [sub_top', e2_bot]

theorem A_bot (x : ℕ → EReal) (N : ℕ) (h : ∀ p < N, x p = ⊥) (m : EReal) : A x N m = 0 :=
  Finset.sum_eq_zero fun p hp => by rw [h p (Finset.mem_range.mp hp), bot_sub', e2_bot]

/-- The logarithm of the sum of the exponentials, from the running pass and from the maximum itself. -/
theorem lse_eq {c : ℝ} (x : ℕ → EReal) {N : ℕ} (hN : 0 < N) :
    ((Real.log 2 : ℝ) : EReal) * (M c x N + Ideal.log (A x N (M c x N)) * (((Real.log 2)⁻¹ : ℝ) : EReal))
      = X x N * ((Real.log 2 : ℝ) : EReal) + Ideal.log (A x N (X x N)) := by
  have hl : (0 : ℝ) < Real.log 2 := Real.log_pos (by norm_num)
  have hli : (0 : ℝ) < (Real.log 2)⁻¹ := inv_pos.mpr hl
  have log0 : Ideal.log 0 = ⊥ := by
    show Ideal.log ((0 : ℝ) : EReal) = ⊥
    show (if (0 : ℝ) ≤ 0 then (⊥ : EReal) else _) = ⊥
    rw [if_pos le_rfl]
  have bm : (⊥ : EReal) * (((Real.log 2)⁻¹ : ℝ) : EReal) = ⊥ := EReal.bot_mul_coe_of_pos hli
  obtain ⟨p, hp, hx⟩ := X_attained x hN
  rcases tri (X x N) with h | h | ⟨r, hX⟩
  · have hb : ∀ p < N, x p = ⊥ := fun p hp => le_bot_iff.mp (h ▸ le_X x hp)
    rw [h, A_bot x N hb, A_bot x N hb, log0, bm, EReal.add_bot, EReal.coe_mul_bot_of_pos hl, EReal.add_bot]
  · have hM : M c x N = ⊤ := by unfold M; rw [h]; exact max_eq_right le_top
    rw [h, hM, A_top, log0, bm, EReal.add_bot, EReal.coe_mul_bot_of_pos hl, EReal.add_bot]
  · obtain ⟨a, ha, hA⟩ := A_pos x N r (fun p hp => hX ▸ le_X x hp) p hp (hx.trans hX)
    have hMr : M c x N = ((max c r : ℝ) : EReal) := by unfold M; rw [hX]; exact (coe_max' c r).symm
    have hs := A_shift x N (m := (r : EReal)) (m' := ((max c r : ℝ) : EReal)) (fun p hp => hX ▸ le_X x hp) (EReal.coe_le_coe_iff.mpr (le_max_right _ _)) (EReal.coe_ne_bot r)
    rw [hMr, hX, ← hs, hA, ← EReal.coe_sub, e2_coe, ← EReal.coe_mul]
    have h2 : (0 : ℝ) < 2 ^ (r - max c r) := Real.rpow_pos_of_pos (by norm_num) _
    have e1 : Ideal.log ((a * 2 ^ (r - max c r) : ℝ) : EReal) = ((Real.log a + (r - max c r) * Real.log 2 : ℝ) : EReal) := by
      show (if _ ≤ (0 : ℝ) then (⊥ : EReal) else _) = _
      rw [if_neg (not_le.mpr (mul_pos ha h2)), Real.log_mul ha.ne' h2.ne', Real.log_rpow (by norm_num)]
    have e3 : Ideal.log (a : EReal) = ((Real.log a : ℝ) : EReal) := by
      show (if _ ≤ (0 : ℝ) then (⊥ : EReal) else _) = _
      rw [if_neg (not_le.mpr ha)]
    rw [e1, e3, ← EReal.coe_mul, ← EReal.coe_add, ← EReal.coe_mul, ← EReal.coe_mul, ← EReal.coe_add]
    congr 1
    field_simp
    ring

/-- The natural exponential of a score in nats is the base-two exponential of the score in bits. -/
theorem exp_eq (x m : EReal) : Ideal.exp (x * ((Real.log 2 : ℝ) : EReal) - m * ((Real.log 2 : ℝ) : EReal)) = Ideal.exp2 (x - m) := by
  have hl : (0 : ℝ) < Real.log 2 := Real.log_pos (by norm_num)
  have e : x * ((Real.log 2 : ℝ) : EReal) - m * ((Real.log 2 : ℝ) : EReal) = (x - m) * ((Real.log 2 : ℝ) : EReal) := by
    rw [sub_eq_add_neg, sub_eq_add_neg, EReal.right_distrib_of_nonneg_of_ne_top (EReal.coe_nonneg.mpr hl.le) (EReal.coe_ne_top _), EReal.neg_mul]
  rw [e]
  generalize x - m = y
  induction y with
  | bot => rw [EReal.bot_mul_coe_of_pos hl]; rfl
  | top => rw [EReal.top_mul_coe_of_pos hl]; rfl
  | coe r =>
    rw [← EReal.coe_mul, e2_coe]
    show ((Real.exp _ : ℝ) : EReal) = _
    rw [Real.rpow_def_of_pos (by norm_num), mul_comm]

/-- The largest score in nats. -/
theorem fold_mul (x : ℕ → EReal) (n : ℕ) :
    (Finset.univ.fold max ⊥ fun j : Fin n => x j.val * ((Real.log 2 : ℝ) : EReal)) = X x n * ((Real.log 2 : ℝ) : EReal) := by
  have hl : (0 : ℝ) < Real.log 2 := Real.log_pos (by norm_num)
  have hm : Monotone fun y : EReal => y * ((Real.log 2 : ℝ) : EReal) := fun a b h => mul_le_mul_of_nonneg_right h (EReal.coe_nonneg.mpr hl.le)
  rw [X_univ]
  have key : ∀ s : Finset (Fin n), (s.fold max ⊥ fun j : Fin n => x j.val * ((Real.log 2 : ℝ) : EReal)) = (s.fold max ⊥ fun j : Fin n => x j.val) * ((Real.log 2 : ℝ) : EReal) := by
    intro s
    induction s using Finset.induction_on with
    | empty => exact (EReal.bot_mul_coe_of_pos hl).symm
    | insert i s hi ih => rw [Finset.fold_insert hi, Finset.fold_insert hi, ih]; exact (hm.map_max).symm
  exact key _

/-- The quotient of the weighted values by the weights, from three running passes and from the maximum itself. -/
theorem out_eq {c : ℝ} (x₁ x₂ x₃ v₁ v₂ v₃ : ℕ → EReal) {N₁ N₂ N₃ : ℕ} (h₁ : 0 < N₁) (h₂ : 0 < N₂) (h₃ : 0 < N₃) (big S inv : EReal)
    (hb : big = max (max (M c x₁ N₁) (M c x₂ N₂)) (M c x₃ N₃)) (hS : S = max (max (X x₁ N₁) (X x₂ N₂)) (X x₃ N₃))
    (hi : inv = Ideal.div 1 (Ideal.exp2 (M c x₁ N₁ - big) * A x₁ N₁ (M c x₁ N₁) + Ideal.exp2 (M c x₂ N₂ - big) * A x₂ N₂ (M c x₂ N₂) + Ideal.exp2 (M c x₃ N₃ - big) * A x₃ N₃ (M c x₃ N₃))) :
    U x₁ v₁ N₁ (M c x₁ N₁) * (Ideal.exp2 (M c x₁ N₁ - big) * inv) + U x₂ v₂ N₂ (M c x₂ N₂) * (Ideal.exp2 (M c x₂ N₂ - big) * inv) + U x₃ v₃ N₃ (M c x₃ N₃) * (Ideal.exp2 (M c x₃ N₃ - big) * inv)
      = (U x₁ v₁ N₁ S + U x₂ v₂ N₂ S + U x₃ v₃ N₃ S) * Ideal.div 1 (A x₁ N₁ S + A x₂ N₂ S + A x₃ N₃ S) := by
  have hc : (c : EReal) ≠ ⊥ := EReal.coe_ne_bot c
  have l₁ : M c x₁ N₁ ≤ big := hb ▸ (le_max_left _ _).trans (le_max_left _ _)
  have l₂ : M c x₂ N₂ ≤ big := hb ▸ (le_max_right _ _).trans (le_max_left _ _)
  have l₃ : M c x₃ N₃ ≤ big := hb ▸ le_max_right _ _
  have a₁ := A_shift x₁ N₁ (fun p hp => le_M c x₁ hp) l₁ (M_ne_bot hc x₁ N₁)
  have a₂ := A_shift x₂ N₂ (fun p hp => le_M c x₂ hp) l₂ (M_ne_bot hc x₂ N₂)
  have a₃ := A_shift x₃ N₃ (fun p hp => le_M c x₃ hp) l₃ (M_ne_bot hc x₃ N₃)
  have u₁ := U_shift x₁ v₁ N₁ (fun p hp => le_M c x₁ hp) l₁ (M_ne_bot hc x₁ N₁)
  have u₂ := U_shift x₂ v₂ N₂ (fun p hp => le_M c x₂ hp) l₂ (M_ne_bot hc x₂ N₂)
  have u₃ := U_shift x₃ v₃ N₃ (fun p hp => le_M c x₃ hp) l₃ (M_ne_bot hc x₃ N₃)
  rw [← mul_assoc, ← mul_assoc, ← mul_assoc, u₁, u₂, u₃]
  rw [mul_comm (Ideal.exp2 _), a₁, mul_comm (Ideal.exp2 _), a₂, mul_comm (Ideal.exp2 _), a₃] at hi
  have hbS : big = max (c : EReal) S := by
    rw [hb, hS]; unfold M
    simp only [max_assoc, max_left_comm, max_comm, max_self]
    simp only [← max_assoc, max_self]
    try simp only [max_assoc, max_left_comm, max_comm, max_self]
  have s₁ : ∀ p < N₁, x₁ p ≤ S := fun p hp => (le_X x₁ hp).trans (hS ▸ (le_max_left _ _).trans (le_max_left _ _))
  have s₂ : ∀ p < N₂, x₂ p ≤ S := fun p hp => (le_X x₂ hp).trans (hS ▸ (le_max_right _ _).trans (le_max_left _ _))
  have s₃ : ∀ p < N₃, x₃ p ≤ S := fun p hp => (le_X x₃ hp).trans (hS ▸ le_max_right _ _)
  -- where the weights against both points vanish, both sides are nothing
  have zero : ∀ b i j : EReal, A x₁ N₁ b = 0 → A x₂ N₂ b = 0 → A x₃ N₃ b = 0 → A x₁ N₁ S = 0 → A x₂ N₂ S = 0 → A x₃ N₃ S = 0 →
      U x₁ v₁ N₁ b * i + U x₂ v₂ N₂ b * i + U x₃ v₃ N₃ b * i = (U x₁ v₁ N₁ S + U x₂ v₂ N₂ S + U x₃ v₃ N₃ S) * j := by
    intro b i j z₁ z₂ z₃ z₄ z₅ z₆
    rw [U_zero _ v₁ _ _ z₁, U_zero _ v₂ _ _ z₂, U_zero _ v₃ _ _ z₃, U_zero _ v₁ _ _ z₄, U_zero _ v₂ _ _ z₅, U_zero _ v₃ _ _ z₆]
    simp
  rcases tri S with hSb | hSt | ⟨r, hSr⟩
  · skip
    have b₁ : ∀ p < N₁, x₁ p = ⊥ := fun p hp => le_bot_iff.mp (hSb ▸ s₁ p hp)
    have b₂ : ∀ p < N₂, x₂ p = ⊥ := fun p hp => le_bot_iff.mp (hSb ▸ s₂ p hp)
    have b₃ : ∀ p < N₃, x₃ p = ⊥ := fun p hp => le_bot_iff.mp (hSb ▸ s₃ p hp)
    have := zero big inv (Ideal.div 1 (A x₁ N₁ S + A x₂ N₂ S + A x₃ N₃ S)) (A_bot _ _ b₁ _) (A_bot _ _ b₂ _) (A_bot _ _ b₃ _) (A_bot _ _ b₁ _) (A_bot _ _ b₂ _) (A_bot _ _ b₃ _)
    exact this
  · have hbt : big = ⊤ := by rw [hbS, hSt]; exact max_eq_right le_top
    have := zero big inv (Ideal.div 1 (A x₁ N₁ S + A x₂ N₂ S + A x₃ N₃ S)) (by rw [hbt]; exact A_top _ _) (by rw [hbt]; exact A_top _ _) (by rw [hbt]; exact A_top _ _)
      (by rw [hSt]; exact A_top _ _) (by rw [hSt]; exact A_top _ _) (by rw [hSt]; exact A_top _ _)
    exact this
  · rw [hSr] at s₁ s₂ s₃
    have hbr : big = ((max c r : ℝ) : EReal) := by rw [hbS, hSr]; exact (coe_max' c r).symm
    have rb : (r : EReal) ≤ ((max c r : ℝ) : EReal) := EReal.coe_le_coe_iff.mpr (le_max_right _ _)
    have rn : (r : EReal) ≠ ⊥ := EReal.coe_ne_bot r
    -- the weights sum to a positive real
    have real : ∀ {N : ℕ} (x : ℕ → EReal), (∀ p < N, x p ≤ (r : EReal)) → ∃ t : ℝ, 0 ≤ t ∧ A x N r = t ∧ (X x N = r → 0 < N → 0 < t) := by
      intro N x hx
      have n0 := A_nonneg x N (r : EReal)
      have n1 := A_ne_top x N hx
      rcases tri (A x N r) with h | h | ⟨t, h⟩
      · exact absurd (le_bot_iff.mp (h ▸ n0)) (EReal.coe_ne_bot 0)
      · exact absurd h n1
      · refine ⟨t, EReal.coe_nonneg.mp (h ▸ n0), h, fun hX hN => ?_⟩
        obtain ⟨p, hp, e⟩ := X_attained x hN
        obtain ⟨t', ht', e'⟩ := A_pos x N r hx p hp (e.trans hX)
        have : (t : EReal) = (t' : EReal) := h.symm.trans e'
        rw [EReal.coe_eq_coe_iff.mp this]; exact ht'
    obtain ⟨t₁, p₁, e₁, q₁⟩ := real x₁ s₁
    obtain ⟨t₂, p₂, e₂, q₂⟩ := real x₂ s₂
    obtain ⟨t₃, p₃, e₃, q₃⟩ := real x₃ s₃
    have pos : 0 < t₁ + t₂ + t₃ := by
      rcases max_choice (max (X x₁ N₁) (X x₂ N₂)) (X x₃ N₃) with hh | hh
      · rcases max_choice (X x₁ N₁) (X x₂ N₂) with hh' | hh'
        · have := q₁ (by rw [← hSr, hS, hh, hh']) h₁; linarith
        · have := q₂ (by rw [← hSr, hS, hh, hh']) h₂; linarith
      · have := q₃ (by rw [← hSr, hS, hh]) h₃; linarith
    have k0 : (0 : ℝ) < 2 ^ (r - max c r) := Real.rpow_pos_of_pos (by norm_num) _
    rw [hi, hbr, hSr, ← A_shift x₁ N₁ s₁ rb rn, ← A_shift x₂ N₂ s₂ rb rn, ← A_shift x₃ N₃ s₃ rb rn, ← U_shift x₁ v₁ N₁ s₁ rb rn, ← U_shift x₂ v₂ N₂ s₂ rb rn,
      ← U_shift x₃ v₃ N₃ s₃ rb rn, e₁, e₂, e₃, ← EReal.coe_sub, e2_coe, ← EReal.coe_mul, ← EReal.coe_mul, ← EReal.coe_mul, ← EReal.coe_add, ← EReal.coe_add,
      ← EReal.coe_add, ← EReal.coe_add]
    generalize (2 : ℝ) ^ (r - max c r) = κ at k0 ⊢
    have dv : ∀ t : ℝ, 0 < t → Ideal.div 1 (t : EReal) = ((t⁻¹ : ℝ) : EReal) := by
      intro t ht
      unfold Ideal.div
      rw [if_neg (by exact_mod_cast ht.ne'), one_mul]
      rfl
    have tk : t₁ * κ + t₂ * κ + t₃ * κ = (t₁ + t₂ + t₃) * κ := by ring
    rw [tk, dv _ (mul_pos pos k0), dv _ pos, mul_assoc, mul_assoc, mul_assoc, ← EReal.coe_mul,
      show κ * ((t₁ + t₂ + t₃) * κ)⁻¹ = (t₁ + t₂ + t₃)⁻¹ by field_simp]
    have i0 : (0 : EReal) ≤ (((t₁ + t₂ + t₃)⁻¹ : ℝ) : EReal) := EReal.coe_nonneg.mpr (inv_nonneg.mpr pos.le)
    rw [EReal.right_distrib_of_nonneg_of_ne_top i0 (EReal.coe_ne_top _), EReal.right_distrib_of_nonneg_of_ne_top i0 (EReal.coe_ne_top _)]

end Cert.Soft
-- ==== Proof.Hyd.Pass.lean ====
module

public import proofs.«01_k».proof.Proof.Hyd.KernelIdealRun
public import proofs.«01_k».proof.Proof.Hyd.Soft

@[expose] public section

set_option maxRecDepth 16384
set_option maxHeartbeats 1000000

/-! What the three passes hold, and what a point stores, over the extended reals: the passes' states are the running softmax sums. -/

noncomputable section

namespace Cert.KernelIdeal.Hyd

open Cert.KernelIdeal Cert.KernelIdeal.Gen
open Idealize.ShloMosaic Idealize.ShloMosaic.TcCoe
open Cert.Soft

theorem c0_ex : ∃ r : ℝ, Ideal.ofBits FTy.f32 4048155338#32 = (r : EReal) := by
  show ∃ r : ℝ, Ideal.ieee 8 23 4048155338#32 = (r : EReal)
  unfold Ideal.ieee
  dsimp only
  rw [if_neg (by decide), if_neg (by decide)]
  exact ⟨_, rfl⟩

/-- Where the running maxima start. -/
def c0 : ℝ := c0_ex.choose

theorem c0_eq : Ideal.ofBits FTy.f32 4048155338#32 = (c0 : EReal) := c0_ex.choose_spec

theorem ninf_eq : Ideal.ofBits FTy.f32 4286578688#32 = (⊥ : EReal) := by
  show Ideal.ieee 8 23 4286578688#32 = _
  unfold Ideal.ieee
  dsimp only
  rw [if_pos (by decide), if_pos (by decide), if_pos (by decide)]

/-- A state holds, in its column `q`, the running sums over the first `N` keys. -/
def Is (a : St Ideal) (q : Fin 256) (x : ℕ → EReal) (v : Fin 128 → ℕ → EReal) (N : ℕ) : Prop :=
  (a.2.2 (ix2 0 q) : EReal) = M c0 x N ∧ (a.2.1 (ix2 0 q) : EReal) = A x N (M c0 x N) ∧ ∀ d, (a.1 (ix2 d q) : EReal) = U x (v d) N (M c0 x N)

theorem Is.start {a : St Ideal} {q : Fin 256} (x : ℕ → EReal) (v : Fin 128 → ℕ → EReal)
    (hm : (a.2.2 (ix2 0 q) : EReal) = Ideal.ofBits FTy.f32 4048155338#32) (hl : (a.2.1 (ix2 0 q) : EReal) = 0) (ho : ∀ d, (a.1 (ix2 d q) : EReal) = 0) : Is a q x v 0 := by
  refine ⟨?_, ?_, fun d => ?_⟩
  · rw [hm, c0_eq]; exact (max_eq_left bot_le).symm
  · rw [hl]; rfl
  · rw [ho]; rfl

theorem Is.next {a a' : St Ideal} {q : Fin 256} {x : ℕ → EReal} {v : Fin 128 → ℕ → EReal} {N n : ℕ} (h : Is a q x v N) (y : Fin n → EReal) (w : Fin 128 → Fin n → EReal)
    (hy : ∀ j, y j = x (N + j.val)) (hw : ∀ d j, w d j = v d (N + j.val))
    (hm : (a'.2.2 (ix2 0 q) : EReal) = max (a.2.2 (ix2 0 q) : EReal) (Finset.fold max (Ideal.ofBits FTy.f32 4286578688#32 : EReal) y Finset.univ))
    (hl : (a'.2.1 (ix2 0 q) : EReal) = (a.2.1 (ix2 0 q) : EReal) * Ideal.exp2 ((a.2.2 (ix2 0 q) : EReal) - (a'.2.2 (ix2 0 q) : EReal)) + ∑ j, Ideal.exp2 (y j - (a'.2.2 (ix2 0 q) : EReal)))
    (ho : ∀ d, (a'.1 (ix2 d q) : EReal) = (a.1 (ix2 d q) : EReal) * Ideal.exp2 ((a.2.2 (ix2 0 q) : EReal) - (a'.2.2 (ix2 0 q) : EReal))
      + ∑ j, w d j * Ideal.exp2 (y j - (a'.2.2 (ix2 0 q) : EReal))) : Is a' q x v (N + n) := by
  obtain ⟨h1, h2, h3⟩ := h
  have hy' : y = fun j => x (N + j.val) := funext hy
  have hM : (a'.2.2 (ix2 0 q) : EReal) = M c0 x (N + n) := by rw [hm, h1, M_step, ninf_eq, hy']
  have hc : (c0 : EReal) ≠ ⊥ := EReal.coe_ne_bot c0
  refine ⟨hM, ?_, fun d => ?_⟩
  · rw [hl, hM, h1, h2, hy', L_next hc]
  · rw [ho d, hM, h1, h3 d, hy', show w d = fun j => v d (N + j.val) from funext (hw d), O_next hc]

theorem st2_is (v16 : FVec Ideal S256x128 .fp8e4m3) (v20 : FVec Ideal S1x256 .f32) (X6 : Vec Ideal S1x32768x128 .fp8e4m3)
    (W : S32768x128.Idx → Ideal .f32) (X7 : Vec Ideal S1x128x32768 .fp8e4m3) (X8 : Vec Ideal S1x1x32768 .bf16) (q : Fin 256) (x : ℕ → EReal) (v : Fin 128 → ℕ → EReal)
    (hx : ∀ k : ℕ, ∀ j : Fin 512, (k0_pay138 v16 v20 (kpB X6 k) (kspB W k) (ix2 j q) : EReal) = x (512 * k + j.val))
    (hv : ∀ k : ℕ, ∀ d : Fin 128, ∀ j : Fin 512, (vtpB X7 k (ix2 d j) : EReal) * (vspB X8 k (ix2 0 j) : EReal) = v d (512 * k + j.val)) (k : ℕ) :
    Is (st2 v16 v20 X6 W X7 X8 k) q x v (512 * k) := by
  induction k with
  | zero =>
    refine Is.start x v ?_ ?_ fun d => ?_
    · show (k0_pay162 (F := Ideal) (ix2 0 q) : EReal) = _
      pointwise [k0_pay162]
    · show (k0_pay161 (F := Ideal) (ix2 0 q) : EReal) = _
      pointwise [k0_pay161]
    · show (k0_pay160 (F := Ideal) (ix2 d q) : EReal) = _
      pointwise [k0_pay160]
  | succ k ih =>
    rw [Nat.mul_succ]
    refine ih.next _ _ (hx k) (hv k) ?_ ?_ fun d => ?_
    · show (k0_pay139 v16 v20 (st2 v16 v20 X6 W X7 X8 k).2.2 (kpB X6 k) (kspB W k) (ix2 0 q) : EReal) = _
      pointwise [k0_pay139]
    · show (k0_pay142 v16 v20 (st2 v16 v20 X6 W X7 X8 k).2.1 (st2 v16 v20 X6 W X7 X8 k).2.2 (kpB X6 k) (kspB W k) (ix2 0 q) : EReal) = _
      pointwise [k0_pay142, k0_pay141, k0_pay140]
      rfl
    · show (k0_pay143 v16 v20 (st2 v16 v20 X6 W X7 X8 k).1 (st2 v16 v20 X6 W X7 X8 k).2.2 (kpB X6 k) (kspB W k) (vtpB X7 k) (vspB X8 k) (ix2 d q) : EReal) = _
      pointwise [k0_pay143, k0_pay141, k0_pay140]
      rfl

theorem st3_is (v16 : FVec Ideal S256x128 .fp8e4m3) (v20 : FVec Ideal S1x256 .f32) (X14 : Vec Ideal S1x1x384x128 .fp8e4m3)
    (X17 : Vec Ideal S1x1x384x128 .f32) (X15 : Vec Ideal S1x1x128x384 .fp8e4m3) (X16 : Vec Ideal S1x1x1x384 .bf16) (q : Fin 256) (x : ℕ → EReal) (v : Fin 128 → ℕ → EReal)
    (hx : ∀ k : ℕ, ∀ j : Fin 128, (k0_pay144 v16 v20 (rowB (by decide) X14 128 k) (rowB (by decide) X17 128 k) (ix2 j q) : EReal) = x (128 * k + j.val))
    (hv : ∀ k : ℕ, ∀ d j : Fin 128, (colB (by decide) (by decide) X15 128 k (ix2 d j) : EReal) * (colB (by decide) (by decide) X16 128 k (ix2 0 j) : EReal) = v d (128 * k + j.val)) (k : ℕ) :
    Is (st3 v16 v20 X14 X17 X15 X16 k) q x v (128 * k) := by
  induction k with
  | zero =>
    refine Is.start x v ?_ ?_ fun d => ?_
    · show (k0_pay165 (F := Ideal) (ix2 0 q) : EReal) = _
      pointwise [k0_pay165]
    · show (k0_pay164 (F := Ideal) (ix2 0 q) : EReal) = _
      pointwise [k0_pay164]
    · show (k0_pay163 (F := Ideal) (ix2 d q) : EReal) = _
      pointwise [k0_pay163]
  | succ k ih =>
    rw [Nat.mul_succ]
    refine ih.next _ _ (hx k) (hv k) ?_ ?_ fun d => ?_
    · show (k0_pay145 v16 v20 (st3 v16 v20 X14 X17 X15 X16 k).2.2 (rowB (by decide) X14 128 k) (rowB (by decide) X17 128 k) (ix2 0 q) : EReal) = _
      pointwise [k0_pay145]
    · show (k0_pay148 v16 v20 (st3 v16 v20 X14 X17 X15 X16 k).2.1 (st3 v16 v20 X14 X17 X15 X16 k).2.2 (rowB (by decide) X14 128 k) (rowB (by decide) X17 128 k) (ix2 0 q) : EReal) = _
      pointwise [k0_pay148, k0_pay147, k0_pay146]
      rfl
    · show (k0_pay166 (st3 v16 v20 X14 X17 X15 X16 k).1 (k0_pay146 v16 v20 (st3 v16 v20 X14 X17 X15 X16 k).2.2 (rowB (by decide) X14 128 k) (rowB (by decide) X17 128 k))
        (k0_pay149 (colB (by decide) (by decide) X15 128 k) (colB (by decide) (by decide) X16 128 k))
        (k0_pay150 v16 v20 (st3 v16 v20 X14 X17 X15 X16 k).2.2 (rowB (by decide) X14 128 k) (rowB (by decide) X17 128 k)) (ix2 d q) : EReal) = _
      pointwise [k0_pay166, k0_pay146, k0_pay147, k0_pay149, k0_pay150]
      rfl

theorem st4_is (v16 : FVec Ideal S256x128 .fp8e4m3) (v20 : FVec Ideal S1x256 .f32) (v31 : BitVec 32) (X10 : Vec Ideal S1x1x512x128 .fp8e4m3)
    (X13 : Vec Ideal S1x1x512x128 .f32) (X11 : Vec Ideal S1x1x128x512 .fp8e4m3) (X12 : Vec Ideal S1x1x1x512 .bf16) (q : Fin 256) (x : ℕ → EReal) (v : Fin 128 → ℕ → EReal)
    (hx : ∀ k : Fin k0_t4_loop.trips, ∀ j : Fin 256,
      (k0_pay151 v16 v20 v31 0#32 1#32 k (rowB (by decide) X10 256 k) (rowB (by decide) X13 256 k) (ix2 j q) : EReal) = x (256 * k.val + j.val))
    (hv : ∀ k : ℕ, ∀ d : Fin 128, ∀ j : Fin 256, (colB (by decide) (by decide) X11 256 k (ix2 d j) : EReal) * (colB (by decide) (by decide) X12 256 k (ix2 0 j) : EReal) = v d (256 * k + j.val))
    (k : ℕ) (hk : k ≤ k0_t4_loop.trips) : Is (st4 v16 v20 v31 X10 X13 X11 X12 k) q x v (256 * k) := by
  induction k with
  | zero =>
    refine Is.start x v ?_ ?_ fun d => ?_
    · show (k0_pay169 (F := Ideal) (ix2 0 q) : EReal) = _
      pointwise [k0_pay169]
    · show (k0_pay168 (F := Ideal) (ix2 0 q) : EReal) = _
      pointwise [k0_pay168]
    · show (k0_pay167 (F := Ideal) (ix2 d q) : EReal) = _
      pointwise [k0_pay167]
  | succ k ih =>
    have h : k < k0_t4_loop.trips := hk
    rw [Nat.mul_succ]
    refine (ih h.le).next _ _ (hx ⟨k, h⟩) (hv k) ?_ ?_ fun d => ?_ <;> rw [st4, dif_pos h]
    · show (k0_pay152 v16 v20 v31 0#32 1#32 ⟨k, h⟩ (st4 v16 v20 v31 X10 X13 X11 X12 k).2.2 (rowB (by decide) X10 256 k) (rowB (by decide) X13 256 k) (ix2 0 q) : EReal) = _
      pointwise [k0_pay152]
    · show (k0_pay155 v16 v20 v31 0#32 1#32 ⟨k, h⟩ (st4 v16 v20 v31 X10 X13 X11 X12 k).2.1 (st4 v16 v20 v31 X10 X13 X11 X12 k).2.2 (rowB (by decide) X10 256 k) (rowB (by decide) X13 256 k) (ix2 0 q) : EReal) = _
      pointwise [k0_pay155, k0_pay153, k0_pay154]
      rfl
    · show (k0_pay170 (st4 v16 v20 v31 X10 X13 X11 X12 k).1 (k0_pay153 v16 v20 v31 0#32 1#32 ⟨k, h⟩ (st4 v16 v20 v31 X10 X13 X11 X12 k).2.2 (rowB (by decide) X10 256 k) (rowB (by decide) X13 256 k))
        (k0_pay154 v16 v20 v31 0#32 1#32 ⟨k, h⟩ (st4 v16 v20 v31 X10 X13 X11 X12 k).2.2 (rowB (by decide) X10 256 k) (rowB (by decide) X13 256 k))
        (k0_pay156 (colB (by decide) (by decide) X11 256 k)) (colB (by decide) (by decide) X12 256 k) (ix2 d q) : EReal) = _
      pointwise [k0_pay170, k0_pay153, k0_pay154, k0_pay156]
      rfl

/-! ## What a point stores -/

theorem oO_at {a b d : St Ideal} {q : Fin 256} {x₁ x₂ x₃ : ℕ → EReal} {v₁ v₂ v₃ : Fin 128 → ℕ → EReal} {N₁ N₂ N₃ : ℕ} (ha : Is a q x₁ v₁ N₁) (hb : Is b q x₂ v₂ N₂)
    (hd : Is d q x₃ v₃ N₃) (h₁ : 0 < N₁) (h₂ : 0 < N₂) (h₃ : 0 < N₃) (f : Fin 128) (S : EReal) (hS : S = max (max (X x₁ N₁) (X x₂ N₂)) (X x₃ N₃)) :
    (oO a b d (ix3 0 q f) : EReal) = (U x₁ (v₁ f) N₁ S + U x₂ (v₂ f) N₂ S + U x₃ (v₃ f) N₃ S) * Ideal.div 1 (A x₁ N₁ S + A x₂ N₂ S + A x₃ N₃ S) := by
  obtain ⟨a1, a2, a3⟩ := ha
  obtain ⟨b1, b2, b3⟩ := hb
  obtain ⟨d1, d2, d3⟩ := hd
  rw [← out_eq (c := c0) x₁ x₂ x₃ (v₁ f) (v₂ f) (v₃ f) h₁ h₂ h₃ _ S _ rfl hS rfl]
  rw [← a3 f, ← b3 f, ← d3 f, ← a2, ← b2, ← d2, ← a1, ← b1, ← d1]
  pointwise [oO, k0_pay178, k0_pay177, k0_pay176, k0_pay175, k0_pay174, k0_pay173, k0_pay172, k0_pay171]
  rfl

theorem lse_at {a : St Ideal} {q : Fin 256} {x : ℕ → EReal} {v : Fin 128 → ℕ → EReal} {N : ℕ} (ha : Is a q x v N) (h : 0 < N) :
    (Named.named (F := Ideal) (φ := FTy.f32) Cert.KernelIdeal.κ "ln2" 1060205080#32 : EReal) * ((a.2.2 (ix2 0 q) : EReal) + Ideal.log (a.2.1 (ix2 0 q)) * (Named.named (F := Ideal) (φ := FTy.f32) Cert.KernelIdeal.κ "log2e" 1069066811#32 : EReal))
      = X x N * ((Real.log 2 : ℝ) : EReal) + Ideal.log (A x N (X x N)) := by
  obtain ⟨a1, a2, a3⟩ := ha
  rw [a1, a2]
  exact lse_eq x h

end Cert.KernelIdeal.Hyd
-- ==== Proof.Hyd.Score.lean ====
module

public import proofs.«01_k».proof.Proof.Hyd.Pass
public import Idealize.ShloMosaic.Lib.Pipeline.ValueKit

@[expose] public section

set_option maxRecDepth 16384
set_option maxHeartbeats 1000000

/-! The scores and weighted values the three passes run over, read off the blocks a point is given. -/

noncomputable section

namespace Cert.KernelIdeal.Hyd

open Cert.KernelIdeal Cert.KernelIdeal.Gen
open Idealize.ShloMosaic Idealize.ShloMosaic.TcCoe
open Cert.Soft

/-- The factor the kernel puts on every query's scale. -/
abbrev cc : EReal := Named.named (F := Ideal) (φ := FTy.f32) Cert.KernelIdeal.κ "scale_log2e" 1040356334#32

theorem p138 (v16 : FVec Ideal S256x128 .fp8e4m3) (v20 : FVec Ideal S1x256 .f32) (K : Vec Ideal S512x128 .fp8e4m3) (W : Vec Ideal S512x128 .f32) (j : Fin 512) (q : Fin 256) (w : EReal)
    (hW : ∀ l : Fin 128, (W (Idealize.ShloMosaic.ix2 j l) : EReal) = w) :
    (k0_pay138 v16 v20 K W (Idealize.ShloMosaic.ix2 j q) : EReal) = (∑ k : Fin 128, (K (Idealize.ShloMosaic.ix2 j k) : EReal) * (v16 (Idealize.ShloMosaic.ix2 q k) : EReal)) * w * (v20 (Idealize.ShloMosaic.ix2 0 q) : EReal) := by
  pointwise [k0_pay138]
  split <;> rw [hW]

theorem p144 (v16 : FVec Ideal S256x128 .fp8e4m3) (v20 : FVec Ideal S1x256 .f32) (K : Vec Ideal S128x128 .fp8e4m3) (W : Vec Ideal S128x128 .f32) (j : Fin 128) (q : Fin 256) (w : EReal)
    (hW : ∀ l : Fin 128, (W (Idealize.ShloMosaic.ix2 j l) : EReal) = w) :
    (k0_pay144 v16 v20 K W (Idealize.ShloMosaic.ix2 j q) : EReal) = (∑ k : Fin 128, (K (Idealize.ShloMosaic.ix2 j k) : EReal) * (v16 (Idealize.ShloMosaic.ix2 q k) : EReal)) * w * (v20 (Idealize.ShloMosaic.ix2 0 q) : EReal) := by
  pointwise [k0_pay144]
  split <;> rw [hW]

theorem p151 (v16 : FVec Ideal S256x128 .fp8e4m3) (v20 : FVec Ideal S1x256 .f32) (v31 : BitVec 32) (k : Fin k0_t4_loop.trips) (K : Vec Ideal S256x128 .fp8e4m3) (W : Vec Ideal S256x128 .f32) (j : Fin 256) (q : Fin 256) (w : EReal)
    (hW : ∀ l : Fin 128, (W (Idealize.ShloMosaic.ix2 j l) : EReal) = w) :
    (k0_pay151 v16 v20 v31 0#32 1#32 k K W (Idealize.ShloMosaic.ix2 j q) : EReal) = Scalar.select (IntOp.cmpi .sle (IntOp.addi (Scalar.muli (Scf.iv 0#32 1#32 ↑k) 256#32) (BitVec.ofNat 32 j)) (IntOp.addi v31 (BitVec.ofNat 32 q)))
      ((∑ k : Fin 128, (K (Idealize.ShloMosaic.ix2 j k) : EReal) * (v16 (Idealize.ShloMosaic.ix2 q k) : EReal)) * w * (v20 (Idealize.ShloMosaic.ix2 0 q) : EReal)) (⊥ : EReal) := by
  rw [← ninf_eq]
  pointwise [k0_pay151]
  split <;> rw [hW]

theorem p158 (X0 : Vec Ideal S1x1x256x128 .fp8e4m3) (q : Fin 256) (k : Fin 128) : (k0_pay158 X0 (Idealize.ShloMosaic.ix2 q k) : EReal) = X0 (Idealize.ShloMosaic.ix4 0 0 q k) := by
  pointwise [k0_pay158]

theorem p159 (X1 : Vec Ideal S1x1x1x256 .f32) (q : Fin 256) : (k0_pay159 X1 (Idealize.ShloMosaic.ix2 0 q) : EReal) = (X1 (Idealize.ShloMosaic.ix4 0 0 0 q) : EReal) * cc := by
  pointwise [k0_pay159]

/-- The prompt's scores of query `q`. -/
def xA (X0 : Vec Ideal S1x1x256x128 .fp8e4m3) (X1 : Vec Ideal S1x1x1x256 .f32) (X2 : Vec Ideal S1x32768x128 .fp8e4m3) (X5 : Vec Ideal S1x8x4096 .f32) (q : Fin 256) : ℕ → EReal := fun p =>
  k0_pay138 (k0_pay158 X0) (k0_pay159 X1) (kpB X2 (p / 512)) (kspB (kspOf X5) (p / 512)) (Idealize.ShloMosaic.ix2 ⟨p % 512, Nat.mod_lt _ (by decide)⟩ q)

/-- The prompt's scaled values. -/
def vA (X3 : Vec Ideal S1x128x32768 .fp8e4m3) (X4 : Vec Ideal S1x1x32768 .bf16) (d : Fin 128) : ℕ → EReal := fun p =>
  (vtpB X3 (p / 512) (Idealize.ShloMosaic.ix2 d ⟨p % 512, Nat.mod_lt _ (by decide)⟩) : EReal) * (vspB X4 (p / 512) (Idealize.ShloMosaic.ix2 0 ⟨p % 512, Nat.mod_lt _ (by decide)⟩) : EReal)

theorem quo (n k : ℕ) (j : Fin n) : (n * k + j.val) / n = k := by
  have h := j.isLt
  rw [Nat.mul_add_div (by omega), Nat.div_eq_of_lt h, Nat.add_zero]

theorem rem (n k : ℕ) (j : Fin n) (hh : (n * k + j.val) % n < n) : (⟨(n * k + j.val) % n, hh⟩ : Fin n) = j := by
  apply Fin.ext
  show (n * k + j.val) % n = j.val
  rw [Nat.mul_add_mod, Nat.mod_eq_of_lt j.isLt]

theorem s2_is (X0 : Vec Ideal S1x1x256x128 .fp8e4m3) (X1 : Vec Ideal S1x1x1x256 .f32) (X2 : Vec Ideal S1x32768x128 .fp8e4m3) (X3 : Vec Ideal S1x128x32768 .fp8e4m3) (X4 : Vec Ideal S1x1x32768 .bf16) (X5 : Vec Ideal S1x8x4096 .f32) (q : Fin 256) :
    Is (s2 X0 X1 X2 X3 X4 X5) q (xA X0 X1 X2 X5 q) (vA X3 X4) 32768 :=
  st2_is _ _ X2 (kspOf X5) X3 X4 q _ _ (fun k j => by unfold xA; rw [quo, rem]) (fun k d j => by unfold vA; rw [quo, rem]) 64

theorem xA_at (X0 : Vec Ideal S1x1x256x128 .fp8e4m3) (X1 : Vec Ideal S1x1x1x256 .f32) (X2 : Vec Ideal S1x32768x128 .fp8e4m3) (X5 : Vec Ideal S1x8x4096 .f32) (q : Fin 256) (p : Fin 32768) :
    xA X0 X1 X2 X5 q p = (∑ k : Fin 128, (X2 (Idealize.ShloMosaic.ix3 0 p k) : EReal) * (X0 (Idealize.ShloMosaic.ix4 0 0 q k) : EReal)) * (X5 (Idealize.ShloMosaic.ix3 0 ⟨p.val % 8, by omega⟩ ⟨p.val / 8, by omega⟩) : EReal) * ((X1 (Idealize.ShloMosaic.ix4 0 0 0 q) : EReal) * cc) := by
  unfold xA
  rw [p138 _ _ _ _ _ _ (X5 (Idealize.ShloMosaic.ix3 0 ⟨p.val % 8, by omega⟩ ⟨p.val / 8, by omega⟩)), p159]
  · have e : ∀ k : Fin 128, (kpB X2 (p.val / 512) (Idealize.ShloMosaic.ix2 ⟨p.val % 512, Nat.mod_lt _ (by decide)⟩ k) : EReal) = X2 (Idealize.ShloMosaic.ix3 0 p k) := fun k =>
      pick_eq X2 _ _ (Idealize.ShloMosaic.ix3 0 p k) (fun a => match a with | ⟨0, _⟩ => rfl | ⟨1, _⟩ => (Nat.div_add_mod p.val 512).symm | ⟨2, _⟩ => rfl)
    simp only [e, p158]
  · intro l
    have h1 := pick_eq (kspOf (F := Ideal) X5) ![512 * (p.val / 512) + p.val % 512, l.val] (by decide) (Idealize.ShloMosaic.ix2 p l) (fun a => match a with | ⟨0, _⟩ => (Nat.div_add_mod p.val 512).symm | ⟨1, _⟩ => rfl)
    have h2 : kspOf (F := Ideal) X5 (Idealize.ShloMosaic.ix2 p l) = X5 (Idealize.ShloMosaic.ix3 0 ⟨p.val % 8, by omega⟩ ⟨p.val / 8, by omega⟩) :=
      congrArg X5 (funext fun a => match a with | ⟨0, _⟩ => rfl | ⟨1, _⟩ => rfl | ⟨2, _⟩ => rfl)
    exact h1.trans h2

theorem vA_at (X3 : Vec Ideal S1x128x32768 .fp8e4m3) (X4 : Vec Ideal S1x1x32768 .bf16) (d : Fin 128) (p : Fin 32768) :
    vA X3 X4 d p = (X3 (Idealize.ShloMosaic.ix3 0 d p) : EReal) * (X4 (Idealize.ShloMosaic.ix3 0 0 p) : EReal) := by
  unfold vA
  exact congrArg₂ (fun x y : EReal => x * y)
    (pick_eq X3 _ _ (Idealize.ShloMosaic.ix3 0 d p) (fun a => match a with | ⟨0, _⟩ => rfl | ⟨1, _⟩ => rfl | ⟨2, _⟩ => (Nat.div_add_mod p.val 512).symm))
    (pick_eq X4 _ _ (Idealize.ShloMosaic.ix3 0 0 p) (fun a => match a with | ⟨0, _⟩ => rfl | ⟨1, _⟩ => rfl | ⟨2, _⟩ => (Nat.div_add_mod p.val 512).symm))

/-- The scaled values of the middle segment. -/
def vB (XV : Vec Ideal S1x1x128x384 .fp8e4m3) (XW : Vec Ideal S1x1x1x384 .bf16) (d : Fin 128) : ℕ → EReal := fun p =>
  (colB (by decide) (by decide) XV 128 (p / 128) (Idealize.ShloMosaic.ix2 d ⟨p % 128, Nat.mod_lt _ (by decide)⟩) : EReal) * (colB (by decide) (by decide) XW 128 (p / 128) (Idealize.ShloMosaic.ix2 0 ⟨p % 128, Nat.mod_lt _ (by decide)⟩) : EReal)

theorem vB_at (XV : Vec Ideal S1x1x128x384 .fp8e4m3) (XW : Vec Ideal S1x1x1x384 .bf16) (d : Fin 128) (p : Fin 384) : vB XV XW d p = (XV (Idealize.ShloMosaic.ix4 0 0 d p) : EReal) * (XW (Idealize.ShloMosaic.ix4 0 0 0 p) : EReal) := by
  unfold vB
  exact congrArg₂ (fun x y : EReal => x * y)
    (pick_eq XV _ _ (Idealize.ShloMosaic.ix4 0 0 d p) (fun a => match a with | ⟨0, _⟩ => rfl | ⟨1, _⟩ => rfl | ⟨2, _⟩ => rfl | ⟨3, _⟩ => (Nat.div_add_mod p.val 128).symm))
    (pick_eq XW _ _ (Idealize.ShloMosaic.ix4 0 0 0 p) (fun a => match a with | ⟨0, _⟩ => rfl | ⟨1, _⟩ => rfl | ⟨2, _⟩ => rfl | ⟨3, _⟩ => (Nat.div_add_mod p.val 128).symm))

theorem rowB_at_B {α : Type} {h : 0 < 384} (X : (⟨4, ![1, 1, 384, 128]⟩ : Shape).Idx → α) (p : Fin 384) (k : Fin 128) : rowB h X 128 (p.val / 128) (Idealize.ShloMosaic.ix2 ⟨p.val % 128, Nat.mod_lt _ (by decide)⟩ k) = X (Idealize.ShloMosaic.ix4 0 0 p k) :=
  pick_eq X _ _ (Idealize.ShloMosaic.ix4 0 0 p k) (fun a => match a with | ⟨0, _⟩ => rfl | ⟨1, _⟩ => rfl | ⟨2, _⟩ => (Nat.div_add_mod p.val 128).symm | ⟨3, _⟩ => rfl)

/-- The scaled values of the own keys. -/
def vC (XV : Vec Ideal S1x1x128x512 .fp8e4m3) (XW : Vec Ideal S1x1x1x512 .bf16) (d : Fin 128) : ℕ → EReal := fun p =>
  (colB (by decide) (by decide) XV 256 (p / 256) (Idealize.ShloMosaic.ix2 d ⟨p % 256, Nat.mod_lt _ (by decide)⟩) : EReal) * (colB (by decide) (by decide) XW 256 (p / 256) (Idealize.ShloMosaic.ix2 0 ⟨p % 256, Nat.mod_lt _ (by decide)⟩) : EReal)

theorem vC_at (XV : Vec Ideal S1x1x128x512 .fp8e4m3) (XW : Vec Ideal S1x1x1x512 .bf16) (d : Fin 128) (p : Fin 512) : vC XV XW d p = (XV (Idealize.ShloMosaic.ix4 0 0 d p) : EReal) * (XW (Idealize.ShloMosaic.ix4 0 0 0 p) : EReal) := by
  unfold vC
  exact congrArg₂ (fun x y : EReal => x * y)
    (pick_eq XV _ _ (Idealize.ShloMosaic.ix4 0 0 d p) (fun a => match a with | ⟨0, _⟩ => rfl | ⟨1, _⟩ => rfl | ⟨2, _⟩ => rfl | ⟨3, _⟩ => (Nat.div_add_mod p.val 256).symm))
    (pick_eq XW _ _ (Idealize.ShloMosaic.ix4 0 0 0 p) (fun a => match a with | ⟨0, _⟩ => rfl | ⟨1, _⟩ => rfl | ⟨2, _⟩ => rfl | ⟨3, _⟩ => (Nat.div_add_mod p.val 256).symm))

theorem rowB_at_C {α : Type} {h : 0 < 512} (X : (⟨4, ![1, 1, 512, 128]⟩ : Shape).Idx → α) (p : Fin 512) (k : Fin 128) : rowB h X 256 (p.val / 256) (Idealize.ShloMosaic.ix2 ⟨p.val % 256, Nat.mod_lt _ (by decide)⟩ k) = X (Idealize.ShloMosaic.ix4 0 0 p k) :=
  pick_eq X _ _ (Idealize.ShloMosaic.ix4 0 0 p k) (fun a => match a with | ⟨0, _⟩ => rfl | ⟨1, _⟩ => rfl | ⟨2, _⟩ => (Nat.div_add_mod p.val 256).symm | ⟨3, _⟩ => rfl)

/-- The middle segment's scores of query `q`. -/
def xB (X0 : Vec Ideal S1x1x256x128 .fp8e4m3) (X1 : Vec Ideal S1x1x1x256 .f32) (XK : Vec Ideal S1x1x384x128 .fp8e4m3) (XS : Vec Ideal S1x1x384x128 .f32) (q : Fin 256) : ℕ → EReal := fun p =>
  k0_pay144 (k0_pay158 X0) (k0_pay159 X1) (rowB (by decide) XK 128 (p / 128)) (rowB (by decide) XS 128 (p / 128)) (Idealize.ShloMosaic.ix2 ⟨p % 128, Nat.mod_lt _ (by decide)⟩ q)

theorem s3_is (X0 : Vec Ideal S1x1x256x128 .fp8e4m3) (X1 : Vec Ideal S1x1x1x256 .f32) (XK : Vec Ideal S1x1x384x128 .fp8e4m3) (XS : Vec Ideal S1x1x384x128 .f32) (XV : Vec Ideal S1x1x128x384 .fp8e4m3) (XW : Vec Ideal S1x1x1x384 .bf16) (q : Fin 256) : Is (s3 X0 X1 XK XV XW XS) q (xB X0 X1 XK XS q) (vB XV XW) 384 :=
  st3_is _ _ XK XS XV XW q _ _ (fun k j => by unfold xB; rw [quo, rem]) (fun k d j => by unfold vB; rw [quo, rem]) 3

theorem xB_at (X0 : Vec Ideal S1x1x256x128 .fp8e4m3) (X1 : Vec Ideal S1x1x1x256 .f32) (XK : Vec Ideal S1x1x384x128 .fp8e4m3) (XS : Vec Ideal S1x1x384x128 .f32) (q : Fin 256) (p : Fin 384) (w : EReal) (hW : ∀ l : Fin 128, (XS (Idealize.ShloMosaic.ix4 0 0 p l) : EReal) = w) :
    xB X0 X1 XK XS q p = (∑ k : Fin 128, (XK (Idealize.ShloMosaic.ix4 0 0 p k) : EReal) * (X0 (Idealize.ShloMosaic.ix4 0 0 q k) : EReal)) * w * ((X1 (Idealize.ShloMosaic.ix4 0 0 0 q) : EReal) * cc) := by
  unfold xB
  rw [p144 _ _ _ _ _ _ w (fun l => (rowB_at_B XS p l).trans (hW l)), p159]
  have e : ∀ k : Fin 128, (rowB (by decide) XK 128 (p.val / 128) (Idealize.ShloMosaic.ix2 ⟨p.val % 128, Nat.mod_lt _ (by decide)⟩ k) : EReal) = XK (Idealize.ShloMosaic.ix4 0 0 p k) := fun k => rowB_at_B XK p k
  simp only [e, p158]

/-- The own keys' scores of query `q`, past keys only. -/
def xC (v31 : BitVec 32) (X0 : Vec Ideal S1x1x256x128 .fp8e4m3) (X1 : Vec Ideal S1x1x1x256 .f32) (XK : Vec Ideal S1x1x512x128 .fp8e4m3) (XS : Vec Ideal S1x1x512x128 .f32) (q : Fin 256) : ℕ → EReal := fun p =>
  if h : p / 256 < k0_t4_loop.trips then
    k0_pay151 (k0_pay158 X0) (k0_pay159 X1) v31 0#32 1#32 ⟨p / 256, h⟩ (rowB (by decide) XK 256 (p / 256)) (rowB (by decide) XS 256 (p / 256)) (Idealize.ShloMosaic.ix2 ⟨p % 256, Nat.mod_lt _ (by decide)⟩ q)
  else 0

theorem trips2 : k0_t4_loop.trips = 2 := by decide

theorem s4_is (i : grid0.Coords) (X0 : Vec Ideal S1x1x256x128 .fp8e4m3) (X1 : Vec Ideal S1x1x1x256 .f32) (XK : Vec Ideal S1x1x512x128 .fp8e4m3) (XS : Vec Ideal S1x1x512x128 .f32) (XV : Vec Ideal S1x1x128x512 .fp8e4m3) (XW : Vec Ideal S1x1x1x512 .bf16) (q : Fin 256) : Is (s4 i X0 X1 XK XV XW XS) q (xC (Scalar.muli (par i) 256#32) X0 X1 XK XS q) (vC XV XW) 512 :=
  st4_is _ _ _ XK XS XV XW q _ _ (fun k j => by
    unfold xC
    have e := quo 256 k.val j
    rw [dif_pos (e.symm ▸ k.isLt)]
    simp only [e, rem]) (fun k d j => by unfold vC; rw [quo, rem]) 2 (le_of_eq trips2.symm)

theorem xC_at (v31 : BitVec 32) (X0 : Vec Ideal S1x1x256x128 .fp8e4m3) (X1 : Vec Ideal S1x1x1x256 .f32) (XK : Vec Ideal S1x1x512x128 .fp8e4m3) (XS : Vec Ideal S1x1x512x128 .f32) (q : Fin 256) (p : Fin 512) (s : Fin 512) (hs : v31 = BitVec.ofNat 32 (s.val - q.val)) (hq : q.val ≤ s.val) (w : EReal) (hW : ∀ l : Fin 128, (XS (Idealize.ShloMosaic.ix4 0 0 p l) : EReal) = w) :
    xC v31 X0 X1 XK XS q p = Scalar.select (IntOp.cmpi .sle (BitVec.ofNat 32 p) (BitVec.ofNat 32 s)) ((∑ k : Fin 128, (XK (Idealize.ShloMosaic.ix4 0 0 p k) : EReal) * (X0 (Idealize.ShloMosaic.ix4 0 0 q k) : EReal)) * w * ((X1 (Idealize.ShloMosaic.ix4 0 0 0 q) : EReal) * cc)) (⊥ : EReal) := by
  have hl := p.isLt
  have hsl := s.isLt
  unfold xC
  rw [dif_pos (by rw [trips2]; omega), p151 _ _ _ _ _ _ _ _ w (fun l => (rowB_at_C XS p l).trans (hW l)), p159]
  have e : ∀ k : Fin 128, (rowB (by decide) XK 256 (p.val / 256) (Idealize.ShloMosaic.ix2 ⟨p.val % 256, Nat.mod_lt _ (by decide)⟩ k) : EReal) = XK (Idealize.ShloMosaic.ix4 0 0 p k) := fun k => rowB_at_C XK p k
  simp only [e, p158]
  have e1 : IntOp.addi v31 (BitVec.ofNat 32 q.val) = BitVec.ofNat 32 s.val := by
    rw [hs]
    show BitVec.ofNat 32 (s.val - q.val) + BitVec.ofNat 32 q.val = _
    rw [← BitVec.ofNat_add, Nat.sub_add_cancel hq]
  have e2 : IntOp.addi (Scalar.muli (Scf.iv 0#32 1#32 (p.val / 256)) 256#32) (BitVec.ofNat 32 (p.val % 256)) = BitVec.ofNat 32 p.val := by
    have k2 : p.val / 256 = 0 ∨ p.val / 256 = 1 := by omega
    apply BitVec.eq_of_toNat_eq
    rcases k2 with k2 | k2 <;> rw [k2]
    · show ((0#32 + 0#32 * 1#32) * 256#32 + BitVec.ofNat 32 (p.val % 256)).toNat = _
      simp only [BitVec.toNat_add, BitVec.toNat_mul, BitVec.toNat_ofNat]
      omega
    · show ((0#32 + 1#32 * 1#32) * 256#32 + BitVec.ofNat 32 (p.val % 256)).toNat = _
      simp only [BitVec.toNat_add, BitVec.toNat_mul, BitVec.toNat_ofNat]
      omega
  rw [e1, e2]

end Cert.KernelIdeal.Hyd
-- ==== Proof.Hyd.Comb.lean ====
module

public import proofs.«01_k».proof.Proof.Hyd.Score

@[expose] public section

set_option maxRecDepth 16384
set_option maxHeartbeats 1000000

/-! Softmax over scores in natural units, from the sums over scores in units of log 2. -/

noncomputable section

namespace Cert.Soft

open Idealize.ShloMosaic
open Cert.KernelIdeal.Hyd (cc)

/-- The natural logarithm of two. -/
abbrev L : EReal := ((Real.log 2 : ℝ) : EReal)

variable {n : ℕ} (σ : Fin n → EReal) (x v : ℕ → EReal)

theorem gmax (h : ∀ j, σ j = x j.val * L) : Finset.univ.fold max ⊥ σ = X x n * L := by
  rw [show σ = fun j => x j.val * L from funext h]
  exact fold_mul x n

theorem gexp (h : ∀ j, σ j = x j.val * L) (S : EReal) : (∑ k, Ideal.exp (σ k - S * L)) = A x n S := by
  unfold A
  rw [Finset.sum_range]
  exact Finset.sum_congr rfl fun k _ => by rw [h, exp_eq]

theorem gU (h : ∀ j, σ j = x j.val * L) (a b : Fin n → EReal) (hv : ∀ k, v k.val = a k * b k) (S : EReal) :
    (∑ k, a k * (Ideal.exp (σ k - S * L) * b k)) = U x v n S := by
  unfold U
  rw [Finset.sum_range]
  exact Finset.sum_congr rfl fun k _ => by rw [h, exp_eq, hv, mul_assoc, mul_comm (b k)]

theorem glse (h : ∀ j, σ j = x j.val * L) :
    Finset.univ.fold max ⊥ σ + Ideal.log (∑ k, Ideal.exp (σ k - Finset.univ.fold max ⊥ σ)) = X x n * L + Ideal.log (A x n (X x n)) := by
  rw [gmax σ x h, gexp σ x h]

theorem gmm (a b d : EReal) : max (max (a * L) (b * L)) (d * L) = max (max a b) d * L := by
  have hl : (0 : ℝ) < Real.log 2 := Real.log_pos (by norm_num)
  have hm : Monotone fun y : EReal => y * L := fun a b h => mul_le_mul_of_nonneg_right h (EReal.coe_nonneg.mpr hl.le)
  exact ((hm.map_max).trans (congrArg (fun z => max z (d * L)) (hm.map_max))).symm

theorem bits128 : Ideal.ofBits FTy.f32 1124073472#32 = ((128 : ℝ) : EReal) := by
  show Ideal.ieee 8 23 1124073472#32 = _
  unfold Ideal.ieee
  norm_num [BitVec.extractLsb', Nat.shiftRight_eq_div_pow]

theorem bits1 : Ideal.ofBits FTy.f32 1065353216#32 = (1 : EReal) := by
  show Ideal.ieee 8 23 1065353216#32 = _
  unfold Ideal.ieee
  norm_num [BitVec.extractLsb', Nat.shiftRight_eq_div_pow]

theorem bits384 : Ideal.ofBits FTy.f32 1136656384#32 = ((384 : ℝ) : EReal) := by
  show Ideal.ieee 8 23 1136656384#32 = _
  unfold Ideal.ieee
  norm_num [BitVec.extractLsb', Nat.shiftRight_eq_div_pow]

theorem bits32768 : Ideal.ofBits FTy.f32 1191182336#32 = ((32768 : ℝ) : EReal) := by
  show Ideal.ieee 8 23 1191182336#32 = _
  unfold Ideal.ieee
  norm_num [BitVec.extractLsb', Nat.shiftRight_eq_div_pow]

theorem cc_eq : cc = (((Real.sqrt 128)⁻¹ * (Real.log 2)⁻¹ : ℝ) : EReal) := rfl

/-- A score divided by the square root of the head's length, from the kernel's score. -/
theorem score (S y w : EReal) : Ideal.div (S * y * w) (Ideal.sqrt (Ideal.ofBits FTy.f32 1124073472#32)) = S * w * (y * cc) * L := by
  have hl : (0 : ℝ) < Real.log 2 := Real.log_pos (by norm_num)
  have hs : (0 : ℝ) < Real.sqrt 128 := Real.sqrt_pos.mpr (by norm_num)
  have e : cc * L = (((1 / Real.sqrt 128 : ℝ)) : EReal) := by
    rw [cc_eq, ← EReal.coe_mul]
    congr 1
    field_simp
  rw [bits128, Ideal.sqrt_coe, if_neg (by norm_num), Ideal.div_coe hs.ne', ← e]
  generalize cc = k
  generalize L = l
  ac_rfl

end Cert.Soft
-- ==== Proof.Hyd.RefSoft.lean ====
module

public import proofs.«01_k».proof.Proof.Gen.ReferenceIdeal.Read
public import Idealize.ShloMosaic.Lib.Pointwise

@[expose] public section

set_option maxRecDepth 16384
set_option maxHeartbeats 600000

/-! What the reference's operations hold at an index. -/

noncomputable section

namespace Cert.ReferenceIdeal.Hyd

open Cert.ReferenceIdeal Cert.ReferenceIdeal.Gen Cert.ReferenceIdeal.Read
open Idealize.ShloMosaic Idealize.ShloMosaic.TcCoe

variable (x1 : (⟨S4x512x40, .f32⟩ : BufTy).Contents (Elt Ideal)) (x4 x5 : (⟨S32768x8, .f32⟩ : BufTy).Contents (Elt Ideal)) (x8 x9 : (⟨S4x512x8, .f32⟩ : BufTy).Contents (Elt Ideal)) (x12 x13 : (⟨S3x384x8, .f32⟩ : BufTy).Contents (Elt Ideal)) (x14 : (⟨S4, .i32⟩ : BufTy).Contents (Elt Ideal)) (r0 : (⟨S4x512x40x128, .f32⟩ : BufTy).Contents (Elt Ideal)) (r1 r2 : (⟨S32768x8x128, .f32⟩ : BufTy).Contents (Elt Ideal)) (r3 r4 : (⟨S4x512x8x128, .f32⟩ : BufTy).Contents (Elt Ideal)) (r5 r6 : (⟨S3x384x8x128, .f32⟩ : BufTy).Contents (Elt Ideal))

theorem hexp (x : EReal) : (FloatOps.hostUnary (F := Ideal) (φ := FTy.f32) .exp x : EReal) = Ideal.exp x := rfl
theorem hlog (x : EReal) : (FloatOps.hostUnary (F := Ideal) (φ := FTy.f32) .log x : EReal) = Ideal.log x := rfl
theorem hsub (x y : EReal) : (FloatOps.subf (F := Ideal) (φ := FTy.f32) x y : EReal) = x - y := rfl
theorem hadd (x y : EReal) : (FloatOps.addf (F := Ideal) (φ := FTy.f32) x y : EReal) = x + y := rfl
theorem hmax (x y : EReal) : (FloatOps.maximumf (F := Ideal) (φ := FTy.f32) x y : EReal) = max x y := rfl
theorem ofBninf : Ideal.ofBits FTy.f32 4286578688#32 = (⊥ : EReal) := by
  show Ideal.ieee 8 23 4286578688#32 = _
  unfold Ideal.ieee
  dsimp only
  rw [if_pos (by decide), if_pos (by decide), if_pos (by decide)]

theorem ofB0 : Ideal.ofBits FTy.f32 0#32 = (0 : EReal) := Ideal.ofBits_zero _

theorem v73_at (b : Fin 4) (s : Fin 512) (h : Fin 8) (g : Fin 5) : val_main_v73 (F := Ideal) x1 x4 r0 r1 (Idealize.ShloMosaic.ix4 b s h g) = Finset.univ.fold max (⊥ : EReal) (fun k : Fin 32768 => val_main_v44 (F := Ideal) x1 x4 r0 r1 (Idealize.ShloMosaic.ix5 b s h g k)) := by
  unfold val_main_v73 val_main_cst_8
  generalize val_main_v44 (F := Ideal) x1 x4 r0 r1 = X
  rw [← ofBninf]
  pointwise

theorem v80_at (b : Fin 4) (s : Fin 512) (h : Fin 8) (g : Fin 5) : val_main_v80 (F := Ideal) x1 x4 r0 r1 (Idealize.ShloMosaic.ix4 b s h g) = val_main_v73 (F := Ideal) x1 x4 r0 r1 (Idealize.ShloMosaic.ix4 b s h g) + Ideal.log (∑ k : Fin 32768, Ideal.exp (val_main_v44 (F := Ideal) x1 x4 r0 r1 (Idealize.ShloMosaic.ix5 b s h g k) - val_main_v73 (F := Ideal) x1 x4 r0 r1 (Idealize.ShloMosaic.ix4 b s h g))) := by
  rw [val_main_v80_apply, val_main_v79_apply, val_main_v78_apply, show val_main_cst_9 (F := Ideal) (Shape.Idx.first h_S_) = (0 : EReal) from ofB0, zero_add]
  refine (hadd _ _).trans (congrArg (fun z : EReal => val_main_v73 (F := Ideal) x1 x4 r0 r1 (Idealize.ShloMosaic.ix4 b s h g) + z) ((hlog _).trans (congrArg Ideal.log (Finset.sum_congr rfl fun k _ => ?_))))
  rw [val_main_v77_apply, val_main_v76_apply, val_main_v75_apply, val_main_v74_apply, show idx_main_v78 (Idealize.ShloMosaic.ix4 b s h g) k = (Idealize.ShloMosaic.ix5 b s h g k) from funext fun a => match a with | ⟨0, _⟩ => rfl | ⟨1, _⟩ => rfl | ⟨2, _⟩ => rfl | ⟨3, _⟩ => rfl | ⟨4, _⟩ => rfl,
    show idx_main_v74 (idx_main_v75 (Idealize.ShloMosaic.ix5 b s h g k)) = (Idealize.ShloMosaic.ix4 b s h g) from funext fun a => match a with | ⟨0, _⟩ => rfl | ⟨1, _⟩ => rfl | ⟨2, _⟩ => rfl | ⟨3, _⟩ => rfl]
  exact (hexp _).trans (congrArg Ideal.exp (hsub _ _))

theorem v102_at (b : Fin 4) (s : Fin 512) (h : Fin 8) (g : Fin 5) (k : Fin 32768) : val_main_v102 (F := Ideal) x1 x4 x8 x12 x14 r0 r1 r3 r5 (Idealize.ShloMosaic.ix5 b s h g k) = Ideal.exp (val_main_v44 (F := Ideal) x1 x4 r0 r1 (Idealize.ShloMosaic.ix5 b s h g k) - val_main_v98 (F := Ideal) x1 x4 x8 x12 x14 r0 r1 r3 r5 (Idealize.ShloMosaic.ix4 b s h g)) := by
  rw [val_main_v102_apply, val_main_v101_apply, val_main_v100_apply, val_main_v99_apply,
    show idx_main_v99 (idx_main_v100 (Idealize.ShloMosaic.ix5 b s h g k)) = (Idealize.ShloMosaic.ix4 b s h g) from funext fun a => match a with | ⟨0, _⟩ => rfl | ⟨1, _⟩ => rfl | ⟨2, _⟩ => rfl | ⟨3, _⟩ => rfl]
  exact (hexp _).trans (congrArg Ideal.exp (hsub _ _))

theorem v109_at (b : Fin 4) (s : Fin 512) (h : Fin 8) (g : Fin 5) : val_main_v109 (F := Ideal) x1 x4 x8 x12 x14 r0 r1 r3 r5 (Idealize.ShloMosaic.ix4 b s h g) = ∑ k : Fin 32768, val_main_v102 (F := Ideal) x1 x4 x8 x12 x14 r0 r1 r3 r5 (Idealize.ShloMosaic.ix5 b s h g k) := by
  rw [val_main_v109_apply, show val_main_cst_14 (F := Ideal) (Shape.Idx.first h_S_) = (0 : EReal) from ofB0, zero_add]
  refine Finset.sum_congr rfl fun k _ => ?_
  rw [show idx_main_v109 (Idealize.ShloMosaic.ix4 b s h g) k = (Idealize.ShloMosaic.ix5 b s h g k) from funext fun a => match a with | ⟨0, _⟩ => rfl | ⟨1, _⟩ => rfl | ⟨2, _⟩ => rfl | ⟨3, _⟩ => rfl | ⟨4, _⟩ => rfl]

theorem v81_at (b : Fin 4) (s : Fin 512) (h : Fin 8) (g : Fin 5) : val_main_v81 (F := Ideal) x1 x12 x14 r0 r5 (Idealize.ShloMosaic.ix4 b s h g) = Finset.univ.fold max (⊥ : EReal) (fun k : Fin 384 => val_main_v54 (F := Ideal) x1 x12 x14 r0 r5 (Idealize.ShloMosaic.ix5 b s h g k)) := by
  unfold val_main_v81 val_main_cst_10
  generalize val_main_v54 (F := Ideal) x1 x12 x14 r0 r5 = X
  rw [← ofBninf]
  pointwise

theorem v88_at (b : Fin 4) (s : Fin 512) (h : Fin 8) (g : Fin 5) : val_main_v88 (F := Ideal) x1 x12 x14 r0 r5 (Idealize.ShloMosaic.ix4 b s h g) = val_main_v81 (F := Ideal) x1 x12 x14 r0 r5 (Idealize.ShloMosaic.ix4 b s h g) + Ideal.log (∑ k : Fin 384, Ideal.exp (val_main_v54 (F := Ideal) x1 x12 x14 r0 r5 (Idealize.ShloMosaic.ix5 b s h g k) - val_main_v81 (F := Ideal) x1 x12 x14 r0 r5 (Idealize.ShloMosaic.ix4 b s h g))) := by
  rw [val_main_v88_apply, val_main_v87_apply, val_main_v86_apply, show val_main_cst_11 (F := Ideal) (Shape.Idx.first h_S_) = (0 : EReal) from ofB0, zero_add]
  refine (hadd _ _).trans (congrArg (fun z : EReal => val_main_v81 (F := Ideal) x1 x12 x14 r0 r5 (Idealize.ShloMosaic.ix4 b s h g) + z) ((hlog _).trans (congrArg Ideal.log (Finset.sum_congr rfl fun k _ => ?_))))
  rw [val_main_v85_apply, val_main_v84_apply, val_main_v83_apply, val_main_v82_apply, show idx_main_v86 (Idealize.ShloMosaic.ix4 b s h g) k = (Idealize.ShloMosaic.ix5 b s h g k) from funext fun a => match a with | ⟨0, _⟩ => rfl | ⟨1, _⟩ => rfl | ⟨2, _⟩ => rfl | ⟨3, _⟩ => rfl | ⟨4, _⟩ => rfl,
    show idx_main_v82 (idx_main_v83 (Idealize.ShloMosaic.ix5 b s h g k)) = (Idealize.ShloMosaic.ix4 b s h g) from funext fun a => match a with | ⟨0, _⟩ => rfl | ⟨1, _⟩ => rfl | ⟨2, _⟩ => rfl | ⟨3, _⟩ => rfl]
  exact (hexp _).trans (congrArg Ideal.exp (hsub _ _))

theorem v105_at (b : Fin 4) (s : Fin 512) (h : Fin 8) (g : Fin 5) (k : Fin 384) : val_main_v105 (F := Ideal) x1 x4 x8 x12 x14 r0 r1 r3 r5 (Idealize.ShloMosaic.ix5 b s h g k) = Ideal.exp (val_main_v54 (F := Ideal) x1 x12 x14 r0 r5 (Idealize.ShloMosaic.ix5 b s h g k) - val_main_v98 (F := Ideal) x1 x4 x8 x12 x14 r0 r1 r3 r5 (Idealize.ShloMosaic.ix4 b s h g)) := by
  rw [val_main_v105_apply, val_main_v104_apply, val_main_v103_apply, val_main_v99_apply,
    show idx_main_v99 (idx_main_v103 (Idealize.ShloMosaic.ix5 b s h g k)) = (Idealize.ShloMosaic.ix4 b s h g) from funext fun a => match a with | ⟨0, _⟩ => rfl | ⟨1, _⟩ => rfl | ⟨2, _⟩ => rfl | ⟨3, _⟩ => rfl]
  exact (hexp _).trans (congrArg Ideal.exp (hsub _ _))

theorem v110_at (b : Fin 4) (s : Fin 512) (h : Fin 8) (g : Fin 5) : val_main_v110 (F := Ideal) x1 x4 x8 x12 x14 r0 r1 r3 r5 (Idealize.ShloMosaic.ix4 b s h g) = ∑ k : Fin 384, val_main_v105 (F := Ideal) x1 x4 x8 x12 x14 r0 r1 r3 r5 (Idealize.ShloMosaic.ix5 b s h g k) := by
  rw [val_main_v110_apply, show val_main_cst_15 (F := Ideal) (Shape.Idx.first h_S_) = (0 : EReal) from ofB0, zero_add]
  refine Finset.sum_congr rfl fun k _ => ?_
  rw [show idx_main_v110 (Idealize.ShloMosaic.ix4 b s h g) k = (Idealize.ShloMosaic.ix5 b s h g k) from funext fun a => match a with | ⟨0, _⟩ => rfl | ⟨1, _⟩ => rfl | ⟨2, _⟩ => rfl | ⟨3, _⟩ => rfl | ⟨4, _⟩ => rfl]

theorem v89_at (b : Fin 4) (s : Fin 512) (h : Fin 8) (g : Fin 5) : val_main_v89 (F := Ideal) x1 x8 r0 r3 (Idealize.ShloMosaic.ix4 b s h g) = Finset.univ.fold max (⊥ : EReal) (fun k : Fin 512 => val_main_v72 (F := Ideal) x1 x8 r0 r3 (Idealize.ShloMosaic.ix5 b s h g k)) := by
  unfold val_main_v89 val_main_cst_12
  generalize val_main_v72 (F := Ideal) x1 x8 r0 r3 = X
  rw [← ofBninf]
  pointwise

theorem v96_at (b : Fin 4) (s : Fin 512) (h : Fin 8) (g : Fin 5) : val_main_v96 (F := Ideal) x1 x8 r0 r3 (Idealize.ShloMosaic.ix4 b s h g) = val_main_v89 (F := Ideal) x1 x8 r0 r3 (Idealize.ShloMosaic.ix4 b s h g) + Ideal.log (∑ k : Fin 512, Ideal.exp (val_main_v72 (F := Ideal) x1 x8 r0 r3 (Idealize.ShloMosaic.ix5 b s h g k) - val_main_v89 (F := Ideal) x1 x8 r0 r3 (Idealize.ShloMosaic.ix4 b s h g))) := by
  rw [val_main_v96_apply, val_main_v95_apply, val_main_v94_apply, show val_main_cst_13 (F := Ideal) (Shape.Idx.first h_S_) = (0 : EReal) from ofB0, zero_add]
  refine (hadd _ _).trans (congrArg (fun z : EReal => val_main_v89 (F := Ideal) x1 x8 r0 r3 (Idealize.ShloMosaic.ix4 b s h g) + z) ((hlog _).trans (congrArg Ideal.log (Finset.sum_congr rfl fun k _ => ?_))))
  rw [val_main_v93_apply, val_main_v92_apply, val_main_v91_apply, val_main_v90_apply, show idx_main_v94 (Idealize.ShloMosaic.ix4 b s h g) k = (Idealize.ShloMosaic.ix5 b s h g k) from funext fun a => match a with | ⟨0, _⟩ => rfl | ⟨1, _⟩ => rfl | ⟨2, _⟩ => rfl | ⟨3, _⟩ => rfl | ⟨4, _⟩ => rfl,
    show idx_main_v90 (idx_main_v91 (Idealize.ShloMosaic.ix5 b s h g k)) = (Idealize.ShloMosaic.ix4 b s h g) from funext fun a => match a with | ⟨0, _⟩ => rfl | ⟨1, _⟩ => rfl | ⟨2, _⟩ => rfl | ⟨3, _⟩ => rfl]
  exact (hexp _).trans (congrArg Ideal.exp (hsub _ _))

theorem v108_at (b : Fin 4) (s : Fin 512) (h : Fin 8) (g : Fin 5) (k : Fin 512) : val_main_v108 (F := Ideal) x1 x4 x8 x12 x14 r0 r1 r3 r5 (Idealize.ShloMosaic.ix5 b s h g k) = Ideal.exp (val_main_v72 (F := Ideal) x1 x8 r0 r3 (Idealize.ShloMosaic.ix5 b s h g k) - val_main_v98 (F := Ideal) x1 x4 x8 x12 x14 r0 r1 r3 r5 (Idealize.ShloMosaic.ix4 b s h g)) := by
  rw [val_main_v108_apply, val_main_v107_apply, val_main_v106_apply, val_main_v99_apply,
    show idx_main_v99 (idx_main_v106 (Idealize.ShloMosaic.ix5 b s h g k)) = (Idealize.ShloMosaic.ix4 b s h g) from funext fun a => match a with | ⟨0, _⟩ => rfl | ⟨1, _⟩ => rfl | ⟨2, _⟩ => rfl | ⟨3, _⟩ => rfl]
  exact (hexp _).trans (congrArg Ideal.exp (hsub _ _))

theorem v112_at (b : Fin 4) (s : Fin 512) (h : Fin 8) (g : Fin 5) : val_main_v112 (F := Ideal) x1 x4 x8 x12 x14 r0 r1 r3 r5 (Idealize.ShloMosaic.ix4 b s h g) = ∑ k : Fin 512, val_main_v108 (F := Ideal) x1 x4 x8 x12 x14 r0 r1 r3 r5 (Idealize.ShloMosaic.ix5 b s h g k) := by
  rw [val_main_v112_apply, show val_main_cst_16 (F := Ideal) (Shape.Idx.first h_S_) = (0 : EReal) from ofB0, zero_add]
  refine Finset.sum_congr rfl fun k _ => ?_
  rw [show idx_main_v112 (Idealize.ShloMosaic.ix4 b s h g) k = (Idealize.ShloMosaic.ix5 b s h g k) from funext fun a => match a with | ⟨0, _⟩ => rfl | ⟨1, _⟩ => rfl | ⟨2, _⟩ => rfl | ⟨3, _⟩ => rfl | ⟨4, _⟩ => rfl]

theorem v98_at (b : Fin 4) (s : Fin 512) (h : Fin 8) (g : Fin 5) : val_main_v98 (F := Ideal) x1 x4 x8 x12 x14 r0 r1 r3 r5 (Idealize.ShloMosaic.ix4 b s h g) = max (max (val_main_v73 (F := Ideal) x1 x4 r0 r1 (Idealize.ShloMosaic.ix4 b s h g)) (val_main_v81 (F := Ideal) x1 x12 x14 r0 r5 (Idealize.ShloMosaic.ix4 b s h g))) (val_main_v89 (F := Ideal) x1 x8 r0 r3 (Idealize.ShloMosaic.ix4 b s h g)) := by
  rw [val_main_v98_apply, val_main_v97_apply]
  rfl

theorem v113_at (b : Fin 4) (s : Fin 512) (h : Fin 8) (g : Fin 5) : val_main_v113 (F := Ideal) x1 x4 x8 x12 x14 r0 r1 r3 r5 (Idealize.ShloMosaic.ix4 b s h g) = val_main_v109 (F := Ideal) x1 x4 x8 x12 x14 r0 r1 r3 r5 (Idealize.ShloMosaic.ix4 b s h g) + val_main_v110 (F := Ideal) x1 x4 x8 x12 x14 r0 r1 r3 r5 (Idealize.ShloMosaic.ix4 b s h g) + val_main_v112 (F := Ideal) x1 x4 x8 x12 x14 r0 r1 r3 r5 (Idealize.ShloMosaic.ix4 b s h g) := by
  rw [val_main_v113_apply, val_main_v111_apply]
  rfl

end Cert.ReferenceIdeal.Hyd
-- ==== Proof.Hyd.RefLse.lean ====
module

public import proofs.«01_k».proof.Proof.Gen.ReferenceIdeal.Read
public import Idealize.ShloMosaic.Lib.Pointwise

public import proofs.«01_k».proof.Proof.Hyd.RefSoft
public import Idealize.ShloMosaic.Lib.Pipeline.ValueKit

@[expose] public section

set_option maxRecDepth 16384
set_option maxHeartbeats 600000

/-! What the reference's operations hold at an index. -/

noncomputable section

namespace Cert.ReferenceIdeal.Hyd

open Cert.ReferenceIdeal Cert.ReferenceIdeal.Gen Cert.ReferenceIdeal.Read
open Idealize.ShloMosaic Idealize.ShloMosaic.TcCoe

variable (x1 : (⟨S4x512x40, .f32⟩ : BufTy).Contents (Elt Ideal)) (x4 x5 : (⟨S32768x8, .f32⟩ : BufTy).Contents (Elt Ideal)) (x8 x9 : (⟨S4x512x8, .f32⟩ : BufTy).Contents (Elt Ideal)) (x12 x13 : (⟨S3x384x8, .f32⟩ : BufTy).Contents (Elt Ideal)) (x14 : (⟨S4, .i32⟩ : BufTy).Contents (Elt Ideal)) (r0 : (⟨S4x512x40x128, .f32⟩ : BufTy).Contents (Elt Ideal)) (r1 r2 : (⟨S32768x8x128, .f32⟩ : BufTy).Contents (Elt Ideal)) (r3 r4 : (⟨S4x512x8x128, .f32⟩ : BufTy).Contents (Elt Ideal)) (r5 r6 : (⟨S3x384x8x128, .f32⟩ : BufTy).Contents (Elt Ideal))

theorem v155_at (b : Fin 4) (s : Fin 512) (f : Fin 40) : val_main_v155 (F := Ideal) x1 x4 r0 r1 (Idealize.ShloMosaic.ix4 b f 0 s) = val_main_v80 (F := Ideal) x1 x4 r0 r1 (Idealize.ShloMosaic.ix4 b s ⟨f.val / 5, by omega⟩ ⟨f.val % 5, by omega⟩) - Ideal.log (Ideal.ofBits FTy.f32 1191182336#32) := by
  rw [val_main_v155_apply, val_main_v154_apply, val_main_v153_apply, val_main_v152_apply, val_main_v151_apply, val_main_v150_apply,
    show idx_main_v153 (idx_main_v154 (idx_main_v155 (Idealize.ShloMosaic.ix4 b f 0 s))) = (Idealize.ShloMosaic.ix4 b s ⟨f.val / 5, by omega⟩ ⟨f.val % 5, by omega⟩) from funext fun a => Fin.ext (match a with | ⟨0, _⟩ => by (show ((b.val * 512 + s.val) * 40 + f.val) / 20480 = b.val; omega) | ⟨1, _⟩ => by (show ((b.val * 512 + s.val) * 40 + f.val) / 40 % 512 = s.val; omega) | ⟨2, _⟩ => by (show ((b.val * 512 + s.val) * 40 + f.val) / 5 % 8 = f.val / 5; omega) | ⟨3, _⟩ => by (show ((b.val * 512 + s.val) * 40 + f.val) % 5 = f.val % 5; omega))]
  exact hsub _ _

theorem v167_at (b : Fin 4) (s : Fin 512) (f : Fin 40) : val_main_v167 (F := Ideal) x1 x12 x14 r0 r5 (Idealize.ShloMosaic.ix4 b f 0 s) = val_main_v88 (F := Ideal) x1 x12 x14 r0 r5 (Idealize.ShloMosaic.ix4 b s ⟨f.val / 5, by omega⟩ ⟨f.val % 5, by omega⟩) - Ideal.log (Ideal.ofBits FTy.f32 1136656384#32) := by
  rw [val_main_v167_apply, val_main_v166_apply, val_main_v165_apply, val_main_v164_apply, val_main_v163_apply, val_main_v162_apply,
    show idx_main_v165 (idx_main_v166 (idx_main_v167 (Idealize.ShloMosaic.ix4 b f 0 s))) = (Idealize.ShloMosaic.ix4 b s ⟨f.val / 5, by omega⟩ ⟨f.val % 5, by omega⟩) from funext fun a => Fin.ext (match a with | ⟨0, _⟩ => by (show ((b.val * 512 + s.val) * 40 + f.val) / 20480 = b.val; omega) | ⟨1, _⟩ => by (show ((b.val * 512 + s.val) * 40 + f.val) / 40 % 512 = s.val; omega) | ⟨2, _⟩ => by (show ((b.val * 512 + s.val) * 40 + f.val) / 5 % 8 = f.val / 5; omega) | ⟨3, _⟩ => by (show ((b.val * 512 + s.val) * 40 + f.val) % 5 = f.val % 5; omega))]
  exact hsub _ _

theorem v161_at (b : Fin 4) (s : Fin 512) (f : Fin 40) : val_main_v161 (F := Ideal) x1 x8 r0 r3 (Idealize.ShloMosaic.ix4 b f 0 s) = val_main_v96 (F := Ideal) x1 x8 r0 r3 (Idealize.ShloMosaic.ix4 b s ⟨f.val / 5, by omega⟩ ⟨f.val % 5, by omega⟩) - Ideal.log (FloatOps.sitofp (F := Ideal) FTy.f32 (IntOp.addi 1#32 (BitVec.ofNat 32 s))) := by
  rw [val_main_v161_apply, val_main_v160_apply, val_main_v159_apply, val_main_v158_apply, val_main_v157_apply, val_main_v156_apply, val_main_v149_apply, val_main_v148_apply, val_main_v147_apply, val_main_v146_apply, val_main_v145_apply,
    show idx_main_v159 (idx_main_v160 (idx_main_v161 (Idealize.ShloMosaic.ix4 b f 0 s))) = (Idealize.ShloMosaic.ix4 b s ⟨f.val / 5, by omega⟩ ⟨f.val % 5, by omega⟩) from funext fun a => Fin.ext (match a with | ⟨0, _⟩ => by (show ((b.val * 512 + s.val) * 40 + f.val) / 20480 = b.val; omega) | ⟨1, _⟩ => by (show ((b.val * 512 + s.val) * 40 + f.val) / 40 % 512 = s.val; omega) | ⟨2, _⟩ => by (show ((b.val * 512 + s.val) * 40 + f.val) / 5 % 8 = f.val / 5; omega) | ⟨3, _⟩ => by (show ((b.val * 512 + s.val) * 40 + f.val) % 5 = f.val % 5; omega))]
  exact hsub _ _

end Cert.ReferenceIdeal.Hyd
-- ==== Proof.Hyd.RefDot.lean ====
module

public import proofs.«01_k».proof.Proof.Gen.ReferenceIdeal.Read
public import Idealize.ShloMosaic.Lib.Pointwise

@[expose] public section

set_option maxRecDepth 16384
set_option maxHeartbeats 600000

/-! What the reference's operations hold at an index. -/

noncomputable section

namespace Cert.ReferenceIdeal.Hyd

open Cert.ReferenceIdeal Cert.ReferenceIdeal.Gen Cert.ReferenceIdeal.Read
open Idealize.ShloMosaic Idealize.ShloMosaic.TcCoe

variable (x1 : (⟨S4x512x40, .f32⟩ : BufTy).Contents (Elt Ideal)) (x4 x5 : (⟨S32768x8, .f32⟩ : BufTy).Contents (Elt Ideal)) (x8 x9 : (⟨S4x512x8, .f32⟩ : BufTy).Contents (Elt Ideal)) (x12 x13 : (⟨S3x384x8, .f32⟩ : BufTy).Contents (Elt Ideal)) (x14 : (⟨S4, .i32⟩ : BufTy).Contents (Elt Ideal)) (r0 : (⟨S4x512x40x128, .f32⟩ : BufTy).Contents (Elt Ideal)) (r1 r2 : (⟨S32768x8x128, .f32⟩ : BufTy).Contents (Elt Ideal)) (r3 r4 : (⟨S4x512x8x128, .f32⟩ : BufTy).Contents (Elt Ideal)) (r5 r6 : (⟨S3x384x8x128, .f32⟩ : BufTy).Contents (Elt Ideal))

theorem v44_at (b : Fin 4) (s : Fin 512) (h : Fin 8) (g : Fin 5) (p : Fin 32768) : val_main_v44 (F := Ideal) x1 x4 r0 r1 (Idealize.ShloMosaic.ix5 b s h g p) = Ideal.div ((∑ k : Fin 128, r1 (Idealize.ShloMosaic.ix3 p h k) * r0 (Idealize.ShloMosaic.ix4 b s ⟨h.val * 5 + g.val, by omega⟩ k)) * x1 (Idealize.ShloMosaic.ix3 b s ⟨h.val * 5 + g.val, by omega⟩) * x4 (Idealize.ShloMosaic.ix2 p h)) (Ideal.sqrt (Ideal.ofBits FTy.f32 1124073472#32)) := by
  pointwise [val_main_v44, val_main_v43, val_main_v42, val_main_v41, val_main_v40, val_main_v39, val_main_v38, val_main_v37, val_main_v36, val_main_v33, val_main_v32, val_main_cst, val_main_v1, val_main_v2, val_main_v3]

theorem v54_at (b : Fin 4) (s : Fin 512) (h : Fin 8) (g : Fin 5) (p : Fin 384) : val_main_v54 (F := Ideal) x1 x12 x14 r0 r5 (Idealize.ShloMosaic.ix5 b s h g p) = Ideal.div ((∑ k : Fin 128, val_main_v10 (F := Ideal) x14 r5 (Idealize.ShloMosaic.ix4 b p h k) * r0 (Idealize.ShloMosaic.ix4 b s ⟨h.val * 5 + g.val, by omega⟩ k)) * x1 (Idealize.ShloMosaic.ix3 b s ⟨h.val * 5 + g.val, by omega⟩) * val_main_v24 (F := Ideal) x12 x14 (Idealize.ShloMosaic.ix3 b p h)) (Ideal.sqrt (Ideal.ofBits FTy.f32 1124073472#32)) := by
  simp only [val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v33, val_main_v32, val_main_cst, val_main_v1, val_main_v2, val_main_v3]
  generalize val_main_v10 (F := Ideal) x14 r5 = X
  generalize val_main_v24 (F := Ideal) x12 x14 = Y
  pointwise

theorem v64_at (b : Fin 4) (s : Fin 512) (h : Fin 8) (g : Fin 5) (p : Fin 512) : val_main_v64 (F := Ideal) x1 x8 r0 r3 (Idealize.ShloMosaic.ix5 b s h g p) = Ideal.div ((∑ k : Fin 128, r3 (Idealize.ShloMosaic.ix4 b p h k) * r0 (Idealize.ShloMosaic.ix4 b s ⟨h.val * 5 + g.val, by omega⟩ k)) * x1 (Idealize.ShloMosaic.ix3 b s ⟨h.val * 5 + g.val, by omega⟩) * x8 (Idealize.ShloMosaic.ix3 b p h)) (Ideal.sqrt (Ideal.ofBits FTy.f32 1124073472#32)) := by
  pointwise [val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v33, val_main_v32, val_main_cst, val_main_v1, val_main_v2, val_main_v3]

theorem v72_at (b : Fin 4) (s : Fin 512) (h : Fin 8) (g : Fin 5) (p : Fin 512) : val_main_v72 (F := Ideal) x1 x8 r0 r3 (Idealize.ShloMosaic.ix5 b s h g p) = Scalar.select (IntOp.cmpi .sle (BitVec.ofNat 32 p) (BitVec.ofNat 32 s)) (val_main_v64 (F := Ideal) x1 x8 r0 r3 (Idealize.ShloMosaic.ix5 b s h g p)) (Ideal.ofBits FTy.f32 4286578688#32) := by
  simp only [val_main_v72]
  generalize val_main_v64 (F := Ideal) x1 x8 r0 r3 = X
  pointwise [val_main_v71, val_main_v70, val_main_v69, val_main_v68, val_main_v67, val_main_v66, val_main_v65, val_main_call0_v2, val_main_call0_v1, val_main_call0_v0, val_main_cst_7]
  rfl

theorem v142_at (b : Fin 4) (s : Fin 512) (h : Fin 8) (g : Fin 5) (f : Fin 128) : val_main_v142 (F := Ideal) x1 x4 x5 x8 x9 x12 x13 x14 r0 r1 r2 r3 r4 r5 r6 (Idealize.ShloMosaic.ix5 b s h g f) =
    (∑ k : Fin 32768, r2 (Idealize.ShloMosaic.ix3 k h f) * (val_main_v102 (F := Ideal) x1 x4 x8 x12 x14 r0 r1 r3 r5 (Idealize.ShloMosaic.ix5 b s h g k) * x5 (Idealize.ShloMosaic.ix2 k h)) + ∑ k : Fin 384, val_main_v17 (F := Ideal) x14 r6 (Idealize.ShloMosaic.ix4 b k h f) * (val_main_v105 (F := Ideal) x1 x4 x8 x12 x14 r0 r1 r3 r5 (Idealize.ShloMosaic.ix5 b s h g k) * val_main_v31 (F := Ideal) x13 x14 (Idealize.ShloMosaic.ix3 b k h)) + ∑ k : Fin 512, r4 (Idealize.ShloMosaic.ix4 b k h f) * (val_main_v108 (F := Ideal) x1 x4 x8 x12 x14 r0 r1 r3 r5 (Idealize.ShloMosaic.ix5 b s h g k) * x9 (Idealize.ShloMosaic.ix3 b k h))) * Ideal.div (Ideal.ofBits FTy.f32 1065353216#32) (val_main_v113 (F := Ideal) x1 x4 x8 x12 x14 r0 r1 r3 r5 (Idealize.ShloMosaic.ix4 b s h g)) := by
  simp only [val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_cst_17, val_main_v34, val_main_v35]
  generalize val_main_v102 (F := Ideal) x1 x4 x8 x12 x14 r0 r1 r3 r5 = X
  generalize val_main_v105 (F := Ideal) x1 x4 x8 x12 x14 r0 r1 r3 r5 = Y
  generalize val_main_v108 (F := Ideal) x1 x4 x8 x12 x14 r0 r1 r3 r5 = Z
  generalize val_main_v113 (F := Ideal) x1 x4 x8 x12 x14 r0 r1 r3 r5 = T
  generalize val_main_v17 (F := Ideal) x14 r6 = A
  generalize val_main_v31 (F := Ideal) x13 x14 = B
  pointwise

theorem v144_at (b : Fin 4) (s : Fin 512) (f : Fin 5120) : val_main_v144 (F := Ideal) x1 x4 x5 x8 x9 x12 x13 x14 r0 r1 r2 r3 r4 r5 r6 (Idealize.ShloMosaic.ix3 b s f) = val_main_v142 (F := Ideal) x1 x4 x5 x8 x9 x12 x13 x14 r0 r1 r2 r3 r4 r5 r6 (Idealize.ShloMosaic.ix5 b s ⟨f.val / 640, by omega⟩ ⟨f.val / 128 % 5, by omega⟩ ⟨f.val % 128, by omega⟩) := by
  simp only [val_main_v144, val_main_v143]
  generalize val_main_v142 (F := Ideal) x1 x4 x5 x8 x9 x12 x13 x14 r0 r1 r2 r3 r4 r5 r6 = X
  pointwise

end Cert.ReferenceIdeal.Hyd
-- ==== Proof.Hyd.RefGather.lean ====
module

public import proofs.«01_k».proof.Proof.Gen.ReferenceIdeal.Read
public import Idealize.ShloMosaic.Lib.Pointwise

@[expose] public section

set_option maxRecDepth 16384
set_option maxHeartbeats 600000

/-! What the reference's operations hold at an index. -/

noncomputable section

namespace Cert.ReferenceIdeal.Hyd

open Cert.ReferenceIdeal Cert.ReferenceIdeal.Gen Cert.ReferenceIdeal.Read
open Idealize.ShloMosaic Idealize.ShloMosaic.TcCoe

variable (x1 : (⟨S4x512x40, .f32⟩ : BufTy).Contents (Elt Ideal)) (x4 x5 : (⟨S32768x8, .f32⟩ : BufTy).Contents (Elt Ideal)) (x8 x9 : (⟨S4x512x8, .f32⟩ : BufTy).Contents (Elt Ideal)) (x12 x13 : (⟨S3x384x8, .f32⟩ : BufTy).Contents (Elt Ideal)) (x14 : (⟨S4, .i32⟩ : BufTy).Contents (Elt Ideal)) (r0 : (⟨S4x512x40x128, .f32⟩ : BufTy).Contents (Elt Ideal)) (r1 r2 : (⟨S32768x8x128, .f32⟩ : BufTy).Contents (Elt Ideal)) (r3 r4 : (⟨S4x512x8x128, .f32⟩ : BufTy).Contents (Elt Ideal)) (r5 r6 : (⟨S3x384x8x128, .f32⟩ : BufTy).Contents (Elt Ideal))

theorem gath4 (X : S3x384x8x128.Idx → EReal) (idx : IVec S4x1 32) (b : Fin 4) (w : Fin 3) (p : Fin 384) (h : Fin 8) (k : Fin 128) (hw : idx (Idealize.ShloMosaic.ix2 b 0) = BitVec.ofNat 32 w) :
    Host.gather gather_S3x384x8x128_S4x1_S4x384x8x128_123_0_n_n_0_1_13848128 X idx (Idealize.ShloMosaic.ix4 b p h k) = X (Idealize.ShloMosaic.ix4 w p h k) := by
  unfold Host.gather
  refine congrArg X (funext fun a => Fin.ext ?_)
  let d := gather_S3x384x8x128_S4x1_S4x384x8x128_123_0_n_n_0_1_13848128
  let j := Idealize.ShloMosaic.ix4 b p h k
  match a with
  | ⟨0, _⟩ =>
    show d.start (j) idx 0 + d.batchCoord (j) 0 + d.offCoord (j) 0 = w.val
    rw [d.batchCoord_eq_zero _ _ (by decide), d.offCoord_eq_zero _ _ (by decide)]
    simp only [Nat.add_zero]
    unfold GatherDims.start
    rw [dif_pos (by decide)]
    have hsi : d.siIdx j ⟨d.startIndexMap.idxOf 0, by decide⟩ = Idealize.ShloMosaic.ix2 b (0 : Fin 1) := by
      funext b'
      match b' with
      | ⟨0, _⟩ => rfl
      | ⟨1, _⟩ => rfl
    have hbl := w.isLt
    rw [hsi, hw, (by decide : ∀ w : Fin 3, (BitVec.ofNat 32 w.val).toInt = (w.val : Int)) w]
    show min ((w.val : Int)).toNat (3 - 1) = w.val
    omega
  | ⟨1, _⟩ =>
    show d.start (j) idx 1 + d.batchCoord (j) 1 + d.offCoord (j) 1 = _
    rw [d.batchCoord_eq_zero _ _ (by decide)]
    unfold GatherDims.start
    rw [dif_neg (by decide)]
    unfold GatherDims.offCoord
    rw [dif_pos (by decide)]
    simp only [Nat.zero_add, Nat.add_zero]
    rfl
  | ⟨2, _⟩ =>
    show d.start (j) idx 2 + d.batchCoord (j) 2 + d.offCoord (j) 2 = _
    rw [d.batchCoord_eq_zero _ _ (by decide)]
    unfold GatherDims.start
    rw [dif_neg (by decide)]
    unfold GatherDims.offCoord
    rw [dif_pos (by decide)]
    simp only [Nat.zero_add, Nat.add_zero]
    rfl
  | ⟨3, _⟩ =>
    show d.start (j) idx 3 + d.batchCoord (j) 3 + d.offCoord (j) 3 = _
    rw [d.batchCoord_eq_zero _ _ (by decide)]
    unfold GatherDims.start
    rw [dif_neg (by decide)]
    unfold GatherDims.offCoord
    rw [dif_pos (by decide)]
    simp only [Nat.zero_add, Nat.add_zero]
    rfl

theorem gath3 (X : S3x384x8.Idx → EReal) (idx : IVec S4x1 32) (b : Fin 4) (w : Fin 3) (p : Fin 384) (h : Fin 8) (hw : idx (Idealize.ShloMosaic.ix2 b 0) = BitVec.ofNat 32 w) :
    Host.gather gather_S3x384x8_S4x1_S4x384x8_12_0_n_n_0_1_13848 X idx (Idealize.ShloMosaic.ix3 b p h) = X (Idealize.ShloMosaic.ix3 w p h) := by
  unfold Host.gather
  refine congrArg X (funext fun a => Fin.ext ?_)
  let d := gather_S3x384x8_S4x1_S4x384x8_12_0_n_n_0_1_13848
  let j := Idealize.ShloMosaic.ix3 b p h
  match a with
  | ⟨0, _⟩ =>
    show d.start (j) idx 0 + d.batchCoord (j) 0 + d.offCoord (j) 0 = w.val
    rw [d.batchCoord_eq_zero _ _ (by decide), d.offCoord_eq_zero _ _ (by decide)]
    simp only [Nat.add_zero]
    unfold GatherDims.start
    rw [dif_pos (by decide)]
    have hsi : d.siIdx j ⟨d.startIndexMap.idxOf 0, by decide⟩ = Idealize.ShloMosaic.ix2 b (0 : Fin 1) := by
      funext b'
      match b' with
      | ⟨0, _⟩ => rfl
      | ⟨1, _⟩ => rfl
    have hbl := w.isLt
    rw [hsi, hw, (by decide : ∀ w : Fin 3, (BitVec.ofNat 32 w.val).toInt = (w.val : Int)) w]
    show min ((w.val : Int)).toNat (3 - 1) = w.val
    omega
  | ⟨1, _⟩ =>
    show d.start (j) idx 1 + d.batchCoord (j) 1 + d.offCoord (j) 1 = _
    rw [d.batchCoord_eq_zero _ _ (by decide)]
    unfold GatherDims.start
    rw [dif_neg (by decide)]
    unfold GatherDims.offCoord
    rw [dif_pos (by decide)]
    simp only [Nat.zero_add, Nat.add_zero]
    rfl
  | ⟨2, _⟩ =>
    show d.start (j) idx 2 + d.batchCoord (j) 2 + d.offCoord (j) 2 = _
    rw [d.batchCoord_eq_zero _ _ (by decide)]
    unfold GatherDims.start
    rw [dif_neg (by decide)]
    unfold GatherDims.offCoord
    rw [dif_pos (by decide)]
    simp only [Nat.zero_add, Nat.add_zero]
    rfl

theorem v9_at (b : Fin 4) (w : Fin 3) (hw : BitVec.toNat (w := 32) (x14 (Idealize.ShloMosaic.ix1 b)) = (w : ℕ)) : val_main_v9 (F := Ideal) x14 (Idealize.ShloMosaic.ix2 b 0) = BitVec.ofNat 32 w := by
  rw [val_main_v9_apply, val_main_v8_apply, val_main_v5_apply, show idx_main_v9 (Idealize.ShloMosaic.ix2 b 0) = Idealize.ShloMosaic.ix1 b from funext fun a => match a with | ⟨0, _⟩ => rfl]
  have hx : x14 (Idealize.ShloMosaic.ix1 b) = BitVec.ofNat 32 w := BitVec.eq_of_toNat_eq (by rw [hw, BitVec.toNat_ofNat]; have := w.isLt; omega)
  rw [hx]
  refine (congrArg (fun z : BitVec 1 => Scalar.select z _ _) (?_ : _ = 0#1)).trans rfl
  exact (by decide : ∀ w : Fin 3, IntOp.cmpi .slt (BitVec.ofNat 32 w.val) 0#32 = 0#1) w

theorem v10_at (b : Fin 4) (w : Fin 3) (hw : BitVec.toNat (w := 32) (x14 (Idealize.ShloMosaic.ix1 b)) = (w : ℕ)) (p : Fin 384) (h : Fin 8) (k : Fin 128) : val_main_v10 (F := Ideal) x14 r5 (Idealize.ShloMosaic.ix4 b p h k) = r5 (Idealize.ShloMosaic.ix4 w p h k) := by
  unfold val_main_v10
  exact gath4 r5 _ b w p h k (v9_at x14 b w hw)

theorem v16_at (b : Fin 4) (w : Fin 3) (hw : BitVec.toNat (w := 32) (x14 (Idealize.ShloMosaic.ix1 b)) = (w : ℕ)) : val_main_v16 (F := Ideal) x14 (Idealize.ShloMosaic.ix2 b 0) = BitVec.ofNat 32 w := by
  rw [val_main_v16_apply, val_main_v15_apply, val_main_v12_apply, show idx_main_v16 (Idealize.ShloMosaic.ix2 b 0) = Idealize.ShloMosaic.ix1 b from funext fun a => match a with | ⟨0, _⟩ => rfl]
  have hx : x14 (Idealize.ShloMosaic.ix1 b) = BitVec.ofNat 32 w := BitVec.eq_of_toNat_eq (by rw [hw, BitVec.toNat_ofNat]; have := w.isLt; omega)
  rw [hx]
  refine (congrArg (fun z : BitVec 1 => Scalar.select z _ _) (?_ : _ = 0#1)).trans rfl
  exact (by decide : ∀ w : Fin 3, IntOp.cmpi .slt (BitVec.ofNat 32 w.val) 0#32 = 0#1) w

theorem v17_at (b : Fin 4) (w : Fin 3) (hw : BitVec.toNat (w := 32) (x14 (Idealize.ShloMosaic.ix1 b)) = (w : ℕ)) (p : Fin 384) (h : Fin 8) (k : Fin 128) : val_main_v17 (F := Ideal) x14 r6 (Idealize.ShloMosaic.ix4 b p h k) = r6 (Idealize.ShloMosaic.ix4 w p h k) := by
  unfold val_main_v17
  exact gath4 r6 _ b w p h k (v16_at x14 b w hw)

theorem v23_at (b : Fin 4) (w : Fin 3) (hw : BitVec.toNat (w := 32) (x14 (Idealize.ShloMosaic.ix1 b)) = (w : ℕ)) : val_main_v23 (F := Ideal) x14 (Idealize.ShloMosaic.ix2 b 0) = BitVec.ofNat 32 w := by
  rw [val_main_v23_apply, val_main_v22_apply, val_main_v19_apply, show idx_main_v23 (Idealize.ShloMosaic.ix2 b 0) = Idealize.ShloMosaic.ix1 b from funext fun a => match a with | ⟨0, _⟩ => rfl]
  have hx : x14 (Idealize.ShloMosaic.ix1 b) = BitVec.ofNat 32 w := BitVec.eq_of_toNat_eq (by rw [hw, BitVec.toNat_ofNat]; have := w.isLt; omega)
  rw [hx]
  refine (congrArg (fun z : BitVec 1 => Scalar.select z _ _) (?_ : _ = 0#1)).trans rfl
  exact (by decide : ∀ w : Fin 3, IntOp.cmpi .slt (BitVec.ofNat 32 w.val) 0#32 = 0#1) w

theorem v24_at (b : Fin 4) (w : Fin 3) (hw : BitVec.toNat (w := 32) (x14 (Idealize.ShloMosaic.ix1 b)) = (w : ℕ)) (p : Fin 384) (h : Fin 8) : val_main_v24 (F := Ideal) x12 x14 (Idealize.ShloMosaic.ix3 b p h) = x12 (Idealize.ShloMosaic.ix3 w p h) := by
  unfold val_main_v24
  exact gath3 x12 _ b w p h  (v23_at x14 b w hw)

theorem v30_at (b : Fin 4) (w : Fin 3) (hw : BitVec.toNat (w := 32) (x14 (Idealize.ShloMosaic.ix1 b)) = (w : ℕ)) : val_main_v30 (F := Ideal) x14 (Idealize.ShloMosaic.ix2 b 0) = BitVec.ofNat 32 w := by
  rw [val_main_v30_apply, val_main_v29_apply, val_main_v26_apply, show idx_main_v30 (Idealize.ShloMosaic.ix2 b 0) = Idealize.ShloMosaic.ix1 b from funext fun a => match a with | ⟨0, _⟩ => rfl]
  have hx : x14 (Idealize.ShloMosaic.ix1 b) = BitVec.ofNat 32 w := BitVec.eq_of_toNat_eq (by rw [hw, BitVec.toNat_ofNat]; have := w.isLt; omega)
  rw [hx]
  refine (congrArg (fun z : BitVec 1 => Scalar.select z _ _) (?_ : _ = 0#1)).trans rfl
  exact (by decide : ∀ w : Fin 3, IntOp.cmpi .slt (BitVec.ofNat 32 w.val) 0#32 = 0#1) w

theorem v31_at (b : Fin 4) (w : Fin 3) (hw : BitVec.toNat (w := 32) (x14 (Idealize.ShloMosaic.ix1 b)) = (w : ℕ)) (p : Fin 384) (h : Fin 8) : val_main_v31 (F := Ideal) x13 x14 (Idealize.ShloMosaic.ix3 b p h) = x13 (Idealize.ShloMosaic.ix3 w p h) := by
  unfold val_main_v31
  exact gath3 x13 _ b w p h  (v30_at x14 b w hw)

end Cert.ReferenceIdeal.Hyd
-- ==== Proof.Hyd.Row.lean ====
module

public import proofs.«01_k».proof.Proof.Hyd.Comb
public import proofs.«01_k».proof.Proof.Hyd.RefLse
public import proofs.«01_k».proof.Proof.Hyd.RefDot
public import proofs.«01_k».proof.Proof.Hyd.RefGather

@[expose] public section

set_option maxRecDepth 16384
set_option maxHeartbeats 1000000

/-! One row of one head: what the kernel stores and what the reference's operations hold. -/

noncomputable section

namespace Cert.KernelIdeal.Hyd

open Cert.KernelIdeal Cert.KernelIdeal.Gen Cert.ReferenceIdeal.Read Cert.ReferenceIdeal.Hyd
open Idealize.ShloMosaic Idealize.ShloMosaic.TcCoe
open Cert.Soft

variable (x1 : (⟨Cert.ReferenceIdeal.S4x512x40, .f32⟩ : BufTy).Contents (Elt Ideal)) (x4 x5 : (⟨Cert.ReferenceIdeal.S32768x8, .f32⟩ : BufTy).Contents (Elt Ideal)) (x8 x9 : (⟨Cert.ReferenceIdeal.S4x512x8, .f32⟩ : BufTy).Contents (Elt Ideal)) (x12 x13 : (⟨Cert.ReferenceIdeal.S3x384x8, .f32⟩ : BufTy).Contents (Elt Ideal)) (x14 : (⟨Cert.ReferenceIdeal.S4, .i32⟩ : BufTy).Contents (Elt Ideal)) (r0 : (⟨Cert.ReferenceIdeal.S4x512x40x128, .f32⟩ : BufTy).Contents (Elt Ideal)) (r1 r2 : (⟨Cert.ReferenceIdeal.S32768x8x128, .f32⟩ : BufTy).Contents (Elt Ideal)) (r3 r4 : (⟨Cert.ReferenceIdeal.S4x512x8x128, .f32⟩ : BufTy).Contents (Elt Ideal)) (r5 r6 : (⟨Cert.ReferenceIdeal.S3x384x8x128, .f32⟩ : BufTy).Contents (Elt Ideal))
variable (X0 : Vec Ideal S1x1x256x128 .fp8e4m3) (X1 : Vec Ideal S1x1x1x256 .f32) (X2 : Vec Ideal S1x32768x128 .fp8e4m3) (X3 : Vec Ideal S1x128x32768 .fp8e4m3) (X4 : Vec Ideal S1x1x32768 .bf16) (X5 : Vec Ideal S1x8x4096 .f32) (M0 : Vec Ideal S1x1x384x128 .fp8e4m3) (M1 : Vec Ideal S1x1x128x384 .fp8e4m3) (M2 : Vec Ideal S1x1x1x384 .bf16) (M3 : Vec Ideal S1x1x384x128 .f32) (C0 : Vec Ideal S1x1x512x128 .fp8e4m3) (C1 : Vec Ideal S1x1x128x512 .fp8e4m3) (C2 : Vec Ideal S1x1x1x512 .bf16) (C3 : Vec Ideal S1x1x512x128 .f32)

/-- The prompt's scores. -/
theorem scoreA (b : Fin 4) (s : Fin 512) (h : Fin 8) (g : Fin 5) (q : Fin 256) (H0 : ∀ k : Fin 128, (X0 (Idealize.ShloMosaic.ix4 0 0 q k) : EReal) = r0 (Idealize.ShloMosaic.ix4 b s ⟨h.val * 5 + g.val, by omega⟩ k)) (H1 : (X1 (Idealize.ShloMosaic.ix4 0 0 0 q) : EReal) = x1 (Idealize.ShloMosaic.ix3 b s ⟨h.val * 5 + g.val, by omega⟩)) (H2 : ∀ (p : Fin 32768) (k : Fin 128), (X2 (Idealize.ShloMosaic.ix3 0 p k) : EReal) = r1 (Idealize.ShloMosaic.ix3 p h k)) (H5 : ∀ p : Fin 32768, (X5 (Idealize.ShloMosaic.ix3 0 ⟨p.val % 8, by omega⟩ ⟨p.val / 8, by omega⟩) : EReal) = x4 (Idealize.ShloMosaic.ix2 p h)) (p : Fin 32768) :
    val_main_v44 (F := Ideal) x1 x4 r0 r1 (Idealize.ShloMosaic.ix5 b s h g p) = xA X0 X1 X2 X5 q p * L := by
  rw [v44_at, xA_at, H1, H5, ← score]
  simp only [H0, H2]

/-- The middle segment's scores. -/
theorem scoreB (b : Fin 4) (s : Fin 512) (h : Fin 8) (g : Fin 5) (q : Fin 256) (H0 : ∀ k : Fin 128, (X0 (Idealize.ShloMosaic.ix4 0 0 q k) : EReal) = r0 (Idealize.ShloMosaic.ix4 b s ⟨h.val * 5 + g.val, by omega⟩ k)) (H1 : (X1 (Idealize.ShloMosaic.ix4 0 0 0 q) : EReal) = x1 (Idealize.ShloMosaic.ix3 b s ⟨h.val * 5 + g.val, by omega⟩)) (w : Fin 3) (hw : BitVec.toNat (w := 32) (x14 (Idealize.ShloMosaic.ix1 b)) = (w : ℕ)) (H6 : ∀ (p : Fin 384) (k : Fin 128), (M0 (Idealize.ShloMosaic.ix4 0 0 p k) : EReal) = r5 (Idealize.ShloMosaic.ix4 w p h k)) (H9 : ∀ (p : Fin 384) (k : Fin 128), (M3 (Idealize.ShloMosaic.ix4 0 0 p k) : EReal) = x12 (Idealize.ShloMosaic.ix3 w p h)) (p : Fin 384) :
    val_main_v54 (F := Ideal) x1 x12 x14 r0 r5 (Idealize.ShloMosaic.ix5 b s h g p) = xB X0 X1 M0 M3 q p * L := by
  rw [v54_at, xB_at X0 X1 M0 M3 q p _ (H9 p), H1, ← score, v24_at x12 x14 b w hw]
  simp only [H0, H6, v10_at x14 r5 b w hw]

/-- The scores over the row's own keys, the later ones masked. -/
theorem scoreC (b : Fin 4) (s : Fin 512) (h : Fin 8) (g : Fin 5) (q : Fin 256) (i : grid0.Coords) (hv : Scalar.muli (par i) 256#32 = BitVec.ofNat 32 (s.val - q.val)) (hq : q.val ≤ s.val) (H0 : ∀ k : Fin 128, (X0 (Idealize.ShloMosaic.ix4 0 0 q k) : EReal) = r0 (Idealize.ShloMosaic.ix4 b s ⟨h.val * 5 + g.val, by omega⟩ k)) (H1 : (X1 (Idealize.ShloMosaic.ix4 0 0 0 q) : EReal) = x1 (Idealize.ShloMosaic.ix3 b s ⟨h.val * 5 + g.val, by omega⟩)) (Ha : ∀ (p : Fin 512) (k : Fin 128), (C0 (Idealize.ShloMosaic.ix4 0 0 p k) : EReal) = r3 (Idealize.ShloMosaic.ix4 b p h k)) (Hd : ∀ (p : Fin 512) (k : Fin 128), (C3 (Idealize.ShloMosaic.ix4 0 0 p k) : EReal) = x8 (Idealize.ShloMosaic.ix3 b p h)) (p : Fin 512) :
    val_main_v72 (F := Ideal) x1 x8 r0 r3 (Idealize.ShloMosaic.ix5 b s h g p) = xC (Scalar.muli (par i) 256#32) X0 X1 C0 C3 q p * L := by
  have hl : (0 : ℝ) < Real.log 2 := Real.log_pos (by norm_num)
  rw [v72_at, v64_at, xC_at _ X0 X1 C0 C3 q p s hv hq _ (Hd p), H1, ofBninf]
  unfold Scalar.select
  split
  · rw [← score]
    simp only [H0, Ha]
  · exact (EReal.bot_mul_coe_of_pos hl).symm

/-- The prompt's log-sum-exp. -/
theorem lA (b : Fin 4) (s : Fin 512) (h : Fin 8) (g : Fin 5) (q : Fin 256) (H0 : ∀ k : Fin 128, (X0 (Idealize.ShloMosaic.ix4 0 0 q k) : EReal) = r0 (Idealize.ShloMosaic.ix4 b s ⟨h.val * 5 + g.val, by omega⟩ k)) (H1 : (X1 (Idealize.ShloMosaic.ix4 0 0 0 q) : EReal) = x1 (Idealize.ShloMosaic.ix3 b s ⟨h.val * 5 + g.val, by omega⟩)) (H2 : ∀ (p : Fin 32768) (k : Fin 128), (X2 (Idealize.ShloMosaic.ix3 0 p k) : EReal) = r1 (Idealize.ShloMosaic.ix3 p h k)) (H5 : ∀ p : Fin 32768, (X5 (Idealize.ShloMosaic.ix3 0 ⟨p.val % 8, by omega⟩ ⟨p.val / 8, by omega⟩) : EReal) = x4 (Idealize.ShloMosaic.ix2 p h)) :
    val_main_v80 (F := Ideal) x1 x4 r0 r1 (Idealize.ShloMosaic.ix4 b s h g) = X (xA X0 X1 X2 X5 q) 32768 * L + Ideal.log (A (xA X0 X1 X2 X5 q) 32768 (X (xA X0 X1 X2 X5 q) 32768)) := by
  rw [v80_at, v73_at]
  exact glse _ (xA X0 X1 X2 X5 q) fun j => scoreA x1 x4 r0 r1 X0 X1 X2 X5 b s h g q H0 H1 H2 H5 j

/-- The largest of them. -/
theorem lAm (b : Fin 4) (s : Fin 512) (h : Fin 8) (g : Fin 5) (q : Fin 256) (H0 : ∀ k : Fin 128, (X0 (Idealize.ShloMosaic.ix4 0 0 q k) : EReal) = r0 (Idealize.ShloMosaic.ix4 b s ⟨h.val * 5 + g.val, by omega⟩ k)) (H1 : (X1 (Idealize.ShloMosaic.ix4 0 0 0 q) : EReal) = x1 (Idealize.ShloMosaic.ix3 b s ⟨h.val * 5 + g.val, by omega⟩)) (H2 : ∀ (p : Fin 32768) (k : Fin 128), (X2 (Idealize.ShloMosaic.ix3 0 p k) : EReal) = r1 (Idealize.ShloMosaic.ix3 p h k)) (H5 : ∀ p : Fin 32768, (X5 (Idealize.ShloMosaic.ix3 0 ⟨p.val % 8, by omega⟩ ⟨p.val / 8, by omega⟩) : EReal) = x4 (Idealize.ShloMosaic.ix2 p h)) :
    val_main_v73 (F := Ideal) x1 x4 r0 r1 (Idealize.ShloMosaic.ix4 b s h g) = X (xA X0 X1 X2 X5 q) 32768 * L := by
  rw [v73_at]
  exact gmax _ (xA X0 X1 X2 X5 q) fun j => scoreA x1 x4 r0 r1 X0 X1 X2 X5 b s h g q H0 H1 H2 H5 j

/-- The middle segment's log-sum-exp. -/
theorem lB (b : Fin 4) (s : Fin 512) (h : Fin 8) (g : Fin 5) (q : Fin 256) (H0 : ∀ k : Fin 128, (X0 (Idealize.ShloMosaic.ix4 0 0 q k) : EReal) = r0 (Idealize.ShloMosaic.ix4 b s ⟨h.val * 5 + g.val, by omega⟩ k)) (H1 : (X1 (Idealize.ShloMosaic.ix4 0 0 0 q) : EReal) = x1 (Idealize.ShloMosaic.ix3 b s ⟨h.val * 5 + g.val, by omega⟩)) (w : Fin 3) (hw : BitVec.toNat (w := 32) (x14 (Idealize.ShloMosaic.ix1 b)) = (w : ℕ)) (H6 : ∀ (p : Fin 384) (k : Fin 128), (M0 (Idealize.ShloMosaic.ix4 0 0 p k) : EReal) = r5 (Idealize.ShloMosaic.ix4 w p h k)) (H9 : ∀ (p : Fin 384) (k : Fin 128), (M3 (Idealize.ShloMosaic.ix4 0 0 p k) : EReal) = x12 (Idealize.ShloMosaic.ix3 w p h)) :
    val_main_v88 (F := Ideal) x1 x12 x14 r0 r5 (Idealize.ShloMosaic.ix4 b s h g) = X (xB X0 X1 M0 M3 q) 384 * L + Ideal.log (A (xB X0 X1 M0 M3 q) 384 (X (xB X0 X1 M0 M3 q) 384)) := by
  rw [v88_at, v81_at]
  exact glse _ (xB X0 X1 M0 M3 q) fun j => scoreB x1 x12 x14 r0 r5 X0 X1 M0 M3 b s h g q H0 H1 w hw H6 H9 j

/-- The largest of them. -/
theorem lBm (b : Fin 4) (s : Fin 512) (h : Fin 8) (g : Fin 5) (q : Fin 256) (H0 : ∀ k : Fin 128, (X0 (Idealize.ShloMosaic.ix4 0 0 q k) : EReal) = r0 (Idealize.ShloMosaic.ix4 b s ⟨h.val * 5 + g.val, by omega⟩ k)) (H1 : (X1 (Idealize.ShloMosaic.ix4 0 0 0 q) : EReal) = x1 (Idealize.ShloMosaic.ix3 b s ⟨h.val * 5 + g.val, by omega⟩)) (w : Fin 3) (hw : BitVec.toNat (w := 32) (x14 (Idealize.ShloMosaic.ix1 b)) = (w : ℕ)) (H6 : ∀ (p : Fin 384) (k : Fin 128), (M0 (Idealize.ShloMosaic.ix4 0 0 p k) : EReal) = r5 (Idealize.ShloMosaic.ix4 w p h k)) (H9 : ∀ (p : Fin 384) (k : Fin 128), (M3 (Idealize.ShloMosaic.ix4 0 0 p k) : EReal) = x12 (Idealize.ShloMosaic.ix3 w p h)) :
    val_main_v81 (F := Ideal) x1 x12 x14 r0 r5 (Idealize.ShloMosaic.ix4 b s h g) = X (xB X0 X1 M0 M3 q) 384 * L := by
  rw [v81_at]
  exact gmax _ (xB X0 X1 M0 M3 q) fun j => scoreB x1 x12 x14 r0 r5 X0 X1 M0 M3 b s h g q H0 H1 w hw H6 H9 j

/-- The log-sum-exp over the row's own keys. -/
theorem lC (b : Fin 4) (s : Fin 512) (h : Fin 8) (g : Fin 5) (q : Fin 256) (i : grid0.Coords) (hv : Scalar.muli (par i) 256#32 = BitVec.ofNat 32 (s.val - q.val)) (hq : q.val ≤ s.val) (H0 : ∀ k : Fin 128, (X0 (Idealize.ShloMosaic.ix4 0 0 q k) : EReal) = r0 (Idealize.ShloMosaic.ix4 b s ⟨h.val * 5 + g.val, by omega⟩ k)) (H1 : (X1 (Idealize.ShloMosaic.ix4 0 0 0 q) : EReal) = x1 (Idealize.ShloMosaic.ix3 b s ⟨h.val * 5 + g.val, by omega⟩)) (Ha : ∀ (p : Fin 512) (k : Fin 128), (C0 (Idealize.ShloMosaic.ix4 0 0 p k) : EReal) = r3 (Idealize.ShloMosaic.ix4 b p h k)) (Hd : ∀ (p : Fin 512) (k : Fin 128), (C3 (Idealize.ShloMosaic.ix4 0 0 p k) : EReal) = x8 (Idealize.ShloMosaic.ix3 b p h)) :
    val_main_v96 (F := Ideal) x1 x8 r0 r3 (Idealize.ShloMosaic.ix4 b s h g) = X (xC (Scalar.muli (par i) 256#32) X0 X1 C0 C3 q) 512 * L + Ideal.log (A (xC (Scalar.muli (par i) 256#32) X0 X1 C0 C3 q) 512 (X (xC (Scalar.muli (par i) 256#32) X0 X1 C0 C3 q) 512)) := by
  rw [v96_at, v89_at]
  exact glse _ (xC (Scalar.muli (par i) 256#32) X0 X1 C0 C3 q) fun j => scoreC x1 x8 r0 r3 X0 X1 C0 C3 b s h g q i hv hq H0 H1 Ha Hd j

/-- The largest of them. -/
theorem lCm (b : Fin 4) (s : Fin 512) (h : Fin 8) (g : Fin 5) (q : Fin 256) (i : grid0.Coords) (hv : Scalar.muli (par i) 256#32 = BitVec.ofNat 32 (s.val - q.val)) (hq : q.val ≤ s.val) (H0 : ∀ k : Fin 128, (X0 (Idealize.ShloMosaic.ix4 0 0 q k) : EReal) = r0 (Idealize.ShloMosaic.ix4 b s ⟨h.val * 5 + g.val, by omega⟩ k)) (H1 : (X1 (Idealize.ShloMosaic.ix4 0 0 0 q) : EReal) = x1 (Idealize.ShloMosaic.ix3 b s ⟨h.val * 5 + g.val, by omega⟩)) (Ha : ∀ (p : Fin 512) (k : Fin 128), (C0 (Idealize.ShloMosaic.ix4 0 0 p k) : EReal) = r3 (Idealize.ShloMosaic.ix4 b p h k)) (Hd : ∀ (p : Fin 512) (k : Fin 128), (C3 (Idealize.ShloMosaic.ix4 0 0 p k) : EReal) = x8 (Idealize.ShloMosaic.ix3 b p h)) :
    val_main_v89 (F := Ideal) x1 x8 r0 r3 (Idealize.ShloMosaic.ix4 b s h g) = X (xC (Scalar.muli (par i) 256#32) X0 X1 C0 C3 q) 512 * L := by
  rw [v89_at]
  exact gmax _ (xC (Scalar.muli (par i) 256#32) X0 X1 C0 C3 q) fun j => scoreC x1 x8 r0 r3 X0 X1 C0 C3 b s h g q i hv hq H0 H1 Ha Hd j

/-- The attention's row. -/
theorem outRow (b : Fin 4) (s : Fin 512) (h : Fin 8) (g : Fin 5) (q : Fin 256) (i : grid0.Coords) (hv : Scalar.muli (par i) 256#32 = BitVec.ofNat 32 (s.val - q.val)) (hq : q.val ≤ s.val) (H0 : ∀ k : Fin 128, (X0 (Idealize.ShloMosaic.ix4 0 0 q k) : EReal) = r0 (Idealize.ShloMosaic.ix4 b s ⟨h.val * 5 + g.val, by omega⟩ k)) (H1 : (X1 (Idealize.ShloMosaic.ix4 0 0 0 q) : EReal) = x1 (Idealize.ShloMosaic.ix3 b s ⟨h.val * 5 + g.val, by omega⟩)) (H2 : ∀ (p : Fin 32768) (k : Fin 128), (X2 (Idealize.ShloMosaic.ix3 0 p k) : EReal) = r1 (Idealize.ShloMosaic.ix3 p h k)) (H3 : ∀ (p : Fin 32768) (k : Fin 128), (X3 (Idealize.ShloMosaic.ix3 0 k p) : EReal) = r2 (Idealize.ShloMosaic.ix3 p h k)) (H4 : ∀ p : Fin 32768, (X4 (Idealize.ShloMosaic.ix3 0 0 p) : EReal) = x5 (Idealize.ShloMosaic.ix2 p h)) (H5 : ∀ p : Fin 32768, (X5 (Idealize.ShloMosaic.ix3 0 ⟨p.val % 8, by omega⟩ ⟨p.val / 8, by omega⟩) : EReal) = x4 (Idealize.ShloMosaic.ix2 p h)) (w : Fin 3) (hw : BitVec.toNat (w := 32) (x14 (Idealize.ShloMosaic.ix1 b)) = (w : ℕ)) (H6 : ∀ (p : Fin 384) (k : Fin 128), (M0 (Idealize.ShloMosaic.ix4 0 0 p k) : EReal) = r5 (Idealize.ShloMosaic.ix4 w p h k)) (H7 : ∀ (p : Fin 384) (k : Fin 128), (M1 (Idealize.ShloMosaic.ix4 0 0 k p) : EReal) = r6 (Idealize.ShloMosaic.ix4 w p h k)) (H8 : ∀ p : Fin 384, (M2 (Idealize.ShloMosaic.ix4 0 0 0 p) : EReal) = x13 (Idealize.ShloMosaic.ix3 w p h)) (H9 : ∀ (p : Fin 384) (k : Fin 128), (M3 (Idealize.ShloMosaic.ix4 0 0 p k) : EReal) = x12 (Idealize.ShloMosaic.ix3 w p h)) (Ha : ∀ (p : Fin 512) (k : Fin 128), (C0 (Idealize.ShloMosaic.ix4 0 0 p k) : EReal) = r3 (Idealize.ShloMosaic.ix4 b p h k)) (Hb : ∀ (p : Fin 512) (k : Fin 128), (C1 (Idealize.ShloMosaic.ix4 0 0 k p) : EReal) = r4 (Idealize.ShloMosaic.ix4 b p h k)) (Hc : ∀ p : Fin 512, (C2 (Idealize.ShloMosaic.ix4 0 0 0 p) : EReal) = x9 (Idealize.ShloMosaic.ix3 b p h)) (Hd : ∀ (p : Fin 512) (k : Fin 128), (C3 (Idealize.ShloMosaic.ix4 0 0 p k) : EReal) = x8 (Idealize.ShloMosaic.ix3 b p h)) (f : Fin 128) :
    (oO (s2 X0 X1 X2 X3 X4 X5) (s3 X0 X1 M0 M1 M2 M3) (s4 i X0 X1 C0 C1 C2 C3) (Idealize.ShloMosaic.ix3 0 q f) : EReal) = val_main_v142 (F := Ideal) x1 x4 x5 x8 x9 x12 x13 x14 r0 r1 r2 r3 r4 r5 r6 (Idealize.ShloMosaic.ix5 b s h g f) := by
  have hM : val_main_v98 (F := Ideal) x1 x4 x8 x12 x14 r0 r1 r3 r5 (Idealize.ShloMosaic.ix4 b s h g) = (max (max (X (xA X0 X1 X2 X5 q) 32768) (X (xB X0 X1 M0 M3 q) 384)) (X (xC (Scalar.muli (par i) 256#32) X0 X1 C0 C3 q) 512)) * L := by
    rw [v98_at, lAm x1 x4 r0 r1 X0 X1 X2 X5 b s h g q H0 H1 H2 H5, lBm x1 x12 x14 r0 r5 X0 X1 M0 M3 b s h g q H0 H1 w hw H6 H9, lCm x1 x8 r0 r3 X0 X1 C0 C3 b s h g q i hv hq H0 H1 Ha Hd, gmm]
  have e1 : ∀ k, val_main_v102 (F := Ideal) x1 x4 x8 x12 x14 r0 r1 r3 r5 (Idealize.ShloMosaic.ix5 b s h g k) = Ideal.exp (val_main_v44 (F := Ideal) x1 x4 r0 r1 (Idealize.ShloMosaic.ix5 b s h g k) - (max (max (X (xA X0 X1 X2 X5 q) 32768) (X (xB X0 X1 M0 M3 q) 384)) (X (xC (Scalar.muli (par i) 256#32) X0 X1 C0 C3 q) 512)) * L) := fun k => by rw [v102_at, hM]
  have e2 : ∀ k, val_main_v105 (F := Ideal) x1 x4 x8 x12 x14 r0 r1 r3 r5 (Idealize.ShloMosaic.ix5 b s h g k) = Ideal.exp (val_main_v54 (F := Ideal) x1 x12 x14 r0 r5 (Idealize.ShloMosaic.ix5 b s h g k) - (max (max (X (xA X0 X1 X2 X5 q) 32768) (X (xB X0 X1 M0 M3 q) 384)) (X (xC (Scalar.muli (par i) 256#32) X0 X1 C0 C3 q) 512)) * L) := fun k => by rw [v105_at, hM]
  have e3 : ∀ k, val_main_v108 (F := Ideal) x1 x4 x8 x12 x14 r0 r1 r3 r5 (Idealize.ShloMosaic.ix5 b s h g k) = Ideal.exp (val_main_v72 (F := Ideal) x1 x8 r0 r3 (Idealize.ShloMosaic.ix5 b s h g k) - (max (max (X (xA X0 X1 X2 X5 q) 32768) (X (xB X0 X1 M0 M3 q) 384)) (X (xC (Scalar.muli (par i) 256#32) X0 X1 C0 C3 q) 512)) * L) := fun k => by rw [v108_at, hM]
  rw [oO_at (s2_is X0 X1 X2 X3 X4 X5 q) (s3_is X0 X1 M0 M3 M1 M2 q) (s4_is i X0 X1 C0 C3 C1 C2 q) (by norm_num) (by norm_num) (by norm_num) f (max (max (X (xA X0 X1 X2 X5 q) 32768) (X (xB X0 X1 M0 M3 q) 384)) (X (xC (Scalar.muli (par i) 256#32) X0 X1 C0 C3 q) 512)) rfl]
  have a1 : (∑ k, val_main_v102 (F := Ideal) x1 x4 x8 x12 x14 r0 r1 r3 r5 (Idealize.ShloMosaic.ix5 b s h g k)) = A (xA X0 X1 X2 X5 q) 32768 (max (max (X (xA X0 X1 X2 X5 q) 32768) (X (xB X0 X1 M0 M3 q) 384)) (X (xC (Scalar.muli (par i) 256#32) X0 X1 C0 C3 q) 512)) := (Finset.sum_congr rfl fun k _ => e1 k).trans (gexp (fun k => val_main_v44 (F := Ideal) x1 x4 r0 r1 (Idealize.ShloMosaic.ix5 b s h g k)) (xA X0 X1 X2 X5 q) (fun j => scoreA x1 x4 r0 r1 X0 X1 X2 X5 b s h g q H0 H1 H2 H5 j) _)
  have a2 : (∑ k, val_main_v105 (F := Ideal) x1 x4 x8 x12 x14 r0 r1 r3 r5 (Idealize.ShloMosaic.ix5 b s h g k)) = A (xB X0 X1 M0 M3 q) 384 (max (max (X (xA X0 X1 X2 X5 q) 32768) (X (xB X0 X1 M0 M3 q) 384)) (X (xC (Scalar.muli (par i) 256#32) X0 X1 C0 C3 q) 512)) := (Finset.sum_congr rfl fun k _ => e2 k).trans (gexp (fun k => val_main_v54 (F := Ideal) x1 x12 x14 r0 r5 (Idealize.ShloMosaic.ix5 b s h g k)) (xB X0 X1 M0 M3 q) (fun j => scoreB x1 x12 x14 r0 r5 X0 X1 M0 M3 b s h g q H0 H1 w hw H6 H9 j) _)
  have a3 : (∑ k, val_main_v108 (F := Ideal) x1 x4 x8 x12 x14 r0 r1 r3 r5 (Idealize.ShloMosaic.ix5 b s h g k)) = A (xC (Scalar.muli (par i) 256#32) X0 X1 C0 C3 q) 512 (max (max (X (xA X0 X1 X2 X5 q) 32768) (X (xB X0 X1 M0 M3 q) 384)) (X (xC (Scalar.muli (par i) 256#32) X0 X1 C0 C3 q) 512)) := (Finset.sum_congr rfl fun k _ => e3 k).trans (gexp (fun k => val_main_v72 (F := Ideal) x1 x8 r0 r3 (Idealize.ShloMosaic.ix5 b s h g k)) (xC (Scalar.muli (par i) 256#32) X0 X1 C0 C3 q) (fun j => scoreC x1 x8 r0 r3 X0 X1 C0 C3 b s h g q i hv hq H0 H1 Ha Hd j) _)
  have u1 : (∑ k, r2 (Idealize.ShloMosaic.ix3 k h f) * (val_main_v102 (F := Ideal) x1 x4 x8 x12 x14 r0 r1 r3 r5 (Idealize.ShloMosaic.ix5 b s h g k) * x5 (Idealize.ShloMosaic.ix2 k h))) = U (xA X0 X1 X2 X5 q) (vA X3 X4 f) 32768 (max (max (X (xA X0 X1 X2 X5 q) 32768) (X (xB X0 X1 M0 M3 q) 384)) (X (xC (Scalar.muli (par i) 256#32) X0 X1 C0 C3 q) 512)) :=
    (Finset.sum_congr rfl fun k _ => by rw [e1 k]).trans (gU (fun k => val_main_v44 (F := Ideal) x1 x4 r0 r1 (Idealize.ShloMosaic.ix5 b s h g k)) (xA X0 X1 X2 X5 q) (vA X3 X4 f) (fun j => scoreA x1 x4 r0 r1 X0 X1 X2 X5 b s h g q H0 H1 H2 H5 j) (fun k => r2 (Idealize.ShloMosaic.ix3 k h f)) (fun k => x5 (Idealize.ShloMosaic.ix2 k h)) (fun k => by rw [vA_at, H3, H4]) _)
  have u2 : (∑ k, val_main_v17 (F := Ideal) x14 r6 (Idealize.ShloMosaic.ix4 b k h f) * (val_main_v105 (F := Ideal) x1 x4 x8 x12 x14 r0 r1 r3 r5 (Idealize.ShloMosaic.ix5 b s h g k) * val_main_v31 (F := Ideal) x13 x14 (Idealize.ShloMosaic.ix3 b k h))) = U (xB X0 X1 M0 M3 q) (vB M1 M2 f) 384 (max (max (X (xA X0 X1 X2 X5 q) 32768) (X (xB X0 X1 M0 M3 q) 384)) (X (xC (Scalar.muli (par i) 256#32) X0 X1 C0 C3 q) 512)) :=
    (Finset.sum_congr rfl fun k _ => by rw [e2 k, v17_at x14 r6 b w hw, v31_at x13 x14 b w hw]).trans (gU (fun k => val_main_v54 (F := Ideal) x1 x12 x14 r0 r5 (Idealize.ShloMosaic.ix5 b s h g k)) (xB X0 X1 M0 M3 q) (vB M1 M2 f) (fun j => scoreB x1 x12 x14 r0 r5 X0 X1 M0 M3 b s h g q H0 H1 w hw H6 H9 j) (fun k => r6 (Idealize.ShloMosaic.ix4 w k h f)) (fun k => x13 (Idealize.ShloMosaic.ix3 w k h)) (fun k => by rw [vB_at, H7, H8]) _)
  have u3 : (∑ k, r4 (Idealize.ShloMosaic.ix4 b k h f) * (val_main_v108 (F := Ideal) x1 x4 x8 x12 x14 r0 r1 r3 r5 (Idealize.ShloMosaic.ix5 b s h g k) * x9 (Idealize.ShloMosaic.ix3 b k h))) = U (xC (Scalar.muli (par i) 256#32) X0 X1 C0 C3 q) (vC C1 C2 f) 512 (max (max (X (xA X0 X1 X2 X5 q) 32768) (X (xB X0 X1 M0 M3 q) 384)) (X (xC (Scalar.muli (par i) 256#32) X0 X1 C0 C3 q) 512)) :=
    (Finset.sum_congr rfl fun k _ => by rw [e3 k]).trans (gU (fun k => val_main_v72 (F := Ideal) x1 x8 r0 r3 (Idealize.ShloMosaic.ix5 b s h g k)) (xC (Scalar.muli (par i) 256#32) X0 X1 C0 C3 q) (vC C1 C2 f) (fun j => scoreC x1 x8 r0 r3 X0 X1 C0 C3 b s h g q i hv hq H0 H1 Ha Hd j) (fun k => r4 (Idealize.ShloMosaic.ix4 b k h f)) (fun k => x9 (Idealize.ShloMosaic.ix3 b k h)) (fun k => by rw [vC_at, Hb, Hc]) _)
  rw [v142_at, v113_at, v109_at, v110_at, v112_at, a1, a2, a3, u1, u2, u3, bits1]

/-- The prompt's log-sum-exp as stored. -/
theorem lseA (b : Fin 4) (s : Fin 512) (h : Fin 8) (g : Fin 5) (q : Fin 256) (H0 : ∀ k : Fin 128, (X0 (Idealize.ShloMosaic.ix4 0 0 q k) : EReal) = r0 (Idealize.ShloMosaic.ix4 b s ⟨h.val * 5 + g.val, by omega⟩ k)) (H1 : (X1 (Idealize.ShloMosaic.ix4 0 0 0 q) : EReal) = x1 (Idealize.ShloMosaic.ix3 b s ⟨h.val * 5 + g.val, by omega⟩)) (H2 : ∀ (p : Fin 32768) (k : Fin 128), (X2 (Idealize.ShloMosaic.ix3 0 p k) : EReal) = r1 (Idealize.ShloMosaic.ix3 p h k)) (H5 : ∀ p : Fin 32768, (X5 (Idealize.ShloMosaic.ix3 0 ⟨p.val % 8, by omega⟩ ⟨p.val / 8, by omega⟩) : EReal) = x4 (Idealize.ShloMosaic.ix2 p h)) :
    (oP (s2 X0 X1 X2 X3 X4 X5) (Idealize.ShloMosaic.ix4 0 0 0 q) : EReal) = val_main_v80 (F := Ideal) x1 x4 r0 r1 (Idealize.ShloMosaic.ix4 b s h g) - Ideal.log (Ideal.ofBits FTy.f32 1191182336#32) := by
  rw [lA x1 x4 r0 r1 X0 X1 X2 X5 b s h g q H0 H1 H2 H5, ← lse_at (s2_is X0 X1 X2 X3 X4 X5 q) (by norm_num), bits32768, Ideal.log_coe, if_neg (by norm_num)]
  generalize s2 X0 X1 X2 X3 X4 X5 = a
  refine (show (oP a (Idealize.ShloMosaic.ix4 0 0 0 q) : EReal) = (Named.named (F := Ideal) (φ := FTy.f32) Cert.KernelIdeal.κ "ln2" 1060205080#32 : EReal) * ((a.2.2 (Idealize.ShloMosaic.ix2 0 q) : EReal) + Ideal.log (a.2.1 (Idealize.ShloMosaic.ix2 0 q)) * (Named.named (F := Ideal) (φ := FTy.f32) Cert.KernelIdeal.κ "log2e" 1069066811#32 : EReal)) - (Named.named (F := Ideal) (φ := FTy.f32) Cert.KernelIdeal.κ "log_past" 1093032694#32 : EReal) from by
    pointwise [oP, k0_pay179]
    try rfl).trans ?_
  rfl

/-- The middle segment's log-sum-exp as stored. -/
theorem lseB (b : Fin 4) (s : Fin 512) (h : Fin 8) (g : Fin 5) (q : Fin 256) (H0 : ∀ k : Fin 128, (X0 (Idealize.ShloMosaic.ix4 0 0 q k) : EReal) = r0 (Idealize.ShloMosaic.ix4 b s ⟨h.val * 5 + g.val, by omega⟩ k)) (H1 : (X1 (Idealize.ShloMosaic.ix4 0 0 0 q) : EReal) = x1 (Idealize.ShloMosaic.ix3 b s ⟨h.val * 5 + g.val, by omega⟩)) (w : Fin 3) (hw : BitVec.toNat (w := 32) (x14 (Idealize.ShloMosaic.ix1 b)) = (w : ℕ)) (H6 : ∀ (p : Fin 384) (k : Fin 128), (M0 (Idealize.ShloMosaic.ix4 0 0 p k) : EReal) = r5 (Idealize.ShloMosaic.ix4 w p h k)) (H9 : ∀ (p : Fin 384) (k : Fin 128), (M3 (Idealize.ShloMosaic.ix4 0 0 p k) : EReal) = x12 (Idealize.ShloMosaic.ix3 w p h)) :
    (oM (s3 X0 X1 M0 M1 M2 M3) (Idealize.ShloMosaic.ix4 0 0 0 q) : EReal) = val_main_v88 (F := Ideal) x1 x12 x14 r0 r5 (Idealize.ShloMosaic.ix4 b s h g) - Ideal.log (Ideal.ofBits FTy.f32 1136656384#32) := by
  rw [lB x1 x12 x14 r0 r5 X0 X1 M0 M3 b s h g q H0 H1 w hw H6 H9, ← lse_at (s3_is X0 X1 M0 M3 M1 M2 q) (by norm_num), bits384, Ideal.log_coe, if_neg (by norm_num)]
  generalize s3 X0 X1 M0 M1 M2 M3 = a
  refine (show (oM a (Idealize.ShloMosaic.ix4 0 0 0 q) : EReal) = (Named.named (F := Ideal) (φ := FTy.f32) Cert.KernelIdeal.κ "ln2" 1060205080#32 : EReal) * ((a.2.2 (Idealize.ShloMosaic.ix2 0 q) : EReal) + Ideal.log (a.2.1 (Idealize.ShloMosaic.ix2 0 q)) * (Named.named (F := Ideal) (φ := FTy.f32) Cert.KernelIdeal.κ "log2e" 1069066811#32 : EReal)) - (Named.named (F := Ideal) (φ := FTy.f32) Cert.KernelIdeal.κ "log_mid" 1086221226#32 : EReal) from by
    pointwise [oM, k0_pay180]
    try rfl).trans ?_
  rfl

/-- The log-sum-exp over the row's own keys as stored. -/
theorem lseC (b : Fin 4) (s : Fin 512) (h : Fin 8) (g : Fin 5) (q : Fin 256) (i : grid0.Coords) (hv : Scalar.muli (par i) 256#32 = BitVec.ofNat 32 (s.val - q.val)) (hq : q.val ≤ s.val) (H0 : ∀ k : Fin 128, (X0 (Idealize.ShloMosaic.ix4 0 0 q k) : EReal) = r0 (Idealize.ShloMosaic.ix4 b s ⟨h.val * 5 + g.val, by omega⟩ k)) (H1 : (X1 (Idealize.ShloMosaic.ix4 0 0 0 q) : EReal) = x1 (Idealize.ShloMosaic.ix3 b s ⟨h.val * 5 + g.val, by omega⟩)) (Ha : ∀ (p : Fin 512) (k : Fin 128), (C0 (Idealize.ShloMosaic.ix4 0 0 p k) : EReal) = r3 (Idealize.ShloMosaic.ix4 b p h k)) (Hd : ∀ (p : Fin 512) (k : Fin 128), (C3 (Idealize.ShloMosaic.ix4 0 0 p k) : EReal) = x8 (Idealize.ShloMosaic.ix3 b p h)) :
    (oC i (s4 i X0 X1 C0 C1 C2 C3) (Idealize.ShloMosaic.ix4 0 0 0 q) : EReal) = val_main_v96 (F := Ideal) x1 x8 r0 r3 (Idealize.ShloMosaic.ix4 b s h g) - Ideal.log (FloatOps.sitofp (F := Ideal) FTy.f32 (IntOp.addi 1#32 (BitVec.ofNat 32 s))) := by
  rw [lC x1 x8 r0 r3 X0 X1 C0 C3 b s h g q i hv hq H0 H1 Ha Hd, ← lse_at (s4_is i X0 X1 C0 C3 C1 C2 q) (by norm_num)]
  have hc : IntOp.addi (Scalar.addi (Scalar.muli (par i) 256#32) 1#32) (BitVec.ofNat 32 ↑q) = IntOp.addi 1#32 (BitVec.ofNat 32 ↑s) := by
    rw [hv]
    have hs' := s.isLt
    apply BitVec.eq_of_toNat_eq
    simp only [IntOp.addi, Scalar.addi, BitVec.toNat_add, BitVec.toNat_ofNat]
    omega
  rw [← hc]
  generalize s4 i X0 X1 C0 C1 C2 C3 = a
  exact (show (oC i a (Idealize.ShloMosaic.ix4 0 0 0 q) : EReal) = (Named.named (F := Ideal) (φ := FTy.f32) Cert.KernelIdeal.κ "ln2" 1060205080#32 : EReal) * ((a.2.2 (Idealize.ShloMosaic.ix2 0 q) : EReal) + Ideal.log (a.2.1 (Idealize.ShloMosaic.ix2 0 q)) * (Named.named (F := Ideal) (φ := FTy.f32) Cert.KernelIdeal.κ "log2e" 1069066811#32 : EReal)) - Ideal.log (FloatOps.sitofp (F := Ideal) FTy.f32 (IntOp.addi (Scalar.addi (Scalar.muli (par i) 256#32) 1#32) (BitVec.ofNat 32 ↑q))) from by
    pointwise [oC, k0_pay1, k0_pay181, iota]
    try rfl)

end Cert.KernelIdeal.Hyd
-- ==== Proof.Hyd.Win.lean ====
module

public import proofs.«01_k».proof.Proof.Hyd.KernelIdealAdm
public import Idealize.ShloMosaic.Lib.Pipeline.ValueKit

@[expose] public section

set_option maxRecDepth 16384
set_option maxHeartbeats 1000000

/-! What each window of the kernel holds at a grid point, read off the arguments. -/

noncomputable section

namespace Cert.KernelIdeal.Hyd

open Cert.KernelIdeal Cert.KernelIdeal.Gen
open Idealize.ShloMosaic Idealize.ShloMosaic.TcCoe

theorem it0 : ∀ t : Fin grid0.N, cc0_transform_0 (grid0.coords t) = ![(grid0.coords t 1).val, 5 * (grid0.coords t 0).val + (grid0.coords t 2).val / 2, (grid0.coords t 2).val % 2, 0] := by decide +kernel
theorem it1 : ∀ t : Fin grid0.N, cc0_transform_1 (grid0.coords t) = ![(grid0.coords t 1).val, 5 * (grid0.coords t 0).val + (grid0.coords t 2).val / 2, 0, (grid0.coords t 2).val % 2] := by decide +kernel
theorem it2 : ∀ t : Fin grid0.N, cc0_transform_2 (grid0.coords t) = ![(grid0.coords t 0).val, 0, 0] := by decide +kernel
theorem it3 : ∀ t : Fin grid0.N, cc0_transform_3 (grid0.coords t) = ![(grid0.coords t 0).val, 0, 0] := by decide +kernel
theorem it4 : ∀ t : Fin grid0.N, cc0_transform_4 (grid0.coords t) = ![(grid0.coords t 0).val, 0, 0] := by decide +kernel
theorem it5 : ∀ t : Fin grid0.N, cc0_transform_5 (grid0.coords t) = ![(grid0.coords t 0).val, 0, 0] := by decide +kernel
theorem it6 : ∀ t : Fin grid0.N, cc0_transform_6 (grid0.coords t) = ![(grid0.coords t 1).val, (grid0.coords t 0).val, 0, 0] := by decide +kernel
theorem it7 : ∀ t : Fin grid0.N, cc0_transform_7 (grid0.coords t) = ![(grid0.coords t 1).val, (grid0.coords t 0).val, 0, 0] := by decide +kernel
theorem it8 : ∀ t : Fin grid0.N, cc0_transform_8 (grid0.coords t) = ![(grid0.coords t 1).val, (grid0.coords t 0).val, 0, 0] := by decide +kernel
theorem it9 : ∀ t : Fin grid0.N, cc0_transform_9 (grid0.coords t) = ![(grid0.coords t 1).val, (grid0.coords t 0).val, 0, 0] := by decide +kernel
theorem it14 : ∀ t : Fin grid0.N, cc0_transform_14 (grid0.coords t) = ![(grid0.coords t 1).val, (grid0.coords t 2).val % 2, 5 * (grid0.coords t 0).val + (grid0.coords t 2).val / 2] := by decide +kernel
theorem it15 : ∀ t : Fin grid0.N, cc0_transform_15 (grid0.coords t) = ![(grid0.coords t 1).val, 5 * (grid0.coords t 0).val + (grid0.coords t 2).val / 2, 0, (grid0.coords t 2).val % 2] := by decide +kernel
theorem it16 : ∀ t : Fin grid0.N, cc0_transform_16 (grid0.coords t) = ![(grid0.coords t 1).val, 5 * (grid0.coords t 0).val + (grid0.coords t 2).val / 2, 0, (grid0.coords t 2).val % 2] := by decide +kernel
theorem it17 : ∀ t : Fin grid0.N, cc0_transform_17 (grid0.coords t) = ![(grid0.coords t 1).val, 5 * (grid0.coords t 0).val + (grid0.coords t 2).val / 2, 0, (grid0.coords t 2).val % 2] := by decide +kernel

variable (a : (pcfg0 (F := Ideal)).Adm) (m : (ℓ : Loc nD τ sig) → Buf (Elt Ideal) ℓ) (c : Dev nD) (t : Fin (cfg0 a).N)

theorem ix0 : ((cfg0 a).win 0).index t = ![(grid0.coords t 1).val, 5 * (grid0.coords t 0).val + (grid0.coords t 2).val / 2, (grid0.coords t 2).val % 2, 0] := it0 t
theorem ix1 : ((cfg0 a).win 1).index t = ![(grid0.coords t 1).val, 5 * (grid0.coords t 0).val + (grid0.coords t 2).val / 2, 0, (grid0.coords t 2).val % 2] := it1 t
theorem ix2 : ((cfg0 a).win 2).index t = ![(grid0.coords t 0).val, 0, 0] := it2 t
theorem ix3 : ((cfg0 a).win 3).index t = ![(grid0.coords t 0).val, 0, 0] := it3 t
theorem ix4 : ((cfg0 a).win 4).index t = ![(grid0.coords t 0).val, 0, 0] := it4 t
theorem ix5 : ((cfg0 a).win 5).index t = ![(grid0.coords t 0).val, 0, 0] := it5 t
theorem ix6 : ((cfg0 a).win 6).index t = ![(grid0.coords t 1).val, (grid0.coords t 0).val, 0, 0] := it6 t
theorem ix7 : ((cfg0 a).win 7).index t = ![(grid0.coords t 1).val, (grid0.coords t 0).val, 0, 0] := it7 t
theorem ix8 : ((cfg0 a).win 8).index t = ![(grid0.coords t 1).val, (grid0.coords t 0).val, 0, 0] := it8 t
theorem ix9 : ((cfg0 a).win 9).index t = ![(grid0.coords t 1).val, (grid0.coords t 0).val, 0, 0] := it9 t
theorem ix14 : ((cfg0 a).win 14).index t = ![(grid0.coords t 1).val, (grid0.coords t 2).val % 2, 5 * (grid0.coords t 0).val + (grid0.coords t 2).val / 2] := it14 t
theorem ix15 : ((cfg0 a).win 15).index t = ![(grid0.coords t 1).val, 5 * (grid0.coords t 0).val + (grid0.coords t 2).val / 2, 0, (grid0.coords t 2).val % 2] := it15 t
theorem ix16 : ((cfg0 a).win 16).index t = ![(grid0.coords t 1).val, 5 * (grid0.coords t 0).val + (grid0.coords t 2).val / 2, 0, (grid0.coords t 2).val % 2] := it16 t
theorem ix17 : ((cfg0 a).win 17).index t = ![(grid0.coords t 1).val, 5 * (grid0.coords t 0).val + (grid0.coords t 2).val / 2, 0, (grid0.coords t 2).val % 2] := it17 t

theorem w0 (b : Fin 4) (kh : Fin 8) (h : Fin 40) (s : Fin 512) (q : Fin 256) (k : Fin 128) (hb : (grid0.coords t 1).val = b) (hh : 5 * (grid0.coords t 0).val + (grid0.coords t 2).val / 2 = (h : ℕ)) (hs : (grid0.coords t 2).val % 2 * 256 + q = (s : ℕ)) :
    iblk a m c 0 t (Idealize.ShloMosaic.ix4 0 0 q k) = m ((c.tc : Thread nD τ).loc main_arg0) (Idealize.ShloMosaic.ix4 b s h k) := by
  have e : V m c main_v0 (Idealize.ShloMosaic.ix4 b h s k) = m ((c.tc : Thread nD τ).loc main_arg0) (Idealize.ShloMosaic.ix4 b s h k) := by
    entry_read
    pointwise
  rw [← e]
  blk_ext [iblk, ix0 a t]

theorem w1 (b : Fin 4) (kh : Fin 8) (h : Fin 40) (s : Fin 512) (q : Fin 256) (hb : (grid0.coords t 1).val = b) (hh : 5 * (grid0.coords t 0).val + (grid0.coords t 2).val / 2 = (h : ℕ)) (hs : (grid0.coords t 2).val % 2 * 256 + q = (s : ℕ)) :
    iblk a m c 1 t (Idealize.ShloMosaic.ix4 0 0 0 q) = m ((c.tc : Thread nD τ).loc main_arg1) (Idealize.ShloMosaic.ix3 b s h) := by
  have e : V m c main_v2 (Idealize.ShloMosaic.ix4 b h 0 s) = m ((c.tc : Thread nD τ).loc main_arg1) (Idealize.ShloMosaic.ix3 b s h) := by
    entry_read
    pointwise
  rw [← e]
  blk_ext [iblk, ix1 a t]

theorem w2 (kh : Fin 8) (p : Fin 32768) (k : Fin 128) (hk : (grid0.coords t 0).val = kh) :
    iblk a m c 2 t (Idealize.ShloMosaic.ix3 0 p k) = m ((c.tc : Thread nD τ).loc main_arg2) (Idealize.ShloMosaic.ix3 p kh k) := by
  have e : V m c main_v3 (Idealize.ShloMosaic.ix3 kh p k) = m ((c.tc : Thread nD τ).loc main_arg2) (Idealize.ShloMosaic.ix3 p kh k) := by
    entry_read
    pointwise
  rw [← e]
  blk_ext [iblk, ix2 a t]

theorem w3 (kh : Fin 8) (p : Fin 32768) (k : Fin 128) (hk : (grid0.coords t 0).val = kh) :
    iblk a m c 3 t (Idealize.ShloMosaic.ix3 0 k p) = m ((c.tc : Thread nD τ).loc main_arg3) (Idealize.ShloMosaic.ix3 p kh k) := by
  have e : V m c main_v4 (Idealize.ShloMosaic.ix3 kh k p) = m ((c.tc : Thread nD τ).loc main_arg3) (Idealize.ShloMosaic.ix3 p kh k) := by
    entry_read
    pointwise
  rw [← e]
  blk_ext [iblk, ix3 a t]

theorem w4 (kh : Fin 8) (p : Fin 32768) (hk : (grid0.coords t 0).val = kh) :
    iblk a m c 4 t (Idealize.ShloMosaic.ix3 0 0 p) = m ((c.tc : Thread nD τ).loc main_arg5) (Idealize.ShloMosaic.ix2 p kh) := by
  have e : V m c main_v7 (Idealize.ShloMosaic.ix3 kh 0 p) = m ((c.tc : Thread nD τ).loc main_arg5) (Idealize.ShloMosaic.ix2 p kh) := by
    entry_read
    pointwise
  rw [← e]
  blk_ext [iblk, ix4 a t]

theorem w5 (kh : Fin 8) (p : Fin 32768) (j : Fin 8) (r : Fin 4096) (hp : 8 * r.val + j.val = (p : ℕ)) (hk : (grid0.coords t 0).val = kh) :
    iblk a m c 5 t (Idealize.ShloMosaic.ix3 0 j r) = m ((c.tc : Thread nD τ).loc main_arg4) (Idealize.ShloMosaic.ix2 p kh) := by
  have e : V m c main_v9 (Idealize.ShloMosaic.ix3 kh j r) = m ((c.tc : Thread nD τ).loc main_arg4) (Idealize.ShloMosaic.ix2 p kh) := by
    entry_read
    pointwise
    blk_ext
  rw [← e]
  blk_ext [iblk, ix5 a t]

theorem w6 (b : Fin 4) (kh : Fin 8) (p : Fin 512) (k : Fin 128) (hb : (grid0.coords t 1).val = b) (hk : (grid0.coords t 0).val = kh) :
    iblk a m c 6 t (Idealize.ShloMosaic.ix4 0 0 p k) = m ((c.tc : Thread nD τ).loc main_arg6) (Idealize.ShloMosaic.ix4 b p kh k) := by
  have e : V m c main_v10 (Idealize.ShloMosaic.ix4 b kh p k) = m ((c.tc : Thread nD τ).loc main_arg6) (Idealize.ShloMosaic.ix4 b p kh k) := by
    entry_read
    pointwise
  rw [← e]
  blk_ext [iblk, ix6 a t]

theorem w7 (b : Fin 4) (kh : Fin 8) (p : Fin 512) (k : Fin 128) (hb : (grid0.coords t 1).val = b) (hk : (grid0.coords t 0).val = kh) :
    iblk a m c 7 t (Idealize.ShloMosaic.ix4 0 0 k p) = m ((c.tc : Thread nD τ).loc main_arg7) (Idealize.ShloMosaic.ix4 b p kh k) := by
  have e : V m c main_v11 (Idealize.ShloMosaic.ix4 b kh k p) = m ((c.tc : Thread nD τ).loc main_arg7) (Idealize.ShloMosaic.ix4 b p kh k) := by
    entry_read
    pointwise
  rw [← e]
  blk_ext [iblk, ix7 a t]

theorem w8 (b : Fin 4) (kh : Fin 8) (p : Fin 512) (hb : (grid0.coords t 1).val = b) (hk : (grid0.coords t 0).val = kh) :
    iblk a m c 8 t (Idealize.ShloMosaic.ix4 0 0 0 p) = m ((c.tc : Thread nD τ).loc main_arg9) (Idealize.ShloMosaic.ix3 b p kh) := by
  have e : V m c main_v14 (Idealize.ShloMosaic.ix4 b kh 0 p) = m ((c.tc : Thread nD τ).loc main_arg9) (Idealize.ShloMosaic.ix3 b p kh) := by
    entry_read
    pointwise
  rw [← e]
  blk_ext [iblk, ix8 a t]

theorem w9 (b : Fin 4) (kh : Fin 8) (p : Fin 512) (k : Fin 128) (hb : (grid0.coords t 1).val = b) (hk : (grid0.coords t 0).val = kh) :
    iblk a m c 9 t (Idealize.ShloMosaic.ix4 0 0 p k) = m ((c.tc : Thread nD τ).loc main_arg8) (Idealize.ShloMosaic.ix3 b p kh) := by
  have e : V m c main_v22 (Idealize.ShloMosaic.ix4 b kh p k) = m ((c.tc : Thread nD τ).loc main_arg8) (Idealize.ShloMosaic.ix3 b p kh) := by
    entry_read
    pointwise
  rw [← e]
  blk_ext [iblk, ix9 a t]

/-- The word of the table a point reads. -/
theorem at_word (h : Cert.Pre_KernelIdeal m) (i : grid0.Coords) (b : Fin 4) (hb : (i 1).val = b) :
    BitVec.toNat (w := 32) ((adm m h).1.at 0 (Rect.unit (s := S4) ![(Scalar.indexCast (BitVec.ofNat 32 (i 1).val) : Index).toNat] S1.size (k0_off1_inb i)) numel1_S1) = BitVec.toNat (w := 32) (m (((0 : Dev nD).tc : Thread nD τ).loc main_arg14) (Idealize.ShloMosaic.ix1 b)) := by
  have e : (adm m h).1 0 = m (((0 : Dev nD).tc : Thread nD τ).loc main_arg14) := V_main_arg14 m 0
  refine congrArg (BitVec.toNat (w := 32)) ((congrFun e _).trans (congrArg (m (((0 : Dev nD).tc : Thread nD τ).loc main_arg14)) ?_))
  funext x
  apply Fin.ext
  revert x
  show ∀ x : Fin 1, _
  intro x
  obtain rfl : x = 0 := Subsingleton.elim _ _
  show (BitVec.ofNat 32 (i 1).val).toNat + 1 * 0 = b.val
  have := b.isLt
  rw [BitVec.toNat_ofNat]
  omega

theorem kh_nat (i : grid0.Coords) (kh : Fin 8) (hk : (i 0).val = kh) : (BitVec.ofNat 32 (i 0).val).toNat = kh := by
  have := kh.isLt
  rw [BitVec.toNat_ofNat]
  omega

theorem ix10 (h : Cert.Pre_KernelIdeal m) (t : Fin (cfg0 (adm m h)).N) (b : Fin 4) (kh : Fin 8) (w : Fin 3) (hb : (grid0.coords t 1).val = b) (hk : (grid0.coords t 0).val = kh) (hw : BitVec.toNat (w := 32) (m (((0 : Dev nD).tc : Thread nD τ).loc main_arg14) (Idealize.ShloMosaic.ix1 b)) = (w : ℕ)) : ((cfg0 (adm m h)).win 10).index t = ![w.val, kh.val, 0, 0] := by
  show cc0_transform_10 k0_off1_inb numel1_S1 (adm m h).1 (grid0.coords t) = _
  rw [← hw, ← at_word m h (grid0.coords t) b hb, ← kh_nat (grid0.coords t) kh hk]
  rfl

theorem ix11 (h : Cert.Pre_KernelIdeal m) (t : Fin (cfg0 (adm m h)).N) (b : Fin 4) (kh : Fin 8) (w : Fin 3) (hb : (grid0.coords t 1).val = b) (hk : (grid0.coords t 0).val = kh) (hw : BitVec.toNat (w := 32) (m (((0 : Dev nD).tc : Thread nD τ).loc main_arg14) (Idealize.ShloMosaic.ix1 b)) = (w : ℕ)) : ((cfg0 (adm m h)).win 11).index t = ![w.val, kh.val, 0, 0] := by
  show cc0_transform_11 k0_off1_inb numel1_S1 (adm m h).1 (grid0.coords t) = _
  rw [← hw, ← at_word m h (grid0.coords t) b hb, ← kh_nat (grid0.coords t) kh hk]
  rfl

theorem ix12 (h : Cert.Pre_KernelIdeal m) (t : Fin (cfg0 (adm m h)).N) (b : Fin 4) (kh : Fin 8) (w : Fin 3) (hb : (grid0.coords t 1).val = b) (hk : (grid0.coords t 0).val = kh) (hw : BitVec.toNat (w := 32) (m (((0 : Dev nD).tc : Thread nD τ).loc main_arg14) (Idealize.ShloMosaic.ix1 b)) = (w : ℕ)) : ((cfg0 (adm m h)).win 12).index t = ![w.val, kh.val, 0, 0] := by
  show cc0_transform_12 k0_off1_inb numel1_S1 (adm m h).1 (grid0.coords t) = _
  rw [← hw, ← at_word m h (grid0.coords t) b hb, ← kh_nat (grid0.coords t) kh hk]
  rfl

theorem ix13 (h : Cert.Pre_KernelIdeal m) (t : Fin (cfg0 (adm m h)).N) (b : Fin 4) (kh : Fin 8) (w : Fin 3) (hb : (grid0.coords t 1).val = b) (hk : (grid0.coords t 0).val = kh) (hw : BitVec.toNat (w := 32) (m (((0 : Dev nD).tc : Thread nD τ).loc main_arg14) (Idealize.ShloMosaic.ix1 b)) = (w : ℕ)) : ((cfg0 (adm m h)).win 13).index t = ![w.val, kh.val, 0, 0] := by
  show cc0_transform_13 k0_off1_inb numel1_S1 (adm m h).1 (grid0.coords t) = _
  rw [← hw, ← at_word m h (grid0.coords t) b hb, ← kh_nat (grid0.coords t) kh hk]
  rfl

theorem w10 (h : Cert.Pre_KernelIdeal m) (t : Fin (cfg0 (adm m h)).N) (b : Fin 4) (kh : Fin 8) (w : Fin 3) (p : Fin 384) (k : Fin 128) (hb : (grid0.coords t 1).val = b) (hk : (grid0.coords t 0).val = kh) (hw : BitVec.toNat (w := 32) (m (((0 : Dev nD).tc : Thread nD τ).loc main_arg14) (Idealize.ShloMosaic.ix1 b)) = (w : ℕ)) :
    iblk (adm m h) m c 10 t (Idealize.ShloMosaic.ix4 0 0 p k) = m ((c.tc : Thread nD τ).loc main_arg10) (Idealize.ShloMosaic.ix4 w p kh k) := by
  have e : V m c main_v15 (Idealize.ShloMosaic.ix4 w kh p k) = m ((c.tc : Thread nD τ).loc main_arg10) (Idealize.ShloMosaic.ix4 w p kh k) := by
    entry_read
    pointwise
  rw [← e]
  blk_ext [iblk, ix10 m h t b kh w hb hk hw]

theorem w11 (h : Cert.Pre_KernelIdeal m) (t : Fin (cfg0 (adm m h)).N) (b : Fin 4) (kh : Fin 8) (w : Fin 3) (p : Fin 384) (k : Fin 128) (hb : (grid0.coords t 1).val = b) (hk : (grid0.coords t 0).val = kh) (hw : BitVec.toNat (w := 32) (m (((0 : Dev nD).tc : Thread nD τ).loc main_arg14) (Idealize.ShloMosaic.ix1 b)) = (w : ℕ)) :
    iblk (adm m h) m c 11 t (Idealize.ShloMosaic.ix4 0 0 k p) = m ((c.tc : Thread nD τ).loc main_arg11) (Idealize.ShloMosaic.ix4 w p kh k) := by
  have e : V m c main_v16 (Idealize.ShloMosaic.ix4 w kh k p) = m ((c.tc : Thread nD τ).loc main_arg11) (Idealize.ShloMosaic.ix4 w p kh k) := by
    entry_read
    pointwise
  rw [← e]
  blk_ext [iblk, ix11 m h t b kh w hb hk hw]

theorem w12 (h : Cert.Pre_KernelIdeal m) (t : Fin (cfg0 (adm m h)).N) (b : Fin 4) (kh : Fin 8) (w : Fin 3) (p : Fin 384) (hb : (grid0.coords t 1).val = b) (hk : (grid0.coords t 0).val = kh) (hw : BitVec.toNat (w := 32) (m (((0 : Dev nD).tc : Thread nD τ).loc main_arg14) (Idealize.ShloMosaic.ix1 b)) = (w : ℕ)) :
    iblk (adm m h) m c 12 t (Idealize.ShloMosaic.ix4 0 0 0 p) = m ((c.tc : Thread nD τ).loc main_arg13) (Idealize.ShloMosaic.ix3 w p kh) := by
  have e : V m c main_v19 (Idealize.ShloMosaic.ix4 w kh 0 p) = m ((c.tc : Thread nD τ).loc main_arg13) (Idealize.ShloMosaic.ix3 w p kh) := by
    entry_read
    pointwise
  rw [← e]
  blk_ext [iblk, ix12 m h t b kh w hb hk hw]

theorem w13 (h : Cert.Pre_KernelIdeal m) (t : Fin (cfg0 (adm m h)).N) (b : Fin 4) (kh : Fin 8) (w : Fin 3) (p : Fin 384) (k : Fin 128) (hb : (grid0.coords t 1).val = b) (hk : (grid0.coords t 0).val = kh) (hw : BitVec.toNat (w := 32) (m (((0 : Dev nD).tc : Thread nD τ).loc main_arg14) (Idealize.ShloMosaic.ix1 b)) = (w : ℕ)) :
    iblk (adm m h) m c 13 t (Idealize.ShloMosaic.ix4 0 0 p k) = m ((c.tc : Thread nD τ).loc main_arg12) (Idealize.ShloMosaic.ix3 w p kh) := by
  have e : V m c main_v25 (Idealize.ShloMosaic.ix4 w kh p k) = m ((c.tc : Thread nD τ).loc main_arg12) (Idealize.ShloMosaic.ix3 w p kh) := by
    entry_read
    pointwise
  rw [← e]
  blk_ext [iblk, ix13 m h t b kh w hb hk hw]

end Cert.KernelIdeal.Hyd
-- ==== Proof.Hyd.Point.lean ====
module

public import proofs.«01_k».proof.Proof.Hyd.Row
public import proofs.«01_k».proof.Proof.Hyd.Win

@[expose] public section

set_option maxRecDepth 16384
set_option maxHeartbeats 1000000

/-! What a grid point stores, as the reference's operations at the arguments. -/

noncomputable section

namespace Cert.KernelIdeal.Hyd

open Cert.KernelIdeal Cert.KernelIdeal.Gen Cert.ReferenceIdeal.Read Cert.ReferenceIdeal.Hyd
open Idealize.ShloMosaic Idealize.ShloMosaic.TcCoe
open Cert.Soft

variable (m : (ℓ : Loc nD τ sig) → Buf (Elt Ideal) ℓ) (c : Dev nD)

theorem parv : ∀ t : Fin grid0.N, Scalar.muli (par (grid0.coords t)) 256#32 = BitVec.ofNat 32 ((grid0.coords t 2).val % 2 * 256) := by decide +kernel

/-- The argument's numbers. -/
abbrev q0 : (⟨Cert.ReferenceIdeal.S4x512x40x128, .f32⟩ : BufTy).Contents (Elt Ideal) := fun i => (m ((c.tc : Thread nD τ).loc main_arg0) i : EReal)
/-- The argument's numbers. -/
abbrev q1 : (⟨Cert.ReferenceIdeal.S32768x8x128, .f32⟩ : BufTy).Contents (Elt Ideal) := fun i => (m ((c.tc : Thread nD τ).loc main_arg2) i : EReal)
/-- The argument's numbers. -/
abbrev q2 : (⟨Cert.ReferenceIdeal.S32768x8x128, .f32⟩ : BufTy).Contents (Elt Ideal) := fun i => (m ((c.tc : Thread nD τ).loc main_arg3) i : EReal)
/-- The argument's numbers. -/
abbrev q3 : (⟨Cert.ReferenceIdeal.S4x512x8x128, .f32⟩ : BufTy).Contents (Elt Ideal) := fun i => (m ((c.tc : Thread nD τ).loc main_arg6) i : EReal)
/-- The argument's numbers. -/
abbrev q4 : (⟨Cert.ReferenceIdeal.S4x512x8x128, .f32⟩ : BufTy).Contents (Elt Ideal) := fun i => (m ((c.tc : Thread nD τ).loc main_arg7) i : EReal)
/-- The argument's numbers. -/
abbrev q5 : (⟨Cert.ReferenceIdeal.S3x384x8x128, .f32⟩ : BufTy).Contents (Elt Ideal) := fun i => (m ((c.tc : Thread nD τ).loc main_arg10) i : EReal)
/-- The argument's numbers. -/
abbrev q6 : (⟨Cert.ReferenceIdeal.S3x384x8x128, .f32⟩ : BufTy).Contents (Elt Ideal) := fun i => (m ((c.tc : Thread nD τ).loc main_arg11) i : EReal)

theorem at14 (h : Cert.Pre_KernelIdeal m) (t : Fin (cfg0 (adm m h)).N) (b : Fin 4) (s : Fin 512) (kh : Fin 8) (g : Fin 5) (q : Fin 256) (w : Fin 3) (hw : BitVec.toNat (w := 32) (m (((0 : Dev nD).tc : Thread nD τ).loc main_arg14) (Idealize.ShloMosaic.ix1 b)) = (w : ℕ)) (f : Fin 128) (hb : (grid0.coords t 1).val = b) (hk : (grid0.coords t 0).val = kh) (hg : (grid0.coords t 2).val / 2 = (g : ℕ)) (hs : (grid0.coords t 2).val % 2 * 256 + q = (s : ℕ)) :
    ((dats (adm m h) m 0 c).after 14 t (Idealize.ShloMosaic.ix3 0 q f) : EReal) = val_main_v142 (F := Ideal) (m ((c.tc : Thread nD τ).loc main_arg1)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg12)) (m ((c.tc : Thread nD τ).loc main_arg13)) (m ((c.tc : Thread nD τ).loc main_arg14)) (q0 m c) (q1 m c) (q2 m c) (q3 m c) (q4 m c) (q5 m c) (q6 m c) (Idealize.ShloMosaic.ix5 b s kh g f) := by
  have hc : c = 0 := Subsingleton.elim _ _
  have hsl := s.isLt
  have hql := q.isLt
  rw [after0_14]
  unfold pA pB pD
  exact outRow (m ((c.tc : Thread nD τ).loc main_arg1)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg12)) (m ((c.tc : Thread nD τ).loc main_arg13)) (m ((c.tc : Thread nD τ).loc main_arg14)) (q0 m c) (q1 m c) (q2 m c) (q3 m c) (q4 m c) (q5 m c) (q6 m c) (iblk (adm m h) m c 0 t) (iblk (adm m h) m c 1 t) (iblk (adm m h) m c 2 t) (iblk (adm m h) m c 3 t) (iblk (adm m h) m c 4 t) (iblk (adm m h) m c 5 t) (iblk (adm m h) m c 10 t) (iblk (adm m h) m c 11 t) (iblk (adm m h) m c 12 t) (iblk (adm m h) m c 13 t) (iblk (adm m h) m c 6 t) (iblk (adm m h) m c 7 t) (iblk (adm m h) m c 8 t) (iblk (adm m h) m c 9 t) b s kh g q (grid0.coords t) ((parv t).trans (congrArg (BitVec.ofNat 32) (show (grid0.coords t 2).val % 2 * 256 = s.val - q.val by omega))) (by omega) (fun k => w0 (adm m h) m c t b kh ⟨kh.val * 5 + g.val, by omega⟩ s q k hb (show 5 * (grid0.coords t 0).val + (grid0.coords t 2).val / 2 = kh.val * 5 + g.val by omega) hs) (w1 (adm m h) m c t b kh ⟨kh.val * 5 + g.val, by omega⟩ s q hb (show 5 * (grid0.coords t 0).val + (grid0.coords t 2).val / 2 = kh.val * 5 + g.val by omega) hs) (fun p k => w2 (adm m h) m c t kh p k hk) (fun p k => w3 (adm m h) m c t kh p k hk) (fun p => w4 (adm m h) m c t kh p hk) (fun p => w5 (adm m h) m c t kh p ⟨p.val % 8, by omega⟩ ⟨p.val / 8, by omega⟩ (Nat.div_add_mod p.val 8) hk) w (by rw [hc]; exact hw) (fun p k => w10 m c h t b kh w p k hb hk hw) (fun p k => w11 m c h t b kh w p k hb hk hw) (fun p => w12 m c h t b kh w p hb hk hw) (fun p k => w13 m c h t b kh w p k hb hk hw) (fun p k => w6 (adm m h) m c t b kh p k hb hk) (fun p k => w7 (adm m h) m c t b kh p k hb hk) (fun p => w8 (adm m h) m c t b kh p hb hk) (fun p k => w9 (adm m h) m c t b kh p k hb hk) f

theorem at15 (h : Cert.Pre_KernelIdeal m) (t : Fin (cfg0 (adm m h)).N) (b : Fin 4) (s : Fin 512) (kh : Fin 8) (g : Fin 5) (q : Fin 256) (hb : (grid0.coords t 1).val = b) (hk : (grid0.coords t 0).val = kh) (hg : (grid0.coords t 2).val / 2 = (g : ℕ)) (hs : (grid0.coords t 2).val % 2 * 256 + q = (s : ℕ)) :
    ((dats (adm m h) m 0 c).after 15 t (Idealize.ShloMosaic.ix4 0 0 0 q) : EReal) = val_main_v80 (F := Ideal) (m ((c.tc : Thread nD τ).loc main_arg1)) (m ((c.tc : Thread nD τ).loc main_arg4)) (q0 m c) (q1 m c) (Idealize.ShloMosaic.ix4 b s kh g) - Ideal.log (Ideal.ofBits FTy.f32 1191182336#32) := by
  have hc : c = 0 := Subsingleton.elim _ _
  have hsl := s.isLt
  have hql := q.isLt
  rw [after0_15]
  unfold pA
  exact lseA (m ((c.tc : Thread nD τ).loc main_arg1)) (m ((c.tc : Thread nD τ).loc main_arg4)) (q0 m c) (q1 m c) (iblk (adm m h) m c 0 t) (iblk (adm m h) m c 1 t) (iblk (adm m h) m c 2 t) (iblk (adm m h) m c 3 t) (iblk (adm m h) m c 4 t) (iblk (adm m h) m c 5 t) b s kh g q (fun k => w0 (adm m h) m c t b kh ⟨kh.val * 5 + g.val, by omega⟩ s q k hb (show 5 * (grid0.coords t 0).val + (grid0.coords t 2).val / 2 = kh.val * 5 + g.val by omega) hs) (w1 (adm m h) m c t b kh ⟨kh.val * 5 + g.val, by omega⟩ s q hb (show 5 * (grid0.coords t 0).val + (grid0.coords t 2).val / 2 = kh.val * 5 + g.val by omega) hs) (fun p k => w2 (adm m h) m c t kh p k hk) (fun p => w5 (adm m h) m c t kh p ⟨p.val % 8, by omega⟩ ⟨p.val / 8, by omega⟩ (Nat.div_add_mod p.val 8) hk)

theorem at16 (h : Cert.Pre_KernelIdeal m) (t : Fin (cfg0 (adm m h)).N) (b : Fin 4) (s : Fin 512) (kh : Fin 8) (g : Fin 5) (q : Fin 256) (hb : (grid0.coords t 1).val = b) (hk : (grid0.coords t 0).val = kh) (hg : (grid0.coords t 2).val / 2 = (g : ℕ)) (hs : (grid0.coords t 2).val % 2 * 256 + q = (s : ℕ)) :
    ((dats (adm m h) m 0 c).after 16 t (Idealize.ShloMosaic.ix4 0 0 0 q) : EReal) = val_main_v96 (F := Ideal) (m ((c.tc : Thread nD τ).loc main_arg1)) (m ((c.tc : Thread nD τ).loc main_arg8)) (q0 m c) (q3 m c) (Idealize.ShloMosaic.ix4 b s kh g) - Ideal.log (FloatOps.sitofp (F := Ideal) FTy.f32 (IntOp.addi 1#32 (BitVec.ofNat 32 s))) := by
  have hc : c = 0 := Subsingleton.elim _ _
  have hsl := s.isLt
  have hql := q.isLt
  rw [after0_16]
  unfold pD
  exact lseC (m ((c.tc : Thread nD τ).loc main_arg1)) (m ((c.tc : Thread nD τ).loc main_arg8)) (q0 m c) (q3 m c) (iblk (adm m h) m c 0 t) (iblk (adm m h) m c 1 t) (iblk (adm m h) m c 6 t) (iblk (adm m h) m c 7 t) (iblk (adm m h) m c 8 t) (iblk (adm m h) m c 9 t) b s kh g q (grid0.coords t) ((parv t).trans (congrArg (BitVec.ofNat 32) (show (grid0.coords t 2).val % 2 * 256 = s.val - q.val by omega))) (by omega) (fun k => w0 (adm m h) m c t b kh ⟨kh.val * 5 + g.val, by omega⟩ s q k hb (show 5 * (grid0.coords t 0).val + (grid0.coords t 2).val / 2 = kh.val * 5 + g.val by omega) hs) (w1 (adm m h) m c t b kh ⟨kh.val * 5 + g.val, by omega⟩ s q hb (show 5 * (grid0.coords t 0).val + (grid0.coords t 2).val / 2 = kh.val * 5 + g.val by omega) hs) (fun p k => w6 (adm m h) m c t b kh p k hb hk) (fun p k => w9 (adm m h) m c t b kh p k hb hk)

theorem at17 (h : Cert.Pre_KernelIdeal m) (t : Fin (cfg0 (adm m h)).N) (b : Fin 4) (s : Fin 512) (kh : Fin 8) (g : Fin 5) (q : Fin 256) (w : Fin 3) (hw : BitVec.toNat (w := 32) (m (((0 : Dev nD).tc : Thread nD τ).loc main_arg14) (Idealize.ShloMosaic.ix1 b)) = (w : ℕ)) (hb : (grid0.coords t 1).val = b) (hk : (grid0.coords t 0).val = kh) (hg : (grid0.coords t 2).val / 2 = (g : ℕ)) (hs : (grid0.coords t 2).val % 2 * 256 + q = (s : ℕ)) :
    ((dats (adm m h) m 0 c).after 17 t (Idealize.ShloMosaic.ix4 0 0 0 q) : EReal) = val_main_v88 (F := Ideal) (m ((c.tc : Thread nD τ).loc main_arg1)) (m ((c.tc : Thread nD τ).loc main_arg12)) (m ((c.tc : Thread nD τ).loc main_arg14)) (q0 m c) (q5 m c) (Idealize.ShloMosaic.ix4 b s kh g) - Ideal.log (Ideal.ofBits FTy.f32 1136656384#32) := by
  have hc : c = 0 := Subsingleton.elim _ _
  have hsl := s.isLt
  have hql := q.isLt
  rw [after0_17]
  unfold pB
  exact lseB (m ((c.tc : Thread nD τ).loc main_arg1)) (m ((c.tc : Thread nD τ).loc main_arg12)) (m ((c.tc : Thread nD τ).loc main_arg14)) (q0 m c) (q5 m c) (iblk (adm m h) m c 0 t) (iblk (adm m h) m c 1 t) (iblk (adm m h) m c 10 t) (iblk (adm m h) m c 11 t) (iblk (adm m h) m c 12 t) (iblk (adm m h) m c 13 t) b s kh g q (fun k => w0 (adm m h) m c t b kh ⟨kh.val * 5 + g.val, by omega⟩ s q k hb (show 5 * (grid0.coords t 0).val + (grid0.coords t 2).val / 2 = kh.val * 5 + g.val by omega) hs) (w1 (adm m h) m c t b kh ⟨kh.val * 5 + g.val, by omega⟩ s q hb (show 5 * (grid0.coords t 0).val + (grid0.coords t 2).val / 2 = kh.val * 5 + g.val by omega) hs) w (by rw [hc]; exact hw) (fun p k => w10 m c h t b kh w p k hb hk hw) (fun p k => w13 m c h t b kh w p k hb hk hw)

end Cert.KernelIdeal.Hyd
-- ==== Proof.Hyd.Covers.lean ====
module

public import proofs.«01_k».proof.Proof.Hyd.Win
public import Idealize.ShloMosaic.Lib.Pipeline.Covers
public import Idealize.ShloMosaic.Lib.Pipeline.ValueKit

@[expose] public section

set_option maxRecDepth 16384
set_option maxHeartbeats 1000000

/-! The grid points' blocks cover each result. -/

noncomputable section

namespace Cert.KernelIdeal.Hyd

open Cert.KernelIdeal Cert.KernelIdeal.Gen
open Idealize.ShloMosaic Idealize.ShloMosaic.TcCoe

variable (m : (ℓ : Loc nD τ sig) → Buf (Elt Ideal) ℓ) (c : Dev nD)

/-- The grid point of a row block of a head. -/
def pt (b : Fin 4) (r : Fin 2) (f : Fin 40) : grid0.Coords := fun a => match a with
  | ⟨0, _⟩ => (⟨f.val / 5, by omega⟩ : Fin 8)
  | ⟨1, _⟩ => (b : Fin 4)
  | ⟨2, _⟩ => (⟨f.val % 5 * 2 + r.val, by omega⟩ : Fin 10)

theorem sur14 : ∀ (b : Fin 4) (r : Fin 2) (f : Fin 40), cc0_transform_14 (pt b r f) = ![b.val, r.val, f.val] := by decide +kernel
theorem sur15 : ∀ (b : Fin 4) (r : Fin 2) (f : Fin 40), cc0_transform_15 (pt b r f) = ![b.val, f.val, 0, r.val] := by decide +kernel
theorem sur16 : ∀ (b : Fin 4) (r : Fin 2) (f : Fin 40), cc0_transform_16 (pt b r f) = ![b.val, f.val, 0, r.val] := by decide +kernel
theorem sur17 : ∀ (b : Fin 4) (r : Fin 2) (f : Fin 40), cc0_transform_17 (pt b r f) = ![b.val, f.val, 0, r.val] := by decide +kernel

variable (a : (pcfg0 (F := Ideal)).Adm)

theorem n2a : ((cfg0 a).win 14).shape.size ⟨2, show 2 < 3 by decide⟩ = 5120 := rfl
theorem n2b : ((cfg0 a).win 14).size ⟨2, show 2 < 3 by decide⟩ = 128 := rfl
theorem n2 : ((cfg0 a).win 14).nblk ⟨2, show 2 < 3 by decide⟩ = 40 := by
  exact (congrArg₂ (fun x y : ℕ => (x + y - 1) / y) (n2a a) (n2b a)).trans (by norm_num)

theorem cov14 : ((cfg0 a).win 14).Covers :=
  ((cfg0 a).win 14).covers_of_indexMap_surj rfl (fun x => match x with | ⟨0, _⟩ => show 0 < 1 by decide | ⟨1, _⟩ => show 0 < 256 by decide | ⟨2, _⟩ => show 0 < 128 by decide) fun β => ⟨pt (⟨(β ⟨0, show 0 < 3 by decide⟩).val, lt_of_lt_of_eq (β ⟨0, show 0 < 3 by decide⟩).isLt (by with_unfolding_all rfl)⟩ : Fin 4) (⟨(β ⟨1, show 1 < 3 by decide⟩).val, lt_of_lt_of_eq (β ⟨1, show 1 < 3 by decide⟩).isLt (by with_unfolding_all rfl)⟩ : Fin 2) (⟨(β ⟨2, show 2 < 3 by decide⟩).val, lt_of_lt_of_eq (β ⟨2, show 2 < 3 by decide⟩).isLt (n2 a)⟩ : Fin 40), fun x => match x with
    | ⟨0, _⟩ => congrFun (sur14 _ _ _) 0
    | ⟨1, _⟩ => congrFun (sur14 _ _ _) 1
    | ⟨2, _⟩ => congrFun (sur14 _ _ _) 2⟩

theorem cov15 : ((cfg0 a).win 15).Covers :=
  ((cfg0 a).win 15).covers_of_indexMap_surj rfl (fun x => match x with | ⟨0, _⟩ => show 0 < 1 by decide | ⟨1, _⟩ => show 0 < 1 by decide | ⟨2, _⟩ => show 0 < 1 by decide | ⟨3, _⟩ => show 0 < 256 by decide) fun β => ⟨pt (⟨(β ⟨0, show 0 < 4 by decide⟩).val, lt_of_lt_of_eq (β ⟨0, show 0 < 4 by decide⟩).isLt (by with_unfolding_all rfl)⟩ : Fin 4) (⟨(β ⟨3, show 3 < 4 by decide⟩).val, lt_of_lt_of_eq (β ⟨3, show 3 < 4 by decide⟩).isLt (by with_unfolding_all rfl)⟩ : Fin 2) (⟨(β ⟨1, show 1 < 4 by decide⟩).val, lt_of_lt_of_eq (β ⟨1, show 1 < 4 by decide⟩).isLt (by with_unfolding_all rfl)⟩ : Fin 40), fun x => match x with
    | ⟨0, _⟩ => congrFun (sur15 _ _ _) 0
    | ⟨1, _⟩ => congrFun (sur15 _ _ _) 1
    | ⟨2, _⟩ => (show cc0_transform_15 (pt (⟨(β ⟨0, show 0 < 4 by decide⟩).val, lt_of_lt_of_eq (β ⟨0, show 0 < 4 by decide⟩).isLt (by with_unfolding_all rfl)⟩ : Fin 4) (⟨(β ⟨3, show 3 < 4 by decide⟩).val, lt_of_lt_of_eq (β ⟨3, show 3 < 4 by decide⟩).isLt (by with_unfolding_all rfl)⟩ : Fin 2) (⟨(β ⟨1, show 1 < 4 by decide⟩).val, lt_of_lt_of_eq (β ⟨1, show 1 < 4 by decide⟩).isLt (by with_unfolding_all rfl)⟩ : Fin 40)) 2 = 0 from congrFun (sur15 (⟨(β ⟨0, show 0 < 4 by decide⟩).val, lt_of_lt_of_eq (β ⟨0, show 0 < 4 by decide⟩).isLt (by with_unfolding_all rfl)⟩ : Fin 4) (⟨(β ⟨3, show 3 < 4 by decide⟩).val, lt_of_lt_of_eq (β ⟨3, show 3 < 4 by decide⟩).isLt (by with_unfolding_all rfl)⟩ : Fin 2) (⟨(β ⟨1, show 1 < 4 by decide⟩).val, lt_of_lt_of_eq (β ⟨1, show 1 < 4 by decide⟩).isLt (by with_unfolding_all rfl)⟩ : Fin 40)) 2).trans (Nat.lt_one_iff.mp (lt_of_lt_of_eq (β ⟨2, show 2 < 4 by decide⟩).isLt (by with_unfolding_all rfl))).symm
    | ⟨3, _⟩ => congrFun (sur15 _ _ _) 3⟩

theorem cov16 : ((cfg0 a).win 16).Covers :=
  ((cfg0 a).win 16).covers_of_indexMap_surj rfl (fun x => match x with | ⟨0, _⟩ => show 0 < 1 by decide | ⟨1, _⟩ => show 0 < 1 by decide | ⟨2, _⟩ => show 0 < 1 by decide | ⟨3, _⟩ => show 0 < 256 by decide) fun β => ⟨pt (⟨(β ⟨0, show 0 < 4 by decide⟩).val, lt_of_lt_of_eq (β ⟨0, show 0 < 4 by decide⟩).isLt (by with_unfolding_all rfl)⟩ : Fin 4) (⟨(β ⟨3, show 3 < 4 by decide⟩).val, lt_of_lt_of_eq (β ⟨3, show 3 < 4 by decide⟩).isLt (by with_unfolding_all rfl)⟩ : Fin 2) (⟨(β ⟨1, show 1 < 4 by decide⟩).val, lt_of_lt_of_eq (β ⟨1, show 1 < 4 by decide⟩).isLt (by with_unfolding_all rfl)⟩ : Fin 40), fun x => match x with
    | ⟨0, _⟩ => congrFun (sur16 _ _ _) 0
    | ⟨1, _⟩ => congrFun (sur16 _ _ _) 1
    | ⟨2, _⟩ => (show cc0_transform_16 (pt (⟨(β ⟨0, show 0 < 4 by decide⟩).val, lt_of_lt_of_eq (β ⟨0, show 0 < 4 by decide⟩).isLt (by with_unfolding_all rfl)⟩ : Fin 4) (⟨(β ⟨3, show 3 < 4 by decide⟩).val, lt_of_lt_of_eq (β ⟨3, show 3 < 4 by decide⟩).isLt (by with_unfolding_all rfl)⟩ : Fin 2) (⟨(β ⟨1, show 1 < 4 by decide⟩).val, lt_of_lt_of_eq (β ⟨1, show 1 < 4 by decide⟩).isLt (by with_unfolding_all rfl)⟩ : Fin 40)) 2 = 0 from congrFun (sur16 (⟨(β ⟨0, show 0 < 4 by decide⟩).val, lt_of_lt_of_eq (β ⟨0, show 0 < 4 by decide⟩).isLt (by with_unfolding_all rfl)⟩ : Fin 4) (⟨(β ⟨3, show 3 < 4 by decide⟩).val, lt_of_lt_of_eq (β ⟨3, show 3 < 4 by decide⟩).isLt (by with_unfolding_all rfl)⟩ : Fin 2) (⟨(β ⟨1, show 1 < 4 by decide⟩).val, lt_of_lt_of_eq (β ⟨1, show 1 < 4 by decide⟩).isLt (by with_unfolding_all rfl)⟩ : Fin 40)) 2).trans (Nat.lt_one_iff.mp (lt_of_lt_of_eq (β ⟨2, show 2 < 4 by decide⟩).isLt (by with_unfolding_all rfl))).symm
    | ⟨3, _⟩ => congrFun (sur16 _ _ _) 3⟩

theorem cov17 : ((cfg0 a).win 17).Covers :=
  ((cfg0 a).win 17).covers_of_indexMap_surj rfl (fun x => match x with | ⟨0, _⟩ => show 0 < 1 by decide | ⟨1, _⟩ => show 0 < 1 by decide | ⟨2, _⟩ => show 0 < 1 by decide | ⟨3, _⟩ => show 0 < 256 by decide) fun β => ⟨pt (⟨(β ⟨0, show 0 < 4 by decide⟩).val, lt_of_lt_of_eq (β ⟨0, show 0 < 4 by decide⟩).isLt (by with_unfolding_all rfl)⟩ : Fin 4) (⟨(β ⟨3, show 3 < 4 by decide⟩).val, lt_of_lt_of_eq (β ⟨3, show 3 < 4 by decide⟩).isLt (by with_unfolding_all rfl)⟩ : Fin 2) (⟨(β ⟨1, show 1 < 4 by decide⟩).val, lt_of_lt_of_eq (β ⟨1, show 1 < 4 by decide⟩).isLt (by with_unfolding_all rfl)⟩ : Fin 40), fun x => match x with
    | ⟨0, _⟩ => congrFun (sur17 _ _ _) 0
    | ⟨1, _⟩ => congrFun (sur17 _ _ _) 1
    | ⟨2, _⟩ => (show cc0_transform_17 (pt (⟨(β ⟨0, show 0 < 4 by decide⟩).val, lt_of_lt_of_eq (β ⟨0, show 0 < 4 by decide⟩).isLt (by with_unfolding_all rfl)⟩ : Fin 4) (⟨(β ⟨3, show 3 < 4 by decide⟩).val, lt_of_lt_of_eq (β ⟨3, show 3 < 4 by decide⟩).isLt (by with_unfolding_all rfl)⟩ : Fin 2) (⟨(β ⟨1, show 1 < 4 by decide⟩).val, lt_of_lt_of_eq (β ⟨1, show 1 < 4 by decide⟩).isLt (by with_unfolding_all rfl)⟩ : Fin 40)) 2 = 0 from congrFun (sur17 (⟨(β ⟨0, show 0 < 4 by decide⟩).val, lt_of_lt_of_eq (β ⟨0, show 0 < 4 by decide⟩).isLt (by with_unfolding_all rfl)⟩ : Fin 4) (⟨(β ⟨3, show 3 < 4 by decide⟩).val, lt_of_lt_of_eq (β ⟨3, show 3 < 4 by decide⟩).isLt (by with_unfolding_all rfl)⟩ : Fin 2) (⟨(β ⟨1, show 1 < 4 by decide⟩).val, lt_of_lt_of_eq (β ⟨1, show 1 < 4 by decide⟩).isLt (by with_unfolding_all rfl)⟩ : Fin 40)) 2).trans (Nat.lt_one_iff.mp (lt_of_lt_of_eq (β ⟨2, show 2 < 4 by decide⟩).isLt (by with_unfolding_all rfl))).symm
    | ⟨3, _⟩ => congrFun (sur17 _ _ _) 3⟩

end Cert.KernelIdeal.Hyd
-- ==== Proof.Hyd.Cuts.lean ====
module

public import proofs.«01_k».proof.Proof.Hyd.Covers
public import Idealize.ShloMosaic.Lib.Pipeline.Covers
public import Idealize.ShloMosaic.Lib.Pipeline.ValueKit

@[expose] public section

set_option maxRecDepth 16384
set_option maxHeartbeats 1000000

/-! A result's array, from what each point stores of it. -/

noncomputable section

namespace Cert.KernelIdeal.Hyd

open Cert.KernelIdeal Cert.KernelIdeal.Gen
open Idealize.ShloMosaic Idealize.ShloMosaic.TcCoe

variable (m : (ℓ : Loc nD τ sig) → Buf (Elt Ideal) ℓ) (c : Dev nD)

theorem cd0 (t : Fin grid0.N) : (grid0.coords t 0).val < 8 := (grid0.coords t 0).isLt
theorem cd1 (t : Fin grid0.N) : (grid0.coords t 1).val < 4 := (grid0.coords t 1).isLt
theorem cd2 (t : Fin grid0.N) : (grid0.coords t 2).val < 10 := (grid0.coords t 2).isLt

variable (a : (pcfg0 (F := Ideal)).Adm)

theorem cut15 (Z : S4x40x1x512.Idx → EReal)
    (key : ∀ (t : Fin (cfg0 a).N) (b : Fin 4) (s : Fin 512) (kh : Fin 8) (g : Fin 5) (q : Fin 256), (grid0.coords t 1).val = b → (grid0.coords t 0).val = kh → (grid0.coords t 2).val / 2 = (g : ℕ) → (grid0.coords t 2).val % 2 * 256 + q = (s : ℕ) → Z (Idealize.ShloMosaic.ix4 b ⟨kh.val * 5 + g.val, by omega⟩ 0 s) = (dats a m 0 c).after 15 t (Idealize.ShloMosaic.ix4 0 0 0 q)) :
    (dats a m 0 c).arrAt 15 (cfg0 a).N = Z := by
  refine (dats a m 0 c).arrAt_eq_of_covers 15 _ (cov15 a) fun t hf y => ?_
  have key := key t
  have i0 := cd0 t
  have i1 := cd1 t
  have i2 := cd2 t
  blk_simp
  generalize (dats a m 0 c).after 15 t = AF at key ⊢
  suffices hh : AF (((cfg0 a).win 15).xinj ((cfg0 a).grid.coords t) y) = Z ((((cfg0 a).win 15).blk t).view.emb y) from hh
  generalize hY : ((cfg0 a).win 15).xinj ((cfg0 a).grid.coords t) y = Y
  obtain ⟨q, hq⟩ : ∃ q : Fin 256, q = (show S1x1x1x256.Idx from Y) 3 := ⟨_, rfl⟩
  have hy : Y = Idealize.ShloMosaic.ix4 (0 : Fin 1) (0 : Fin 1) (0 : Fin 1) q := by
    subst hq
    exact funext fun x => match x with | ⟨0, _⟩ => Subsingleton.elim (α := Fin 1) _ _ | ⟨1, _⟩ => Subsingleton.elim (α := Fin 1) _ _ | ⟨2, _⟩ => Subsingleton.elim (α := Fin 1) _ _ | ⟨3, _⟩ => rfl
  have v0 : (y ⟨0, show 0 < 4 by decide⟩).val = 0 := by
    have e := congrArg Fin.val (congrFun (hY.trans hy) ⟨0, show 0 < 4 by decide⟩)
    exact e
  have v1 : (y ⟨1, show 1 < 4 by decide⟩).val = 0 := by
    have e := congrArg Fin.val (congrFun (hY.trans hy) ⟨1, show 1 < 4 by decide⟩)
    exact e
  have v2 : (y ⟨2, show 2 < 4 by decide⟩).val = 0 := by
    have e := congrArg Fin.val (congrFun (hY.trans hy) ⟨2, show 2 < 4 by decide⟩)
    exact e
  have v3 : (y ⟨3, show 3 < 4 by decide⟩).val = q.val := by
    have e := congrArg Fin.val (congrFun (hY.trans hy) ⟨3, show 3 < 4 by decide⟩)
    exact e
  clear hq
  obtain ⟨b, hb⟩ : ∃ b : Fin 4, (grid0.coords t 1).val = b := ⟨⟨_, i1⟩, rfl⟩
  obtain ⟨kh, hk⟩ : ∃ k : Fin 8, (grid0.coords t 0).val = k := ⟨⟨_, i0⟩, rfl⟩
  obtain ⟨g, hg⟩ : ∃ g : Fin 5, (grid0.coords t 2).val / 2 = g := ⟨⟨(grid0.coords t 2).val / 2, by omega⟩, rfl⟩
  obtain ⟨s, hs⟩ : ∃ s : Fin 512, (grid0.coords t 2).val % 2 * 256 + q = s := ⟨⟨(grid0.coords t 2).val % 2 * 256 + q, by omega⟩, rfl⟩
  have key := key b s kh g q hb hk hg hs
  clear hf
  clear hY
  subst hy
  refine key.symm.trans ?_
  clear key

  blk_ext [ix15 a t]
  exact hs.symm.trans (congrArg (fun z => (grid0.coords t 2).val % 2 * 256 + z) v3.symm)

theorem cut14 (Z : S4x512x5120.Idx → EReal)
    (key : ∀ (t : Fin (cfg0 a).N) (b : Fin 4) (s : Fin 512) (kh : Fin 8) (g : Fin 5) (q : Fin 256) (f : Fin 128), (grid0.coords t 1).val = b → (grid0.coords t 0).val = kh → (grid0.coords t 2).val / 2 = (g : ℕ) → (grid0.coords t 2).val % 2 * 256 + q = (s : ℕ) → Z (Idealize.ShloMosaic.ix3 b s ⟨(kh.val * 5 + g.val) * 128 + f.val, by omega⟩) = (dats a m 0 c).after 14 t (Idealize.ShloMosaic.ix3 0 q f)) :
    (dats a m 0 c).arrAt 14 (cfg0 a).N = Z := by
  refine (dats a m 0 c).arrAt_eq_of_covers 14 _ (cov14 a) fun t hf y => ?_
  have key := key t
  have i0 := cd0 t
  have i1 := cd1 t
  have i2 := cd2 t
  blk_simp
  generalize (dats a m 0 c).after 14 t = AF at key ⊢
  suffices hh : AF (((cfg0 a).win 14).xinj ((cfg0 a).grid.coords t) y) = Z ((((cfg0 a).win 14).blk t).view.emb y) from hh
  generalize hY : ((cfg0 a).win 14).xinj ((cfg0 a).grid.coords t) y = Y
  obtain ⟨q, hq⟩ : ∃ q : Fin 256, q = (show S1x256x128.Idx from Y) 1 := ⟨_, rfl⟩
  obtain ⟨f, hf'⟩ : ∃ f : Fin 128, f = (show S1x256x128.Idx from Y) 2 := ⟨_, rfl⟩
  have hy : Y = Idealize.ShloMosaic.ix3 (0 : Fin 1) q f := by
    subst hq hf'
    exact funext fun x => match x with | ⟨0, _⟩ => Subsingleton.elim (α := Fin 1) _ _ | ⟨1, _⟩ => rfl | ⟨2, _⟩ => rfl
  have v0 : (y ⟨0, show 0 < 3 by decide⟩).val = 0 := by
    have e := congrArg Fin.val (congrFun (hY.trans hy) ⟨0, show 0 < 3 by decide⟩)
    exact e
  have v1 : (y ⟨1, show 1 < 3 by decide⟩).val = q.val := by
    have e := congrArg Fin.val (congrFun (hY.trans hy) ⟨1, show 1 < 3 by decide⟩)
    exact e
  have v2 : (y ⟨2, show 2 < 3 by decide⟩).val = f.val := by
    have e := congrArg Fin.val (congrFun (hY.trans hy) ⟨2, show 2 < 3 by decide⟩)
    exact e
  clear hq hf'
  obtain ⟨b, hb⟩ : ∃ b : Fin 4, (grid0.coords t 1).val = b := ⟨⟨_, i1⟩, rfl⟩
  obtain ⟨kh, hk⟩ : ∃ k : Fin 8, (grid0.coords t 0).val = k := ⟨⟨_, i0⟩, rfl⟩
  obtain ⟨g, hg⟩ : ∃ g : Fin 5, (grid0.coords t 2).val / 2 = g := ⟨⟨(grid0.coords t 2).val / 2, by omega⟩, rfl⟩
  obtain ⟨s, hs⟩ : ∃ s : Fin 512, (grid0.coords t 2).val % 2 * 256 + q = s := ⟨⟨(grid0.coords t 2).val % 2 * 256 + q, by omega⟩, rfl⟩
  have key := key b s kh g q f hb hk hg hs
  clear hf
  clear hY
  subst hy
  refine key.symm.trans ?_
  clear key
  have e2 : (kh.val * 5 + g.val) * 128 + f.val = (5 * (grid0.coords t 0).val + (grid0.coords t 2).val / 2) * 128 + f.val := by omega
  blk_ext [ix14 a t]
  all_goals first | exact hs.symm.trans (congrArg (fun z => (grid0.coords t 2).val % 2 * 256 + z) v1.symm) | exact e2.trans (congrArg (fun z => (5 * (grid0.coords t 0).val + (grid0.coords t 2).val / 2) * 128 + z) v2.symm)

theorem cut16 (Z : S4x40x1x512.Idx → EReal)
    (key : ∀ (t : Fin (cfg0 a).N) (b : Fin 4) (s : Fin 512) (kh : Fin 8) (g : Fin 5) (q : Fin 256), (grid0.coords t 1).val = b → (grid0.coords t 0).val = kh → (grid0.coords t 2).val / 2 = (g : ℕ) → (grid0.coords t 2).val % 2 * 256 + q = (s : ℕ) → Z (Idealize.ShloMosaic.ix4 b ⟨kh.val * 5 + g.val, by omega⟩ 0 s) = (dats a m 0 c).after 16 t (Idealize.ShloMosaic.ix4 0 0 0 q)) :
    (dats a m 0 c).arrAt 16 (cfg0 a).N = Z := by
  refine (dats a m 0 c).arrAt_eq_of_covers 16 _ (cov16 a) fun t hf y => ?_
  have key := key t
  have i0 := cd0 t
  have i1 := cd1 t
  have i2 := cd2 t
  blk_simp
  generalize (dats a m 0 c).after 16 t = AF at key ⊢
  suffices hh : AF (((cfg0 a).win 16).xinj ((cfg0 a).grid.coords t) y) = Z ((((cfg0 a).win 16).blk t).view.emb y) from hh
  generalize hY : ((cfg0 a).win 16).xinj ((cfg0 a).grid.coords t) y = Y
  obtain ⟨q, hq⟩ : ∃ q : Fin 256, q = (show S1x1x1x256.Idx from Y) 3 := ⟨_, rfl⟩
  have hy : Y = Idealize.ShloMosaic.ix4 (0 : Fin 1) (0 : Fin 1) (0 : Fin 1) q := by
    subst hq
    exact funext fun x => match x with | ⟨0, _⟩ => Subsingleton.elim (α := Fin 1) _ _ | ⟨1, _⟩ => Subsingleton.elim (α := Fin 1) _ _ | ⟨2, _⟩ => Subsingleton.elim (α := Fin 1) _ _ | ⟨3, _⟩ => rfl
  have v0 : (y ⟨0, show 0 < 4 by decide⟩).val = 0 := by
    have e := congrArg Fin.val (congrFun (hY.trans hy) ⟨0, show 0 < 4 by decide⟩)
    exact e
  have v1 : (y ⟨1, show 1 < 4 by decide⟩).val = 0 := by
    have e := congrArg Fin.val (congrFun (hY.trans hy) ⟨1, show 1 < 4 by decide⟩)
    exact e
  have v2 : (y ⟨2, show 2 < 4 by decide⟩).val = 0 := by
    have e := congrArg Fin.val (congrFun (hY.trans hy) ⟨2, show 2 < 4 by decide⟩)
    exact e
  have v3 : (y ⟨3, show 3 < 4 by decide⟩).val = q.val := by
    have e := congrArg Fin.val (congrFun (hY.trans hy) ⟨3, show 3 < 4 by decide⟩)
    exact e
  clear hq
  obtain ⟨b, hb⟩ : ∃ b : Fin 4, (grid0.coords t 1).val = b := ⟨⟨_, i1⟩, rfl⟩
  obtain ⟨kh, hk⟩ : ∃ k : Fin 8, (grid0.coords t 0).val = k := ⟨⟨_, i0⟩, rfl⟩
  obtain ⟨g, hg⟩ : ∃ g : Fin 5, (grid0.coords t 2).val / 2 = g := ⟨⟨(grid0.coords t 2).val / 2, by omega⟩, rfl⟩
  obtain ⟨s, hs⟩ : ∃ s : Fin 512, (grid0.coords t 2).val % 2 * 256 + q = s := ⟨⟨(grid0.coords t 2).val % 2 * 256 + q, by omega⟩, rfl⟩
  have key := key b s kh g q hb hk hg hs
  clear hf
  clear hY
  subst hy
  refine key.symm.trans ?_
  clear key

  blk_ext [ix16 a t]
  exact hs.symm.trans (congrArg (fun z => (grid0.coords t 2).val % 2 * 256 + z) v3.symm)

theorem cut17 (Z : S4x40x1x512.Idx → EReal)
    (key : ∀ (t : Fin (cfg0 a).N) (b : Fin 4) (s : Fin 512) (kh : Fin 8) (g : Fin 5) (q : Fin 256), (grid0.coords t 1).val = b → (grid0.coords t 0).val = kh → (grid0.coords t 2).val / 2 = (g : ℕ) → (grid0.coords t 2).val % 2 * 256 + q = (s : ℕ) → Z (Idealize.ShloMosaic.ix4 b ⟨kh.val * 5 + g.val, by omega⟩ 0 s) = (dats a m 0 c).after 17 t (Idealize.ShloMosaic.ix4 0 0 0 q)) :
    (dats a m 0 c).arrAt 17 (cfg0 a).N = Z := by
  refine (dats a m 0 c).arrAt_eq_of_covers 17 _ (cov17 a) fun t hf y => ?_
  have key := key t
  have i0 := cd0 t
  have i1 := cd1 t
  have i2 := cd2 t
  blk_simp
  generalize (dats a m 0 c).after 17 t = AF at key ⊢
  suffices hh : AF (((cfg0 a).win 17).xinj ((cfg0 a).grid.coords t) y) = Z ((((cfg0 a).win 17).blk t).view.emb y) from hh
  generalize hY : ((cfg0 a).win 17).xinj ((cfg0 a).grid.coords t) y = Y
  obtain ⟨q, hq⟩ : ∃ q : Fin 256, q = (show S1x1x1x256.Idx from Y) 3 := ⟨_, rfl⟩
  have hy : Y = Idealize.ShloMosaic.ix4 (0 : Fin 1) (0 : Fin 1) (0 : Fin 1) q := by
    subst hq
    exact funext fun x => match x with | ⟨0, _⟩ => Subsingleton.elim (α := Fin 1) _ _ | ⟨1, _⟩ => Subsingleton.elim (α := Fin 1) _ _ | ⟨2, _⟩ => Subsingleton.elim (α := Fin 1) _ _ | ⟨3, _⟩ => rfl
  have v0 : (y ⟨0, show 0 < 4 by decide⟩).val = 0 := by
    have e := congrArg Fin.val (congrFun (hY.trans hy) ⟨0, show 0 < 4 by decide⟩)
    exact e
  have v1 : (y ⟨1, show 1 < 4 by decide⟩).val = 0 := by
    have e := congrArg Fin.val (congrFun (hY.trans hy) ⟨1, show 1 < 4 by decide⟩)
    exact e
  have v2 : (y ⟨2, show 2 < 4 by decide⟩).val = 0 := by
    have e := congrArg Fin.val (congrFun (hY.trans hy) ⟨2, show 2 < 4 by decide⟩)
    exact e
  have v3 : (y ⟨3, show 3 < 4 by decide⟩).val = q.val := by
    have e := congrArg Fin.val (congrFun (hY.trans hy) ⟨3, show 3 < 4 by decide⟩)
    exact e
  clear hq
  obtain ⟨b, hb⟩ : ∃ b : Fin 4, (grid0.coords t 1).val = b := ⟨⟨_, i1⟩, rfl⟩
  obtain ⟨kh, hk⟩ : ∃ k : Fin 8, (grid0.coords t 0).val = k := ⟨⟨_, i0⟩, rfl⟩
  obtain ⟨g, hg⟩ : ∃ g : Fin 5, (grid0.coords t 2).val / 2 = g := ⟨⟨(grid0.coords t 2).val / 2, by omega⟩, rfl⟩
  obtain ⟨s, hs⟩ : ∃ s : Fin 512, (grid0.coords t 2).val % 2 * 256 + q = s := ⟨⟨(grid0.coords t 2).val % 2 * 256 + q, by omega⟩, rfl⟩
  have key := key b s kh g q hb hk hg hs
  clear hf
  clear hY
  subst hy
  refine key.symm.trans ?_
  clear key

  blk_ext [ix17 a t]
  exact hs.symm.trans (congrArg (fun z => (grid0.coords t 2).val % 2 * 256 + z) v3.symm)

end Cert.KernelIdeal.Hyd
-- ==== Proof.Hyd.Cover.lean ====
module

public import proofs.«01_k».proof.Proof.Hyd.Point
public import proofs.«01_k».proof.Proof.Hyd.Cuts
public import Idealize.ShloMosaic.Lib.Pipeline.ValueKit

@[expose] public section

set_option maxRecDepth 16384
set_option maxHeartbeats 1000000

/-! The four results, over the whole grid. -/

noncomputable section

namespace Cert.KernelIdeal.Hyd

open Cert.KernelIdeal Cert.KernelIdeal.Gen Cert.ReferenceIdeal.Read Cert.ReferenceIdeal.Hyd
open Idealize.ShloMosaic Idealize.ShloMosaic.TcCoe

variable (m : (ℓ : Loc nD τ sig) → Buf (Elt Ideal) ℓ) (c : Dev nD)

/-- The attention's result. -/
abbrev G14 : S4x512x5120.Idx → EReal := val_main_v144 (F := Ideal) (m ((c.tc : Thread nD τ).loc main_arg1)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg12)) (m ((c.tc : Thread nD τ).loc main_arg13)) (m ((c.tc : Thread nD τ).loc main_arg14)) (q0 m c) (q1 m c) (q2 m c) (q3 m c) (q4 m c) (q5 m c) (q6 m c)
/-- The prompt's log-sum-exp. -/
abbrev G15 : S4x40x1x512.Idx → EReal := val_main_v155 (F := Ideal) (m ((c.tc : Thread nD τ).loc main_arg1)) (m ((c.tc : Thread nD τ).loc main_arg4)) (q0 m c) (q1 m c)
/-- The log-sum-exp over the own keys. -/
abbrev G16 : S4x40x1x512.Idx → EReal := val_main_v161 (F := Ideal) (m ((c.tc : Thread nD τ).loc main_arg1)) (m ((c.tc : Thread nD τ).loc main_arg8)) (q0 m c) (q3 m c)
/-- The middle segment's log-sum-exp. -/
abbrev G17 : S4x40x1x512.Idx → EReal := val_main_v167 (F := Ideal) (m ((c.tc : Thread nD τ).loc main_arg1)) (m ((c.tc : Thread nD τ).loc main_arg12)) (m ((c.tc : Thread nD τ).loc main_arg14)) (q0 m c) (q5 m c)

theorem res14 (h : Cert.Pre_KernelIdeal m) : (dats (adm m h) m 0 c).arrAt 14 (cfg0 (adm m h)).N = G14 m c := by
  refine cut14 m c (adm m h) _ fun t b s kh g q f hb hk hg hs => ?_
  obtain ⟨w, hw⟩ : ∃ w : Fin 3, BitVec.toNat (w := 32) (m (((0 : Dev nD).tc : Thread nD τ).loc main_arg14) (Idealize.ShloMosaic.ix1 b)) = w := ⟨⟨_, word_lt m h _⟩, rfl⟩
  have e1 : ((kh.val * 5 + g.val) * 128 + f.val) / 640 = kh.val := by omega
  have e2 : ((kh.val * 5 + g.val) * 128 + f.val) / 128 % 5 = g.val := by omega
  have e3 : ((kh.val * 5 + g.val) * 128 + f.val) % 128 = f.val := by omega
  refine (v144_at (m ((c.tc : Thread nD τ).loc main_arg1)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg12)) (m ((c.tc : Thread nD τ).loc main_arg13)) (m ((c.tc : Thread nD τ).loc main_arg14)) (q0 m c) (q1 m c) (q2 m c) (q3 m c) (q4 m c) (q5 m c) (q6 m c) b s _).trans (Eq.trans ?_ (at14 m c h t b s kh g q w hw f hb hk hg hs).symm)
  simp only [e1, e2, e3]

theorem res15 (h : Cert.Pre_KernelIdeal m) : (dats (adm m h) m 0 c).arrAt 15 (cfg0 (adm m h)).N = G15 m c := by
  refine cut15 m c (adm m h) _ fun t b s kh g q hb hk hg hs => ?_
  obtain ⟨w, hw⟩ : ∃ w : Fin 3, BitVec.toNat (w := 32) (m (((0 : Dev nD).tc : Thread nD τ).loc main_arg14) (Idealize.ShloMosaic.ix1 b)) = w := ⟨⟨_, word_lt m h _⟩, rfl⟩
  have e1 : (kh.val * 5 + g.val) / 5 = kh.val := by omega
  have e2 : (kh.val * 5 + g.val) % 5 = g.val := by omega
  refine (v155_at (m ((c.tc : Thread nD τ).loc main_arg1)) (m ((c.tc : Thread nD τ).loc main_arg4)) (q0 m c) (q1 m c) b s _).trans (Eq.trans ?_ (at15 m c h t b s kh g q hb hk hg hs).symm)
  simp only [e1, e2]

theorem res16 (h : Cert.Pre_KernelIdeal m) : (dats (adm m h) m 0 c).arrAt 16 (cfg0 (adm m h)).N = G16 m c := by
  refine cut16 m c (adm m h) _ fun t b s kh g q hb hk hg hs => ?_
  obtain ⟨w, hw⟩ : ∃ w : Fin 3, BitVec.toNat (w := 32) (m (((0 : Dev nD).tc : Thread nD τ).loc main_arg14) (Idealize.ShloMosaic.ix1 b)) = w := ⟨⟨_, word_lt m h _⟩, rfl⟩
  have e1 : (kh.val * 5 + g.val) / 5 = kh.val := by omega
  have e2 : (kh.val * 5 + g.val) % 5 = g.val := by omega
  refine (v161_at (m ((c.tc : Thread nD τ).loc main_arg1)) (m ((c.tc : Thread nD τ).loc main_arg8)) (q0 m c) (q3 m c) b s _).trans (Eq.trans ?_ (at16 m c h t b s kh g q hb hk hg hs).symm)
  simp only [e1, e2]

theorem res17 (h : Cert.Pre_KernelIdeal m) : (dats (adm m h) m 0 c).arrAt 17 (cfg0 (adm m h)).N = G17 m c := by
  refine cut17 m c (adm m h) _ fun t b s kh g q hb hk hg hs => ?_
  obtain ⟨w, hw⟩ : ∃ w : Fin 3, BitVec.toNat (w := 32) (m (((0 : Dev nD).tc : Thread nD τ).loc main_arg14) (Idealize.ShloMosaic.ix1 b)) = w := ⟨⟨_, word_lt m h _⟩, rfl⟩
  have e1 : (kh.val * 5 + g.val) / 5 = kh.val := by omega
  have e2 : (kh.val * 5 + g.val) % 5 = g.val := by omega
  refine (v167_at (m ((c.tc : Thread nD τ).loc main_arg1)) (m ((c.tc : Thread nD τ).loc main_arg12)) (m ((c.tc : Thread nD τ).loc main_arg14)) (q0 m c) (q5 m c) b s _).trans (Eq.trans ?_ (at17 m c h t b s kh g q w hw hb hk hg hs).symm)
  simp only [e1, e2]

end Cert.KernelIdeal.Hyd
-- ==== Proof.Hyd.RefRun.lean ====
module

public import proofs.«01_k».proof.Proof.Gen.ReferenceIdeal.Read
public import Idealize.ShloMosaic.Lib.Pipeline.ValueKit

@[expose] public section

set_option maxRecDepth 16384
set_option maxHeartbeats 1000000

/-! What the reference leaves in its results, as its operations at the arguments. -/

noncomputable section

namespace Cert.ReferenceIdeal.Hyd

open Cert.ReferenceIdeal Cert.ReferenceIdeal.Gen Cert.ReferenceIdeal.Read Cert.ReferenceIdeal.Value
open Idealize.ShloMosaic Idealize.ShloMosaic.TcCoe

variable (m : (ℓ : Loc nD τ sig) → Buf (Elt Ideal) ℓ) (c : Dev nD)

/-- What the decoding kernel leaves in its result 0: the argument's numbers. -/
theorem reg0 : (reg_main_v0_0 m c : S4x512x40x128.Idx → EReal) = (m ((c.tc : Thread nD τ).loc main_arg0) : S4x512x40x128.Idx → EReal) := by
  refine (dats m 0 c).arrAt_eq_of_covers 7 _ (by decide +kernel) fun t hf y => ?_
  blk_simp
  rw [after0_7]
  frame_out
  refine (show k0_pay3 (F := Ideal) (iblk m c 0 t) y = iblk m c 0 t y from rfl).trans ?_
  have e : V m c main_arg0 = m ((c.tc : Thread nD τ).loc main_arg0) := V_main_arg0 m c
  rw [← e]
  rfl

/-- The argument's numbers, as the operations after the kernel read them. -/
abbrev r0 : (⟨S4x512x40x128, .f32⟩ : BufTy).Contents (Elt Ideal) := fun i => (m ((c.tc : Thread nD τ).loc main_arg0) i : EReal)

theorem dec0 : exitV m c (Proc.devRef .tc main_v0_0) = r0 m c := (exit_main_v0_0 m c).trans (reg0 m c)

/-- What the decoding kernel leaves in its result 1: the argument's numbers. -/
theorem reg1 : (reg_main_v0_1 m c : S32768x8x128.Idx → EReal) = (m ((c.tc : Thread nD τ).loc main_arg2) : S32768x8x128.Idx → EReal) := by
  refine (dats m 0 c).arrAt_eq_of_covers 8 _ (by decide +kernel) fun t hf y => ?_
  blk_simp
  rw [after0_8]
  frame_out
  refine (show k0_pay4 (F := Ideal) (iblk m c 1 t) y = iblk m c 1 t y from rfl).trans ?_
  have e : V m c main_arg2 = m ((c.tc : Thread nD τ).loc main_arg2) := V_main_arg2 m c
  rw [← e]
  rfl

/-- The argument's numbers, as the operations after the kernel read them. -/
abbrev r1 : (⟨S32768x8x128, .f32⟩ : BufTy).Contents (Elt Ideal) := fun i => (m ((c.tc : Thread nD τ).loc main_arg2) i : EReal)

theorem dec1 : exitV m c (Proc.devRef .tc main_v0_1) = r1 m c := (exit_main_v0_1 m c).trans (reg1 m c)

/-- What the decoding kernel leaves in its result 2: the argument's numbers. -/
theorem reg2 : (reg_main_v0_2 m c : S32768x8x128.Idx → EReal) = (m ((c.tc : Thread nD τ).loc main_arg3) : S32768x8x128.Idx → EReal) := by
  refine (dats m 0 c).arrAt_eq_of_covers 9 _ (by decide +kernel) fun t hf y => ?_
  blk_simp
  rw [after0_9]
  frame_out
  refine (show k0_pay5 (F := Ideal) (iblk m c 2 t) y = iblk m c 2 t y from rfl).trans ?_
  have e : V m c main_arg3 = m ((c.tc : Thread nD τ).loc main_arg3) := V_main_arg3 m c
  rw [← e]
  rfl

/-- The argument's numbers, as the operations after the kernel read them. -/
abbrev r2 : (⟨S32768x8x128, .f32⟩ : BufTy).Contents (Elt Ideal) := fun i => (m ((c.tc : Thread nD τ).loc main_arg3) i : EReal)

theorem dec2 : exitV m c (Proc.devRef .tc main_v0_2) = r2 m c := (exit_main_v0_2 m c).trans (reg2 m c)

/-- What the decoding kernel leaves in its result 3: the argument's numbers. -/
theorem reg3 : (reg_main_v0_3 m c : S4x512x8x128.Idx → EReal) = (m ((c.tc : Thread nD τ).loc main_arg6) : S4x512x8x128.Idx → EReal) := by
  refine (dats m 0 c).arrAt_eq_of_covers 10 _ (by decide +kernel) fun t hf y => ?_
  blk_simp
  rw [after0_10]
  frame_out
  refine (show k0_pay6 (F := Ideal) (iblk m c 3 t) y = iblk m c 3 t y from rfl).trans ?_
  have e : V m c main_arg6 = m ((c.tc : Thread nD τ).loc main_arg6) := V_main_arg6 m c
  rw [← e]
  rfl

/-- The argument's numbers, as the operations after the kernel read them. -/
abbrev r3 : (⟨S4x512x8x128, .f32⟩ : BufTy).Contents (Elt Ideal) := fun i => (m ((c.tc : Thread nD τ).loc main_arg6) i : EReal)

theorem dec3 : exitV m c (Proc.devRef .tc main_v0_3) = r3 m c := (exit_main_v0_3 m c).trans (reg3 m c)

/-- What the decoding kernel leaves in its result 4: the argument's numbers. -/
theorem reg4 : (reg_main_v0_4 m c : S4x512x8x128.Idx → EReal) = (m ((c.tc : Thread nD τ).loc main_arg7) : S4x512x8x128.Idx → EReal) := by
  refine (dats m 0 c).arrAt_eq_of_covers 11 _ (by decide +kernel) fun t hf y => ?_
  blk_simp
  rw [after0_11]
  frame_out
  refine (show k0_pay7 (F := Ideal) (iblk m c 4 t) y = iblk m c 4 t y from rfl).trans ?_
  have e : V m c main_arg7 = m ((c.tc : Thread nD τ).loc main_arg7) := V_main_arg7 m c
  rw [← e]
  rfl

/-- The argument's numbers, as the operations after the kernel read them. -/
abbrev r4 : (⟨S4x512x8x128, .f32⟩ : BufTy).Contents (Elt Ideal) := fun i => (m ((c.tc : Thread nD τ).loc main_arg7) i : EReal)

theorem dec4 : exitV m c (Proc.devRef .tc main_v0_4) = r4 m c := (exit_main_v0_4 m c).trans (reg4 m c)

/-- What the decoding kernel leaves in its result 5: the argument's numbers. -/
theorem reg5 : (reg_main_v0_5 m c : S3x384x8x128.Idx → EReal) = (m ((c.tc : Thread nD τ).loc main_arg10) : S3x384x8x128.Idx → EReal) := by
  refine (dats m 0 c).arrAt_eq_of_covers 12 _ (by decide +kernel) fun t hf y => ?_
  blk_simp
  rw [after0_12]
  frame_out
  refine (show k0_pay1 (F := Ideal) (iblk m c 5 t) y = iblk m c 5 t y from rfl).trans ?_
  have e : V m c main_arg10 = m ((c.tc : Thread nD τ).loc main_arg10) := V_main_arg10 m c
  rw [← e]
  rfl

/-- The argument's numbers, as the operations after the kernel read them. -/
abbrev r5 : (⟨S3x384x8x128, .f32⟩ : BufTy).Contents (Elt Ideal) := fun i => (m ((c.tc : Thread nD τ).loc main_arg10) i : EReal)

theorem dec5 : exitV m c (Proc.devRef .tc main_v0_5) = r5 m c := (exit_main_v0_5 m c).trans (reg5 m c)

/-- What the decoding kernel leaves in its result 6: the argument's numbers. -/
theorem reg6 : (reg_main_v0_6 m c : S3x384x8x128.Idx → EReal) = (m ((c.tc : Thread nD τ).loc main_arg11) : S3x384x8x128.Idx → EReal) := by
  refine (dats m 0 c).arrAt_eq_of_covers 13 _ (by decide +kernel) fun t hf y => ?_
  blk_simp
  rw [after0_13]
  frame_out
  refine (show k0_pay2 (F := Ideal) (iblk m c 6 t) y = iblk m c 6 t y from rfl).trans ?_
  have e : V m c main_arg11 = m ((c.tc : Thread nD τ).loc main_arg11) := V_main_arg11 m c
  rw [← e]
  rfl

/-- The argument's numbers, as the operations after the kernel read them. -/
abbrev r6 : (⟨S3x384x8x128, .f32⟩ : BufTy).Contents (Elt Ideal) := fun i => (m ((c.tc : Thread nD τ).loc main_arg11) i : EReal)

theorem dec6 : exitV m c (Proc.devRef .tc main_v0_6) = r6 m c := (exit_main_v0_6 m c).trans (reg6 m c)

/-- The reference's result in `main_v144`. -/
abbrev out144 := val_main_v144 (F := Ideal) (m ((c.tc : Thread nD τ).loc main_arg1)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg12)) (m ((c.tc : Thread nD τ).loc main_arg13)) (m ((c.tc : Thread nD τ).loc main_arg14)) (r0 m c) (r1 m c) (r2 m c) (r3 m c) (r4 m c) (r5 m c) (r6 m c)

theorem res144 : val_main_v144 (F := Ideal) (exitV m c (Proc.devRef .tc main_arg1)) (exitV m c (Proc.devRef .tc main_arg4)) (exitV m c (Proc.devRef .tc main_arg5)) (exitV m c (Proc.devRef .tc main_arg8)) (exitV m c (Proc.devRef .tc main_arg9)) (exitV m c (Proc.devRef .tc main_arg12)) (exitV m c (Proc.devRef .tc main_arg13)) (exitV m c (Proc.devRef .tc main_arg14)) (exitV m c (Proc.devRef .tc main_v0_0)) (exitV m c (Proc.devRef .tc main_v0_1)) (exitV m c (Proc.devRef .tc main_v0_2)) (exitV m c (Proc.devRef .tc main_v0_3)) (exitV m c (Proc.devRef .tc main_v0_4)) (exitV m c (Proc.devRef .tc main_v0_5)) (exitV m c (Proc.devRef .tc main_v0_6)) = out144 m c := by
  rw [exit_main_arg1 m c, exit_main_arg4 m c, exit_main_arg5 m c, exit_main_arg8 m c, exit_main_arg9 m c, exit_main_arg12 m c, exit_main_arg13 m c, exit_main_arg14 m c, dec0 m c, dec1 m c, dec2 m c, dec3 m c, dec4 m c, dec5 m c, dec6 m c]

/-- The reference's result in `main_v155`. -/
abbrev out155 := val_main_v155 (F := Ideal) (m ((c.tc : Thread nD τ).loc main_arg1)) (m ((c.tc : Thread nD τ).loc main_arg4)) (r0 m c) (r1 m c)

theorem res155 : val_main_v155 (F := Ideal) (exitV m c (Proc.devRef .tc main_arg1)) (exitV m c (Proc.devRef .tc main_arg4)) (exitV m c (Proc.devRef .tc main_v0_0)) (exitV m c (Proc.devRef .tc main_v0_1)) = out155 m c := by
  rw [exit_main_arg1 m c, exit_main_arg4 m c, dec0 m c, dec1 m c]

/-- The reference's result in `main_v161`. -/
abbrev out161 := val_main_v161 (F := Ideal) (m ((c.tc : Thread nD τ).loc main_arg1)) (m ((c.tc : Thread nD τ).loc main_arg8)) (r0 m c) (r3 m c)

theorem res161 : val_main_v161 (F := Ideal) (exitV m c (Proc.devRef .tc main_arg1)) (exitV m c (Proc.devRef .tc main_arg8)) (exitV m c (Proc.devRef .tc main_v0_0)) (exitV m c (Proc.devRef .tc main_v0_3)) = out161 m c := by
  rw [exit_main_arg1 m c, exit_main_arg8 m c, dec0 m c, dec3 m c]

/-- The reference's result in `main_v167`. -/
abbrev out167 := val_main_v167 (F := Ideal) (m ((c.tc : Thread nD τ).loc main_arg1)) (m ((c.tc : Thread nD τ).loc main_arg12)) (m ((c.tc : Thread nD τ).loc main_arg14)) (r0 m c) (r5 m c)

theorem res167 : val_main_v167 (F := Ideal) (exitV m c (Proc.devRef .tc main_arg1)) (exitV m c (Proc.devRef .tc main_arg12)) (exitV m c (Proc.devRef .tc main_arg14)) (exitV m c (Proc.devRef .tc main_v0_0)) (exitV m c (Proc.devRef .tc main_v0_5)) = out167 m c := by
  rw [exit_main_arg1 m c, exit_main_arg12 m c, exit_main_arg14 m c, dec0 m c, dec5 m c]

/-- The reference ends with its four results at its operations of the arguments, and the arguments unchanged. -/
theorem run_out (ρ : Dev nD → PrngReg) : θ_run defs (onTc (τ := τ) (main (F := Ideal))) ⟨m, fun _ => 0, ρ⟩ (fun r => ∀ c : Dev nD,
      r.2.mem ((c.tc : Thread nD τ).loc main_v144) = out144 m c
      ∧ r.2.mem ((c.tc : Thread nD τ).loc main_v155) = out155 m c
      ∧ r.2.mem ((c.tc : Thread nD τ).loc main_v161) = out161 m c
      ∧ r.2.mem ((c.tc : Thread nD τ).loc main_v167) = out167 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h c).1.trans ((val_main_v144_eq (exitV m c)).trans (res144 m c)), (h c).2.1.trans ((val_main_v155_eq (exitV m c)).trans (res155 m c)),
    (h c).2.2.1.trans ((val_main_v161_eq (exitV m c)).trans (res161 m c)), (h c).2.2.2.1.trans ((val_main_v167_eq (exitV m c)).trans (res167 m c)), (h c).2.2.2.2⟩) (run m ρ)

end Cert.ReferenceIdeal.Hyd
-- ==== Proof.Hyd.Algebraic.lean ====
module

public import proofs.«01_k».proof.Proof.Hyd.Cover
public import proofs.«01_k».proof.Proof.Hyd.RefRun

@[expose] public section

set_option maxRecDepth 16384
set_option maxHeartbeats 1000000

/-! From the same arguments the kernel and the reference leave the same four results. -/

noncomputable section

namespace Cert.KernelIdeal.Hyd

open Idealize.ShloMosaic Idealize.ShloMosaic.TcCoe
open Cert.KernelIdeal Cert.KernelIdeal.Gen Cert.ReferenceIdeal.Read

theorem cg144 (x1 x1' : (⟨Cert.ReferenceIdeal.S4x512x40, .f32⟩ : BufTy).Contents (Elt Ideal)) (x4 x4' : (⟨Cert.ReferenceIdeal.S32768x8, .f32⟩ : BufTy).Contents (Elt Ideal)) (x5 x5' : (⟨Cert.ReferenceIdeal.S32768x8, .f32⟩ : BufTy).Contents (Elt Ideal)) (x8 x8' : (⟨Cert.ReferenceIdeal.S4x512x8, .f32⟩ : BufTy).Contents (Elt Ideal)) (x9 x9' : (⟨Cert.ReferenceIdeal.S4x512x8, .f32⟩ : BufTy).Contents (Elt Ideal)) (x12 x12' : (⟨Cert.ReferenceIdeal.S3x384x8, .f32⟩ : BufTy).Contents (Elt Ideal)) (x13 x13' : (⟨Cert.ReferenceIdeal.S3x384x8, .f32⟩ : BufTy).Contents (Elt Ideal)) (x14 x14' : (⟨Cert.ReferenceIdeal.S4, .i32⟩ : BufTy).Contents (Elt Ideal)) (r0 r0' : (⟨Cert.ReferenceIdeal.S4x512x40x128, .f32⟩ : BufTy).Contents (Elt Ideal)) (r1 r1' : (⟨Cert.ReferenceIdeal.S32768x8x128, .f32⟩ : BufTy).Contents (Elt Ideal)) (r2 r2' : (⟨Cert.ReferenceIdeal.S32768x8x128, .f32⟩ : BufTy).Contents (Elt Ideal)) (r3 r3' : (⟨Cert.ReferenceIdeal.S4x512x8x128, .f32⟩ : BufTy).Contents (Elt Ideal)) (r4 r4' : (⟨Cert.ReferenceIdeal.S4x512x8x128, .f32⟩ : BufTy).Contents (Elt Ideal)) (r5 r5' : (⟨Cert.ReferenceIdeal.S3x384x8x128, .f32⟩ : BufTy).Contents (Elt Ideal)) (r6 r6' : (⟨Cert.ReferenceIdeal.S3x384x8x128, .f32⟩ : BufTy).Contents (Elt Ideal)) (ex1 : x1 = x1') (ex4 : x4 = x4') (ex5 : x5 = x5') (ex8 : x8 = x8') (ex9 : x9 = x9') (ex12 : x12 = x12') (ex13 : x13 = x13') (ex14 : x14 = x14') (er0 : r0 = r0') (er1 : r1 = r1') (er2 : r2 = r2') (er3 : r3 = r3') (er4 : r4 = r4') (er5 : r5 = r5') (er6 : r6 = r6') : val_main_v144 (F := Ideal) x1 x4 x5 x8 x9 x12 x13 x14 r0 r1 r2 r3 r4 r5 r6 = val_main_v144 (F := Ideal) x1' x4' x5' x8' x9' x12' x13' x14' r0' r1' r2' r3' r4' r5' r6' := by
  subst ex1 ex4 ex5 ex8 ex9 ex12 ex13 ex14 er0 er1 er2 er3 er4 er5 er6
  rfl

theorem cg155 (x1 x1' : (⟨Cert.ReferenceIdeal.S4x512x40, .f32⟩ : BufTy).Contents (Elt Ideal)) (x4 x4' : (⟨Cert.ReferenceIdeal.S32768x8, .f32⟩ : BufTy).Contents (Elt Ideal)) (r0 r0' : (⟨Cert.ReferenceIdeal.S4x512x40x128, .f32⟩ : BufTy).Contents (Elt Ideal)) (r1 r1' : (⟨Cert.ReferenceIdeal.S32768x8x128, .f32⟩ : BufTy).Contents (Elt Ideal)) (ex1 : x1 = x1') (ex4 : x4 = x4') (er0 : r0 = r0') (er1 : r1 = r1') : val_main_v155 (F := Ideal) x1 x4 r0 r1 = val_main_v155 (F := Ideal) x1' x4' r0' r1' := by
  subst ex1 ex4 er0 er1
  rfl

theorem cg161 (x1 x1' : (⟨Cert.ReferenceIdeal.S4x512x40, .f32⟩ : BufTy).Contents (Elt Ideal)) (x8 x8' : (⟨Cert.ReferenceIdeal.S4x512x8, .f32⟩ : BufTy).Contents (Elt Ideal)) (r0 r0' : (⟨Cert.ReferenceIdeal.S4x512x40x128, .f32⟩ : BufTy).Contents (Elt Ideal)) (r3 r3' : (⟨Cert.ReferenceIdeal.S4x512x8x128, .f32⟩ : BufTy).Contents (Elt Ideal)) (ex1 : x1 = x1') (ex8 : x8 = x8') (er0 : r0 = r0') (er3 : r3 = r3') : val_main_v161 (F := Ideal) x1 x8 r0 r3 = val_main_v161 (F := Ideal) x1' x8' r0' r3' := by
  subst ex1 ex8 er0 er3
  rfl

theorem cg167 (x1 x1' : (⟨Cert.ReferenceIdeal.S4x512x40, .f32⟩ : BufTy).Contents (Elt Ideal)) (x12 x12' : (⟨Cert.ReferenceIdeal.S3x384x8, .f32⟩ : BufTy).Contents (Elt Ideal)) (x14 x14' : (⟨Cert.ReferenceIdeal.S4, .i32⟩ : BufTy).Contents (Elt Ideal)) (r0 r0' : (⟨Cert.ReferenceIdeal.S4x512x40x128, .f32⟩ : BufTy).Contents (Elt Ideal)) (r5 r5' : (⟨Cert.ReferenceIdeal.S3x384x8x128, .f32⟩ : BufTy).Contents (Elt Ideal)) (ex1 : x1 = x1') (ex12 : x12 = x12') (ex14 : x14 = x14') (er0 : r0 = r0') (er5 : r5 = r5') : val_main_v167 (F := Ideal) x1 x12 x14 r0 r5 = val_main_v167 (F := Ideal) x1' x12' x14' r0' r5' := by
  subst ex1 ex12 ex14 er0 er5
  rfl

/-- The kernel ends with its four results at the reference's operations of the arguments, and the arguments unchanged. -/
theorem run_val (m : (ℓ : Loc nD τ sig) → Buf (Elt Ideal) ℓ) (ρ : Dev nD → PrngReg) (hp : Cert.Pre_KernelIdeal m) :
    θ_run defs (onTc (τ := τ) (main (F := Ideal))) ⟨m, fun _ => 0, ρ⟩ (fun r => ∀ c : Dev nD,
      r.2.mem ((c.tc : Thread nD τ).loc main_v26_0) = G14 m c
      ∧ r.2.mem ((c.tc : Thread nD τ).loc main_v26_1) = G15 m c
      ∧ r.2.mem ((c.tc : Thread nD τ).loc main_v26_2) = G16 m c
      ∧ r.2.mem ((c.tc : Thread nD τ).loc main_v26_3) = G17 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r ⟨h, _⟩ c => ⟨((h c).1 14).trans (res14 m c hp),
    ((h c).1 15).trans (res15 m c hp),
    ((h c).1 16).trans (res16 m c hp),
    ((h c).1 17).trans (res17 m c hp),
    ((h c).2 main_arg0 (Pipeline.mem_restRefs_of (win := spec0) main_arg0 (by decide) (by decide))).trans (V_main_arg0 m c),
    ((h c).2 main_arg1 (Pipeline.mem_restRefs_of (win := spec0) main_arg1 (by decide) (by decide))).trans (V_main_arg1 m c),
    ((h c).2 main_arg2 (Pipeline.mem_restRefs_of (win := spec0) main_arg2 (by decide) (by decide))).trans (V_main_arg2 m c),
    ((h c).2 main_arg3 (Pipeline.mem_restRefs_of (win := spec0) main_arg3 (by decide) (by decide))).trans (V_main_arg3 m c),
    ((h c).2 main_arg4 (Pipeline.mem_restRefs_of (win := spec0) main_arg4 (by decide) (by decide))).trans (V_main_arg4 m c),
    ((h c).2 main_arg5 (Pipeline.mem_restRefs_of (win := spec0) main_arg5 (by decide) (by decide))).trans (V_main_arg5 m c),
    ((h c).2 main_arg6 (Pipeline.mem_restRefs_of (win := spec0) main_arg6 (by decide) (by decide))).trans (V_main_arg6 m c),
    ((h c).2 main_arg7 (Pipeline.mem_restRefs_of (win := spec0) main_arg7 (by decide) (by decide))).trans (V_main_arg7 m c),
    ((h c).2 main_arg8 (Pipeline.mem_restRefs_of (win := spec0) main_arg8 (by decide) (by decide))).trans (V_main_arg8 m c),
    ((h c).2 main_arg9 (Pipeline.mem_restRefs_of (win := spec0) main_arg9 (by decide) (by decide))).trans (V_main_arg9 m c),
    ((h c).2 main_arg10 (Pipeline.mem_restRefs_of (win := spec0) main_arg10 (by decide) (by decide))).trans (V_main_arg10 m c),
    ((h c).2 main_arg11 (Pipeline.mem_restRefs_of (win := spec0) main_arg11 (by decide) (by decide))).trans (V_main_arg11 m c),
    ((h c).2 main_arg12 (Pipeline.mem_restRefs_of (win := spec0) main_arg12 (by decide) (by decide))).trans (V_main_arg12 m c),
    ((h c).2 main_arg13 (Pipeline.mem_restRefs_of (win := spec0) main_arg13 (by decide) (by decide))).trans (V_main_arg13 m c),
    ((h c).2 main_arg14 (Pipeline.mem_restRefs_of (win := spec0) main_arg14 (by decide) (by decide))).trans (V_main_arg14 m c)⟩) (run_main (adm m hp) m ρ (fun c k => tbl_at m c k))

/-- The value claim. -/
theorem algebraic : Cert.algebraic_KernelIdeal_ReferenceIdeal := fun m g m' g' hp hm => by
  have a0 := fun c => (hm c).1
  have a1 := fun c => (hm c).2.1
  have a2 := fun c => (hm c).2.2.1
  have a3 := fun c => (hm c).2.2.2.1
  have a4 := fun c => (hm c).2.2.2.2.1
  have a5 := fun c => (hm c).2.2.2.2.2.1
  have a6 := fun c => (hm c).2.2.2.2.2.2.1
  have a7 := fun c => (hm c).2.2.2.2.2.2.2.1
  have a8 := fun c => (hm c).2.2.2.2.2.2.2.2.1
  have a9 := fun c => (hm c).2.2.2.2.2.2.2.2.2.1
  have a10 := fun c => (hm c).2.2.2.2.2.2.2.2.2.2.1
  have a11 := fun c => (hm c).2.2.2.2.2.2.2.2.2.2.2.1
  have a12 := fun c => (hm c).2.2.2.2.2.2.2.2.2.2.2.2.1
  have a13 := fun c => (hm c).2.2.2.2.2.2.2.2.2.2.2.2.2.1
  have a14 := fun c => (hm c).2.2.2.2.2.2.2.2.2.2.2.2.2.2
  refine ⟨fun c => G14 m c, fun c => G15 m c, fun c => G16 m c, fun c => G17 m c, run_val m g hp, ?_⟩
  exact (θ_run Cert.ReferenceIdeal.defs _ _).mono (fun r h c => ⟨(h c).1.trans (cg144 _ _ _ _ _ _ _ _ _ _ _ _ _ _ _ _ _ _ _ _ _ _ _ _ _ _ _ _ _ _ (a1 c) (a4 c) (a5 c) (a8 c) (a9 c) (a12 c) (a13 c) (a14 c) (funext fun i => congrFun (a0 c) i) (funext fun i => congrFun (a2 c) i) (funext fun i => congrFun (a3 c) i) (funext fun i => congrFun (a6 c) i) (funext fun i => congrFun (a7 c) i) (funext fun i => congrFun (a10 c) i) (funext fun i => congrFun (a11 c) i)),
    (h c).2.1.trans (cg155 _ _ _ _ _ _ _ _ (a1 c) (a4 c) (funext fun i => congrFun (a0 c) i) (funext fun i => congrFun (a2 c) i)),
    (h c).2.2.1.trans (cg161 _ _ _ _ _ _ _ _ (a1 c) (a8 c) (funext fun i => congrFun (a0 c) i) (funext fun i => congrFun (a6 c) i)),
    (h c).2.2.2.1.trans (cg167 _ _ _ _ _ _ _ _ _ _ (a1 c) (a12 c) (a14 c) (funext fun i => congrFun (a0 c) i) (funext fun i => congrFun (a10 c) i)),
    (h c).2.2.2.2⟩) (Cert.ReferenceIdeal.Hyd.run_out m' g')

end Cert.KernelIdeal.Hyd
-- ==== Proof.lean ====
/- The certificate: the frames of the kernel, of its ideal program and of the ideal reference, that the ideal program is the kernel with its named constants, and that it ends with the reference's results. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_mid_in_range
public import proofs.«01_k».proof.Proof.Gen.ReferenceIdeal.Run
public import proofs.«01_k».proof.Proof.Gen.ReferenceIdeal.Read
public import proofs.«01_k».proof.Proof.Hyd.KernelAdm
public import proofs.«01_k».proof.Proof.Hyd.KernelIdealAdm
public import Idealize.ShloMosaic.Adequacy
public import Idealize.ShloMosaic.Init
public import proofs.«01_k».proof.Proof.Hyd.Algebraic

@[expose] public section

noncomputable section

namespace Cert.Proof

open Idealize.ShloMosaic

/-- The named constants' words are the roundings of the reals they stand for. -/
theorem preserves : Cert.preserves_Kernel_KernelIdeal :=
  ⟨IdealRules.named_const.statement Cert.KernelIdeal.κ "scale_log2e" .f32 0x3E0293EE#32 _ rfl,
    IdealRules.named_const.statement Cert.KernelIdeal.κ "log2e" .f32 0x3FB8AA3B#32 _ rfl,
    IdealRules.named_const.statement Cert.KernelIdeal.κ "ln2" .f32 0x3F317218#32 _ rfl,
    IdealRules.named_const.statement Cert.KernelIdeal.κ "log_past" .f32 0x41265AF6#32 _ rfl,
    IdealRules.named_const.statement Cert.KernelIdeal.κ "log_mid" .f32 0x40BE6BAA#32 _ rfl⟩

/-- The claim. -/
theorem claim : Cert.Claim :=
  ⟨Cert.Kernel.Gen.facts, Cert.KernelIdeal.Gen.facts, Cert.ReferenceIdeal.Gen.facts, Cert.Pre_mid_in_range.Gen.facts,
    Cert.Kernel.Hyd.frame, Cert.KernelIdeal.Hyd.frame, fun m g _ => Cert.ReferenceIdeal.Gen.frame m g, preserves, Cert.KernelIdeal.Hyd.algebraic⟩

end Cert.Proof

end
